-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Splat [hPre_rows_near : Cert.Pre_rows_near.Facts] (m : (ℓ : Loc Cert.Splat.nD Cert.Splat.τ Cert.Splat.sig) → Buf (Elt Bits) ℓ) : Prop :=
  ∀ c : Dev Cert.Splat.nD,
    (Cert.Pre_rows_near.fn (F := Bits) (m ((c.tc : Thread Cert.Splat.nD Cert.Splat.τ).loc Cert.Splat.main_arg0))) = (fun _ => 1#1)

def Pre_Splat_none (m : (ℓ : Loc Cert.Splat.nD Cert.Splat.τ Cert.Splat.sig) → Buf (Elt Bits) ℓ) : Prop :=
  True

def Pre_SplatIdeal [hPre_rows_near : Cert.Pre_rows_near.Facts] (m : (ℓ : Loc Cert.SplatIdeal.nD Cert.SplatIdeal.τ Cert.SplatIdeal.sig) → Buf (Elt Ideal) ℓ) : Prop :=
  ∀ c : Dev Cert.SplatIdeal.nD,
    (Cert.Pre_rows_near.fn (F := Ideal) (m ((c.tc : Thread Cert.SplatIdeal.nD Cert.SplatIdeal.τ).loc Cert.SplatIdeal.main_arg0))) = (fun _ => 1#1)

def Pre_SplatIdeal_none (m : (ℓ : Loc Cert.SplatIdeal.nD Cert.SplatIdeal.τ Cert.SplatIdeal.sig) → Buf (Elt Ideal) ℓ) : Prop :=
  True

def Pre_SplatReferenceIdeal (m : (ℓ : Loc Cert.SplatReferenceIdeal.nD Cert.SplatReferenceIdeal.τ Cert.SplatReferenceIdeal.sig) → Buf (Elt Ideal) ℓ) : Prop :=
  True

def Pre_SplatReferenceIdeal_rows_near [hPre_rows_near : Cert.Pre_rows_near.Facts] (m : (ℓ : Loc Cert.SplatReferenceIdeal.nD Cert.SplatReferenceIdeal.τ Cert.SplatReferenceIdeal.sig) → Buf (Elt Ideal) ℓ) : Prop :=
  ∀ c : Dev Cert.SplatReferenceIdeal.nD,
    (Cert.Pre_rows_near.fn (F := Ideal) (m ((c.tc : Thread Cert.SplatReferenceIdeal.nD Cert.SplatReferenceIdeal.τ).loc Cert.SplatReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Splat [hSplat : Cert.Splat.Facts] [hPre_rows_near : Cert.Pre_rows_near.Facts] : Prop :=
  ∀ (m : (ℓ : Loc Cert.Splat.nD Cert.Splat.τ Cert.Splat.sig) → Buf (Elt Bits) ℓ) (g : Dev Cert.Splat.nD → PrngReg), Pre_Splat m →
    θ_run (Cert.Splat.defs (F := Bits)) (Cert.Splat.threads (F := Bits)) ⟨m, fun _ => 0, g⟩ (fun r => (∀ c : Dev Cert.Splat.nD,
      r.2.mem ((c.tc : Thread Cert.Splat.nD Cert.Splat.τ).loc Cert.Splat.main_arg0) = m ((c.tc : Thread Cert.Splat.nD Cert.Splat.τ).loc Cert.Splat.main_arg0))
      ∧ r.2.sem = fun _ => 0)

def quiescent_Splat_pre_none [hSplat : Cert.Splat.Facts] : Prop :=
  ∀ (m : (ℓ : Loc Cert.Splat.nD Cert.Splat.τ Cert.Splat.sig) → Buf (Elt Bits) ℓ) (g : Dev Cert.Splat.nD → PrngReg), Pre_Splat_none m →
    θ_run (Cert.Splat.defs (F := Bits)) (Cert.Splat.threads (F := Bits)) ⟨m, fun _ => 0, g⟩ (fun r => (∀ c : Dev Cert.Splat.nD,
      r.2.mem ((c.tc : Thread Cert.Splat.nD Cert.Splat.τ).loc Cert.Splat.main_arg0) = m ((c.tc : Thread Cert.Splat.nD Cert.Splat.τ).loc Cert.Splat.main_arg0))
      ∧ r.2.sem = fun _ => 0)

def quiescent_SplatIdeal [hSplatIdeal : Cert.SplatIdeal.Facts] [hPre_rows_near : Cert.Pre_rows_near.Facts] : Prop :=
  ∀ (m : (ℓ : Loc Cert.SplatIdeal.nD Cert.SplatIdeal.τ Cert.SplatIdeal.sig) → Buf (Elt Ideal) ℓ) (g : Dev Cert.SplatIdeal.nD → PrngReg), Pre_SplatIdeal m →
    θ_run (Cert.SplatIdeal.defs (F := Ideal)) (Cert.SplatIdeal.threads (F := Ideal)) ⟨m, fun _ => 0, g⟩ (fun r => (∀ c : Dev Cert.SplatIdeal.nD,
      r.2.mem ((c.tc : Thread Cert.SplatIdeal.nD Cert.SplatIdeal.τ).loc Cert.SplatIdeal.main_arg0) = m ((c.tc : Thread Cert.SplatIdeal.nD Cert.SplatIdeal.τ).loc Cert.SplatIdeal.main_arg0))
      ∧ r.2.sem = fun _ => 0)

def quiescent_SplatIdeal_pre_none [hSplatIdeal : Cert.SplatIdeal.Facts] : Prop :=
  ∀ (m : (ℓ : Loc Cert.SplatIdeal.nD Cert.SplatIdeal.τ Cert.SplatIdeal.sig) → Buf (Elt Ideal) ℓ) (g : Dev Cert.SplatIdeal.nD → PrngReg), Pre_SplatIdeal_none m →
    θ_run (Cert.SplatIdeal.defs (F := Ideal)) (Cert.SplatIdeal.threads (F := Ideal)) ⟨m, fun _ => 0, g⟩ (fun r => (∀ c : Dev Cert.SplatIdeal.nD,
      r.2.mem ((c.tc : Thread Cert.SplatIdeal.nD Cert.SplatIdeal.τ).loc Cert.SplatIdeal.main_arg0) = m ((c.tc : Thread Cert.SplatIdeal.nD Cert.SplatIdeal.τ).loc Cert.SplatIdeal.main_arg0))
      ∧ r.2.sem = fun _ => 0)

def quiescent_SplatReferenceIdeal [hSplatReferenceIdeal : Cert.SplatReferenceIdeal.Facts] : Prop :=
  ∀ (m : (ℓ : Loc Cert.SplatReferenceIdeal.nD Cert.SplatReferenceIdeal.τ Cert.SplatReferenceIdeal.sig) → Buf (Elt Ideal) ℓ) (g : Dev Cert.SplatReferenceIdeal.nD → PrngReg), Pre_SplatReferenceIdeal m →
    θ_run (Cert.SplatReferenceIdeal.defs (F := Ideal)) (onTc (τ := Cert.SplatReferenceIdeal.τ) (Cert.SplatReferenceIdeal.main (F := Ideal))) ⟨m, fun _ => 0, g⟩ (fun r => (∀ c : Dev Cert.SplatReferenceIdeal.nD,
      r.2.mem ((c.tc : Thread Cert.SplatReferenceIdeal.nD Cert.SplatReferenceIdeal.τ).loc Cert.SplatReferenceIdeal.main_arg0) = m ((c.tc : Thread Cert.SplatReferenceIdeal.nD Cert.SplatReferenceIdeal.τ).loc Cert.SplatReferenceIdeal.main_arg0))
      ∧ r.2.sem = fun _ => 0)

def quiescent_SplatReferenceIdeal_pre_rows_near [hSplatReferenceIdeal : Cert.SplatReferenceIdeal.Facts] [hPre_rows_near : Cert.Pre_rows_near.Facts] : Prop :=
  ∀ (m : (ℓ : Loc Cert.SplatReferenceIdeal.nD Cert.SplatReferenceIdeal.τ Cert.SplatReferenceIdeal.sig) → Buf (Elt Ideal) ℓ) (g : Dev Cert.SplatReferenceIdeal.nD → PrngReg), Pre_SplatReferenceIdeal_rows_near m →
    θ_run (Cert.SplatReferenceIdeal.defs (F := Ideal)) (onTc (τ := Cert.SplatReferenceIdeal.τ) (Cert.SplatReferenceIdeal.main (F := Ideal))) ⟨m, fun _ => 0, g⟩ (fun r => (∀ c : Dev Cert.SplatReferenceIdeal.nD,
      r.2.mem ((c.tc : Thread Cert.SplatReferenceIdeal.nD Cert.SplatReferenceIdeal.τ).loc Cert.SplatReferenceIdeal.main_arg0) = m ((c.tc : Thread Cert.SplatReferenceIdeal.nD Cert.SplatReferenceIdeal.τ).loc Cert.SplatReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Splat_SplatIdeal : Prop :=
  True

def algebraic_SplatIdeal_SplatReferenceIdeal [hSplatIdeal : Cert.SplatIdeal.Facts] [hSplatReferenceIdeal : Cert.SplatReferenceIdeal.Facts] [hPre_rows_near : Cert.Pre_rows_near.Facts] : Prop :=
  ∀ (m : (ℓ : Loc Cert.SplatIdeal.nD Cert.SplatIdeal.τ Cert.SplatIdeal.sig) → Buf (Elt Ideal) ℓ) (g : Dev Cert.SplatIdeal.nD → PrngReg)
    (m' : (ℓ : Loc Cert.SplatReferenceIdeal.nD Cert.SplatReferenceIdeal.τ Cert.SplatReferenceIdeal.sig) → Buf (Elt Ideal) ℓ) (g' : Dev Cert.SplatReferenceIdeal.nD → PrngReg), Pre_SplatIdeal m →
    (∀ c : Dev Cert.SplatIdeal.nD,
      m' ((c.tc : Thread Cert.SplatReferenceIdeal.nD Cert.SplatReferenceIdeal.τ).loc Cert.SplatReferenceIdeal.main_arg0) = m ((c.tc : Thread Cert.SplatIdeal.nD Cert.SplatIdeal.τ).loc Cert.SplatIdeal.main_arg0)) →
    ∃ (v0 : (c : Dev Cert.SplatIdeal.nD) → Buf (Elt Ideal) ((c.tc : Thread Cert.SplatIdeal.nD Cert.SplatIdeal.τ).loc Cert.SplatIdeal.main_v0)),
      θ_run (Cert.SplatIdeal.defs (F := Ideal)) (Cert.SplatIdeal.threads (F := Ideal)) ⟨m, fun _ => 0, g⟩ (fun r => ∀ c : Dev Cert.SplatIdeal.nD,
          r.2.mem ((c.tc : Thread Cert.SplatIdeal.nD Cert.SplatIdeal.τ).loc Cert.SplatIdeal.main_v0) = v0 c
          ∧ r.2.mem ((c.tc : Thread Cert.SplatIdeal.nD Cert.SplatIdeal.τ).loc Cert.SplatIdeal.main_arg0) = m ((c.tc : Thread Cert.SplatIdeal.nD Cert.SplatIdeal.τ).loc Cert.SplatIdeal.main_arg0))
      ∧ θ_run (Cert.SplatReferenceIdeal.defs (F := Ideal)) (onTc (τ := Cert.SplatReferenceIdeal.τ) (Cert.SplatReferenceIdeal.main (F := Ideal))) ⟨m', fun _ => 0, g'⟩ (fun r => ∀ c : Dev Cert.SplatReferenceIdeal.nD,
          r.2.mem ((c.tc : Thread Cert.SplatReferenceIdeal.nD Cert.SplatReferenceIdeal.τ).loc Cert.SplatReferenceIdeal.main_v93) = v0 c
          ∧ r.2.mem ((c.tc : Thread Cert.SplatReferenceIdeal.nD Cert.SplatReferenceIdeal.τ).loc Cert.SplatReferenceIdeal.main_arg0) = m' ((c.tc : Thread Cert.SplatReferenceIdeal.nD Cert.SplatReferenceIdeal.τ).loc Cert.SplatReferenceIdeal.main_arg0))

def Claim : Prop :=
  ∃ (hKernel : Cert.Kernel.Facts) (hKernelIdeal : Cert.KernelIdeal.Facts) (hReferenceIdeal : Cert.ReferenceIdeal.Facts) (hSplat : Cert.Splat.Facts) (hSplatIdeal : Cert.SplatIdeal.Facts) (hSplatReferenceIdeal : Cert.SplatReferenceIdeal.Facts) (hPre_rows_near : Cert.Pre_rows_near.Facts),
    quiescent_Kernel (hKernel := hKernel)
    ∧ quiescent_KernelIdeal (hKernelIdeal := hKernelIdeal)
    ∧ quiescent_ReferenceIdeal (hReferenceIdeal := hReferenceIdeal)
    ∧ quiescent_Splat (hSplat := hSplat) (hPre_rows_near := hPre_rows_near)
    ∧ quiescent_Splat_pre_none (hSplat := hSplat)
    ∧ quiescent_SplatIdeal (hSplatIdeal := hSplatIdeal) (hPre_rows_near := hPre_rows_near)
    ∧ quiescent_SplatIdeal_pre_none (hSplatIdeal := hSplatIdeal)
    ∧ quiescent_SplatReferenceIdeal (hSplatReferenceIdeal := hSplatReferenceIdeal)
    ∧ quiescent_SplatReferenceIdeal_pre_rows_near (hSplatReferenceIdeal := hSplatReferenceIdeal) (hPre_rows_near := hPre_rows_near)
    ∧ preserves_Kernel_KernelIdeal
    ∧ algebraic_KernelIdeal_ReferenceIdeal (hKernelIdeal := hKernelIdeal) (hReferenceIdeal := hReferenceIdeal)
    ∧ preserves_Splat_SplatIdeal
    ∧ algebraic_SplatIdeal_SplatReferenceIdeal (hSplatIdeal := hSplatIdeal) (hSplatReferenceIdeal := hSplatReferenceIdeal) (hPre_rows_near := hPre_rows_near)
-- ==== Pre_rows_near.lean ====
abbrev S2x10x224x224 : Shape := ⟨4, ![2, 10, 224, 224]⟩
abbrev S2x1x224x224 : Shape := ⟨4, ![2, 1, 224, 224]⟩
abbrev S2x224x224 : Shape := ⟨3, ![2, 224, 224]⟩
abbrev S_ : Shape := ⟨0, ![]⟩

class Facts : Prop where
  slices_S2x10x224x224_S2x1x224x224_0_3_0_0 : S2x10x224x224.Slices ![0, 3, 0, 0] S2x1x224x224
  shapeCasts_S2x1x224x224_S2x224x224 : S2x1x224x224.ShapeCasts S2x224x224
  bcast_S_S2x224x224 : S_.BroadcastsInDim S2x224x224 (![] : Fin 0 → Fin S2x224x224.rank)

variable [Facts]

def fn {F : FTy → Type} [FloatOps F] (main_arg0 : FVec F S2x10x224x224 .f32) : IVec S2x224x224 1 :=
  let main_v0 : FVec F S2x1x224x224 .f32 := (extractStridedSlice S2x1x224x224 ![0, 3, 0, 0] · slices_S2x10x224x224_S2x1x224x224_0_3_0_0) main_arg0
  let main_v1 : FVec F S2x224x224 .f32 := shapeCast S2x224x224 main_v0 shapeCasts_S2x1x224x224_S2x224x224
  let main_cst : FVec F S_ .f32 := constant S_ .f32 0x00000000#32
  let main_v2 : FVec F S2x224x224 .f32 := broadcastInDim S2x224x224 ![] bcast_S_S2x224x224 main_cst
  let main_v3 : IVec S2x224x224 1 := cmpf .oge main_v1 main_v2
  let main_v4 : FVec F S2x1x224x224 .f32 := (extractStridedSlice S2x1x224x224 ![0, 3, 0, 0] · slices_S2x10x224x224_S2x1x224x224_0_3_0_0) main_arg0
  let main_v5 : FVec F S2x224x224 .f32 := shapeCast S2x224x224 main_v4 shapeCasts_S2x1x224x224_S2x224x224
  let main_cst_0 : FVec F S_ .f32 := constant S_ .f32 0x40000000#32
  let main_v6 : FVec F S2x224x224 .f32 := broadcastInDim S2x224x224 ![] bcast_S_S2x224x224 main_cst_0
  let main_v7 : IVec S2x224x224 1 := cmpf .ole main_v5 main_v6
  let main_v8 : IVec S2x224x224 1 := andi main_v3 main_v7
  main_v8
-- ==== Kernel.lean ====
abbrev S2x3x224x224 : Shape := ⟨4, ![2, 3, 224, 224]⟩
abbrev S64x3x3x3 : Shape := ⟨4, ![64, 3, 3, 3]⟩
abbrev S64 : Shape := ⟨1, ![64]⟩
abbrev S8x64x1x1 : Shape := ⟨4, ![8, 64, 1, 1]⟩
abbrev S8 : Shape := ⟨1, ![8]⟩
abbrev S_ : Shape := ⟨0, ![]⟩
abbrev S2x3x226x226 : Shape := ⟨4, ![2, 3, 226, 226]⟩
abbrev S2x3x1x224x224 : Shape := ⟨5, ![2, 3, 1, 224, 224]⟩
abbrev S2x3x9x224x224 : Shape := ⟨5, ![2, 3, 9, 224, 224]⟩
abbrev S2x27x50176 : Shape := ⟨3, ![2, 27, 50176]⟩
abbrev S2x32x50176 : Shape := ⟨3, ![2, 32, 50176]⟩
abbrev S64x27 : Shape := ⟨2, ![64, 27]⟩
abbrev S64x32 : Shape := ⟨2, ![64, 32]⟩
abbrev S8x64 : Shape := ⟨2, ![8, 64]⟩
abbrev S64x1 : Shape := ⟨2, ![64, 1]⟩
abbrev S8x1 : Shape := ⟨2, ![8, 1]⟩
abbrev S2x10x50176 : Shape := ⟨3, ![2, 10, 50176]⟩
abbrev S1x32x6272 : Shape := ⟨3, ![1, 32, 6272]⟩
abbrev S1x10x6272 : Shape := ⟨3, ![1, 10, 6272]⟩
abbrev S32x6272 : Shape := ⟨2, ![32, 6272]⟩
abbrev S64x6272 : Shape := ⟨2, ![64, 6272]⟩
abbrev S8x6272 : Shape := ⟨2, ![8, 6272]⟩
abbrev S3x6272 : Shape := ⟨2, ![3, 6272]⟩
abbrev S1x6272 : Shape := ⟨2, ![1, 6272]⟩
abbrev S6272 : Shape := ⟨1, ![6272]⟩
abbrev S2x6272 : Shape := ⟨2, ![2, 6272]⟩
abbrev S10x6272 : Shape := ⟨2, ![10, 6272]⟩
abbrev S2x10x224x224 : Shape := ⟨4, ![2, 10, 224, 224]⟩
abbrev S10x24x224 : Shape := ⟨3, ![10, 24, 224]⟩
abbrev S3x14x224 : Shape := ⟨3, ![3, 14, 224]⟩
abbrev S1x10x24x224 : Shape := ⟨4, ![1, 10, 24, 224]⟩
abbrev S16 : Shape := ⟨1, ![16]⟩
abbrev S1x1x16 : Shape := ⟨3, ![1, 1, 16]⟩
abbrev S1x1x224 : Shape := ⟨3, ![1, 1, 224]⟩
abbrev S224 : Shape := ⟨1, ![224]⟩
abbrev S1x14x224 : Shape := ⟨3, ![1, 14, 224]⟩
abbrev S14x224 : Shape := ⟨2, ![14, 224]⟩
abbrev S1x3x14x224 : Shape := ⟨4, ![1, 3, 14, 224]⟩

abbrev nBuf : Table → Nat
  | .hbm => 41
  | .local .tc .vmem => 8
  | .local .scVector .vmem => 2
  | _ => 0

abbrev bufTy : (tb : Table) → Fin (nBuf tb) → BufTy
  | .hbm, ⟨0, _⟩ => ⟨S2x3x224x224, .f32⟩
  | .hbm, ⟨1, _⟩ => ⟨S64x3x3x3, .f32⟩
  | .hbm, ⟨2, _⟩ => ⟨S64, .f32⟩
  | .hbm, ⟨3, _⟩ => ⟨S8x64x1x1, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S2x3x226x226, .f32⟩
  | .hbm, ⟨8, _⟩ => ⟨S2x3x224x224, .f32⟩
  | .hbm, ⟨9, _⟩ => ⟨S2x3x224x224, .f32⟩
  | .hbm, ⟨10, _⟩ => ⟨S2x3x224x224, .f32⟩
  | .hbm, ⟨11, _⟩ => ⟨S2x3x224x224, .f32⟩
  | .hbm, ⟨12, _⟩ => ⟨S2x3x224x224, .f32⟩
  | .hbm, ⟨13, _⟩ => ⟨S2x3x224x224, .f32⟩
  | .hbm, ⟨14, _⟩ => ⟨S2x3x224x224, .f32⟩
  | .hbm, ⟨15, _⟩ => ⟨S2x3x224x224, .f32⟩
  | .hbm, ⟨16, _⟩ => ⟨S2x3x224x224, .f32⟩
  | .hbm, ⟨17, _⟩ => ⟨S2x3x1x224x224, .f32⟩
  | .hbm, ⟨18, _⟩ => ⟨S2x3x1x224x224, .f32⟩
  | .hbm, ⟨19, _⟩ => ⟨S2x3x1x224x224, .f32⟩
  | .hbm, ⟨20, _⟩ => ⟨S2x3x1x224x224, .f32⟩
  | .hbm, ⟨21, _⟩ => ⟨S2x3x1x224x224, .f32⟩
  | .hbm, ⟨22, _⟩ => ⟨S2x3x1x224x224, .f32⟩
  | .hbm, ⟨23, _⟩ => ⟨S2x3x1x224x224, .f32⟩
  | .hbm, ⟨24, _⟩ => ⟨S2x3x1x224x224, .f32⟩
  | .hbm, ⟨25, _⟩ => ⟨S2x3x1x224x224, .f32⟩
  | .hbm, ⟨26, _⟩ => ⟨S2x3x9x224x224, .f32⟩
  | .hbm, ⟨27, _⟩ => ⟨S2x27x50176, .f32⟩
  | .hbm, ⟨28, _⟩ => ⟨S_, .i32⟩
  | .hbm, ⟨29, _⟩ => ⟨S_, .f32⟩
  | .hbm, ⟨30, _⟩ => ⟨S2x32x50176, .f32⟩
  | .hbm, ⟨31, _⟩ => ⟨S64x27, .f32⟩
  | .hbm, ⟨32, _⟩ => ⟨S_, .i32⟩
  | .hbm, ⟨33, _⟩ => ⟨S_, .f32⟩
  | .hbm, ⟨34, _⟩ => ⟨S64x32, .f32⟩
  | .hbm, ⟨35, _⟩ => ⟨S8x64, .f32⟩
  | .hbm, ⟨36, _⟩ => ⟨S64x1, .f32⟩
  | .hbm, ⟨37, _⟩ => ⟨S8x1, .f32⟩
  | .hbm, ⟨38, _⟩ => ⟨S2x10x50176, .f32⟩
  | .hbm, ⟨39, _⟩ => ⟨S2x10x224x224, .f32⟩
  | .hbm, ⟨40, _⟩ => ⟨S2x3x224x224, .f32⟩
  | .local .tc .vmem, ⟨0, _⟩ => ⟨S1x32x6272, .f32⟩
  | .local .tc .vmem, ⟨1, _⟩ => ⟨S1x32x6272, .f32⟩
  | .local .tc .vmem, ⟨2, _⟩ => ⟨S64x32, .f32⟩
  | .local .tc .vmem, ⟨3, _⟩ => ⟨S64x1, .f32⟩
  | .local .tc .vmem, ⟨4, _⟩ => ⟨S8x64, .f32⟩
  | .local .tc .vmem, ⟨5, _⟩ => ⟨S8x1, .f32⟩
  | .local .tc .vmem, ⟨6, _⟩ => ⟨S1x10x6272, .f32⟩
  | .local .tc .vmem, ⟨7, _⟩ => ⟨S1x10x6272, .f32⟩
  | .local .scVector .vmem, ⟨0, _⟩ => ⟨S10x24x224, .f32⟩
  | .local .scVector .vmem, ⟨1, _⟩ => ⟨S3x14x224, .f32⟩
  | _, _ => ⟨S2x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_call1_v0 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v28_scv : Ref sig .scVector := ⟨.hbm, 39, rfl⟩
abbrev main_v29_scv : Ref sig .scVector := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x10x6272 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def k1_off1 (i : grid1.Coords) : Fin 4 → Nat :=
  let arg0 : BitVec 32 := BitVec.ofNat 32 (i 0).val
  let c0_i32_13_r0 : BitVec 32 := 0#32
  let arg1 : BitVec 32 := BitVec.ofNat 32 (i 1).val
  let c14_i32 : BitVec 32 := 14#32
  let v0 : BitVec 32 := Scalar.muli arg1 c14_i32
  let c4_i32 : BitVec 32 := 4#32
  let v1 : BitVec 32 := Scalar.subi v0 c4_i32
  let c200_i32 : BitVec 32 := 200#32
  let v2 : BitVec 32 := Scalar.minsi v1 c200_i32
  let c0_i32 : BitVec 32 := 0#32
  let v3 : BitVec 32 := Scalar.maxsi v2 c0_i32
  let c0_i32_14_r0 : BitVec 32 := 0#32
  ![arg0.toNat, 0, v3.toNat, 0]
@[reducible] def k1_t1_loop : Scf.Loop 32 :=
  let c0_i32_1 : BitVec 32 := 0#32
  let c14_i32_2 : BitVec 32 := 14#32
  let v6 : BitVec 32 := Scalar.addi c0_i32_1 c14_i32_2
  let c1_i32 : BitVec 32 := 1#32
  ⟨c0_i32_1, v6, c1_i32⟩
def k1_off2 (k1_t1 : Fin k1_t1_loop.trips) : Fin 3 → Nat :=
  let c0_i32_13 : BitVec 32 := 0#32
  let v15 : Index := Scalar.indexCast c0_i32_13
  let c0_i32_1 : BitVec 32 := 0#32
  let c1_i32 : BitVec 32 := 1#32
  let arg6 : BitVec 32 := Scf.iv c0_i32_1 c1_i32 k1_t1
  let v16 : Index := Scalar.indexCast arg6
  let c0 : Index := 0#32
  ![0, v16.toNat, 0]
def k1_off3 (k1_t1 : Fin k1_t1_loop.trips) : Fin 3 → Nat :=
  let c0_i32_14 : BitVec 32 := 0#32
  let v18 : Index := Scalar.indexCast c0_i32_14
  let c0_i32_1 : BitVec 32 := 0#32
  let c1_i32 : BitVec 32 := 1#32
  let arg6 : BitVec 32 := Scf.iv c0_i32_1 c1_i32 k1_t1
  let v19 : Index := Scalar.indexCast arg6
  let c16 : Index := 16#32
  ![0, v19.toNat, 16]
def k1_off4 (k1_t1 : Fin k1_t1_loop.trips) : Fin 3 → Nat :=
  let c0_i32_15 : BitVec 32 := 0#32
  let v21 : Index := Scalar.indexCast c0_i32_15
  let c0_i32_1 : BitVec 32 := 0#32
  let c1_i32 : BitVec 32 := 1#32
  let arg6 : BitVec 32 := Scf.iv c0_i32_1 c1_i32 k1_t1
  let v22 : Index := Scalar.indexCast arg6
  let c32 : Index := 32#32
  ![0, v22.toNat, 32]
def k1_off5 (k1_t1 : Fin k1_t1_loop.trips) : Fin 3 → Nat :=
  let c0_i32_16 : BitVec 32 := 0#32
  let v24 : Index := Scalar.indexCast c0_i32_16
  let c0_i32_1 : BitVec 32 := 0#32
  let c1_i32 : BitVec 32 := 1#32
  let arg6 : BitVec 32 := Scf.iv c0_i32_1 c1_i32 k1_t1
  let v25 : Index := Scalar.indexCast arg6
  let c48 : Index := 48#32
  ![0, v25.toNat, 48]
def k1_off6 (k1_t1 : Fin k1_t1_loop.trips) : Fin 3 → Nat :=
  let c0_i32_17 : BitVec 32 := 0#32
  let v27 : Index := Scalar.indexCast c0_i32_17
  let c0_i32_1 : BitVec 32 := 0#32
  let c1_i32 : BitVec 32 := 1#32
  let arg6 : BitVec 32 := Scf.iv c0_i32_1 c1_i32 k1_t1
  let v28 : Index := Scalar.indexCast arg6
  let c64 : Index := 64#32
  ![0, v28.toNat, 64]
def k1_off7 (k1_t1 : Fin k1_t1_loop.trips) : Fin 3 → Nat :=
  let c0_i32_18 : BitVec 32 := 0#32
  let v30 : Index := Scalar.indexCast c0_i32_18
  let c0_i32_1 : BitVec 32 := 0#32
  let c1_i32 : BitVec 32 := 1#32
  let arg6 : BitVec 32 := Scf.iv c0_i32_1 c1_i32 k1_t1
  let v31 : Index := Scalar.indexCast arg6
  let c80 : Index := 80#32
  ![0, v31.toNat, 80]
def k1_off8 (k1_t1 : Fin k1_t1_loop.trips) : Fin 3 → Nat :=
  let c0_i32_19 : BitVec 32 := 0#32
  let v33 : Index := Scalar.indexCast c0_i32_19
  let c0_i32_1 : BitVec 32 := 0#32
  let c1_i32 : BitVec 32 := 1#32
  let arg6 : BitVec 32 := Scf.iv c0_i32_1 c1_i32 k1_t1
  let v34 : Index := Scalar.indexCast arg6
  let c96 : Index := 96#32
  ![0, v34.toNat, 96]
def k1_off9 (k1_t1 : Fin k1_t1_loop.trips) : Fin 3 → Nat :=
  let c0_i32_20 : BitVec 32 := 0#32
  let v36 : Index := Scalar.indexCast c0_i32_20
  let c0_i32_1 : BitVec 32 := 0#32
  let c1_i32 : BitVec 32 := 1#32
  let arg6 : BitVec 32 := Scf.iv c0_i32_1 c1_i32 k1_t1
  let v37 : Index := Scalar.indexCast arg6
  let c112 : Index := 112#32
  ![0, v37.toNat, 112]
def k1_off10 (k1_t1 : Fin k1_t1_loop.trips) : Fin 3 → Nat :=
  let c0_i32_21 : BitVec 32 := 0#32
  let v39 : Index := Scalar.indexCast c0_i32_21
  let c0_i32_1 : BitVec 32 := 0#32
  let c1_i32 : BitVec 32 := 1#32
  let arg6 : BitVec 32 := Scf.iv c0_i32_1 c1_i32 k1_t1
  let v40 : Index := Scalar.indexCast arg6
  let c128 : Index := 128#32
  ![0, v40.toNat, 128]
def k1_off11 (k1_t1 : Fin k1_t1_loop.trips) : Fin 3 → Nat :=
  let c0_i32_22 : BitVec 32 := 0#32
  let v42 : Index := Scalar.indexCast c0_i32_22
  let c0_i32_1 : BitVec 32 := 0#32
  let c1_i32 : BitVec 32 := 1#32
  let arg6 : BitVec 32 := Scf.iv c0_i32_1 c1_i32 k1_t1
  let v43 : Index := Scalar.indexCast arg6
  let c144 : Index := 144#32
  ![0, v43.toNat, 144]
def k1_off12 (k1_t1 : Fin k1_t1_loop.trips) : Fin 3 → Nat :=
  let c0_i32_23 : BitVec 32 := 0#32
  let v45 : Index := Scalar.indexCast c0_i32_23
  let c0_i32_1 : BitVec 32 := 0#32
  let c1_i32 : BitVec 32 := 1#32
  let arg6 : BitVec 32 := Scf.iv c0_i32_1 c1_i32 k1_t1
  let v46 : Index := Scalar.indexCast arg6
  let c160 : Index := 160#32
  ![0, v46.toNat, 160]
def k1_off13 (k1_t1 : Fin k1_t1_loop.trips) : Fin 3 → Nat :=
  let c0_i32_24 : BitVec 32 := 0#32
  let v48 : Index := Scalar.indexCast c0_i32_24
  let c0_i32_1 : BitVec 32 := 0#32
  let c1_i32 : BitVec 32 := 1#32
  let arg6 : BitVec 32 := Scf.iv c0_i32_1 c1_i32 k1_t1
  let v49 : Index := Scalar.indexCast arg6
  let c176 : Index := 176#32
  ![0, v49.toNat, 176]
def k1_off14 (k1_t1 : Fin k1_t1_loop.trips) : Fin 3 → Nat :=
  let c0_i32_25 : BitVec 32 := 0#32
  let v51 : Index := Scalar.indexCast c0_i32_25
  let c0_i32_1 : BitVec 32 := 0#32
  let c1_i32 : BitVec 32 := 1#32
  let arg6 : BitVec 32 := Scf.iv c0_i32_1 c1_i32 k1_t1
  let v52 : Index := Scalar.indexCast arg6
  let c192 : Index := 192#32
  ![0, v52.toNat, 192]
def k1_off15 (k1_t1 : Fin k1_t1_loop.trips) : Fin 3 → Nat :=
  let c0_i32_26 : BitVec 32 := 0#32
  let v54 : Index := Scalar.indexCast c0_i32_26
  let c0_i32_1 : BitVec 32 := 0#32
  let c1_i32 : BitVec 32 := 1#32
  let arg6 : BitVec 32 := Scf.iv c0_i32_1 c1_i32 k1_t1
  let v55 : Index := Scalar.indexCast arg6
  let c208 : Index := 208#32
  ![0, v55.toNat, 208]
def k1_off16 (k1_t1 : Fin k1_t1_loop.trips) : Fin 3 → Nat :=
  let c1_i32_27 : BitVec 32 := 1#32
  let v57 : Index := Scalar.indexCast c1_i32_27
  let c0_i32_1 : BitVec 32 := 0#32
  let c1_i32 : BitVec 32 := 1#32
  let arg6 : BitVec 32 := Scf.iv c0_i32_1 c1_i32 k1_t1
  let v58 : Index := Scalar.indexCast arg6
  let c0_28 : Index := 0#32
  ![1, v58.toNat, 0]
def k1_off17 (k1_t1 : Fin k1_t1_loop.trips) : Fin 3 → Nat :=
  let c1_i32_29 : BitVec 32 := 1#32
  let v60 : Index := Scalar.indexCast c1_i32_29
  let c0_i32_1 : BitVec 32 := 0#32
  let c1_i32 : BitVec 32 := 1#32
  let arg6 : BitVec 32 := Scf.iv c0_i32_1 c1_i32 k1_t1
  let v61 : Index := Scalar.indexCast arg6
  let c16_30 : Index := 16#32
  ![1, v61.toNat, 16]
def k1_off18 (k1_t1 : Fin k1_t1_loop.trips) : Fin 3 → Nat :=
  let c1_i32_31 : BitVec 32 := 1#32
  let v63 : Index := Scalar.indexCast c1_i32_31
  let c0_i32_1 : BitVec 32 := 0#32
  let c1_i32 : BitVec 32 := 1#32
  let arg6 : BitVec 32 := Scf.iv c0_i32_1 c1_i32 k1_t1
  let v64 : Index := Scalar.indexCast arg6
  let c32_32 : Index := 32#32
  ![1, v64.toNat, 32]
def k1_off19 (k1_t1 : Fin k1_t1_loop.trips) : Fin 3 → Nat :=
  let c1_i32_33 : BitVec 32 := 1#32
  let v66 : Index := Scalar.indexCast c1_i32_33
  let c0_i32_1 : BitVec 32 := 0#32
  let c1_i32 : BitVec 32 := 1#32
  let arg6 : BitVec 32 := Scf.iv c0_i32_1 c1_i32 k1_t1
  let v67 : Index := Scalar.indexCast arg6
  let c48_34 : Index := 48#32
  ![1, v67.toNat, 48]
def k1_off20 (k1_t1 : Fin k1_t1_loop.trips) : Fin 3 → Nat :=
  let c1_i32_35 : BitVec 32 := 1#32
  let v69 : Index := Scalar.indexCast c1_i32_35
  let c0_i32_1 : BitVec 32 := 0#32
  let c1_i32 : BitVec 32 := 1#32
  let arg6 : BitVec 32 := Scf.iv c0_i32_1 c1_i32 k1_t1
  let v70 : Index := Scalar.indexCast arg6
  let c64_36 : Index := 64#32
  ![1, v70.toNat, 64]
def k1_off21 (k1_t1 : Fin k1_t1_loop.trips) : Fin 3 → Nat :=
  let c1_i32_37 : BitVec 32 := 1#32
  let v72 : Index := Scalar.indexCast c1_i32_37
  let c0_i32_1 : BitVec 32 := 0#32
  let c1_i32 : BitVec 32 := 1#32
  let arg6 : BitVec 32 := Scf.iv c0_i32_1 c1_i32 k1_t1
  let v73 : Index := Scalar.indexCast arg6
  let c80_38 : Index := 80#32
  ![1, v73.toNat, 80]
def k1_off22 (k1_t1 : Fin k1_t1_loop.trips) : Fin 3 → Nat :=
  let c1_i32_39 : BitVec 32 := 1#32
  let v75 : Index := Scalar.indexCast c1_i32_39
  let c0_i32_1 : BitVec 32 := 0#32
  let c1_i32 : BitVec 32 := 1#32
  let arg6 : BitVec 32 := Scf.iv c0_i32_1 c1_i32 k1_t1
  let v76 : Index := Scalar.indexCast arg6
  let c96_40 : Index := 96#32
  ![1, v76.toNat, 96]
def k1_off23 (k1_t1 : Fin k1_t1_loop.trips) : Fin 3 → Nat :=
  let c1_i32_41 : BitVec 32 := 1#32
  let v78 : Index := Scalar.indexCast c1_i32_41
  let c0_i32_1 : BitVec 32 := 0#32
  let c1_i32 : BitVec 32 := 1#32
  let arg6 : BitVec 32 := Scf.iv c0_i32_1 c1_i32 k1_t1
  let v79 : Index := Scalar.indexCast arg6
  let c112_42 : Index := 112#32
  ![1, v79.toNat, 112]
def k1_off24 (k1_t1 : Fin k1_t1_loop.trips) : Fin 3 → Nat :=
  let c1_i32_43 : BitVec 32 := 1#32
  let v81 : Index := Scalar.indexCast c1_i32_43
  let c0_i32_1 : BitVec 32 := 0#32
  let c1_i32 : BitVec 32 := 1#32
  let arg6 : BitVec 32 := Scf.iv c0_i32_1 c1_i32 k1_t1
  let v82 : Index := Scalar.indexCast arg6
  let c128_44 : Index := 128#32
  ![1, v82.toNat, 128]
def k1_off25 (k1_t1 : Fin k1_t1_loop.trips) : Fin 3 → Nat :=
  let c1_i32_45 : BitVec 32 := 1#32
  let v84 : Index := Scalar.indexCast c1_i32_45
  let c0_i32_1 : BitVec 32 := 0#32
  let c1_i32 : BitVec 32 := 1#32
  let arg6 : BitVec 32 := Scf.iv c0_i32_1 c1_i32 k1_t1
  let v85 : Index := Scalar.indexCast arg6
  let c144_46 : Index := 144#32
  ![1, v85.toNat, 144]
def k1_off26 (k1_t1 : Fin k1_t1_loop.trips) : Fin 3 → Nat :=
  let c1_i32_47 : BitVec 32 := 1#32
  let v87 : Index := Scalar.indexCast c1_i32_47
  let c0_i32_1 : BitVec 32 := 0#32
  let c1_i32 : BitVec 32 := 1#32
  let arg6 : BitVec 32 := Scf.iv c0_i32_1 c1_i32 k1_t1
  let v88 : Index := Scalar.indexCast arg6
  let c160_48 : Index := 160#32
  ![1, v88.toNat, 160]
def k1_off27 (k1_t1 : Fin k1_t1_loop.trips) : Fin 3 → Nat :=
  let c1_i32_49 : BitVec 32 := 1#32
  let v90 : Index := Scalar.indexCast c1_i32_49
  let c0_i32_1 : BitVec 32 := 0#32
  let c1_i32 : BitVec 32 := 1#32
  let arg6 : BitVec 32 := Scf.iv c0_i32_1 c1_i32 k1_t1
  let v91 : Index := Scalar.indexCast arg6
  let c176_50 : Index := 176#32
  ![1, v91.toNat, 176]
def k1_off28 (k1_t1 : Fin k1_t1_loop.trips) : Fin 3 → Nat :=
  let c1_i32_51 : BitVec 32 := 1#32
  let v93 : Index := Scalar.indexCast c1_i32_51
  let c0_i32_1 : BitVec 32 := 0#32
  let c1_i32 : BitVec 32 := 1#32
  let arg6 : BitVec 32 := Scf.iv c0_i32_1 c1_i32 k1_t1
  let v94 : Index := Scalar.indexCast arg6
  let c192_52 : Index := 192#32
  ![1, v94.toNat, 192]
def k1_off29 (k1_t1 : Fin k1_t1_loop.trips) : Fin 3 → Nat :=
  let c1_i32_53 : BitVec 32 := 1#32
  let v96 : Index := Scalar.indexCast c1_i32_53
  let c0_i32_1 : BitVec 32 := 0#32
  let c1_i32 : BitVec 32 := 1#32
  let arg6 : BitVec 32 := Scf.iv c0_i32_1 c1_i32 k1_t1
  let v97 : Index := Scalar.indexCast arg6
  let c208_54 : Index := 208#32
  ![1, v97.toNat, 208]
def k1_off30 (k1_t1 : Fin k1_t1_loop.trips) : Fin 3 → Nat :=
  let c2_i32 : BitVec 32 := 2#32
  let v99 : Index := Scalar.indexCast c2_i32
  let c0_i32_1 : BitVec 32 := 0#32
  let c1_i32 : BitVec 32 := 1#32
  let arg6 : BitVec 32 := Scf.iv c0_i32_1 c1_i32 k1_t1
  let v100 : Index := Scalar.indexCast arg6
  let c0_55 : Index := 0#32
  ![2, v100.toNat, 0]
def k1_off31 (k1_t1 : Fin k1_t1_loop.trips) : Fin 3 → Nat :=
  let c2_i32_56 : BitVec 32 := 2#32
  let v102 : Index := Scalar.indexCast c2_i32_56
  let c0_i32_1 : BitVec 32 := 0#32
  let c1_i32 : BitVec 32 := 1#32
  let arg6 : BitVec 32 := Scf.iv c0_i32_1 c1_i32 k1_t1
  let v103 : Index := Scalar.indexCast arg6
  let c16_57 : Index := 16#32
  ![2, v103.toNat, 16]
def k1_off32 (k1_t1 : Fin k1_t1_loop.trips) : Fin 3 → Nat :=
  let c2_i32_58 : BitVec 32 := 2#32
  let v105 : Index := Scalar.indexCast c2_i32_58
  let c0_i32_1 : BitVec 32 := 0#32
  let c1_i32 : BitVec 32 := 1#32
  let arg6 : BitVec 32 := Scf.iv c0_i32_1 c1_i32 k1_t1
  let v106 : Index := Scalar.indexCast arg6
  let c32_59 : Index := 32#32
  ![2, v106.toNat, 32]
def k1_off33 (k1_t1 : Fin k1_t1_loop.trips) : Fin 3 → Nat :=
  let c2_i32_60 : BitVec 32 := 2#32
  let v108 : Index := Scalar.indexCast c2_i32_60
  let c0_i32_1 : BitVec 32 := 0#32
  let c1_i32 : BitVec 32 := 1#32
  let arg6 : BitVec 32 := Scf.iv c0_i32_1 c1_i32 k1_t1
  let v109 : Index := Scalar.indexCast arg6
  let c48_61 : Index := 48#32
  ![2, v109.toNat, 48]
def k1_off34 (k1_t1 : Fin k1_t1_loop.trips) : Fin 3 → Nat :=
  let c2_i32_62 : BitVec 32 := 2#32
  let v111 : Index := Scalar.indexCast c2_i32_62
  let c0_i32_1 : BitVec 32 := 0#32
  let c1_i32 : BitVec 32 := 1#32
  let arg6 : BitVec 32 := Scf.iv c0_i32_1 c1_i32 k1_t1
  let v112 : Index := Scalar.indexCast arg6
  let c64_63 : Index := 64#32
  ![2, v112.toNat, 64]
def k1_off35 (k1_t1 : Fin k1_t1_loop.trips) : Fin 3 → Nat :=
  let c2_i32_64 : BitVec 32 := 2#32
  let v114 : Index := Scalar.indexCast c2_i32_64
  let c0_i32_1 : BitVec 32 := 0#32
  let c1_i32 : BitVec 32 := 1#32
  let arg6 : BitVec 32 := Scf.iv c0_i32_1 c1_i32 k1_t1
  let v115 : Index := Scalar.indexCast arg6
  let c80_65 : Index := 80#32
  ![2, v115.toNat, 80]
def k1_off36 (k1_t1 : Fin k1_t1_loop.trips) : Fin 3 → Nat :=
  let c2_i32_66 : BitVec 32 := 2#32
  let v117 : Index := Scalar.indexCast c2_i32_66
  let c0_i32_1 : BitVec 32 := 0#32
  let c1_i32 : BitVec 32 := 1#32
  let arg6 : BitVec 32 := Scf.iv c0_i32_1 c1_i32 k1_t1
  let v118 : Index := Scalar.indexCast arg6
  let c96_67 : Index := 96#32
  ![2, v118.toNat, 96]
def k1_off37 (k1_t1 : Fin k1_t1_loop.trips) : Fin 3 → Nat :=
  let c2_i32_68 : BitVec 32 := 2#32
  let v120 : Index := Scalar.indexCast c2_i32_68
  let c0_i32_1 : BitVec 32 := 0#32
  let c1_i32 : BitVec 32 := 1#32
  let arg6 : BitVec 32 := Scf.iv c0_i32_1 c1_i32 k1_t1
  let v121 : Index := Scalar.indexCast arg6
  let c112_69 : Index := 112#32
  ![2, v121.toNat, 112]
def k1_off38 (k1_t1 : Fin k1_t1_loop.trips) : Fin 3 → Nat :=
  let c2_i32_70 : BitVec 32 := 2#32
  let v123 : Index := Scalar.indexCast c2_i32_70
  let c0_i32_1 : BitVec 32 := 0#32
  let c1_i32 : BitVec 32 := 1#32
  let arg6 : BitVec 32 := Scf.iv c0_i32_1 c1_i32 k1_t1
  let v124 : Index := Scalar.indexCast arg6
  let c128_71 : Index := 128#32
  ![2, v124.toNat, 128]
def k1_off39 (k1_t1 : Fin k1_t1_loop.trips) : Fin 3 → Nat :=
  let c2_i32_72 : BitVec 32 := 2#32
  let v126 : Index := Scalar.indexCast c2_i32_72
  let c0_i32_1 : BitVec 32 := 0#32
  let c1_i32 : BitVec 32 := 1#32
  let arg6 : BitVec 32 := Scf.iv c0_i32_1 c1_i32 k1_t1
  let v127 : Index := Scalar.indexCast arg6
  let c144_73 : Index := 144#32
  ![2, v127.toNat, 144]
def k1_off40 (k1_t1 : Fin k1_t1_loop.trips) : Fin 3 → Nat :=
  let c2_i32_74 : BitVec 32 := 2#32
  let v129 : Index := Scalar.indexCast c2_i32_74
  let c0_i32_1 : BitVec 32 := 0#32
  let c1_i32 : BitVec 32 := 1#32
  let arg6 : BitVec 32 := Scf.iv c0_i32_1 c1_i32 k1_t1
  let v130 : Index := Scalar.indexCast arg6
  let c160_75 : Index := 160#32
  ![2, v130.toNat, 160]
def k1_off41 (k1_t1 : Fin k1_t1_loop.trips) : Fin 3 → Nat :=
  let c2_i32_76 : BitVec 32 := 2#32
  let v132 : Index := Scalar.indexCast c2_i32_76
  let c0_i32_1 : BitVec 32 := 0#32
  let c1_i32 : BitVec 32 := 1#32
  let arg6 : BitVec 32 := Scf.iv c0_i32_1 c1_i32 k1_t1
  let v133 : Index := Scalar.indexCast arg6
  let c176_77 : Index := 176#32
  ![2, v133.toNat, 176]
def k1_off42 (k1_t1 : Fin k1_t1_loop.trips) : Fin 3 → Nat :=
  let c2_i32_78 : BitVec 32 := 2#32
  let v135 : Index := Scalar.indexCast c2_i32_78
  let c0_i32_1 : BitVec 32 := 0#32
  let c1_i32 : BitVec 32 := 1#32
  let arg6 : BitVec 32 := Scf.iv c0_i32_1 c1_i32 k1_t1
  let v136 : Index := Scalar.indexCast arg6
  let c192_79 : Index := 192#32
  ![2, v136.toNat, 192]
def k1_off43 (k1_t1 : Fin k1_t1_loop.trips) : Fin 3 → Nat :=
  let c2_i32_80 : BitVec 32 := 2#32
  let v138 : Index := Scalar.indexCast c2_i32_80
  let c0_i32_1 : BitVec 32 := 0#32
  let c1_i32 : BitVec 32 := 1#32
  let arg6 : BitVec 32 := Scf.iv c0_i32_1 c1_i32 k1_t1
  let v139 : Index := Scalar.indexCast arg6
  let c208_81 : Index := 208#32
  ![2, v139.toNat, 208]
@[reducible] def k1_t2_loop : Scf.Loop 32 :=
  let c0_i32_5 : BitVec 32 := 0#32
  let c24_i32 : BitVec 32 := 24#32
  let v11 : BitVec 32 := Scalar.addi c0_i32_5 c24_i32
  let c1_i32_6 : BitVec 32 := 1#32
  ⟨c0_i32_5, v11, c1_i32_6⟩
@[reducible] def k1_t3_loop : Scf.Loop 32 :=
  let c0_i32_14 : BitVec 32 := 0#32
  let c15_i32_15 : BitVec 32 := 15#32
  let v15 : BitVec 32 := Scalar.addi c0_i32_14 c15_i32_15
  let c1_i32_16 : BitVec 32 := 1#32
  ⟨c0_i32_14, v15, c1_i32_16⟩
def k1_off44 (k1_t2 : Fin k1_t2_loop.trips) : Fin 3 → Nat :=
  let c0_i32_19 : BitVec 32 := 0#32
  let c0_i32_5 : BitVec 32 := 0#32
  let c1_i32_6 : BitVec 32 := 1#32
  let arg6 : BitVec 32 := Scf.iv c0_i32_5 c1_i32_6 k1_t2
  let c0_i32_20 : BitVec 32 := 0#32
  ![0, arg6.toNat, 0]
def k1_off45 (k1_t2 : Fin k1_t2_loop.trips) : Fin 3 → Nat :=
  let c1_i32_21 : BitVec 32 := 1#32
  let c0_i32_5 : BitVec 32 := 0#32
  let c1_i32_6 : BitVec 32 := 1#32
  let arg6 : BitVec 32 := Scf.iv c0_i32_5 c1_i32_6 k1_t2
  let c0_i32_22 : BitVec 32 := 0#32
  ![1, arg6.toNat, 0]
def k1_off46 (k1_t2 : Fin k1_t2_loop.trips) : Fin 3 → Nat :=
  let c2_i32 : BitVec 32 := 2#32
  let c0_i32_5 : BitVec 32 := 0#32
  let c1_i32_6 : BitVec 32 := 1#32
  let arg6 : BitVec 32 := Scf.iv c0_i32_5 c1_i32_6 k1_t2
  let c0_i32_23 : BitVec 32 := 0#32
  ![2, arg6.toNat, 0]
def k1_off47 (k1_t2 : Fin k1_t2_loop.trips) : Fin 3 → Nat :=
  let c3_i32 : BitVec 32 := 3#32
  let c0_i32_5 : BitVec 32 := 0#32
  let c1_i32_6 : BitVec 32 := 1#32
  let arg6 : BitVec 32 := Scf.iv c0_i32_5 c1_i32_6 k1_t2
  let c0_i32_24 : BitVec 32 := 0#32
  ![3, arg6.toNat, 0]
def k1_off48 (k1_t2 : Fin k1_t2_loop.trips) : Fin 3 → Nat :=
  let c4_i32_25 : BitVec 32 := 4#32
  let c0_i32_5 : BitVec 32 := 0#32
  let c1_i32_6 : BitVec 32 := 1#32
  let arg6 : BitVec 32 := Scf.iv c0_i32_5 c1_i32_6 k1_t2
  let c0_i32_26 : BitVec 32 := 0#32
  ![4, arg6.toNat, 0]
def k1_off49 (k1_t2 : Fin k1_t2_loop.trips) : Fin 3 → Nat :=
  let c5_i32 : BitVec 32 := 5#32
  let c0_i32_5 : BitVec 32 := 0#32
  let c1_i32_6 : BitVec 32 := 1#32
  let arg6 : BitVec 32 := Scf.iv c0_i32_5 c1_i32_6 k1_t2
  let c0_i32_27 : BitVec 32 := 0#32
  ![5, arg6.toNat, 0]
def k1_off50 (k1_t2 : Fin k1_t2_loop.trips) : Fin 3 → Nat :=
  let c6_i32 : BitVec 32 := 6#32
  let c0_i32_5 : BitVec 32 := 0#32
  let c1_i32_6 : BitVec 32 := 1#32
  let arg6 : BitVec 32 := Scf.iv c0_i32_5 c1_i32_6 k1_t2
  let c0_i32_28 : BitVec 32 := 0#32
  ![6, arg6.toNat, 0]
def k1_off51 (k1_t2 : Fin k1_t2_loop.trips) : Fin 3 → Nat :=
  let c7_i32 : BitVec 32 := 7#32
  let c0_i32_5 : BitVec 32 := 0#32
  let c1_i32_6 : BitVec 32 := 1#32
  let arg6 : BitVec 32 := Scf.iv c0_i32_5 c1_i32_6 k1_t2
  let c0_i32_29 : BitVec 32 := 0#32
  ![7, arg6.toNat, 0]
def k1_off52 (k1_t2 : Fin k1_t2_loop.trips) : Fin 3 → Nat :=
  let c8_i32 : BitVec 32 := 8#32
  let c0_i32_5 : BitVec 32 := 0#32
  let c1_i32_6 : BitVec 32 := 1#32
  let arg6 : BitVec 32 := Scf.iv c0_i32_5 c1_i32_6 k1_t2
  let c0_i32_30 : BitVec 32 := 0#32
  ![8, arg6.toNat, 0]
def k1_off53 (k1_t2 : Fin k1_t2_loop.trips) : Fin 3 → Nat :=
  let c9_i32 : BitVec 32 := 9#32
  let c0_i32_5 : BitVec 32 := 0#32
  let c1_i32_6 : BitVec 32 := 1#32
  let arg6 : BitVec 32 := Scf.iv c0_i32_5 c1_i32_6 k1_t2
  let c0_i32_31 : BitVec 32 := 0#32
  ![9, arg6.toNat, 0]

def k1_chk1 (v22 : IVec S16 32) : Prop :=
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a)
theorem k1_idx1_inb : ∀ (v22 : IVec S16 32) (k1_hw1 : k1_chk1 v22), ∀ a x, ((![v22] : Fin 1 → IVec S16 32) a x).toNat < S224.size a := fun v22 k1_hw1 => k1_hw1.1
theorem k1_idx2_inb : ∀ (v22 : IVec S16 32) (k1_hw1 : k1_chk1 v22), ∀ a x, ((![v22] : Fin 1 → IVec S16 32) a x).toNat < S224.size a := fun v22 k1_hw1 => k1_hw1.2.1
theorem k1_idx3_inb : ∀ (v22 : IVec S16 32) (k1_hw1 : k1_chk1 v22), ∀ a x, ((![v22] : Fin 1 → IVec S16 32) a x).toNat < S224.size a := fun v22 k1_hw1 => k1_hw1.2.2.1
theorem k1_idx4_inb : ∀ (v22 : IVec S16 32) (k1_hw1 : k1_chk1 v22), ∀ a x, ((![v22] : Fin 1 → IVec S16 32) a x).toNat < S224.size a := fun v22 k1_hw1 => k1_hw1.2.2.2.1
theorem k1_idx5_inb : ∀ (v22 : IVec S16 32) (k1_hw1 : k1_chk1 v22), ∀ a x, ((![v22] : Fin 1 → IVec S16 32) a x).toNat < S224.size a := fun v22 k1_hw1 => k1_hw1.2.2.2.2.1
theorem k1_idx6_inb : ∀ (v22 : IVec S16 32) (k1_hw1 : k1_chk1 v22), ∀ a x, ((![v22] : Fin 1 → IVec S16 32) a x).toNat < S224.size a := fun v22 k1_hw1 => k1_hw1.2.2.2.2.2.1
theorem k1_idx7_inb : ∀ (v22 : IVec S16 32) (k1_hw1 : k1_chk1 v22), ∀ a x, ((![v22] : Fin 1 → IVec S16 32) a x).toNat < S224.size a := fun v22 k1_hw1 => k1_hw1.2.2.2.2.2.2.1
theorem k1_idx8_inb : ∀ (v22 : IVec S16 32) (k1_hw1 : k1_chk1 v22), ∀ a x, ((![v22] : Fin 1 → IVec S16 32) a x).toNat < S224.size a := fun v22 k1_hw1 => k1_hw1.2.2.2.2.2.2.2.1
theorem k1_idx9_inb : ∀ (v22 : IVec S16 32) (k1_hw1 : k1_chk1 v22), ∀ a x, ((![v22] : Fin 1 → IVec S16 32) a x).toNat < S224.size a := fun v22 k1_hw1 => k1_hw1.2.2.2.2.2.2.2.2.1
theorem k1_idx10_inb : ∀ (v22 : IVec S16 32) (k1_hw1 : k1_chk1 v22), ∀ a x, ((![v22] : Fin 1 → IVec S16 32) a x).toNat < S224.size a := fun v22 k1_hw1 => k1_hw1.2.2.2.2.2.2.2.2.2

def k1_chk2 (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) : Prop :=
  (∀ a x, ((![v204, v134] : Fin 2 → IVec S16 32) a x).toNat < S14x224.size a) ∧
  (∀ a x, ((![v204, v134] : Fin 2 → IVec S16 32) a x).toNat < S14x224.size a) ∧
  (∀ a x, ((![v204, v134] : Fin 2 → IVec S16 32) a x).toNat < S14x224.size a) ∧
  (∀ a x, ((![v204, v138] : Fin 2 → IVec S16 32) a x).toNat < S14x224.size a) ∧
  (∀ a x, ((![v204, v138] : Fin 2 → IVec S16 32) a x).toNat < S14x224.size a) ∧
  (∀ a x, ((![v204, v138] : Fin 2 → IVec S16 32) a x).toNat < S14x224.size a) ∧
  (∀ a x, ((![v204, v142] : Fin 2 → IVec S16 32) a x).toNat < S14x224.size a) ∧
  (∀ a x, ((![v204, v142] : Fin 2 → IVec S16 32) a x).toNat < S14x224.size a) ∧
  (∀ a x, ((![v204, v142] : Fin 2 → IVec S16 32) a x).toNat < S14x224.size a) ∧
  (∀ a x, ((![v204, v146] : Fin 2 → IVec S16 32) a x).toNat < S14x224.size a) ∧
  (∀ a x, ((![v204, v146] : Fin 2 → IVec S16 32) a x).toNat < S14x224.size a) ∧
  (∀ a x, ((![v204, v146] : Fin 2 → IVec S16 32) a x).toNat < S14x224.size a) ∧
  (∀ a x, ((![v204, v150] : Fin 2 → IVec S16 32) a x).toNat < S14x224.size a) ∧
  (∀ a x, ((![v204, v150] : Fin 2 → IVec S16 32) a x).toNat < S14x224.size a) ∧
  (∀ a x, ((![v204, v150] : Fin 2 → IVec S16 32) a x).toNat < S14x224.size a) ∧
  (∀ a x, ((![v204, v154] : Fin 2 → IVec S16 32) a x).toNat < S14x224.size a) ∧
  (∀ a x, ((![v204, v154] : Fin 2 → IVec S16 32) a x).toNat < S14x224.size a) ∧
  (∀ a x, ((![v204, v154] : Fin 2 → IVec S16 32) a x).toNat < S14x224.size a) ∧
  (∀ a x, ((![v204, v158] : Fin 2 → IVec S16 32) a x).toNat < S14x224.size a) ∧
  (∀ a x, ((![v204, v158] : Fin 2 → IVec S16 32) a x).toNat < S14x224.size a) ∧
  (∀ a x, ((![v204, v158] : Fin 2 → IVec S16 32) a x).toNat < S14x224.size a) ∧
  (∀ a x, ((![v204, v162] : Fin 2 → IVec S16 32) a x).toNat < S14x224.size a) ∧
  (∀ a x, ((![v204, v162] : Fin 2 → IVec S16 32) a x).toNat < S14x224.size a) ∧
  (∀ a x, ((![v204, v162] : Fin 2 → IVec S16 32) a x).toNat < S14x224.size a) ∧
  (∀ a x, ((![v204, v166] : Fin 2 → IVec S16 32) a x).toNat < S14x224.size a) ∧
  (∀ a x, ((![v204, v166] : Fin 2 → IVec S16 32) a x).toNat < S14x224.size a) ∧
  (∀ a x, ((![v204, v166] : Fin 2 → IVec S16 32) a x).toNat < S14x224.size a)
theorem k1_idx11_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v134] : Fin 2 → IVec S16 32) a x).toNat < S14x224.size a := fun v134 v138 v142 v146 v150 v154 v158 v162 v166 v204 k1_hw2 => k1_hw2.1
theorem k1_idx12_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v134] : Fin 2 → IVec S16 32) a x).toNat < S14x224.size a := fun v134 v138 v142 v146 v150 v154 v158 v162 v166 v204 k1_hw2 => k1_hw2.2.1
theorem k1_idx13_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v134] : Fin 2 → IVec S16 32) a x).toNat < S14x224.size a := fun v134 v138 v142 v146 v150 v154 v158 v162 v166 v204 k1_hw2 => k1_hw2.2.2.1
theorem k1_idx14_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v138] : Fin 2 → IVec S16 32) a x).toNat < S14x224.size a := fun v134 v138 v142 v146 v150 v154 v158 v162 v166 v204 k1_hw2 => k1_hw2.2.2.2.1
theorem k1_idx15_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v138] : Fin 2 → IVec S16 32) a x).toNat < S14x224.size a := fun v134 v138 v142 v146 v150 v154 v158 v162 v166 v204 k1_hw2 => k1_hw2.2.2.2.2.1
theorem k1_idx16_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v138] : Fin 2 → IVec S16 32) a x).toNat < S14x224.size a := fun v134 v138 v142 v146 v150 v154 v158 v162 v166 v204 k1_hw2 => k1_hw2.2.2.2.2.2.1
theorem k1_idx17_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v142] : Fin 2 → IVec S16 32) a x).toNat < S14x224.size a := fun v134 v138 v142 v146 v150 v154 v158 v162 v166 v204 k1_hw2 => k1_hw2.2.2.2.2.2.2.1
theorem k1_idx18_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v142] : Fin 2 → IVec S16 32) a x).toNat < S14x224.size a := fun v134 v138 v142 v146 v150 v154 v158 v162 v166 v204 k1_hw2 => k1_hw2.2.2.2.2.2.2.2.1
theorem k1_idx19_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v142] : Fin 2 → IVec S16 32) a x).toNat < S14x224.size a := fun v134 v138 v142 v146 v150 v154 v158 v162 v166 v204 k1_hw2 => k1_hw2.2.2.2.2.2.2.2.2.1
theorem k1_idx20_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v146] : Fin 2 → IVec S16 32) a x).toNat < S14x224.size a := fun v134 v138 v142 v146 v150 v154 v158 v162 v166 v204 k1_hw2 => k1_hw2.2.2.2.2.2.2.2.2.2.1
theorem k1_idx21_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v146] : Fin 2 → IVec S16 32) a x).toNat < S14x224.size a := fun v134 v138 v142 v146 v150 v154 v158 v162 v166 v204 k1_hw2 => k1_hw2.2.2.2.2.2.2.2.2.2.2.1
theorem k1_idx22_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v146] : Fin 2 → IVec S16 32) a x).toNat < S14x224.size a := fun v134 v138 v142 v146 v150 v154 v158 v162 v166 v204 k1_hw2 => k1_hw2.2.2.2.2.2.2.2.2.2.2.2.1
theorem k1_idx23_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v150] : Fin 2 → IVec S16 32) a x).toNat < S14x224.size a := fun v134 v138 v142 v146 v150 v154 v158 v162 v166 v204 k1_hw2 => k1_hw2.2.2.2.2.2.2.2.2.2.2.2.2.1
theorem k1_idx24_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v150] : Fin 2 → IVec S16 32) a x).toNat < S14x224.size a := fun v134 v138 v142 v146 v150 v154 v158 v162 v166 v204 k1_hw2 => k1_hw2.2.2.2.2.2.2.2.2.2.2.2.2.2.1
theorem k1_idx25_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v150] : Fin 2 → IVec S16 32) a x).toNat < S14x224.size a := fun v134 v138 v142 v146 v150 v154 v158 v162 v166 v204 k1_hw2 => k1_hw2.2.2.2.2.2.2.2.2.2.2.2.2.2.2.1
theorem k1_idx26_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v154] : Fin 2 → IVec S16 32) a x).toNat < S14x224.size a := fun v134 v138 v142 v146 v150 v154 v158 v162 v166 v204 k1_hw2 => k1_hw2.2.2.2.2.2.2.2.2.2.2.2.2.2.2.2.1
theorem k1_idx27_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v154] : Fin 2 → IVec S16 32) a x).toNat < S14x224.size a := fun v134 v138 v142 v146 v150 v154 v158 v162 v166 v204 k1_hw2 => k1_hw2.2.2.2.2.2.2.2.2.2.2.2.2.2.2.2.2.1
theorem k1_idx28_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v154] : Fin 2 → IVec S16 32) a x).toNat < S14x224.size a := fun v134 v138 v142 v146 v150 v154 v158 v162 v166 v204 k1_hw2 => k1_hw2.2.2.2.2.2.2.2.2.2.2.2.2.2.2.2.2.2.1
theorem k1_idx29_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v158] : Fin 2 → IVec S16 32) a x).toNat < S14x224.size a := fun v134 v138 v142 v146 v150 v154 v158 v162 v166 v204 k1_hw2 => k1_hw2.2.2.2.2.2.2.2.2.2.2.2.2.2.2.2.2.2.2.1
theorem k1_idx30_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v158] : Fin 2 → IVec S16 32) a x).toNat < S14x224.size a := fun v134 v138 v142 v146 v150 v154 v158 v162 v166 v204 k1_hw2 => k1_hw2.2.2.2.2.2.2.2.2.2.2.2.2.2.2.2.2.2.2.2.1
theorem k1_idx31_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v158] : Fin 2 → IVec S16 32) a x).toNat < S14x224.size a := fun v134 v138 v142 v146 v150 v154 v158 v162 v166 v204 k1_hw2 => k1_hw2.2.2.2.2.2.2.2.2.2.2.2.2.2.2.2.2.2.2.2.2.1
theorem k1_idx32_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v162] : Fin 2 → IVec S16 32) a x).toNat < S14x224.size a := fun v134 v138 v142 v146 v150 v154 v158 v162 v166 v204 k1_hw2 => k1_hw2.2.2.2.2.2.2.2.2.2.2.2.2.2.2.2.2.2.2.2.2.2.1
theorem k1_idx33_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v162] : Fin 2 → IVec S16 32) a x).toNat < S14x224.size a := fun v134 v138 v142 v146 v150 v154 v158 v162 v166 v204 k1_hw2 => k1_hw2.2.2.2.2.2.2.2.2.2.2.2.2.2.2.2.2.2.2.2.2.2.2.1
theorem k1_idx34_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v162] : Fin 2 → IVec S16 32) a x).toNat < S14x224.size a := fun v134 v138 v142 v146 v150 v154 v158 v162 v166 v204 k1_hw2 => k1_hw2.2.2.2.2.2.2.2.2.2.2.2.2.2.2.2.2.2.2.2.2.2.2.2.1
theorem k1_idx35_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v166] : Fin 2 → IVec S16 32) a x).toNat < S14x224.size a := fun v134 v138 v142 v146 v150 v154 v158 v162 v166 v204 k1_hw2 => k1_hw2.2.2.2.2.2.2.2.2.2.2.2.2.2.2.2.2.2.2.2.2.2.2.2.2.1
theorem k1_idx36_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v166] : Fin 2 → IVec S16 32) a x).toNat < S14x224.size a := fun v134 v138 v142 v146 v150 v154 v158 v162 v166 v204 k1_hw2 => k1_hw2.2.2.2.2.2.2.2.2.2.2.2.2.2.2.2.2.2.2.2.2.2.2.2.2.2.1
theorem k1_idx37_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k1_hw2 : k1_chk2 v134 v138 v142 v146 v150 v154 v158 v162 v166 v204), ∀ a x, ((![v204, v166] : Fin 2 → IVec S16 32) a x).toNat < S14x224.size a := fun v134 v138 v142 v146 v150 v154 v158 v162 v166 v204 k1_hw2 => k1_hw2.2.2.2.2.2.2.2.2.2.2.2.2.2.2.2.2.2.2.2.2.2.2.2.2.2.2

def k1_chk3 (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) : Prop :=
  (∀ a x, ((![v364, v134] : Fin 2 → IVec S16 32) a x).toNat < S14x224.size a) ∧
  (∀ a x, ((![v364, v134] : Fin 2 → IVec S16 32) a x).toNat < S14x224.size a) ∧
  (∀ a x, ((![v364, v134] : Fin 2 → IVec S16 32) a x).toNat < S14x224.size a) ∧
  (∀ a x, ((![v364, v138] : Fin 2 → IVec S16 32) a x).toNat < S14x224.size a) ∧
  (∀ a x, ((![v364, v138] : Fin 2 → IVec S16 32) a x).toNat < S14x224.size a) ∧
  (∀ a x, ((![v364, v138] : Fin 2 → IVec S16 32) a x).toNat < S14x224.size a) ∧
  (∀ a x, ((![v364, v142] : Fin 2 → IVec S16 32) a x).toNat < S14x224.size a) ∧
  (∀ a x, ((![v364, v142] : Fin 2 → IVec S16 32) a x).toNat < S14x224.size a) ∧
  (∀ a x, ((![v364, v142] : Fin 2 → IVec S16 32) a x).toNat < S14x224.size a) ∧
  (∀ a x, ((![v364, v146] : Fin 2 → IVec S16 32) a x).toNat < S14x224.size a) ∧
  (∀ a x, ((![v364, v146] : Fin 2 → IVec S16 32) a x).toNat < S14x224.size a) ∧
  (∀ a x, ((![v364, v146] : Fin 2 → IVec S16 32) a x).toNat < S14x224.size a) ∧
  (∀ a x, ((![v364, v150] : Fin 2 → IVec S16 32) a x).toNat < S14x224.size a) ∧
  (∀ a x, ((![v364, v150] : Fin 2 → IVec S16 32) a x).toNat < S14x224.size a) ∧
  (∀ a x, ((![v364, v150] : Fin 2 → IVec S16 32) a x).toNat < S14x224.size a) ∧
  (∀ a x, ((![v364, v154] : Fin 2 → IVec S16 32) a x).toNat < S14x224.size a) ∧
  (∀ a x, ((![v364, v154] : Fin 2 → IVec S16 32) a x).toNat < S14x224.size a) ∧
  (∀ a x, ((![v364, v154] : Fin 2 → IVec S16 32) a x).toNat < S14x224.size a) ∧
  (∀ a x, ((![v364, v158] : Fin 2 → IVec S16 32) a x).toNat < S14x224.size a) ∧
  (∀ a x, ((![v364, v158] : Fin 2 → IVec S16 32) a x).toNat < S14x224.size a) ∧
  (∀ a x, ((![v364, v158] : Fin 2 → IVec S16 32) a x).toNat < S14x224.size a) ∧
  (∀ a x, ((![v364, v162] : Fin 2 → IVec S16 32) a x).toNat < S14x224.size a) ∧
  (∀ a x, ((![v364, v162] : Fin 2 → IVec S16 32) a x).toNat < S14x224.size a) ∧
  (∀ a x, ((![v364, v162] : Fin 2 → IVec S16 32) a x).toNat < S14x224.size a) ∧
  (∀ a x, ((![v364, v166] : Fin 2 → IVec S16 32) a x).toNat < S14x224.size a) ∧
  (∀ a x, ((![v364, v166] : Fin 2 → IVec S16 32) a x).toNat < S14x224.size a) ∧
  (∀ a x, ((![v364, v166] : Fin 2 → IVec S16 32) a x).toNat < S14x224.size a)
theorem k1_idx38_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v134] : Fin 2 → IVec S16 32) a x).toNat < S14x224.size a := fun v134 v138 v142 v146 v150 v154 v158 v162 v166 v364 k1_hw3 => k1_hw3.1
theorem k1_idx39_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v134] : Fin 2 → IVec S16 32) a x).toNat < S14x224.size a := fun v134 v138 v142 v146 v150 v154 v158 v162 v166 v364 k1_hw3 => k1_hw3.2.1
theorem k1_idx40_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v134] : Fin 2 → IVec S16 32) a x).toNat < S14x224.size a := fun v134 v138 v142 v146 v150 v154 v158 v162 v166 v364 k1_hw3 => k1_hw3.2.2.1
theorem k1_idx41_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v138] : Fin 2 → IVec S16 32) a x).toNat < S14x224.size a := fun v134 v138 v142 v146 v150 v154 v158 v162 v166 v364 k1_hw3 => k1_hw3.2.2.2.1
theorem k1_idx42_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v138] : Fin 2 → IVec S16 32) a x).toNat < S14x224.size a := fun v134 v138 v142 v146 v150 v154 v158 v162 v166 v364 k1_hw3 => k1_hw3.2.2.2.2.1
theorem k1_idx43_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v138] : Fin 2 → IVec S16 32) a x).toNat < S14x224.size a := fun v134 v138 v142 v146 v150 v154 v158 v162 v166 v364 k1_hw3 => k1_hw3.2.2.2.2.2.1
theorem k1_idx44_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v142] : Fin 2 → IVec S16 32) a x).toNat < S14x224.size a := fun v134 v138 v142 v146 v150 v154 v158 v162 v166 v364 k1_hw3 => k1_hw3.2.2.2.2.2.2.1
theorem k1_idx45_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v142] : Fin 2 → IVec S16 32) a x).toNat < S14x224.size a := fun v134 v138 v142 v146 v150 v154 v158 v162 v166 v364 k1_hw3 => k1_hw3.2.2.2.2.2.2.2.1
theorem k1_idx46_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v142] : Fin 2 → IVec S16 32) a x).toNat < S14x224.size a := fun v134 v138 v142 v146 v150 v154 v158 v162 v166 v364 k1_hw3 => k1_hw3.2.2.2.2.2.2.2.2.1
theorem k1_idx47_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v146] : Fin 2 → IVec S16 32) a x).toNat < S14x224.size a := fun v134 v138 v142 v146 v150 v154 v158 v162 v166 v364 k1_hw3 => k1_hw3.2.2.2.2.2.2.2.2.2.1
theorem k1_idx48_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v146] : Fin 2 → IVec S16 32) a x).toNat < S14x224.size a := fun v134 v138 v142 v146 v150 v154 v158 v162 v166 v364 k1_hw3 => k1_hw3.2.2.2.2.2.2.2.2.2.2.1
theorem k1_idx49_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v146] : Fin 2 → IVec S16 32) a x).toNat < S14x224.size a := fun v134 v138 v142 v146 v150 v154 v158 v162 v166 v364 k1_hw3 => k1_hw3.2.2.2.2.2.2.2.2.2.2.2.1
theorem k1_idx50_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v150] : Fin 2 → IVec S16 32) a x).toNat < S14x224.size a := fun v134 v138 v142 v146 v150 v154 v158 v162 v166 v364 k1_hw3 => k1_hw3.2.2.2.2.2.2.2.2.2.2.2.2.1
theorem k1_idx51_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v150] : Fin 2 → IVec S16 32) a x).toNat < S14x224.size a := fun v134 v138 v142 v146 v150 v154 v158 v162 v166 v364 k1_hw3 => k1_hw3.2.2.2.2.2.2.2.2.2.2.2.2.2.1
theorem k1_idx52_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v150] : Fin 2 → IVec S16 32) a x).toNat < S14x224.size a := fun v134 v138 v142 v146 v150 v154 v158 v162 v166 v364 k1_hw3 => k1_hw3.2.2.2.2.2.2.2.2.2.2.2.2.2.2.1
theorem k1_idx53_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v154] : Fin 2 → IVec S16 32) a x).toNat < S14x224.size a := fun v134 v138 v142 v146 v150 v154 v158 v162 v166 v364 k1_hw3 => k1_hw3.2.2.2.2.2.2.2.2.2.2.2.2.2.2.2.1
theorem k1_idx54_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v154] : Fin 2 → IVec S16 32) a x).toNat < S14x224.size a := fun v134 v138 v142 v146 v150 v154 v158 v162 v166 v364 k1_hw3 => k1_hw3.2.2.2.2.2.2.2.2.2.2.2.2.2.2.2.2.1
theorem k1_idx55_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v154] : Fin 2 → IVec S16 32) a x).toNat < S14x224.size a := fun v134 v138 v142 v146 v150 v154 v158 v162 v166 v364 k1_hw3 => k1_hw3.2.2.2.2.2.2.2.2.2.2.2.2.2.2.2.2.2.1
theorem k1_idx56_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v158] : Fin 2 → IVec S16 32) a x).toNat < S14x224.size a := fun v134 v138 v142 v146 v150 v154 v158 v162 v166 v364 k1_hw3 => k1_hw3.2.2.2.2.2.2.2.2.2.2.2.2.2.2.2.2.2.2.1
theorem k1_idx57_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v158] : Fin 2 → IVec S16 32) a x).toNat < S14x224.size a := fun v134 v138 v142 v146 v150 v154 v158 v162 v166 v364 k1_hw3 => k1_hw3.2.2.2.2.2.2.2.2.2.2.2.2.2.2.2.2.2.2.2.1
theorem k1_idx58_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v158] : Fin 2 → IVec S16 32) a x).toNat < S14x224.size a := fun v134 v138 v142 v146 v150 v154 v158 v162 v166 v364 k1_hw3 => k1_hw3.2.2.2.2.2.2.2.2.2.2.2.2.2.2.2.2.2.2.2.2.1
theorem k1_idx59_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v162] : Fin 2 → IVec S16 32) a x).toNat < S14x224.size a := fun v134 v138 v142 v146 v150 v154 v158 v162 v166 v364 k1_hw3 => k1_hw3.2.2.2.2.2.2.2.2.2.2.2.2.2.2.2.2.2.2.2.2.2.1
theorem k1_idx60_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v162] : Fin 2 → IVec S16 32) a x).toNat < S14x224.size a := fun v134 v138 v142 v146 v150 v154 v158 v162 v166 v364 k1_hw3 => k1_hw3.2.2.2.2.2.2.2.2.2.2.2.2.2.2.2.2.2.2.2.2.2.2.1
theorem k1_idx61_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v162] : Fin 2 → IVec S16 32) a x).toNat < S14x224.size a := fun v134 v138 v142 v146 v150 v154 v158 v162 v166 v364 k1_hw3 => k1_hw3.2.2.2.2.2.2.2.2.2.2.2.2.2.2.2.2.2.2.2.2.2.2.2.1
theorem k1_idx62_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v166] : Fin 2 → IVec S16 32) a x).toNat < S14x224.size a := fun v134 v138 v142 v146 v150 v154 v158 v162 v166 v364 k1_hw3 => k1_hw3.2.2.2.2.2.2.2.2.2.2.2.2.2.2.2.2.2.2.2.2.2.2.2.2.1
theorem k1_idx63_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v166] : Fin 2 → IVec S16 32) a x).toNat < S14x224.size a := fun v134 v138 v142 v146 v150 v154 v158 v162 v166 v364 k1_hw3 => k1_hw3.2.2.2.2.2.2.2.2.2.2.2.2.2.2.2.2.2.2.2.2.2.2.2.2.2.1
theorem k1_idx64_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k1_hw3 : k1_chk3 v134 v138 v142 v146 v150 v154 v158 v162 v166 v364), ∀ a x, ((![v364, v166] : Fin 2 → IVec S16 32) a x).toNat < S14x224.size a := fun v134 v138 v142 v146 v150 v154 v158 v162 v166 v364 k1_hw3 => k1_hw3.2.2.2.2.2.2.2.2.2.2.2.2.2.2.2.2.2.2.2.2.2.2.2.2.2.2

def k1_chk4 (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) : Prop :=
  (∀ a x, ((![v524, v134] : Fin 2 → IVec S16 32) a x).toNat < S14x224.size a) ∧
  (∀ a x, ((![v524, v134] : Fin 2 → IVec S16 32) a x).toNat < S14x224.size a) ∧
  (∀ a x, ((![v524, v134] : Fin 2 → IVec S16 32) a x).toNat < S14x224.size a) ∧
  (∀ a x, ((![v524, v138] : Fin 2 → IVec S16 32) a x).toNat < S14x224.size a) ∧
  (∀ a x, ((![v524, v138] : Fin 2 → IVec S16 32) a x).toNat < S14x224.size a) ∧
  (∀ a x, ((![v524, v138] : Fin 2 → IVec S16 32) a x).toNat < S14x224.size a) ∧
  (∀ a x, ((![v524, v142] : Fin 2 → IVec S16 32) a x).toNat < S14x224.size a) ∧
  (∀ a x, ((![v524, v142] : Fin 2 → IVec S16 32) a x).toNat < S14x224.size a) ∧
  (∀ a x, ((![v524, v142] : Fin 2 → IVec S16 32) a x).toNat < S14x224.size a) ∧
  (∀ a x, ((![v524, v146] : Fin 2 → IVec S16 32) a x).toNat < S14x224.size a) ∧
  (∀ a x, ((![v524, v146] : Fin 2 → IVec S16 32) a x).toNat < S14x224.size a) ∧
  (∀ a x, ((![v524, v146] : Fin 2 → IVec S16 32) a x).toNat < S14x224.size a) ∧
  (∀ a x, ((![v524, v150] : Fin 2 → IVec S16 32) a x).toNat < S14x224.size a) ∧
  (∀ a x, ((![v524, v150] : Fin 2 → IVec S16 32) a x).toNat < S14x224.size a) ∧
  (∀ a x, ((![v524, v150] : Fin 2 → IVec S16 32) a x).toNat < S14x224.size a) ∧
  (∀ a x, ((![v524, v154] : Fin 2 → IVec S16 32) a x).toNat < S14x224.size a) ∧
  (∀ a x, ((![v524, v154] : Fin 2 → IVec S16 32) a x).toNat < S14x224.size a) ∧
  (∀ a x, ((![v524, v154] : Fin 2 → IVec S16 32) a x).toNat < S14x224.size a) ∧
  (∀ a x, ((![v524, v158] : Fin 2 → IVec S16 32) a x).toNat < S14x224.size a) ∧
  (∀ a x, ((![v524, v158] : Fin 2 → IVec S16 32) a x).toNat < S14x224.size a) ∧
  (∀ a x, ((![v524, v158] : Fin 2 → IVec S16 32) a x).toNat < S14x224.size a) ∧
  (∀ a x, ((![v524, v162] : Fin 2 → IVec S16 32) a x).toNat < S14x224.size a) ∧
  (∀ a x, ((![v524, v162] : Fin 2 → IVec S16 32) a x).toNat < S14x224.size a) ∧
  (∀ a x, ((![v524, v162] : Fin 2 → IVec S16 32) a x).toNat < S14x224.size a) ∧
  (∀ a x, ((![v524, v166] : Fin 2 → IVec S16 32) a x).toNat < S14x224.size a) ∧
  (∀ a x, ((![v524, v166] : Fin 2 → IVec S16 32) a x).toNat < S14x224.size a) ∧
  (∀ a x, ((![v524, v166] : Fin 2 → IVec S16 32) a x).toNat < S14x224.size a)
theorem k1_idx65_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v134] : Fin 2 → IVec S16 32) a x).toNat < S14x224.size a := fun v134 v138 v142 v146 v150 v154 v158 v162 v166 v524 k1_hw4 => k1_hw4.1
theorem k1_idx66_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v134] : Fin 2 → IVec S16 32) a x).toNat < S14x224.size a := fun v134 v138 v142 v146 v150 v154 v158 v162 v166 v524 k1_hw4 => k1_hw4.2.1
theorem k1_idx67_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v134] : Fin 2 → IVec S16 32) a x).toNat < S14x224.size a := fun v134 v138 v142 v146 v150 v154 v158 v162 v166 v524 k1_hw4 => k1_hw4.2.2.1
theorem k1_idx68_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v138] : Fin 2 → IVec S16 32) a x).toNat < S14x224.size a := fun v134 v138 v142 v146 v150 v154 v158 v162 v166 v524 k1_hw4 => k1_hw4.2.2.2.1
theorem k1_idx69_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v138] : Fin 2 → IVec S16 32) a x).toNat < S14x224.size a := fun v134 v138 v142 v146 v150 v154 v158 v162 v166 v524 k1_hw4 => k1_hw4.2.2.2.2.1
theorem k1_idx70_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v138] : Fin 2 → IVec S16 32) a x).toNat < S14x224.size a := fun v134 v138 v142 v146 v150 v154 v158 v162 v166 v524 k1_hw4 => k1_hw4.2.2.2.2.2.1
theorem k1_idx71_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v142] : Fin 2 → IVec S16 32) a x).toNat < S14x224.size a := fun v134 v138 v142 v146 v150 v154 v158 v162 v166 v524 k1_hw4 => k1_hw4.2.2.2.2.2.2.1
theorem k1_idx72_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v142] : Fin 2 → IVec S16 32) a x).toNat < S14x224.size a := fun v134 v138 v142 v146 v150 v154 v158 v162 v166 v524 k1_hw4 => k1_hw4.2.2.2.2.2.2.2.1
theorem k1_idx73_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v142] : Fin 2 → IVec S16 32) a x).toNat < S14x224.size a := fun v134 v138 v142 v146 v150 v154 v158 v162 v166 v524 k1_hw4 => k1_hw4.2.2.2.2.2.2.2.2.1
theorem k1_idx74_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v146] : Fin 2 → IVec S16 32) a x).toNat < S14x224.size a := fun v134 v138 v142 v146 v150 v154 v158 v162 v166 v524 k1_hw4 => k1_hw4.2.2.2.2.2.2.2.2.2.1
theorem k1_idx75_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v146] : Fin 2 → IVec S16 32) a x).toNat < S14x224.size a := fun v134 v138 v142 v146 v150 v154 v158 v162 v166 v524 k1_hw4 => k1_hw4.2.2.2.2.2.2.2.2.2.2.1
theorem k1_idx76_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v146] : Fin 2 → IVec S16 32) a x).toNat < S14x224.size a := fun v134 v138 v142 v146 v150 v154 v158 v162 v166 v524 k1_hw4 => k1_hw4.2.2.2.2.2.2.2.2.2.2.2.1
theorem k1_idx77_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v150] : Fin 2 → IVec S16 32) a x).toNat < S14x224.size a := fun v134 v138 v142 v146 v150 v154 v158 v162 v166 v524 k1_hw4 => k1_hw4.2.2.2.2.2.2.2.2.2.2.2.2.1
theorem k1_idx78_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v150] : Fin 2 → IVec S16 32) a x).toNat < S14x224.size a := fun v134 v138 v142 v146 v150 v154 v158 v162 v166 v524 k1_hw4 => k1_hw4.2.2.2.2.2.2.2.2.2.2.2.2.2.1
theorem k1_idx79_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v150] : Fin 2 → IVec S16 32) a x).toNat < S14x224.size a := fun v134 v138 v142 v146 v150 v154 v158 v162 v166 v524 k1_hw4 => k1_hw4.2.2.2.2.2.2.2.2.2.2.2.2.2.2.1
theorem k1_idx80_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v154] : Fin 2 → IVec S16 32) a x).toNat < S14x224.size a := fun v134 v138 v142 v146 v150 v154 v158 v162 v166 v524 k1_hw4 => k1_hw4.2.2.2.2.2.2.2.2.2.2.2.2.2.2.2.1
theorem k1_idx81_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v154] : Fin 2 → IVec S16 32) a x).toNat < S14x224.size a := fun v134 v138 v142 v146 v150 v154 v158 v162 v166 v524 k1_hw4 => k1_hw4.2.2.2.2.2.2.2.2.2.2.2.2.2.2.2.2.1
theorem k1_idx82_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v154] : Fin 2 → IVec S16 32) a x).toNat < S14x224.size a := fun v134 v138 v142 v146 v150 v154 v158 v162 v166 v524 k1_hw4 => k1_hw4.2.2.2.2.2.2.2.2.2.2.2.2.2.2.2.2.2.1
theorem k1_idx83_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v158] : Fin 2 → IVec S16 32) a x).toNat < S14x224.size a := fun v134 v138 v142 v146 v150 v154 v158 v162 v166 v524 k1_hw4 => k1_hw4.2.2.2.2.2.2.2.2.2.2.2.2.2.2.2.2.2.2.1
theorem k1_idx84_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v158] : Fin 2 → IVec S16 32) a x).toNat < S14x224.size a := fun v134 v138 v142 v146 v150 v154 v158 v162 v166 v524 k1_hw4 => k1_hw4.2.2.2.2.2.2.2.2.2.2.2.2.2.2.2.2.2.2.2.1
theorem k1_idx85_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v158] : Fin 2 → IVec S16 32) a x).toNat < S14x224.size a := fun v134 v138 v142 v146 v150 v154 v158 v162 v166 v524 k1_hw4 => k1_hw4.2.2.2.2.2.2.2.2.2.2.2.2.2.2.2.2.2.2.2.2.1
theorem k1_idx86_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v162] : Fin 2 → IVec S16 32) a x).toNat < S14x224.size a := fun v134 v138 v142 v146 v150 v154 v158 v162 v166 v524 k1_hw4 => k1_hw4.2.2.2.2.2.2.2.2.2.2.2.2.2.2.2.2.2.2.2.2.2.1
theorem k1_idx87_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v162] : Fin 2 → IVec S16 32) a x).toNat < S14x224.size a := fun v134 v138 v142 v146 v150 v154 v158 v162 v166 v524 k1_hw4 => k1_hw4.2.2.2.2.2.2.2.2.2.2.2.2.2.2.2.2.2.2.2.2.2.2.1
theorem k1_idx88_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v162] : Fin 2 → IVec S16 32) a x).toNat < S14x224.size a := fun v134 v138 v142 v146 v150 v154 v158 v162 v166 v524 k1_hw4 => k1_hw4.2.2.2.2.2.2.2.2.2.2.2.2.2.2.2.2.2.2.2.2.2.2.2.1
theorem k1_idx89_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v166] : Fin 2 → IVec S16 32) a x).toNat < S14x224.size a := fun v134 v138 v142 v146 v150 v154 v158 v162 v166 v524 k1_hw4 => k1_hw4.2.2.2.2.2.2.2.2.2.2.2.2.2.2.2.2.2.2.2.2.2.2.2.2.1
theorem k1_idx90_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v166] : Fin 2 → IVec S16 32) a x).toNat < S14x224.size a := fun v134 v138 v142 v146 v150 v154 v158 v162 v166 v524 k1_hw4 => k1_hw4.2.2.2.2.2.2.2.2.2.2.2.2.2.2.2.2.2.2.2.2.2.2.2.2.2.1
theorem k1_idx91_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k1_hw4 : k1_chk4 v134 v138 v142 v146 v150 v154 v158 v162 v166 v524), ∀ a x, ((![v524, v166] : Fin 2 → IVec S16 32) a x).toNat < S14x224.size a := fun v134 v138 v142 v146 v150 v154 v158 v162 v166 v524 k1_hw4 => k1_hw4.2.2.2.2.2.2.2.2.2.2.2.2.2.2.2.2.2.2.2.2.2.2.2.2.2.2

def k1_chk5 (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) : Prop :=
  (∀ a x, ((![v684, v134] : Fin 2 → IVec S16 32) a x).toNat < S14x224.size a) ∧
  (∀ a x, ((![v684, v134] : Fin 2 → IVec S16 32) a x).toNat < S14x224.size a) ∧
  (∀ a x, ((![v684, v134] : Fin 2 → IVec S16 32) a x).toNat < S14x224.size a) ∧
  (∀ a x, ((![v684, v138] : Fin 2 → IVec S16 32) a x).toNat < S14x224.size a) ∧
  (∀ a x, ((![v684, v138] : Fin 2 → IVec S16 32) a x).toNat < S14x224.size a) ∧
  (∀ a x, ((![v684, v138] : Fin 2 → IVec S16 32) a x).toNat < S14x224.size a) ∧
  (∀ a x, ((![v684, v142] : Fin 2 → IVec S16 32) a x).toNat < S14x224.size a) ∧
  (∀ a x, ((![v684, v142] : Fin 2 → IVec S16 32) a x).toNat < S14x224.size a) ∧
  (∀ a x, ((![v684, v142] : Fin 2 → IVec S16 32) a x).toNat < S14x224.size a) ∧
  (∀ a x, ((![v684, v146] : Fin 2 → IVec S16 32) a x).toNat < S14x224.size a) ∧
  (∀ a x, ((![v684, v146] : Fin 2 → IVec S16 32) a x).toNat < S14x224.size a) ∧
  (∀ a x, ((![v684, v146] : Fin 2 → IVec S16 32) a x).toNat < S14x224.size a) ∧
  (∀ a x, ((![v684, v150] : Fin 2 → IVec S16 32) a x).toNat < S14x224.size a) ∧
  (∀ a x, ((![v684, v150] : Fin 2 → IVec S16 32) a x).toNat < S14x224.size a) ∧
  (∀ a x, ((![v684, v150] : Fin 2 → IVec S16 32) a x).toNat < S14x224.size a) ∧
  (∀ a x, ((![v684, v154] : Fin 2 → IVec S16 32) a x).toNat < S14x224.size a) ∧
  (∀ a x, ((![v684, v154] : Fin 2 → IVec S16 32) a x).toNat < S14x224.size a) ∧
  (∀ a x, ((![v684, v154] : Fin 2 → IVec S16 32) a x).toNat < S14x224.size a) ∧
  (∀ a x, ((![v684, v158] : Fin 2 → IVec S16 32) a x).toNat < S14x224.size a) ∧
  (∀ a x, ((![v684, v158] : Fin 2 → IVec S16 32) a x).toNat < S14x224.size a) ∧
  (∀ a x, ((![v684, v158] : Fin 2 → IVec S16 32) a x).toNat < S14x224.size a) ∧
  (∀ a x, ((![v684, v162] : Fin 2 → IVec S16 32) a x).toNat < S14x224.size a) ∧
  (∀ a x, ((![v684, v162] : Fin 2 → IVec S16 32) a x).toNat < S14x224.size a) ∧
  (∀ a x, ((![v684, v162] : Fin 2 → IVec S16 32) a x).toNat < S14x224.size a) ∧
  (∀ a x, ((![v684, v166] : Fin 2 → IVec S16 32) a x).toNat < S14x224.size a) ∧
  (∀ a x, ((![v684, v166] : Fin 2 → IVec S16 32) a x).toNat < S14x224.size a) ∧
  (∀ a x, ((![v684, v166] : Fin 2 → IVec S16 32) a x).toNat < S14x224.size a)
theorem k1_idx92_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v134] : Fin 2 → IVec S16 32) a x).toNat < S14x224.size a := fun v134 v138 v142 v146 v150 v154 v158 v162 v166 v684 k1_hw5 => k1_hw5.1
theorem k1_idx93_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v134] : Fin 2 → IVec S16 32) a x).toNat < S14x224.size a := fun v134 v138 v142 v146 v150 v154 v158 v162 v166 v684 k1_hw5 => k1_hw5.2.1
theorem k1_idx94_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v134] : Fin 2 → IVec S16 32) a x).toNat < S14x224.size a := fun v134 v138 v142 v146 v150 v154 v158 v162 v166 v684 k1_hw5 => k1_hw5.2.2.1
theorem k1_idx95_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v138] : Fin 2 → IVec S16 32) a x).toNat < S14x224.size a := fun v134 v138 v142 v146 v150 v154 v158 v162 v166 v684 k1_hw5 => k1_hw5.2.2.2.1
theorem k1_idx96_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v138] : Fin 2 → IVec S16 32) a x).toNat < S14x224.size a := fun v134 v138 v142 v146 v150 v154 v158 v162 v166 v684 k1_hw5 => k1_hw5.2.2.2.2.1
theorem k1_idx97_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v138] : Fin 2 → IVec S16 32) a x).toNat < S14x224.size a := fun v134 v138 v142 v146 v150 v154 v158 v162 v166 v684 k1_hw5 => k1_hw5.2.2.2.2.2.1
theorem k1_idx98_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v142] : Fin 2 → IVec S16 32) a x).toNat < S14x224.size a := fun v134 v138 v142 v146 v150 v154 v158 v162 v166 v684 k1_hw5 => k1_hw5.2.2.2.2.2.2.1
theorem k1_idx99_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v142] : Fin 2 → IVec S16 32) a x).toNat < S14x224.size a := fun v134 v138 v142 v146 v150 v154 v158 v162 v166 v684 k1_hw5 => k1_hw5.2.2.2.2.2.2.2.1
theorem k1_idx100_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v142] : Fin 2 → IVec S16 32) a x).toNat < S14x224.size a := fun v134 v138 v142 v146 v150 v154 v158 v162 v166 v684 k1_hw5 => k1_hw5.2.2.2.2.2.2.2.2.1
theorem k1_idx101_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v146] : Fin 2 → IVec S16 32) a x).toNat < S14x224.size a := fun v134 v138 v142 v146 v150 v154 v158 v162 v166 v684 k1_hw5 => k1_hw5.2.2.2.2.2.2.2.2.2.1
theorem k1_idx102_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v146] : Fin 2 → IVec S16 32) a x).toNat < S14x224.size a := fun v134 v138 v142 v146 v150 v154 v158 v162 v166 v684 k1_hw5 => k1_hw5.2.2.2.2.2.2.2.2.2.2.1
theorem k1_idx103_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v146] : Fin 2 → IVec S16 32) a x).toNat < S14x224.size a := fun v134 v138 v142 v146 v150 v154 v158 v162 v166 v684 k1_hw5 => k1_hw5.2.2.2.2.2.2.2.2.2.2.2.1
theorem k1_idx104_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v150] : Fin 2 → IVec S16 32) a x).toNat < S14x224.size a := fun v134 v138 v142 v146 v150 v154 v158 v162 v166 v684 k1_hw5 => k1_hw5.2.2.2.2.2.2.2.2.2.2.2.2.1
theorem k1_idx105_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v150] : Fin 2 → IVec S16 32) a x).toNat < S14x224.size a := fun v134 v138 v142 v146 v150 v154 v158 v162 v166 v684 k1_hw5 => k1_hw5.2.2.2.2.2.2.2.2.2.2.2.2.2.1
theorem k1_idx106_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v150] : Fin 2 → IVec S16 32) a x).toNat < S14x224.size a := fun v134 v138 v142 v146 v150 v154 v158 v162 v166 v684 k1_hw5 => k1_hw5.2.2.2.2.2.2.2.2.2.2.2.2.2.2.1
theorem k1_idx107_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v154] : Fin 2 → IVec S16 32) a x).toNat < S14x224.size a := fun v134 v138 v142 v146 v150 v154 v158 v162 v166 v684 k1_hw5 => k1_hw5.2.2.2.2.2.2.2.2.2.2.2.2.2.2.2.1
theorem k1_idx108_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v154] : Fin 2 → IVec S16 32) a x).toNat < S14x224.size a := fun v134 v138 v142 v146 v150 v154 v158 v162 v166 v684 k1_hw5 => k1_hw5.2.2.2.2.2.2.2.2.2.2.2.2.2.2.2.2.1
theorem k1_idx109_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v154] : Fin 2 → IVec S16 32) a x).toNat < S14x224.size a := fun v134 v138 v142 v146 v150 v154 v158 v162 v166 v684 k1_hw5 => k1_hw5.2.2.2.2.2.2.2.2.2.2.2.2.2.2.2.2.2.1
theorem k1_idx110_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v158] : Fin 2 → IVec S16 32) a x).toNat < S14x224.size a := fun v134 v138 v142 v146 v150 v154 v158 v162 v166 v684 k1_hw5 => k1_hw5.2.2.2.2.2.2.2.2.2.2.2.2.2.2.2.2.2.2.1
theorem k1_idx111_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v158] : Fin 2 → IVec S16 32) a x).toNat < S14x224.size a := fun v134 v138 v142 v146 v150 v154 v158 v162 v166 v684 k1_hw5 => k1_hw5.2.2.2.2.2.2.2.2.2.2.2.2.2.2.2.2.2.2.2.1
theorem k1_idx112_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v158] : Fin 2 → IVec S16 32) a x).toNat < S14x224.size a := fun v134 v138 v142 v146 v150 v154 v158 v162 v166 v684 k1_hw5 => k1_hw5.2.2.2.2.2.2.2.2.2.2.2.2.2.2.2.2.2.2.2.2.1
theorem k1_idx113_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v162] : Fin 2 → IVec S16 32) a x).toNat < S14x224.size a := fun v134 v138 v142 v146 v150 v154 v158 v162 v166 v684 k1_hw5 => k1_hw5.2.2.2.2.2.2.2.2.2.2.2.2.2.2.2.2.2.2.2.2.2.1
theorem k1_idx114_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v162] : Fin 2 → IVec S16 32) a x).toNat < S14x224.size a := fun v134 v138 v142 v146 v150 v154 v158 v162 v166 v684 k1_hw5 => k1_hw5.2.2.2.2.2.2.2.2.2.2.2.2.2.2.2.2.2.2.2.2.2.2.1
theorem k1_idx115_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v162] : Fin 2 → IVec S16 32) a x).toNat < S14x224.size a := fun v134 v138 v142 v146 v150 v154 v158 v162 v166 v684 k1_hw5 => k1_hw5.2.2.2.2.2.2.2.2.2.2.2.2.2.2.2.2.2.2.2.2.2.2.2.1
theorem k1_idx116_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v166] : Fin 2 → IVec S16 32) a x).toNat < S14x224.size a := fun v134 v138 v142 v146 v150 v154 v158 v162 v166 v684 k1_hw5 => k1_hw5.2.2.2.2.2.2.2.2.2.2.2.2.2.2.2.2.2.2.2.2.2.2.2.2.1
theorem k1_idx117_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v166] : Fin 2 → IVec S16 32) a x).toNat < S14x224.size a := fun v134 v138 v142 v146 v150 v154 v158 v162 v166 v684 k1_hw5 => k1_hw5.2.2.2.2.2.2.2.2.2.2.2.2.2.2.2.2.2.2.2.2.2.2.2.2.2.1
theorem k1_idx118_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k1_hw5 : k1_chk5 v134 v138 v142 v146 v150 v154 v158 v162 v166 v684), ∀ a x, ((![v684, v166] : Fin 2 → IVec S16 32) a x).toNat < S14x224.size a := fun v134 v138 v142 v146 v150 v154 v158 v162 v166 v684 k1_hw5 => k1_hw5.2.2.2.2.2.2.2.2.2.2.2.2.2.2.2.2.2.2.2.2.2.2.2.2.2.2

def k1_chk6 (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) : Prop :=
  (∀ a x, ((![v844, v134] : Fin 2 → IVec S16 32) a x).toNat < S14x224.size a) ∧
  (∀ a x, ((![v844, v134] : Fin 2 → IVec S16 32) a x).toNat < S14x224.size a) ∧
  (∀ a x, ((![v844, v134] : Fin 2 → IVec S16 32) a x).toNat < S14x224.size a) ∧
  (∀ a x, ((![v844, v138] : Fin 2 → IVec S16 32) a x).toNat < S14x224.size a) ∧
  (∀ a x, ((![v844, v138] : Fin 2 → IVec S16 32) a x).toNat < S14x224.size a) ∧
  (∀ a x, ((![v844, v138] : Fin 2 → IVec S16 32) a x).toNat < S14x224.size a) ∧
  (∀ a x, ((![v844, v142] : Fin 2 → IVec S16 32) a x).toNat < S14x224.size a) ∧
  (∀ a x, ((![v844, v142] : Fin 2 → IVec S16 32) a x).toNat < S14x224.size a) ∧
  (∀ a x, ((![v844, v142] : Fin 2 → IVec S16 32) a x).toNat < S14x224.size a) ∧
  (∀ a x, ((![v844, v146] : Fin 2 → IVec S16 32) a x).toNat < S14x224.size a) ∧
  (∀ a x, ((![v844, v146] : Fin 2 → IVec S16 32) a x).toNat < S14x224.size a) ∧
  (∀ a x, ((![v844, v146] : Fin 2 → IVec S16 32) a x).toNat < S14x224.size a) ∧
  (∀ a x, ((![v844, v150] : Fin 2 → IVec S16 32) a x).toNat < S14x224.size a) ∧
  (∀ a x, ((![v844, v150] : Fin 2 → IVec S16 32) a x).toNat < S14x224.size a) ∧
  (∀ a x, ((![v844, v150] : Fin 2 → IVec S16 32) a x).toNat < S14x224.size a) ∧
  (∀ a x, ((![v844, v154] : Fin 2 → IVec S16 32) a x).toNat < S14x224.size a) ∧
  (∀ a x, ((![v844, v154] : Fin 2 → IVec S16 32) a x).toNat < S14x224.size a) ∧
  (∀ a x, ((![v844, v154] : Fin 2 → IVec S16 32) a x).toNat < S14x224.size a) ∧
  (∀ a x, ((![v844, v158] : Fin 2 → IVec S16 32) a x).toNat < S14x224.size a) ∧
  (∀ a x, ((![v844, v158] : Fin 2 → IVec S16 32) a x).toNat < S14x224.size a) ∧
  (∀ a x, ((![v844, v158] : Fin 2 → IVec S16 32) a x).toNat < S14x224.size a) ∧
  (∀ a x, ((![v844, v162] : Fin 2 → IVec S16 32) a x).toNat < S14x224.size a) ∧
  (∀ a x, ((![v844, v162] : Fin 2 → IVec S16 32) a x).toNat < S14x224.size a) ∧
  (∀ a x, ((![v844, v162] : Fin 2 → IVec S16 32) a x).toNat < S14x224.size a) ∧
  (∀ a x, ((![v844, v166] : Fin 2 → IVec S16 32) a x).toNat < S14x224.size a) ∧
  (∀ a x, ((![v844, v166] : Fin 2 → IVec S16 32) a x).toNat < S14x224.size a) ∧
  (∀ a x, ((![v844, v166] : Fin 2 → IVec S16 32) a x).toNat < S14x224.size a)
theorem k1_idx119_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v134] : Fin 2 → IVec S16 32) a x).toNat < S14x224.size a := fun v134 v138 v142 v146 v150 v154 v158 v162 v166 v844 k1_hw6 => k1_hw6.1
theorem k1_idx120_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v134] : Fin 2 → IVec S16 32) a x).toNat < S14x224.size a := fun v134 v138 v142 v146 v150 v154 v158 v162 v166 v844 k1_hw6 => k1_hw6.2.1
theorem k1_idx121_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v134] : Fin 2 → IVec S16 32) a x).toNat < S14x224.size a := fun v134 v138 v142 v146 v150 v154 v158 v162 v166 v844 k1_hw6 => k1_hw6.2.2.1
theorem k1_idx122_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v138] : Fin 2 → IVec S16 32) a x).toNat < S14x224.size a := fun v134 v138 v142 v146 v150 v154 v158 v162 v166 v844 k1_hw6 => k1_hw6.2.2.2.1
theorem k1_idx123_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v138] : Fin 2 → IVec S16 32) a x).toNat < S14x224.size a := fun v134 v138 v142 v146 v150 v154 v158 v162 v166 v844 k1_hw6 => k1_hw6.2.2.2.2.1
theorem k1_idx124_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v138] : Fin 2 → IVec S16 32) a x).toNat < S14x224.size a := fun v134 v138 v142 v146 v150 v154 v158 v162 v166 v844 k1_hw6 => k1_hw6.2.2.2.2.2.1
theorem k1_idx125_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v142] : Fin 2 → IVec S16 32) a x).toNat < S14x224.size a := fun v134 v138 v142 v146 v150 v154 v158 v162 v166 v844 k1_hw6 => k1_hw6.2.2.2.2.2.2.1
theorem k1_idx126_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v142] : Fin 2 → IVec S16 32) a x).toNat < S14x224.size a := fun v134 v138 v142 v146 v150 v154 v158 v162 v166 v844 k1_hw6 => k1_hw6.2.2.2.2.2.2.2.1
theorem k1_idx127_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v142] : Fin 2 → IVec S16 32) a x).toNat < S14x224.size a := fun v134 v138 v142 v146 v150 v154 v158 v162 v166 v844 k1_hw6 => k1_hw6.2.2.2.2.2.2.2.2.1
theorem k1_idx128_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v146] : Fin 2 → IVec S16 32) a x).toNat < S14x224.size a := fun v134 v138 v142 v146 v150 v154 v158 v162 v166 v844 k1_hw6 => k1_hw6.2.2.2.2.2.2.2.2.2.1
theorem k1_idx129_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v146] : Fin 2 → IVec S16 32) a x).toNat < S14x224.size a := fun v134 v138 v142 v146 v150 v154 v158 v162 v166 v844 k1_hw6 => k1_hw6.2.2.2.2.2.2.2.2.2.2.1
theorem k1_idx130_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v146] : Fin 2 → IVec S16 32) a x).toNat < S14x224.size a := fun v134 v138 v142 v146 v150 v154 v158 v162 v166 v844 k1_hw6 => k1_hw6.2.2.2.2.2.2.2.2.2.2.2.1
theorem k1_idx131_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v150] : Fin 2 → IVec S16 32) a x).toNat < S14x224.size a := fun v134 v138 v142 v146 v150 v154 v158 v162 v166 v844 k1_hw6 => k1_hw6.2.2.2.2.2.2.2.2.2.2.2.2.1
theorem k1_idx132_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v150] : Fin 2 → IVec S16 32) a x).toNat < S14x224.size a := fun v134 v138 v142 v146 v150 v154 v158 v162 v166 v844 k1_hw6 => k1_hw6.2.2.2.2.2.2.2.2.2.2.2.2.2.1
theorem k1_idx133_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v150] : Fin 2 → IVec S16 32) a x).toNat < S14x224.size a := fun v134 v138 v142 v146 v150 v154 v158 v162 v166 v844 k1_hw6 => k1_hw6.2.2.2.2.2.2.2.2.2.2.2.2.2.2.1
theorem k1_idx134_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v154] : Fin 2 → IVec S16 32) a x).toNat < S14x224.size a := fun v134 v138 v142 v146 v150 v154 v158 v162 v166 v844 k1_hw6 => k1_hw6.2.2.2.2.2.2.2.2.2.2.2.2.2.2.2.1
theorem k1_idx135_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v154] : Fin 2 → IVec S16 32) a x).toNat < S14x224.size a := fun v134 v138 v142 v146 v150 v154 v158 v162 v166 v844 k1_hw6 => k1_hw6.2.2.2.2.2.2.2.2.2.2.2.2.2.2.2.2.1
theorem k1_idx136_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v154] : Fin 2 → IVec S16 32) a x).toNat < S14x224.size a := fun v134 v138 v142 v146 v150 v154 v158 v162 v166 v844 k1_hw6 => k1_hw6.2.2.2.2.2.2.2.2.2.2.2.2.2.2.2.2.2.1
theorem k1_idx137_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v158] : Fin 2 → IVec S16 32) a x).toNat < S14x224.size a := fun v134 v138 v142 v146 v150 v154 v158 v162 v166 v844 k1_hw6 => k1_hw6.2.2.2.2.2.2.2.2.2.2.2.2.2.2.2.2.2.2.1
theorem k1_idx138_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v158] : Fin 2 → IVec S16 32) a x).toNat < S14x224.size a := fun v134 v138 v142 v146 v150 v154 v158 v162 v166 v844 k1_hw6 => k1_hw6.2.2.2.2.2.2.2.2.2.2.2.2.2.2.2.2.2.2.2.1
theorem k1_idx139_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v158] : Fin 2 → IVec S16 32) a x).toNat < S14x224.size a := fun v134 v138 v142 v146 v150 v154 v158 v162 v166 v844 k1_hw6 => k1_hw6.2.2.2.2.2.2.2.2.2.2.2.2.2.2.2.2.2.2.2.2.1
theorem k1_idx140_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v162] : Fin 2 → IVec S16 32) a x).toNat < S14x224.size a := fun v134 v138 v142 v146 v150 v154 v158 v162 v166 v844 k1_hw6 => k1_hw6.2.2.2.2.2.2.2.2.2.2.2.2.2.2.2.2.2.2.2.2.2.1
theorem k1_idx141_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v162] : Fin 2 → IVec S16 32) a x).toNat < S14x224.size a := fun v134 v138 v142 v146 v150 v154 v158 v162 v166 v844 k1_hw6 => k1_hw6.2.2.2.2.2.2.2.2.2.2.2.2.2.2.2.2.2.2.2.2.2.2.1
theorem k1_idx142_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v162] : Fin 2 → IVec S16 32) a x).toNat < S14x224.size a := fun v134 v138 v142 v146 v150 v154 v158 v162 v166 v844 k1_hw6 => k1_hw6.2.2.2.2.2.2.2.2.2.2.2.2.2.2.2.2.2.2.2.2.2.2.2.1
theorem k1_idx143_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v166] : Fin 2 → IVec S16 32) a x).toNat < S14x224.size a := fun v134 v138 v142 v146 v150 v154 v158 v162 v166 v844 k1_hw6 => k1_hw6.2.2.2.2.2.2.2.2.2.2.2.2.2.2.2.2.2.2.2.2.2.2.2.2.1
theorem k1_idx144_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v166] : Fin 2 → IVec S16 32) a x).toNat < S14x224.size a := fun v134 v138 v142 v146 v150 v154 v158 v162 v166 v844 k1_hw6 => k1_hw6.2.2.2.2.2.2.2.2.2.2.2.2.2.2.2.2.2.2.2.2.2.2.2.2.2.1
theorem k1_idx145_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k1_hw6 : k1_chk6 v134 v138 v142 v146 v150 v154 v158 v162 v166 v844), ∀ a x, ((![v844, v166] : Fin 2 → IVec S16 32) a x).toNat < S14x224.size a := fun v134 v138 v142 v146 v150 v154 v158 v162 v166 v844 k1_hw6 => k1_hw6.2.2.2.2.2.2.2.2.2.2.2.2.2.2.2.2.2.2.2.2.2.2.2.2.2.2

def k1_chk7 (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) : Prop :=
  (∀ a x, ((![v1004, v134] : Fin 2 → IVec S16 32) a x).toNat < S14x224.size a) ∧
  (∀ a x, ((![v1004, v134] : Fin 2 → IVec S16 32) a x).toNat < S14x224.size a) ∧
  (∀ a x, ((![v1004, v134] : Fin 2 → IVec S16 32) a x).toNat < S14x224.size a) ∧
  (∀ a x, ((![v1004, v138] : Fin 2 → IVec S16 32) a x).toNat < S14x224.size a) ∧
  (∀ a x, ((![v1004, v138] : Fin 2 → IVec S16 32) a x).toNat < S14x224.size a) ∧
  (∀ a x, ((![v1004, v138] : Fin 2 → IVec S16 32) a x).toNat < S14x224.size a) ∧
  (∀ a x, ((![v1004, v142] : Fin 2 → IVec S16 32) a x).toNat < S14x224.size a) ∧
  (∀ a x, ((![v1004, v142] : Fin 2 → IVec S16 32) a x).toNat < S14x224.size a) ∧
  (∀ a x, ((![v1004, v142] : Fin 2 → IVec S16 32) a x).toNat < S14x224.size a) ∧
  (∀ a x, ((![v1004, v146] : Fin 2 → IVec S16 32) a x).toNat < S14x224.size a) ∧
  (∀ a x, ((![v1004, v146] : Fin 2 → IVec S16 32) a x).toNat < S14x224.size a) ∧
  (∀ a x, ((![v1004, v146] : Fin 2 → IVec S16 32) a x).toNat < S14x224.size a) ∧
  (∀ a x, ((![v1004, v150] : Fin 2 → IVec S16 32) a x).toNat < S14x224.size a) ∧
  (∀ a x, ((![v1004, v150] : Fin 2 → IVec S16 32) a x).toNat < S14x224.size a) ∧
  (∀ a x, ((![v1004, v150] : Fin 2 → IVec S16 32) a x).toNat < S14x224.size a) ∧
  (∀ a x, ((![v1004, v154] : Fin 2 → IVec S16 32) a x).toNat < S14x224.size a) ∧
  (∀ a x, ((![v1004, v154] : Fin 2 → IVec S16 32) a x).toNat < S14x224.size a) ∧
  (∀ a x, ((![v1004, v154] : Fin 2 → IVec S16 32) a x).toNat < S14x224.size a) ∧
  (∀ a x, ((![v1004, v158] : Fin 2 → IVec S16 32) a x).toNat < S14x224.size a) ∧
  (∀ a x, ((![v1004, v158] : Fin 2 → IVec S16 32) a x).toNat < S14x224.size a) ∧
  (∀ a x, ((![v1004, v158] : Fin 2 → IVec S16 32) a x).toNat < S14x224.size a) ∧
  (∀ a x, ((![v1004, v162] : Fin 2 → IVec S16 32) a x).toNat < S14x224.size a) ∧
  (∀ a x, ((![v1004, v162] : Fin 2 → IVec S16 32) a x).toNat < S14x224.size a) ∧
  (∀ a x, ((![v1004, v162] : Fin 2 → IVec S16 32) a x).toNat < S14x224.size a) ∧
  (∀ a x, ((![v1004, v166] : Fin 2 → IVec S16 32) a x).toNat < S14x224.size a) ∧
  (∀ a x, ((![v1004, v166] : Fin 2 → IVec S16 32) a x).toNat < S14x224.size a) ∧
  (∀ a x, ((![v1004, v166] : Fin 2 → IVec S16 32) a x).toNat < S14x224.size a)
theorem k1_idx146_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v134] : Fin 2 → IVec S16 32) a x).toNat < S14x224.size a := fun v134 v138 v142 v146 v150 v154 v158 v162 v166 v1004 k1_hw7 => k1_hw7.1
theorem k1_idx147_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v134] : Fin 2 → IVec S16 32) a x).toNat < S14x224.size a := fun v134 v138 v142 v146 v150 v154 v158 v162 v166 v1004 k1_hw7 => k1_hw7.2.1
theorem k1_idx148_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v134] : Fin 2 → IVec S16 32) a x).toNat < S14x224.size a := fun v134 v138 v142 v146 v150 v154 v158 v162 v166 v1004 k1_hw7 => k1_hw7.2.2.1
theorem k1_idx149_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v138] : Fin 2 → IVec S16 32) a x).toNat < S14x224.size a := fun v134 v138 v142 v146 v150 v154 v158 v162 v166 v1004 k1_hw7 => k1_hw7.2.2.2.1
theorem k1_idx150_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v138] : Fin 2 → IVec S16 32) a x).toNat < S14x224.size a := fun v134 v138 v142 v146 v150 v154 v158 v162 v166 v1004 k1_hw7 => k1_hw7.2.2.2.2.1
theorem k1_idx151_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v138] : Fin 2 → IVec S16 32) a x).toNat < S14x224.size a := fun v134 v138 v142 v146 v150 v154 v158 v162 v166 v1004 k1_hw7 => k1_hw7.2.2.2.2.2.1
theorem k1_idx152_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v142] : Fin 2 → IVec S16 32) a x).toNat < S14x224.size a := fun v134 v138 v142 v146 v150 v154 v158 v162 v166 v1004 k1_hw7 => k1_hw7.2.2.2.2.2.2.1
theorem k1_idx153_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v142] : Fin 2 → IVec S16 32) a x).toNat < S14x224.size a := fun v134 v138 v142 v146 v150 v154 v158 v162 v166 v1004 k1_hw7 => k1_hw7.2.2.2.2.2.2.2.1
theorem k1_idx154_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v142] : Fin 2 → IVec S16 32) a x).toNat < S14x224.size a := fun v134 v138 v142 v146 v150 v154 v158 v162 v166 v1004 k1_hw7 => k1_hw7.2.2.2.2.2.2.2.2.1
theorem k1_idx155_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v146] : Fin 2 → IVec S16 32) a x).toNat < S14x224.size a := fun v134 v138 v142 v146 v150 v154 v158 v162 v166 v1004 k1_hw7 => k1_hw7.2.2.2.2.2.2.2.2.2.1
theorem k1_idx156_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v146] : Fin 2 → IVec S16 32) a x).toNat < S14x224.size a := fun v134 v138 v142 v146 v150 v154 v158 v162 v166 v1004 k1_hw7 => k1_hw7.2.2.2.2.2.2.2.2.2.2.1
theorem k1_idx157_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v146] : Fin 2 → IVec S16 32) a x).toNat < S14x224.size a := fun v134 v138 v142 v146 v150 v154 v158 v162 v166 v1004 k1_hw7 => k1_hw7.2.2.2.2.2.2.2.2.2.2.2.1
theorem k1_idx158_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v150] : Fin 2 → IVec S16 32) a x).toNat < S14x224.size a := fun v134 v138 v142 v146 v150 v154 v158 v162 v166 v1004 k1_hw7 => k1_hw7.2.2.2.2.2.2.2.2.2.2.2.2.1
theorem k1_idx159_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v150] : Fin 2 → IVec S16 32) a x).toNat < S14x224.size a := fun v134 v138 v142 v146 v150 v154 v158 v162 v166 v1004 k1_hw7 => k1_hw7.2.2.2.2.2.2.2.2.2.2.2.2.2.1
theorem k1_idx160_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v150] : Fin 2 → IVec S16 32) a x).toNat < S14x224.size a := fun v134 v138 v142 v146 v150 v154 v158 v162 v166 v1004 k1_hw7 => k1_hw7.2.2.2.2.2.2.2.2.2.2.2.2.2.2.1
theorem k1_idx161_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v154] : Fin 2 → IVec S16 32) a x).toNat < S14x224.size a := fun v134 v138 v142 v146 v150 v154 v158 v162 v166 v1004 k1_hw7 => k1_hw7.2.2.2.2.2.2.2.2.2.2.2.2.2.2.2.1
theorem k1_idx162_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v154] : Fin 2 → IVec S16 32) a x).toNat < S14x224.size a := fun v134 v138 v142 v146 v150 v154 v158 v162 v166 v1004 k1_hw7 => k1_hw7.2.2.2.2.2.2.2.2.2.2.2.2.2.2.2.2.1
theorem k1_idx163_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v154] : Fin 2 → IVec S16 32) a x).toNat < S14x224.size a := fun v134 v138 v142 v146 v150 v154 v158 v162 v166 v1004 k1_hw7 => k1_hw7.2.2.2.2.2.2.2.2.2.2.2.2.2.2.2.2.2.1
theorem k1_idx164_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v158] : Fin 2 → IVec S16 32) a x).toNat < S14x224.size a := fun v134 v138 v142 v146 v150 v154 v158 v162 v166 v1004 k1_hw7 => k1_hw7.2.2.2.2.2.2.2.2.2.2.2.2.2.2.2.2.2.2.1
theorem k1_idx165_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v158] : Fin 2 → IVec S16 32) a x).toNat < S14x224.size a := fun v134 v138 v142 v146 v150 v154 v158 v162 v166 v1004 k1_hw7 => k1_hw7.2.2.2.2.2.2.2.2.2.2.2.2.2.2.2.2.2.2.2.1
theorem k1_idx166_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v158] : Fin 2 → IVec S16 32) a x).toNat < S14x224.size a := fun v134 v138 v142 v146 v150 v154 v158 v162 v166 v1004 k1_hw7 => k1_hw7.2.2.2.2.2.2.2.2.2.2.2.2.2.2.2.2.2.2.2.2.1
theorem k1_idx167_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v162] : Fin 2 → IVec S16 32) a x).toNat < S14x224.size a := fun v134 v138 v142 v146 v150 v154 v158 v162 v166 v1004 k1_hw7 => k1_hw7.2.2.2.2.2.2.2.2.2.2.2.2.2.2.2.2.2.2.2.2.2.1
theorem k1_idx168_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v162] : Fin 2 → IVec S16 32) a x).toNat < S14x224.size a := fun v134 v138 v142 v146 v150 v154 v158 v162 v166 v1004 k1_hw7 => k1_hw7.2.2.2.2.2.2.2.2.2.2.2.2.2.2.2.2.2.2.2.2.2.2.1
theorem k1_idx169_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v162] : Fin 2 → IVec S16 32) a x).toNat < S14x224.size a := fun v134 v138 v142 v146 v150 v154 v158 v162 v166 v1004 k1_hw7 => k1_hw7.2.2.2.2.2.2.2.2.2.2.2.2.2.2.2.2.2.2.2.2.2.2.2.1
theorem k1_idx170_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v166] : Fin 2 → IVec S16 32) a x).toNat < S14x224.size a := fun v134 v138 v142 v146 v150 v154 v158 v162 v166 v1004 k1_hw7 => k1_hw7.2.2.2.2.2.2.2.2.2.2.2.2.2.2.2.2.2.2.2.2.2.2.2.2.1
theorem k1_idx171_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v166] : Fin 2 → IVec S16 32) a x).toNat < S14x224.size a := fun v134 v138 v142 v146 v150 v154 v158 v162 v166 v1004 k1_hw7 => k1_hw7.2.2.2.2.2.2.2.2.2.2.2.2.2.2.2.2.2.2.2.2.2.2.2.2.2.1
theorem k1_idx172_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k1_hw7 : k1_chk7 v134 v138 v142 v146 v150 v154 v158 v162 v166 v1004), ∀ a x, ((![v1004, v166] : Fin 2 → IVec S16 32) a x).toNat < S14x224.size a := fun v134 v138 v142 v146 v150 v154 v158 v162 v166 v1004 k1_hw7 => k1_hw7.2.2.2.2.2.2.2.2.2.2.2.2.2.2.2.2.2.2.2.2.2.2.2.2.2.2

def k1_chk8 (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) : Prop :=
  (∀ a x, ((![v1164, v134] : Fin 2 → IVec S16 32) a x).toNat < S14x224.size a) ∧
  (∀ a x, ((![v1164, v134] : Fin 2 → IVec S16 32) a x).toNat < S14x224.size a) ∧
  (∀ a x, ((![v1164, v134] : Fin 2 → IVec S16 32) a x).toNat < S14x224.size a) ∧
  (∀ a x, ((![v1164, v138] : Fin 2 → IVec S16 32) a x).toNat < S14x224.size a) ∧
  (∀ a x, ((![v1164, v138] : Fin 2 → IVec S16 32) a x).toNat < S14x224.size a) ∧
  (∀ a x, ((![v1164, v138] : Fin 2 → IVec S16 32) a x).toNat < S14x224.size a) ∧
  (∀ a x, ((![v1164, v142] : Fin 2 → IVec S16 32) a x).toNat < S14x224.size a) ∧
  (∀ a x, ((![v1164, v142] : Fin 2 → IVec S16 32) a x).toNat < S14x224.size a) ∧
  (∀ a x, ((![v1164, v142] : Fin 2 → IVec S16 32) a x).toNat < S14x224.size a) ∧
  (∀ a x, ((![v1164, v146] : Fin 2 → IVec S16 32) a x).toNat < S14x224.size a) ∧
  (∀ a x, ((![v1164, v146] : Fin 2 → IVec S16 32) a x).toNat < S14x224.size a) ∧
  (∀ a x, ((![v1164, v146] : Fin 2 → IVec S16 32) a x).toNat < S14x224.size a) ∧
  (∀ a x, ((![v1164, v150] : Fin 2 → IVec S16 32) a x).toNat < S14x224.size a) ∧
  (∀ a x, ((![v1164, v150] : Fin 2 → IVec S16 32) a x).toNat < S14x224.size a) ∧
  (∀ a x, ((![v1164, v150] : Fin 2 → IVec S16 32) a x).toNat < S14x224.size a) ∧
  (∀ a x, ((![v1164, v154] : Fin 2 → IVec S16 32) a x).toNat < S14x224.size a) ∧
  (∀ a x, ((![v1164, v154] : Fin 2 → IVec S16 32) a x).toNat < S14x224.size a) ∧
  (∀ a x, ((![v1164, v154] : Fin 2 → IVec S16 32) a x).toNat < S14x224.size a) ∧
  (∀ a x, ((![v1164, v158] : Fin 2 → IVec S16 32) a x).toNat < S14x224.size a) ∧
  (∀ a x, ((![v1164, v158] : Fin 2 → IVec S16 32) a x).toNat < S14x224.size a) ∧
  (∀ a x, ((![v1164, v158] : Fin 2 → IVec S16 32) a x).toNat < S14x224.size a) ∧
  (∀ a x, ((![v1164, v162] : Fin 2 → IVec S16 32) a x).toNat < S14x224.size a) ∧
  (∀ a x, ((![v1164, v162] : Fin 2 → IVec S16 32) a x).toNat < S14x224.size a) ∧
  (∀ a x, ((![v1164, v162] : Fin 2 → IVec S16 32) a x).toNat < S14x224.size a) ∧
  (∀ a x, ((![v1164, v166] : Fin 2 → IVec S16 32) a x).toNat < S14x224.size a) ∧
  (∀ a x, ((![v1164, v166] : Fin 2 → IVec S16 32) a x).toNat < S14x224.size a) ∧
  (∀ a x, ((![v1164, v166] : Fin 2 → IVec S16 32) a x).toNat < S14x224.size a)
theorem k1_idx173_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v134] : Fin 2 → IVec S16 32) a x).toNat < S14x224.size a := fun v134 v138 v142 v146 v150 v154 v158 v162 v166 v1164 k1_hw8 => k1_hw8.1
theorem k1_idx174_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v134] : Fin 2 → IVec S16 32) a x).toNat < S14x224.size a := fun v134 v138 v142 v146 v150 v154 v158 v162 v166 v1164 k1_hw8 => k1_hw8.2.1
theorem k1_idx175_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v134] : Fin 2 → IVec S16 32) a x).toNat < S14x224.size a := fun v134 v138 v142 v146 v150 v154 v158 v162 v166 v1164 k1_hw8 => k1_hw8.2.2.1
theorem k1_idx176_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v138] : Fin 2 → IVec S16 32) a x).toNat < S14x224.size a := fun v134 v138 v142 v146 v150 v154 v158 v162 v166 v1164 k1_hw8 => k1_hw8.2.2.2.1
theorem k1_idx177_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v138] : Fin 2 → IVec S16 32) a x).toNat < S14x224.size a := fun v134 v138 v142 v146 v150 v154 v158 v162 v166 v1164 k1_hw8 => k1_hw8.2.2.2.2.1
theorem k1_idx178_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v138] : Fin 2 → IVec S16 32) a x).toNat < S14x224.size a := fun v134 v138 v142 v146 v150 v154 v158 v162 v166 v1164 k1_hw8 => k1_hw8.2.2.2.2.2.1
theorem k1_idx179_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v142] : Fin 2 → IVec S16 32) a x).toNat < S14x224.size a := fun v134 v138 v142 v146 v150 v154 v158 v162 v166 v1164 k1_hw8 => k1_hw8.2.2.2.2.2.2.1
theorem k1_idx180_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v142] : Fin 2 → IVec S16 32) a x).toNat < S14x224.size a := fun v134 v138 v142 v146 v150 v154 v158 v162 v166 v1164 k1_hw8 => k1_hw8.2.2.2.2.2.2.2.1
theorem k1_idx181_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v142] : Fin 2 → IVec S16 32) a x).toNat < S14x224.size a := fun v134 v138 v142 v146 v150 v154 v158 v162 v166 v1164 k1_hw8 => k1_hw8.2.2.2.2.2.2.2.2.1
theorem k1_idx182_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v146] : Fin 2 → IVec S16 32) a x).toNat < S14x224.size a := fun v134 v138 v142 v146 v150 v154 v158 v162 v166 v1164 k1_hw8 => k1_hw8.2.2.2.2.2.2.2.2.2.1
theorem k1_idx183_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v146] : Fin 2 → IVec S16 32) a x).toNat < S14x224.size a := fun v134 v138 v142 v146 v150 v154 v158 v162 v166 v1164 k1_hw8 => k1_hw8.2.2.2.2.2.2.2.2.2.2.1
theorem k1_idx184_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v146] : Fin 2 → IVec S16 32) a x).toNat < S14x224.size a := fun v134 v138 v142 v146 v150 v154 v158 v162 v166 v1164 k1_hw8 => k1_hw8.2.2.2.2.2.2.2.2.2.2.2.1
theorem k1_idx185_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v150] : Fin 2 → IVec S16 32) a x).toNat < S14x224.size a := fun v134 v138 v142 v146 v150 v154 v158 v162 v166 v1164 k1_hw8 => k1_hw8.2.2.2.2.2.2.2.2.2.2.2.2.1
theorem k1_idx186_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v150] : Fin 2 → IVec S16 32) a x).toNat < S14x224.size a := fun v134 v138 v142 v146 v150 v154 v158 v162 v166 v1164 k1_hw8 => k1_hw8.2.2.2.2.2.2.2.2.2.2.2.2.2.1
theorem k1_idx187_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v150] : Fin 2 → IVec S16 32) a x).toNat < S14x224.size a := fun v134 v138 v142 v146 v150 v154 v158 v162 v166 v1164 k1_hw8 => k1_hw8.2.2.2.2.2.2.2.2.2.2.2.2.2.2.1
theorem k1_idx188_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v154] : Fin 2 → IVec S16 32) a x).toNat < S14x224.size a := fun v134 v138 v142 v146 v150 v154 v158 v162 v166 v1164 k1_hw8 => k1_hw8.2.2.2.2.2.2.2.2.2.2.2.2.2.2.2.1
theorem k1_idx189_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v154] : Fin 2 → IVec S16 32) a x).toNat < S14x224.size a := fun v134 v138 v142 v146 v150 v154 v158 v162 v166 v1164 k1_hw8 => k1_hw8.2.2.2.2.2.2.2.2.2.2.2.2.2.2.2.2.1
theorem k1_idx190_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v154] : Fin 2 → IVec S16 32) a x).toNat < S14x224.size a := fun v134 v138 v142 v146 v150 v154 v158 v162 v166 v1164 k1_hw8 => k1_hw8.2.2.2.2.2.2.2.2.2.2.2.2.2.2.2.2.2.1
theorem k1_idx191_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v158] : Fin 2 → IVec S16 32) a x).toNat < S14x224.size a := fun v134 v138 v142 v146 v150 v154 v158 v162 v166 v1164 k1_hw8 => k1_hw8.2.2.2.2.2.2.2.2.2.2.2.2.2.2.2.2.2.2.1
theorem k1_idx192_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v158] : Fin 2 → IVec S16 32) a x).toNat < S14x224.size a := fun v134 v138 v142 v146 v150 v154 v158 v162 v166 v1164 k1_hw8 => k1_hw8.2.2.2.2.2.2.2.2.2.2.2.2.2.2.2.2.2.2.2.1
theorem k1_idx193_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v158] : Fin 2 → IVec S16 32) a x).toNat < S14x224.size a := fun v134 v138 v142 v146 v150 v154 v158 v162 v166 v1164 k1_hw8 => k1_hw8.2.2.2.2.2.2.2.2.2.2.2.2.2.2.2.2.2.2.2.2.1
theorem k1_idx194_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v162] : Fin 2 → IVec S16 32) a x).toNat < S14x224.size a := fun v134 v138 v142 v146 v150 v154 v158 v162 v166 v1164 k1_hw8 => k1_hw8.2.2.2.2.2.2.2.2.2.2.2.2.2.2.2.2.2.2.2.2.2.1
theorem k1_idx195_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v162] : Fin 2 → IVec S16 32) a x).toNat < S14x224.size a := fun v134 v138 v142 v146 v150 v154 v158 v162 v166 v1164 k1_hw8 => k1_hw8.2.2.2.2.2.2.2.2.2.2.2.2.2.2.2.2.2.2.2.2.2.2.1
theorem k1_idx196_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v162] : Fin 2 → IVec S16 32) a x).toNat < S14x224.size a := fun v134 v138 v142 v146 v150 v154 v158 v162 v166 v1164 k1_hw8 => k1_hw8.2.2.2.2.2.2.2.2.2.2.2.2.2.2.2.2.2.2.2.2.2.2.2.1
theorem k1_idx197_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v166] : Fin 2 → IVec S16 32) a x).toNat < S14x224.size a := fun v134 v138 v142 v146 v150 v154 v158 v162 v166 v1164 k1_hw8 => k1_hw8.2.2.2.2.2.2.2.2.2.2.2.2.2.2.2.2.2.2.2.2.2.2.2.2.1
theorem k1_idx198_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v166] : Fin 2 → IVec S16 32) a x).toNat < S14x224.size a := fun v134 v138 v142 v146 v150 v154 v158 v162 v166 v1164 k1_hw8 => k1_hw8.2.2.2.2.2.2.2.2.2.2.2.2.2.2.2.2.2.2.2.2.2.2.2.2.2.1
theorem k1_idx199_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k1_hw8 : k1_chk8 v134 v138 v142 v146 v150 v154 v158 v162 v166 v1164), ∀ a x, ((![v1164, v166] : Fin 2 → IVec S16 32) a x).toNat < S14x224.size a := fun v134 v138 v142 v146 v150 v154 v158 v162 v166 v1164 k1_hw8 => k1_hw8.2.2.2.2.2.2.2.2.2.2.2.2.2.2.2.2.2.2.2.2.2.2.2.2.2.2

def k1_chk9 (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) : Prop :=
  (∀ a x, ((![v1324, v134] : Fin 2 → IVec S16 32) a x).toNat < S14x224.size a) ∧
  (∀ a x, ((![v1324, v134] : Fin 2 → IVec S16 32) a x).toNat < S14x224.size a) ∧
  (∀ a x, ((![v1324, v134] : Fin 2 → IVec S16 32) a x).toNat < S14x224.size a) ∧
  (∀ a x, ((![v1324, v138] : Fin 2 → IVec S16 32) a x).toNat < S14x224.size a) ∧
  (∀ a x, ((![v1324, v138] : Fin 2 → IVec S16 32) a x).toNat < S14x224.size a) ∧
  (∀ a x, ((![v1324, v138] : Fin 2 → IVec S16 32) a x).toNat < S14x224.size a) ∧
  (∀ a x, ((![v1324, v142] : Fin 2 → IVec S16 32) a x).toNat < S14x224.size a) ∧
  (∀ a x, ((![v1324, v142] : Fin 2 → IVec S16 32) a x).toNat < S14x224.size a) ∧
  (∀ a x, ((![v1324, v142] : Fin 2 → IVec S16 32) a x).toNat < S14x224.size a) ∧
  (∀ a x, ((![v1324, v146] : Fin 2 → IVec S16 32) a x).toNat < S14x224.size a) ∧
  (∀ a x, ((![v1324, v146] : Fin 2 → IVec S16 32) a x).toNat < S14x224.size a) ∧
  (∀ a x, ((![v1324, v146] : Fin 2 → IVec S16 32) a x).toNat < S14x224.size a) ∧
  (∀ a x, ((![v1324, v150] : Fin 2 → IVec S16 32) a x).toNat < S14x224.size a) ∧
  (∀ a x, ((![v1324, v150] : Fin 2 → IVec S16 32) a x).toNat < S14x224.size a) ∧
  (∀ a x, ((![v1324, v150] : Fin 2 → IVec S16 32) a x).toNat < S14x224.size a) ∧
  (∀ a x, ((![v1324, v154] : Fin 2 → IVec S16 32) a x).toNat < S14x224.size a) ∧
  (∀ a x, ((![v1324, v154] : Fin 2 → IVec S16 32) a x).toNat < S14x224.size a) ∧
  (∀ a x, ((![v1324, v154] : Fin 2 → IVec S16 32) a x).toNat < S14x224.size a) ∧
  (∀ a x, ((![v1324, v158] : Fin 2 → IVec S16 32) a x).toNat < S14x224.size a) ∧
  (∀ a x, ((![v1324, v158] : Fin 2 → IVec S16 32) a x).toNat < S14x224.size a) ∧
  (∀ a x, ((![v1324, v158] : Fin 2 → IVec S16 32) a x).toNat < S14x224.size a) ∧
  (∀ a x, ((![v1324, v162] : Fin 2 → IVec S16 32) a x).toNat < S14x224.size a) ∧
  (∀ a x, ((![v1324, v162] : Fin 2 → IVec S16 32) a x).toNat < S14x224.size a) ∧
  (∀ a x, ((![v1324, v162] : Fin 2 → IVec S16 32) a x).toNat < S14x224.size a) ∧
  (∀ a x, ((![v1324, v166] : Fin 2 → IVec S16 32) a x).toNat < S14x224.size a) ∧
  (∀ a x, ((![v1324, v166] : Fin 2 → IVec S16 32) a x).toNat < S14x224.size a) ∧
  (∀ a x, ((![v1324, v166] : Fin 2 → IVec S16 32) a x).toNat < S14x224.size a)
theorem k1_idx200_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v134] : Fin 2 → IVec S16 32) a x).toNat < S14x224.size a := fun v134 v138 v142 v146 v150 v154 v158 v162 v166 v1324 k1_hw9 => k1_hw9.1
theorem k1_idx201_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v134] : Fin 2 → IVec S16 32) a x).toNat < S14x224.size a := fun v134 v138 v142 v146 v150 v154 v158 v162 v166 v1324 k1_hw9 => k1_hw9.2.1
theorem k1_idx202_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v134] : Fin 2 → IVec S16 32) a x).toNat < S14x224.size a := fun v134 v138 v142 v146 v150 v154 v158 v162 v166 v1324 k1_hw9 => k1_hw9.2.2.1
theorem k1_idx203_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v138] : Fin 2 → IVec S16 32) a x).toNat < S14x224.size a := fun v134 v138 v142 v146 v150 v154 v158 v162 v166 v1324 k1_hw9 => k1_hw9.2.2.2.1
theorem k1_idx204_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v138] : Fin 2 → IVec S16 32) a x).toNat < S14x224.size a := fun v134 v138 v142 v146 v150 v154 v158 v162 v166 v1324 k1_hw9 => k1_hw9.2.2.2.2.1
theorem k1_idx205_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v138] : Fin 2 → IVec S16 32) a x).toNat < S14x224.size a := fun v134 v138 v142 v146 v150 v154 v158 v162 v166 v1324 k1_hw9 => k1_hw9.2.2.2.2.2.1
theorem k1_idx206_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v142] : Fin 2 → IVec S16 32) a x).toNat < S14x224.size a := fun v134 v138 v142 v146 v150 v154 v158 v162 v166 v1324 k1_hw9 => k1_hw9.2.2.2.2.2.2.1
theorem k1_idx207_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v142] : Fin 2 → IVec S16 32) a x).toNat < S14x224.size a := fun v134 v138 v142 v146 v150 v154 v158 v162 v166 v1324 k1_hw9 => k1_hw9.2.2.2.2.2.2.2.1
theorem k1_idx208_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v142] : Fin 2 → IVec S16 32) a x).toNat < S14x224.size a := fun v134 v138 v142 v146 v150 v154 v158 v162 v166 v1324 k1_hw9 => k1_hw9.2.2.2.2.2.2.2.2.1
theorem k1_idx209_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v146] : Fin 2 → IVec S16 32) a x).toNat < S14x224.size a := fun v134 v138 v142 v146 v150 v154 v158 v162 v166 v1324 k1_hw9 => k1_hw9.2.2.2.2.2.2.2.2.2.1
theorem k1_idx210_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v146] : Fin 2 → IVec S16 32) a x).toNat < S14x224.size a := fun v134 v138 v142 v146 v150 v154 v158 v162 v166 v1324 k1_hw9 => k1_hw9.2.2.2.2.2.2.2.2.2.2.1
theorem k1_idx211_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v146] : Fin 2 → IVec S16 32) a x).toNat < S14x224.size a := fun v134 v138 v142 v146 v150 v154 v158 v162 v166 v1324 k1_hw9 => k1_hw9.2.2.2.2.2.2.2.2.2.2.2.1
theorem k1_idx212_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v150] : Fin 2 → IVec S16 32) a x).toNat < S14x224.size a := fun v134 v138 v142 v146 v150 v154 v158 v162 v166 v1324 k1_hw9 => k1_hw9.2.2.2.2.2.2.2.2.2.2.2.2.1
theorem k1_idx213_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v150] : Fin 2 → IVec S16 32) a x).toNat < S14x224.size a := fun v134 v138 v142 v146 v150 v154 v158 v162 v166 v1324 k1_hw9 => k1_hw9.2.2.2.2.2.2.2.2.2.2.2.2.2.1
theorem k1_idx214_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v150] : Fin 2 → IVec S16 32) a x).toNat < S14x224.size a := fun v134 v138 v142 v146 v150 v154 v158 v162 v166 v1324 k1_hw9 => k1_hw9.2.2.2.2.2.2.2.2.2.2.2.2.2.2.1
theorem k1_idx215_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v154] : Fin 2 → IVec S16 32) a x).toNat < S14x224.size a := fun v134 v138 v142 v146 v150 v154 v158 v162 v166 v1324 k1_hw9 => k1_hw9.2.2.2.2.2.2.2.2.2.2.2.2.2.2.2.1
theorem k1_idx216_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v154] : Fin 2 → IVec S16 32) a x).toNat < S14x224.size a := fun v134 v138 v142 v146 v150 v154 v158 v162 v166 v1324 k1_hw9 => k1_hw9.2.2.2.2.2.2.2.2.2.2.2.2.2.2.2.2.1
theorem k1_idx217_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v154] : Fin 2 → IVec S16 32) a x).toNat < S14x224.size a := fun v134 v138 v142 v146 v150 v154 v158 v162 v166 v1324 k1_hw9 => k1_hw9.2.2.2.2.2.2.2.2.2.2.2.2.2.2.2.2.2.1
theorem k1_idx218_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v158] : Fin 2 → IVec S16 32) a x).toNat < S14x224.size a := fun v134 v138 v142 v146 v150 v154 v158 v162 v166 v1324 k1_hw9 => k1_hw9.2.2.2.2.2.2.2.2.2.2.2.2.2.2.2.2.2.2.1
theorem k1_idx219_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v158] : Fin 2 → IVec S16 32) a x).toNat < S14x224.size a := fun v134 v138 v142 v146 v150 v154 v158 v162 v166 v1324 k1_hw9 => k1_hw9.2.2.2.2.2.2.2.2.2.2.2.2.2.2.2.2.2.2.2.1
theorem k1_idx220_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v158] : Fin 2 → IVec S16 32) a x).toNat < S14x224.size a := fun v134 v138 v142 v146 v150 v154 v158 v162 v166 v1324 k1_hw9 => k1_hw9.2.2.2.2.2.2.2.2.2.2.2.2.2.2.2.2.2.2.2.2.1
theorem k1_idx221_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v162] : Fin 2 → IVec S16 32) a x).toNat < S14x224.size a := fun v134 v138 v142 v146 v150 v154 v158 v162 v166 v1324 k1_hw9 => k1_hw9.2.2.2.2.2.2.2.2.2.2.2.2.2.2.2.2.2.2.2.2.2.1
theorem k1_idx222_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v162] : Fin 2 → IVec S16 32) a x).toNat < S14x224.size a := fun v134 v138 v142 v146 v150 v154 v158 v162 v166 v1324 k1_hw9 => k1_hw9.2.2.2.2.2.2.2.2.2.2.2.2.2.2.2.2.2.2.2.2.2.2.1
theorem k1_idx223_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v162] : Fin 2 → IVec S16 32) a x).toNat < S14x224.size a := fun v134 v138 v142 v146 v150 v154 v158 v162 v166 v1324 k1_hw9 => k1_hw9.2.2.2.2.2.2.2.2.2.2.2.2.2.2.2.2.2.2.2.2.2.2.2.1
theorem k1_idx224_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v166] : Fin 2 → IVec S16 32) a x).toNat < S14x224.size a := fun v134 v138 v142 v146 v150 v154 v158 v162 v166 v1324 k1_hw9 => k1_hw9.2.2.2.2.2.2.2.2.2.2.2.2.2.2.2.2.2.2.2.2.2.2.2.2.1
theorem k1_idx225_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v166] : Fin 2 → IVec S16 32) a x).toNat < S14x224.size a := fun v134 v138 v142 v146 v150 v154 v158 v162 v166 v1324 k1_hw9 => k1_hw9.2.2.2.2.2.2.2.2.2.2.2.2.2.2.2.2.2.2.2.2.2.2.2.2.2.1
theorem k1_idx226_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k1_hw9 : k1_chk9 v134 v138 v142 v146 v150 v154 v158 v162 v166 v1324), ∀ a x, ((![v1324, v166] : Fin 2 → IVec S16 32) a x).toNat < S14x224.size a := fun v134 v138 v142 v146 v150 v154 v158 v162 v166 v1324 k1_hw9 => k1_hw9.2.2.2.2.2.2.2.2.2.2.2.2.2.2.2.2.2.2.2.2.2.2.2.2.2.2

def k1_chk10 (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) : Prop :=
  (∀ a x, ((![v1484, v134] : Fin 2 → IVec S16 32) a x).toNat < S14x224.size a) ∧
  (∀ a x, ((![v1484, v134] : Fin 2 → IVec S16 32) a x).toNat < S14x224.size a) ∧
  (∀ a x, ((![v1484, v134] : Fin 2 → IVec S16 32) a x).toNat < S14x224.size a) ∧
  (∀ a x, ((![v1484, v138] : Fin 2 → IVec S16 32) a x).toNat < S14x224.size a) ∧
  (∀ a x, ((![v1484, v138] : Fin 2 → IVec S16 32) a x).toNat < S14x224.size a) ∧
  (∀ a x, ((![v1484, v138] : Fin 2 → IVec S16 32) a x).toNat < S14x224.size a) ∧
  (∀ a x, ((![v1484, v142] : Fin 2 → IVec S16 32) a x).toNat < S14x224.size a) ∧
  (∀ a x, ((![v1484, v142] : Fin 2 → IVec S16 32) a x).toNat < S14x224.size a) ∧
  (∀ a x, ((![v1484, v142] : Fin 2 → IVec S16 32) a x).toNat < S14x224.size a) ∧
  (∀ a x, ((![v1484, v146] : Fin 2 → IVec S16 32) a x).toNat < S14x224.size a) ∧
  (∀ a x, ((![v1484, v146] : Fin 2 → IVec S16 32) a x).toNat < S14x224.size a) ∧
  (∀ a x, ((![v1484, v146] : Fin 2 → IVec S16 32) a x).toNat < S14x224.size a) ∧
  (∀ a x, ((![v1484, v150] : Fin 2 → IVec S16 32) a x).toNat < S14x224.size a) ∧
  (∀ a x, ((![v1484, v150] : Fin 2 → IVec S16 32) a x).toNat < S14x224.size a) ∧
  (∀ a x, ((![v1484, v150] : Fin 2 → IVec S16 32) a x).toNat < S14x224.size a) ∧
  (∀ a x, ((![v1484, v154] : Fin 2 → IVec S16 32) a x).toNat < S14x224.size a) ∧
  (∀ a x, ((![v1484, v154] : Fin 2 → IVec S16 32) a x).toNat < S14x224.size a) ∧
  (∀ a x, ((![v1484, v154] : Fin 2 → IVec S16 32) a x).toNat < S14x224.size a) ∧
  (∀ a x, ((![v1484, v158] : Fin 2 → IVec S16 32) a x).toNat < S14x224.size a) ∧
  (∀ a x, ((![v1484, v158] : Fin 2 → IVec S16 32) a x).toNat < S14x224.size a) ∧
  (∀ a x, ((![v1484, v158] : Fin 2 → IVec S16 32) a x).toNat < S14x224.size a) ∧
  (∀ a x, ((![v1484, v162] : Fin 2 → IVec S16 32) a x).toNat < S14x224.size a) ∧
  (∀ a x, ((![v1484, v162] : Fin 2 → IVec S16 32) a x).toNat < S14x224.size a) ∧
  (∀ a x, ((![v1484, v162] : Fin 2 → IVec S16 32) a x).toNat < S14x224.size a) ∧
  (∀ a x, ((![v1484, v166] : Fin 2 → IVec S16 32) a x).toNat < S14x224.size a) ∧
  (∀ a x, ((![v1484, v166] : Fin 2 → IVec S16 32) a x).toNat < S14x224.size a) ∧
  (∀ a x, ((![v1484, v166] : Fin 2 → IVec S16 32) a x).toNat < S14x224.size a)
theorem k1_idx227_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v134] : Fin 2 → IVec S16 32) a x).toNat < S14x224.size a := fun v134 v138 v142 v146 v150 v154 v158 v162 v166 v1484 k1_hw10 => k1_hw10.1
theorem k1_idx228_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v134] : Fin 2 → IVec S16 32) a x).toNat < S14x224.size a := fun v134 v138 v142 v146 v150 v154 v158 v162 v166 v1484 k1_hw10 => k1_hw10.2.1
theorem k1_idx229_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v134] : Fin 2 → IVec S16 32) a x).toNat < S14x224.size a := fun v134 v138 v142 v146 v150 v154 v158 v162 v166 v1484 k1_hw10 => k1_hw10.2.2.1
theorem k1_idx230_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v138] : Fin 2 → IVec S16 32) a x).toNat < S14x224.size a := fun v134 v138 v142 v146 v150 v154 v158 v162 v166 v1484 k1_hw10 => k1_hw10.2.2.2.1
theorem k1_idx231_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v138] : Fin 2 → IVec S16 32) a x).toNat < S14x224.size a := fun v134 v138 v142 v146 v150 v154 v158 v162 v166 v1484 k1_hw10 => k1_hw10.2.2.2.2.1
theorem k1_idx232_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v138] : Fin 2 → IVec S16 32) a x).toNat < S14x224.size a := fun v134 v138 v142 v146 v150 v154 v158 v162 v166 v1484 k1_hw10 => k1_hw10.2.2.2.2.2.1
theorem k1_idx233_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v142] : Fin 2 → IVec S16 32) a x).toNat < S14x224.size a := fun v134 v138 v142 v146 v150 v154 v158 v162 v166 v1484 k1_hw10 => k1_hw10.2.2.2.2.2.2.1
theorem k1_idx234_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v142] : Fin 2 → IVec S16 32) a x).toNat < S14x224.size a := fun v134 v138 v142 v146 v150 v154 v158 v162 v166 v1484 k1_hw10 => k1_hw10.2.2.2.2.2.2.2.1
theorem k1_idx235_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v142] : Fin 2 → IVec S16 32) a x).toNat < S14x224.size a := fun v134 v138 v142 v146 v150 v154 v158 v162 v166 v1484 k1_hw10 => k1_hw10.2.2.2.2.2.2.2.2.1
theorem k1_idx236_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v146] : Fin 2 → IVec S16 32) a x).toNat < S14x224.size a := fun v134 v138 v142 v146 v150 v154 v158 v162 v166 v1484 k1_hw10 => k1_hw10.2.2.2.2.2.2.2.2.2.1
theorem k1_idx237_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v146] : Fin 2 → IVec S16 32) a x).toNat < S14x224.size a := fun v134 v138 v142 v146 v150 v154 v158 v162 v166 v1484 k1_hw10 => k1_hw10.2.2.2.2.2.2.2.2.2.2.1
theorem k1_idx238_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v146] : Fin 2 → IVec S16 32) a x).toNat < S14x224.size a := fun v134 v138 v142 v146 v150 v154 v158 v162 v166 v1484 k1_hw10 => k1_hw10.2.2.2.2.2.2.2.2.2.2.2.1
theorem k1_idx239_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v150] : Fin 2 → IVec S16 32) a x).toNat < S14x224.size a := fun v134 v138 v142 v146 v150 v154 v158 v162 v166 v1484 k1_hw10 => k1_hw10.2.2.2.2.2.2.2.2.2.2.2.2.1
theorem k1_idx240_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v150] : Fin 2 → IVec S16 32) a x).toNat < S14x224.size a := fun v134 v138 v142 v146 v150 v154 v158 v162 v166 v1484 k1_hw10 => k1_hw10.2.2.2.2.2.2.2.2.2.2.2.2.2.1
theorem k1_idx241_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v150] : Fin 2 → IVec S16 32) a x).toNat < S14x224.size a := fun v134 v138 v142 v146 v150 v154 v158 v162 v166 v1484 k1_hw10 => k1_hw10.2.2.2.2.2.2.2.2.2.2.2.2.2.2.1
theorem k1_idx242_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v154] : Fin 2 → IVec S16 32) a x).toNat < S14x224.size a := fun v134 v138 v142 v146 v150 v154 v158 v162 v166 v1484 k1_hw10 => k1_hw10.2.2.2.2.2.2.2.2.2.2.2.2.2.2.2.1
theorem k1_idx243_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v154] : Fin 2 → IVec S16 32) a x).toNat < S14x224.size a := fun v134 v138 v142 v146 v150 v154 v158 v162 v166 v1484 k1_hw10 => k1_hw10.2.2.2.2.2.2.2.2.2.2.2.2.2.2.2.2.1
theorem k1_idx244_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v154] : Fin 2 → IVec S16 32) a x).toNat < S14x224.size a := fun v134 v138 v142 v146 v150 v154 v158 v162 v166 v1484 k1_hw10 => k1_hw10.2.2.2.2.2.2.2.2.2.2.2.2.2.2.2.2.2.1
theorem k1_idx245_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v158] : Fin 2 → IVec S16 32) a x).toNat < S14x224.size a := fun v134 v138 v142 v146 v150 v154 v158 v162 v166 v1484 k1_hw10 => k1_hw10.2.2.2.2.2.2.2.2.2.2.2.2.2.2.2.2.2.2.1
theorem k1_idx246_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v158] : Fin 2 → IVec S16 32) a x).toNat < S14x224.size a := fun v134 v138 v142 v146 v150 v154 v158 v162 v166 v1484 k1_hw10 => k1_hw10.2.2.2.2.2.2.2.2.2.2.2.2.2.2.2.2.2.2.2.1
theorem k1_idx247_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v158] : Fin 2 → IVec S16 32) a x).toNat < S14x224.size a := fun v134 v138 v142 v146 v150 v154 v158 v162 v166 v1484 k1_hw10 => k1_hw10.2.2.2.2.2.2.2.2.2.2.2.2.2.2.2.2.2.2.2.2.1
theorem k1_idx248_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v162] : Fin 2 → IVec S16 32) a x).toNat < S14x224.size a := fun v134 v138 v142 v146 v150 v154 v158 v162 v166 v1484 k1_hw10 => k1_hw10.2.2.2.2.2.2.2.2.2.2.2.2.2.2.2.2.2.2.2.2.2.1
theorem k1_idx249_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v162] : Fin 2 → IVec S16 32) a x).toNat < S14x224.size a := fun v134 v138 v142 v146 v150 v154 v158 v162 v166 v1484 k1_hw10 => k1_hw10.2.2.2.2.2.2.2.2.2.2.2.2.2.2.2.2.2.2.2.2.2.2.1
theorem k1_idx250_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v162] : Fin 2 → IVec S16 32) a x).toNat < S14x224.size a := fun v134 v138 v142 v146 v150 v154 v158 v162 v166 v1484 k1_hw10 => k1_hw10.2.2.2.2.2.2.2.2.2.2.2.2.2.2.2.2.2.2.2.2.2.2.2.1
theorem k1_idx251_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v166] : Fin 2 → IVec S16 32) a x).toNat < S14x224.size a := fun v134 v138 v142 v146 v150 v154 v158 v162 v166 v1484 k1_hw10 => k1_hw10.2.2.2.2.2.2.2.2.2.2.2.2.2.2.2.2.2.2.2.2.2.2.2.2.1
theorem k1_idx252_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v166] : Fin 2 → IVec S16 32) a x).toNat < S14x224.size a := fun v134 v138 v142 v146 v150 v154 v158 v162 v166 v1484 k1_hw10 => k1_hw10.2.2.2.2.2.2.2.2.2.2.2.2.2.2.2.2.2.2.2.2.2.2.2.2.2.1
theorem k1_idx253_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k1_hw10 : k1_chk10 v134 v138 v142 v146 v150 v154 v158 v162 v166 v1484), ∀ a x, ((![v1484, v166] : Fin 2 → IVec S16 32) a x).toNat < S14x224.size a := fun v134 v138 v142 v146 v150 v154 v158 v162 v166 v1484 k1_hw10 => k1_hw10.2.2.2.2.2.2.2.2.2.2.2.2.2.2.2.2.2.2.2.2.2.2.2.2.2.2
@[reducible] def k1_t4_loop : Scf.Loop 32 :=
  let c0_i32_9 : BitVec 32 := 0#32
  let c14_i32_10 : BitVec 32 := 14#32
  let v13 : BitVec 32 := Scalar.addi c0_i32_9 c14_i32_10
  let c1_i32_11 : BitVec 32 := 1#32
  ⟨c0_i32_9, v13, c1_i32_11⟩
def k1_off54 (k1_t4 : Fin k1_t4_loop.trips) : Fin 3 → Nat :=
  let c0_i32_13 : BitVec 32 := 0#32
  let v15 : Index := Scalar.indexCast c0_i32_13
  let c0_i32_9 : BitVec 32 := 0#32
  let c1_i32_11 : BitVec 32 := 1#32
  let arg6 : BitVec 32 := Scf.iv c0_i32_9 c1_i32_11 k1_t4
  let v16 : Index := Scalar.indexCast arg6
  let c0 : Index := 0#32
  ![0, v16.toNat, 0]
def k1_off55 (k1_t4 : Fin k1_t4_loop.trips) : Fin 3 → Nat :=
  let c0_i32_18 : BitVec 32 := 0#32
  let v25 : Index := Scalar.indexCast c0_i32_18
  let c0_i32_9 : BitVec 32 := 0#32
  let c1_i32_11 : BitVec 32 := 1#32
  let arg6 : BitVec 32 := Scf.iv c0_i32_9 c1_i32_11 k1_t4
  let v26 : Index := Scalar.indexCast arg6
  let c16 : Index := 16#32
  ![0, v26.toNat, 16]
def k1_off56 (k1_t4 : Fin k1_t4_loop.trips) : Fin 3 → Nat :=
  let c0_i32_23 : BitVec 32 := 0#32
  let v35 : Index := Scalar.indexCast c0_i32_23
  let c0_i32_9 : BitVec 32 := 0#32
  let c1_i32_11 : BitVec 32 := 1#32
  let arg6 : BitVec 32 := Scf.iv c0_i32_9 c1_i32_11 k1_t4
  let v36 : Index := Scalar.indexCast arg6
  let c32 : Index := 32#32
  ![0, v36.toNat, 32]
def k1_off57 (k1_t4 : Fin k1_t4_loop.trips) : Fin 3 → Nat :=
  let c0_i32_28 : BitVec 32 := 0#32
  let v45 : Index := Scalar.indexCast c0_i32_28
  let c0_i32_9 : BitVec 32 := 0#32
  let c1_i32_11 : BitVec 32 := 1#32
  let arg6 : BitVec 32 := Scf.iv c0_i32_9 c1_i32_11 k1_t4
  let v46 : Index := Scalar.indexCast arg6
  let c48 : Index := 48#32
  ![0, v46.toNat, 48]
def k1_off58 (k1_t4 : Fin k1_t4_loop.trips) : Fin 3 → Nat :=
  let c0_i32_33 : BitVec 32 := 0#32
  let v55 : Index := Scalar.indexCast c0_i32_33
  let c0_i32_9 : BitVec 32 := 0#32
  let c1_i32_11 : BitVec 32 := 1#32
  let arg6 : BitVec 32 := Scf.iv c0_i32_9 c1_i32_11 k1_t4
  let v56 : Index := Scalar.indexCast arg6
  let c64 : Index := 64#32
  ![0, v56.toNat, 64]
def k1_off59 (k1_t4 : Fin k1_t4_loop.trips) : Fin 3 → Nat :=
  let c0_i32_38 : BitVec 32 := 0#32
  let v65 : Index := Scalar.indexCast c0_i32_38
  let c0_i32_9 : BitVec 32 := 0#32
  let c1_i32_11 : BitVec 32 := 1#32
  let arg6 : BitVec 32 := Scf.iv c0_i32_9 c1_i32_11 k1_t4
  let v66 : Index := Scalar.indexCast arg6
  let c80 : Index := 80#32
  ![0, v66.toNat, 80]
def k1_off60 (k1_t4 : Fin k1_t4_loop.trips) : Fin 3 → Nat :=
  let c0_i32_43 : BitVec 32 := 0#32
  let v75 : Index := Scalar.indexCast c0_i32_43
  let c0_i32_9 : BitVec 32 := 0#32
  let c1_i32_11 : BitVec 32 := 1#32
  let arg6 : BitVec 32 := Scf.iv c0_i32_9 c1_i32_11 k1_t4
  let v76 : Index := Scalar.indexCast arg6
  let c96 : Index := 96#32
  ![0, v76.toNat, 96]
def k1_off61 (k1_t4 : Fin k1_t4_loop.trips) : Fin 3 → Nat :=
  let c0_i32_48 : BitVec 32 := 0#32
  let v85 : Index := Scalar.indexCast c0_i32_48
  let c0_i32_9 : BitVec 32 := 0#32
  let c1_i32_11 : BitVec 32 := 1#32
  let arg6 : BitVec 32 := Scf.iv c0_i32_9 c1_i32_11 k1_t4
  let v86 : Index := Scalar.indexCast arg6
  let c112 : Index := 112#32
  ![0, v86.toNat, 112]
def k1_off62 (k1_t4 : Fin k1_t4_loop.trips) : Fin 3 → Nat :=
  let c0_i32_53 : BitVec 32 := 0#32
  let v95 : Index := Scalar.indexCast c0_i32_53
  let c0_i32_9 : BitVec 32 := 0#32
  let c1_i32_11 : BitVec 32 := 1#32
  let arg6 : BitVec 32 := Scf.iv c0_i32_9 c1_i32_11 k1_t4
  let v96 : Index := Scalar.indexCast arg6
  let c128 : Index := 128#32
  ![0, v96.toNat, 128]
def k1_off63 (k1_t4 : Fin k1_t4_loop.trips) : Fin 3 → Nat :=
  let c0_i32_58 : BitVec 32 := 0#32
  let v105 : Index := Scalar.indexCast c0_i32_58
  let c0_i32_9 : BitVec 32 := 0#32
  let c1_i32_11 : BitVec 32 := 1#32
  let arg6 : BitVec 32 := Scf.iv c0_i32_9 c1_i32_11 k1_t4
  let v106 : Index := Scalar.indexCast arg6
  let c144 : Index := 144#32
  ![0, v106.toNat, 144]
def k1_off64 (k1_t4 : Fin k1_t4_loop.trips) : Fin 3 → Nat :=
  let c0_i32_63 : BitVec 32 := 0#32
  let v115 : Index := Scalar.indexCast c0_i32_63
  let c0_i32_9 : BitVec 32 := 0#32
  let c1_i32_11 : BitVec 32 := 1#32
  let arg6 : BitVec 32 := Scf.iv c0_i32_9 c1_i32_11 k1_t4
  let v116 : Index := Scalar.indexCast arg6
  let c160 : Index := 160#32
  ![0, v116.toNat, 160]
def k1_off65 (k1_t4 : Fin k1_t4_loop.trips) : Fin 3 → Nat :=
  let c0_i32_68 : BitVec 32 := 0#32
  let v125 : Index := Scalar.indexCast c0_i32_68
  let c0_i32_9 : BitVec 32 := 0#32
  let c1_i32_11 : BitVec 32 := 1#32
  let arg6 : BitVec 32 := Scf.iv c0_i32_9 c1_i32_11 k1_t4
  let v126 : Index := Scalar.indexCast arg6
  let c176 : Index := 176#32
  ![0, v126.toNat, 176]
def k1_off66 (k1_t4 : Fin k1_t4_loop.trips) : Fin 3 → Nat :=
  let c0_i32_73 : BitVec 32 := 0#32
  let v135 : Index := Scalar.indexCast c0_i32_73
  let c0_i32_9 : BitVec 32 := 0#32
  let c1_i32_11 : BitVec 32 := 1#32
  let arg6 : BitVec 32 := Scf.iv c0_i32_9 c1_i32_11 k1_t4
  let v136 : Index := Scalar.indexCast arg6
  let c192 : Index := 192#32
  ![0, v136.toNat, 192]
def k1_off67 (k1_t4 : Fin k1_t4_loop.trips) : Fin 3 → Nat :=
  let c0_i32_78 : BitVec 32 := 0#32
  let v145 : Index := Scalar.indexCast c0_i32_78
  let c0_i32_9 : BitVec 32 := 0#32
  let c1_i32_11 : BitVec 32 := 1#32
  let arg6 : BitVec 32 := Scf.iv c0_i32_9 c1_i32_11 k1_t4
  let v146 : Index := Scalar.indexCast arg6
  let c208 : Index := 208#32
  ![0, v146.toNat, 208]
def k1_off68 (k1_t4 : Fin k1_t4_loop.trips) : Fin 3 → Nat :=
  let c1_i32_83 : BitVec 32 := 1#32
  let v155 : Index := Scalar.indexCast c1_i32_83
  let c0_i32_9 : BitVec 32 := 0#32
  let c1_i32_11 : BitVec 32 := 1#32
  let arg6 : BitVec 32 := Scf.iv c0_i32_9 c1_i32_11 k1_t4
  let v156 : Index := Scalar.indexCast arg6
  let c0_84 : Index := 0#32
  ![1, v156.toNat, 0]
def k1_off69 (k1_t4 : Fin k1_t4_loop.trips) : Fin 3 → Nat :=
  let c1_i32_89 : BitVec 32 := 1#32
  let v165 : Index := Scalar.indexCast c1_i32_89
  let c0_i32_9 : BitVec 32 := 0#32
  let c1_i32_11 : BitVec 32 := 1#32
  let arg6 : BitVec 32 := Scf.iv c0_i32_9 c1_i32_11 k1_t4
  let v166 : Index := Scalar.indexCast arg6
  let c16_90 : Index := 16#32
  ![1, v166.toNat, 16]
def k1_off70 (k1_t4 : Fin k1_t4_loop.trips) : Fin 3 → Nat :=
  let c1_i32_95 : BitVec 32 := 1#32
  let v175 : Index := Scalar.indexCast c1_i32_95
  let c0_i32_9 : BitVec 32 := 0#32
  let c1_i32_11 : BitVec 32 := 1#32
  let arg6 : BitVec 32 := Scf.iv c0_i32_9 c1_i32_11 k1_t4
  let v176 : Index := Scalar.indexCast arg6
  let c32_96 : Index := 32#32
  ![1, v176.toNat, 32]
def k1_off71 (k1_t4 : Fin k1_t4_loop.trips) : Fin 3 → Nat :=
  let c1_i32_101 : BitVec 32 := 1#32
  let v185 : Index := Scalar.indexCast c1_i32_101
  let c0_i32_9 : BitVec 32 := 0#32
  let c1_i32_11 : BitVec 32 := 1#32
  let arg6 : BitVec 32 := Scf.iv c0_i32_9 c1_i32_11 k1_t4
  let v186 : Index := Scalar.indexCast arg6
  let c48_102 : Index := 48#32
  ![1, v186.toNat, 48]
def k1_off72 (k1_t4 : Fin k1_t4_loop.trips) : Fin 3 → Nat :=
  let c1_i32_107 : BitVec 32 := 1#32
  let v195 : Index := Scalar.indexCast c1_i32_107
  let c0_i32_9 : BitVec 32 := 0#32
  let c1_i32_11 : BitVec 32 := 1#32
  let arg6 : BitVec 32 := Scf.iv c0_i32_9 c1_i32_11 k1_t4
  let v196 : Index := Scalar.indexCast arg6
  let c64_108 : Index := 64#32
  ![1, v196.toNat, 64]
def k1_off73 (k1_t4 : Fin k1_t4_loop.trips) : Fin 3 → Nat :=
  let c1_i32_113 : BitVec 32 := 1#32
  let v205 : Index := Scalar.indexCast c1_i32_113
  let c0_i32_9 : BitVec 32 := 0#32
  let c1_i32_11 : BitVec 32 := 1#32
  let arg6 : BitVec 32 := Scf.iv c0_i32_9 c1_i32_11 k1_t4
  let v206 : Index := Scalar.indexCast arg6
  let c80_114 : Index := 80#32
  ![1, v206.toNat, 80]
def k1_off74 (k1_t4 : Fin k1_t4_loop.trips) : Fin 3 → Nat :=
  let c1_i32_119 : BitVec 32 := 1#32
  let v215 : Index := Scalar.indexCast c1_i32_119
  let c0_i32_9 : BitVec 32 := 0#32
  let c1_i32_11 : BitVec 32 := 1#32
  let arg6 : BitVec 32 := Scf.iv c0_i32_9 c1_i32_11 k1_t4
  let v216 : Index := Scalar.indexCast arg6
  let c96_120 : Index := 96#32
  ![1, v216.toNat, 96]
def k1_off75 (k1_t4 : Fin k1_t4_loop.trips) : Fin 3 → Nat :=
  let c1_i32_125 : BitVec 32 := 1#32
  let v225 : Index := Scalar.indexCast c1_i32_125
  let c0_i32_9 : BitVec 32 := 0#32
  let c1_i32_11 : BitVec 32 := 1#32
  let arg6 : BitVec 32 := Scf.iv c0_i32_9 c1_i32_11 k1_t4
  let v226 : Index := Scalar.indexCast arg6
  let c112_126 : Index := 112#32
  ![1, v226.toNat, 112]
def k1_off76 (k1_t4 : Fin k1_t4_loop.trips) : Fin 3 → Nat :=
  let c1_i32_131 : BitVec 32 := 1#32
  let v235 : Index := Scalar.indexCast c1_i32_131
  let c0_i32_9 : BitVec 32 := 0#32
  let c1_i32_11 : BitVec 32 := 1#32
  let arg6 : BitVec 32 := Scf.iv c0_i32_9 c1_i32_11 k1_t4
  let v236 : Index := Scalar.indexCast arg6
  let c128_132 : Index := 128#32
  ![1, v236.toNat, 128]
def k1_off77 (k1_t4 : Fin k1_t4_loop.trips) : Fin 3 → Nat :=
  let c1_i32_137 : BitVec 32 := 1#32
  let v245 : Index := Scalar.indexCast c1_i32_137
  let c0_i32_9 : BitVec 32 := 0#32
  let c1_i32_11 : BitVec 32 := 1#32
  let arg6 : BitVec 32 := Scf.iv c0_i32_9 c1_i32_11 k1_t4
  let v246 : Index := Scalar.indexCast arg6
  let c144_138 : Index := 144#32
  ![1, v246.toNat, 144]
def k1_off78 (k1_t4 : Fin k1_t4_loop.trips) : Fin 3 → Nat :=
  let c1_i32_143 : BitVec 32 := 1#32
  let v255 : Index := Scalar.indexCast c1_i32_143
  let c0_i32_9 : BitVec 32 := 0#32
  let c1_i32_11 : BitVec 32 := 1#32
  let arg6 : BitVec 32 := Scf.iv c0_i32_9 c1_i32_11 k1_t4
  let v256 : Index := Scalar.indexCast arg6
  let c160_144 : Index := 160#32
  ![1, v256.toNat, 160]
def k1_off79 (k1_t4 : Fin k1_t4_loop.trips) : Fin 3 → Nat :=
  let c1_i32_149 : BitVec 32 := 1#32
  let v265 : Index := Scalar.indexCast c1_i32_149
  let c0_i32_9 : BitVec 32 := 0#32
  let c1_i32_11 : BitVec 32 := 1#32
  let arg6 : BitVec 32 := Scf.iv c0_i32_9 c1_i32_11 k1_t4
  let v266 : Index := Scalar.indexCast arg6
  let c176_150 : Index := 176#32
  ![1, v266.toNat, 176]
def k1_off80 (k1_t4 : Fin k1_t4_loop.trips) : Fin 3 → Nat :=
  let c1_i32_155 : BitVec 32 := 1#32
  let v275 : Index := Scalar.indexCast c1_i32_155
  let c0_i32_9 : BitVec 32 := 0#32
  let c1_i32_11 : BitVec 32 := 1#32
  let arg6 : BitVec 32 := Scf.iv c0_i32_9 c1_i32_11 k1_t4
  let v276 : Index := Scalar.indexCast arg6
  let c192_156 : Index := 192#32
  ![1, v276.toNat, 192]
def k1_off81 (k1_t4 : Fin k1_t4_loop.trips) : Fin 3 → Nat :=
  let c1_i32_161 : BitVec 32 := 1#32
  let v285 : Index := Scalar.indexCast c1_i32_161
  let c0_i32_9 : BitVec 32 := 0#32
  let c1_i32_11 : BitVec 32 := 1#32
  let arg6 : BitVec 32 := Scf.iv c0_i32_9 c1_i32_11 k1_t4
  let v286 : Index := Scalar.indexCast arg6
  let c208_162 : Index := 208#32
  ![1, v286.toNat, 208]
def k1_off82 (k1_t4 : Fin k1_t4_loop.trips) : Fin 3 → Nat :=
  let c2_i32 : BitVec 32 := 2#32
  let v295 : Index := Scalar.indexCast c2_i32
  let c0_i32_9 : BitVec 32 := 0#32
  let c1_i32_11 : BitVec 32 := 1#32
  let arg6 : BitVec 32 := Scf.iv c0_i32_9 c1_i32_11 k1_t4
  let v296 : Index := Scalar.indexCast arg6
  let c0_167 : Index := 0#32
  ![2, v296.toNat, 0]
def k1_off83 (k1_t4 : Fin k1_t4_loop.trips) : Fin 3 → Nat :=
  let c2_i32_172 : BitVec 32 := 2#32
  let v305 : Index := Scalar.indexCast c2_i32_172
  let c0_i32_9 : BitVec 32 := 0#32
  let c1_i32_11 : BitVec 32 := 1#32
  let arg6 : BitVec 32 := Scf.iv c0_i32_9 c1_i32_11 k1_t4
  let v306 : Index := Scalar.indexCast arg6
  let c16_173 : Index := 16#32
  ![2, v306.toNat, 16]
def k1_off84 (k1_t4 : Fin k1_t4_loop.trips) : Fin 3 → Nat :=
  let c2_i32_178 : BitVec 32 := 2#32
  let v315 : Index := Scalar.indexCast c2_i32_178
  let c0_i32_9 : BitVec 32 := 0#32
  let c1_i32_11 : BitVec 32 := 1#32
  let arg6 : BitVec 32 := Scf.iv c0_i32_9 c1_i32_11 k1_t4
  let v316 : Index := Scalar.indexCast arg6
  let c32_179 : Index := 32#32
  ![2, v316.toNat, 32]
def k1_off85 (k1_t4 : Fin k1_t4_loop.trips) : Fin 3 → Nat :=
  let c2_i32_184 : BitVec 32 := 2#32
  let v325 : Index := Scalar.indexCast c2_i32_184
  let c0_i32_9 : BitVec 32 := 0#32
  let c1_i32_11 : BitVec 32 := 1#32
  let arg6 : BitVec 32 := Scf.iv c0_i32_9 c1_i32_11 k1_t4
  let v326 : Index := Scalar.indexCast arg6
  let c48_185 : Index := 48#32
  ![2, v326.toNat, 48]
def k1_off86 (k1_t4 : Fin k1_t4_loop.trips) : Fin 3 → Nat :=
  let c2_i32_190 : BitVec 32 := 2#32
  let v335 : Index := Scalar.indexCast c2_i32_190
  let c0_i32_9 : BitVec 32 := 0#32
  let c1_i32_11 : BitVec 32 := 1#32
  let arg6 : BitVec 32 := Scf.iv c0_i32_9 c1_i32_11 k1_t4
  let v336 : Index := Scalar.indexCast arg6
  let c64_191 : Index := 64#32
  ![2, v336.toNat, 64]
def k1_off87 (k1_t4 : Fin k1_t4_loop.trips) : Fin 3 → Nat :=
  let c2_i32_196 : BitVec 32 := 2#32
  let v345 : Index := Scalar.indexCast c2_i32_196
  let c0_i32_9 : BitVec 32 := 0#32
  let c1_i32_11 : BitVec 32 := 1#32
  let arg6 : BitVec 32 := Scf.iv c0_i32_9 c1_i32_11 k1_t4
  let v346 : Index := Scalar.indexCast arg6
  let c80_197 : Index := 80#32
  ![2, v346.toNat, 80]
def k1_off88 (k1_t4 : Fin k1_t4_loop.trips) : Fin 3 → Nat :=
  let c2_i32_202 : BitVec 32 := 2#32
  let v355 : Index := Scalar.indexCast c2_i32_202
  let c0_i32_9 : BitVec 32 := 0#32
  let c1_i32_11 : BitVec 32 := 1#32
  let arg6 : BitVec 32 := Scf.iv c0_i32_9 c1_i32_11 k1_t4
  let v356 : Index := Scalar.indexCast arg6
  let c96_203 : Index := 96#32
  ![2, v356.toNat, 96]
def k1_off89 (k1_t4 : Fin k1_t4_loop.trips) : Fin 3 → Nat :=
  let c2_i32_208 : BitVec 32 := 2#32
  let v365 : Index := Scalar.indexCast c2_i32_208
  let c0_i32_9 : BitVec 32 := 0#32
  let c1_i32_11 : BitVec 32 := 1#32
  let arg6 : BitVec 32 := Scf.iv c0_i32_9 c1_i32_11 k1_t4
  let v366 : Index := Scalar.indexCast arg6
  let c112_209 : Index := 112#32
  ![2, v366.toNat, 112]
def k1_off90 (k1_t4 : Fin k1_t4_loop.trips) : Fin 3 → Nat :=
  let c2_i32_214 : BitVec 32 := 2#32
  let v375 : Index := Scalar.indexCast c2_i32_214
  let c0_i32_9 : BitVec 32 := 0#32
  let c1_i32_11 : BitVec 32 := 1#32
  let arg6 : BitVec 32 := Scf.iv c0_i32_9 c1_i32_11 k1_t4
  let v376 : Index := Scalar.indexCast arg6
  let c128_215 : Index := 128#32
  ![2, v376.toNat, 128]
def k1_off91 (k1_t4 : Fin k1_t4_loop.trips) : Fin 3 → Nat :=
  let c2_i32_220 : BitVec 32 := 2#32
  let v385 : Index := Scalar.indexCast c2_i32_220
  let c0_i32_9 : BitVec 32 := 0#32
  let c1_i32_11 : BitVec 32 := 1#32
  let arg6 : BitVec 32 := Scf.iv c0_i32_9 c1_i32_11 k1_t4
  let v386 : Index := Scalar.indexCast arg6
  let c144_221 : Index := 144#32
  ![2, v386.toNat, 144]
def k1_off92 (k1_t4 : Fin k1_t4_loop.trips) : Fin 3 → Nat :=
  let c2_i32_226 : BitVec 32 := 2#32
  let v395 : Index := Scalar.indexCast c2_i32_226
  let c0_i32_9 : BitVec 32 := 0#32
  let c1_i32_11 : BitVec 32 := 1#32
  let arg6 : BitVec 32 := Scf.iv c0_i32_9 c1_i32_11 k1_t4
  let v396 : Index := Scalar.indexCast arg6
  let c160_227 : Index := 160#32
  ![2, v396.toNat, 160]
def k1_off93 (k1_t4 : Fin k1_t4_loop.trips) : Fin 3 → Nat :=
  let c2_i32_232 : BitVec 32 := 2#32
  let v405 : Index := Scalar.indexCast c2_i32_232
  let c0_i32_9 : BitVec 32 := 0#32
  let c1_i32_11 : BitVec 32 := 1#32
  let arg6 : BitVec 32 := Scf.iv c0_i32_9 c1_i32_11 k1_t4
  let v406 : Index := Scalar.indexCast arg6
  let c176_233 : Index := 176#32
  ![2, v406.toNat, 176]
def k1_off94 (k1_t4 : Fin k1_t4_loop.trips) : Fin 3 → Nat :=
  let c2_i32_238 : BitVec 32 := 2#32
  let v415 : Index := Scalar.indexCast c2_i32_238
  let c0_i32_9 : BitVec 32 := 0#32
  let c1_i32_11 : BitVec 32 := 1#32
  let arg6 : BitVec 32 := Scf.iv c0_i32_9 c1_i32_11 k1_t4
  let v416 : Index := Scalar.indexCast arg6
  let c192_239 : Index := 192#32
  ![2, v416.toNat, 192]
def k1_off95 (k1_t4 : Fin k1_t4_loop.trips) : Fin 3 → Nat :=
  let c2_i32_244 : BitVec 32 := 2#32
  let v425 : Index := Scalar.indexCast c2_i32_244
  let c0_i32_9 : BitVec 32 := 0#32
  let c1_i32_11 : BitVec 32 := 1#32
  let arg6 : BitVec 32 := Scf.iv c0_i32_9 c1_i32_11 k1_t4
  let v426 : Index := Scalar.indexCast arg6
  let c208_245 : Index := 208#32
  ![2, v426.toNat, 208]
def k1_off96 (i : grid1.Coords) : Fin 4 → Nat :=
  let arg0 : BitVec 32 := BitVec.ofNat 32 (i 0).val
  let c0_i32_13_r1 : BitVec 32 := 0#32
  let arg1 : BitVec 32 := BitVec.ofNat 32 (i 1).val
  let c14_i32 : BitVec 32 := 14#32
  let v0 : BitVec 32 := Scalar.muli arg1 c14_i32
  let c0_i32_14_r1 : BitVec 32 := 0#32
  ![arg0.toNat, 0, v0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x3x224x224 : Shape := ⟨4, ![2, 3, 224, 224]⟩
abbrev S64x3x3x3 : Shape := ⟨4, ![64, 3, 3, 3]⟩
abbrev S64 : Shape := ⟨1, ![64]⟩
abbrev S8x64x1x1 : Shape := ⟨4, ![8, 64, 1, 1]⟩
abbrev S8 : Shape := ⟨1, ![8]⟩
abbrev S_ : Shape := ⟨0, ![]⟩
abbrev S2x3x226x226 : Shape := ⟨4, ![2, 3, 226, 226]⟩
abbrev S2x64x224x224 : Shape := ⟨4, ![2, 64, 224, 224]⟩
abbrev S64x3x1x1 : Shape := ⟨4, ![64, 3, 1, 1]⟩
abbrev S64x3 : Shape := ⟨2, ![64, 3]⟩
abbrev S2x224x224x64 : Shape := ⟨4, ![2, 224, 224, 64]⟩
abbrev S1x64x1x1 : Shape := ⟨4, ![1, 64, 1, 1]⟩
abbrev S8x64 : Shape := ⟨2, ![8, 64]⟩
abbrev S2x224x224x8 : Shape := ⟨4, ![2, 224, 224, 8]⟩
abbrev S2x8x224x224 : Shape := ⟨4, ![2, 8, 224, 224]⟩
abbrev S1x8x1x1 : Shape := ⟨4, ![1, 8, 1, 1]⟩
abbrev S2x1x224x224 : Shape := ⟨4, ![2, 1, 224, 224]⟩
abbrev S2x224x224 : Shape := ⟨3, ![2, 224, 224]⟩
abbrev S2x224x224x1x1 : Shape := ⟨5, ![2, 224, 224, 1, 1]⟩
abbrev S2x224x224x9x9 : Shape := ⟨5, ![2, 224, 224, 9, 9]⟩
abbrev S2x224x224x9x9x1 : Shape := ⟨6, ![2, 224, 224, 9, 9, 1]⟩
abbrev S2x224x224x3 : Shape := ⟨4, ![2, 224, 224, 3]⟩
abbrev S2x224x224x1x1x3 : Shape := ⟨6, ![2, 224, 224, 1, 1, 3]⟩
abbrev S2x224x224x9x9x3 : Shape := ⟨6, ![2, 224, 224, 9, 9, 3]⟩
abbrev S100352x3 : Shape := ⟨2, ![100352, 3]⟩

abbrev nBuf : Space → Nat
  | .hbm => 344
  | .vmem => 0
  | .smem => 0
  | _ => 0

abbrev hbmTy0_0 (i : Nat) : BufTy := match i % 128 with
  | 0 => ⟨S2x3x224x224, .f32⟩
  | 1 => ⟨S64x3x3x3, .f32⟩
  | 2 => ⟨S64, .f32⟩
  | 3 => ⟨S8x64x1x1, .f32⟩
  | 4 => ⟨S8, .f32⟩
  | 5 => ⟨S_, .i32⟩
  | 6 => ⟨S_, .f32⟩
  | 7 => ⟨S2x3x226x226, .f32⟩
  | 8 => ⟨S_, .f32⟩
  | 9 => ⟨S2x64x224x224, .f32⟩
  | 10 => ⟨S64x3x1x1, .f32⟩
  | 11 => ⟨S64x3, .f32⟩
  | 12 => ⟨S2x3x224x224, .f32⟩
  | 13 => ⟨S2x224x224x64, .f32⟩
  | 14 => ⟨S2x64x224x224, .f32⟩
  | 15 => ⟨S2x64x224x224, .f32⟩
  | 16 => ⟨S64x3x1x1, .f32⟩
  | 17 => ⟨S64x3, .f32⟩
  | 18 => ⟨S2x3x224x224, .f32⟩
  | 19 => ⟨S2x224x224x64, .f32⟩
  | 20 => ⟨S2x64x224x224, .f32⟩
  | 21 => ⟨S2x64x224x224, .f32⟩
  | 22 => ⟨S64x3x1x1, .f32⟩
  | 23 => ⟨S64x3, .f32⟩
  | 24 => ⟨S2x3x224x224, .f32⟩
  | 25 => ⟨S2x224x224x64, .f32⟩
  | 26 => ⟨S2x64x224x224, .f32⟩
  | 27 => ⟨S2x64x224x224, .f32⟩
  | 28 => ⟨S64x3x1x1, .f32⟩
  | 29 => ⟨S64x3, .f32⟩
  | 30 => ⟨S2x3x224x224, .f32⟩
  | 31 => ⟨S2x224x224x64, .f32⟩
  | 32 => ⟨S2x64x224x224, .f32⟩
  | 33 => ⟨S2x64x224x224, .f32⟩
  | 34 => ⟨S64x3x1x1, .f32⟩
  | 35 => ⟨S64x3, .f32⟩
  | 36 => ⟨S2x3x224x224, .f32⟩
  | 37 => ⟨S2x224x224x64, .f32⟩
  | 38 => ⟨S2x64x224x224, .f32⟩
  | 39 => ⟨S2x64x224x224, .f32⟩
  | 40 => ⟨S64x3x1x1, .f32⟩
  | 41 => ⟨S64x3, .f32⟩
  | 42 => ⟨S2x3x224x224, .f32⟩
  | 43 => ⟨S2x224x224x64, .f32⟩
  | 44 => ⟨S2x64x224x224, .f32⟩
  | 45 => ⟨S2x64x224x224, .f32⟩
  | 46 => ⟨S64x3x1x1, .f32⟩
  | 47 => ⟨S64x3, .f32⟩
  | 48 => ⟨S2x3x224x224, .f32⟩
  | 49 => ⟨S2x224x224x64, .f32⟩
  | 50 => ⟨S2x64x224x224, .f32⟩
  | 51 => ⟨S2x64x224x224, .f32⟩
  | 52 => ⟨S64x3x1x1, .f32⟩
  | 53 => ⟨S64x3, .f32⟩
  | 54 => ⟨S2x3x224x224, .f32⟩
  | 55 => ⟨S2x224x224x64, .f32⟩
  | 56 => ⟨S2x64x224x224, .f32⟩
  | 57 => ⟨S2x64x224x224, .f32⟩
  | 58 => ⟨S64x3x1x1, .f32⟩
  | 59 => ⟨S64x3, .f32⟩
  | 60 => ⟨S2x3x224x224, .f32⟩
  | 61 => ⟨S2x224x224x64, .f32⟩
  | 62 => ⟨S2x64x224x224, .f32⟩
  | 63 => ⟨S2x64x224x224, .f32⟩
  | 64 => ⟨S1x64x1x1, .f32⟩
  | 65 => ⟨S2x64x224x224, .f32⟩
  | 66 => ⟨S2x64x224x224, .f32⟩
  | 67 => ⟨S_, .f32⟩
  | 68 => ⟨S2x64x224x224, .f32⟩
  | 69 => ⟨S2x64x224x224, .f32⟩
  | 70 => ⟨S8x64, .f32⟩
  | 71 => ⟨S2x224x224x8, .f32⟩
  | 72 => ⟨S2x8x224x224, .f32⟩
  | 73 => ⟨S1x8x1x1, .f32⟩
  | 74 => ⟨S2x8x224x224, .f32⟩
  | 75 => ⟨S2x8x224x224, .f32⟩
  | 76 => ⟨S2x1x224x224, .f32⟩
  | 77 => ⟨S2x224x224, .f32⟩
  | 78 => ⟨S2x224x224, .f32⟩
  | 79 => ⟨S2x224x224, .f32⟩
  | 80 => ⟨S_, .f32⟩
  | 81 => ⟨S2x224x224, .f32⟩
  | 82 => ⟨S2x224x224, .f32⟩
  | 83 => ⟨S_, .f32⟩
  | 84 => ⟨S2x224x224, .f32⟩
  | 85 => ⟨S2x224x224, .f32⟩
  | 86 => ⟨S_, .f32⟩
  | 87 => ⟨S2x224x224, .f32⟩
  | 88 => ⟨S2x224x224, .f32⟩
  | 89 => ⟨S_, .f32⟩
  | 90 => ⟨S2x224x224, .f32⟩
  | 91 => ⟨S2x224x224, .f32⟩
  | 92 => ⟨S2x1x224x224, .f32⟩
  | 93 => ⟨S2x224x224, .f32⟩
  | 94 => ⟨S2x224x224, .f32⟩
  | 95 => ⟨S2x224x224, .f32⟩
  | 96 => ⟨S_, .f32⟩
  | 97 => ⟨S2x224x224, .f32⟩
  | 98 => ⟨S2x224x224, .f32⟩
  | 99 => ⟨S_, .f32⟩
  | 100 => ⟨S2x224x224, .f32⟩
  | 101 => ⟨S2x224x224, .f32⟩
  | 102 => ⟨S_, .f32⟩
  | 103 => ⟨S2x224x224, .f32⟩
  | 104 => ⟨S2x224x224, .f32⟩
  | 105 => ⟨S_, .f32⟩
  | 106 => ⟨S2x224x224, .f32⟩
  | 107 => ⟨S2x224x224, .f32⟩
  | 108 => ⟨S_, .f32⟩
  | 109 => ⟨S2x224x224, .f32⟩
  | 110 => ⟨S2x224x224, .f32⟩
  | 111 => ⟨S2x1x224x224, .f32⟩
  | 112 => ⟨S2x224x224, .f32⟩
  | 113 => ⟨S2x224x224, .f32⟩
  | 114 => ⟨S2x224x224, .f32⟩
  | 115 => ⟨S_, .f32⟩
  | 116 => ⟨S2x224x224, .f32⟩
  | 117 => ⟨S2x224x224, .f32⟩
  | 118 => ⟨S_, .f32⟩
  | 119 => ⟨S2x224x224, .f32⟩
  | 120 => ⟨S2x224x224, .f32⟩
  | 121 => ⟨S_, .f32⟩
  | 122 => ⟨S2x224x224, .f32⟩
  | 123 => ⟨S2x224x224, .f32⟩
  | 124 => ⟨S_, .f32⟩
  | 125 => ⟨S2x224x224, .f32⟩
  | 126 => ⟨S2x224x224, .f32⟩
  | 127 => ⟨S_, .f32⟩
  | _ => ⟨S2x3x224x224, .f32⟩

abbrev hbmTy0_1 (i : Nat) : BufTy := match i % 128 with
  | 0 => ⟨S2x224x224, .f32⟩
  | 1 => ⟨S2x224x224, .f32⟩
  | 2 => ⟨S_, .f32⟩
  | 3 => ⟨S2x224x224, .f32⟩
  | 4 => ⟨S2x224x224, .i32⟩
  | 5 => ⟨S2x224x224, .f32⟩
  | 6 => ⟨S_, .f32⟩
  | 7 => ⟨S2x224x224, .f32⟩
  | 8 => ⟨S2x224x224, .f32⟩
  | 9 => ⟨S_, .f32⟩
  | 10 => ⟨S2x224x224, .f32⟩
  | 11 => ⟨S2x224x224, .f32⟩
  | 12 => ⟨S_, .f32⟩
  | 13 => ⟨S2x224x224, .f32⟩
  | 14 => ⟨S2x224x224, .f32⟩
  | 15 => ⟨S2x224x224, .i32⟩
  | 16 => ⟨S2x224x224, .f32⟩
  | 17 => ⟨S_, .f32⟩
  | 18 => ⟨S2x224x224, .f32⟩
  | 19 => ⟨S2x224x224, .f32⟩
  | 20 => ⟨S_, .f32⟩
  | 21 => ⟨S2x224x224, .f32⟩
  | 22 => ⟨S2x224x224, .f32⟩
  | 23 => ⟨S_, .f32⟩
  | 24 => ⟨S2x224x224, .f32⟩
  | 25 => ⟨S2x224x224, .f32⟩
  | 26 => ⟨S2x1x224x224, .f32⟩
  | 27 => ⟨S2x224x224, .f32⟩
  | 28 => ⟨S2x224x224, .f32⟩
  | 29 => ⟨S_, .f32⟩
  | 30 => ⟨S2x224x224, .f32⟩
  | 31 => ⟨S2x224x224, .f32⟩
  | 32 => ⟨S_, .f32⟩
  | 33 => ⟨S2x224x224, .f32⟩
  | 34 => ⟨S2x224x224, .f32⟩
  | 35 => ⟨S2x224x224, .f32⟩
  | 36 => ⟨S_, .f32⟩
  | 37 => ⟨S2x224x224, .f32⟩
  | 38 => ⟨S2x224x224, .f32⟩
  | 39 => ⟨S2x224x224, .f32⟩
  | 40 => ⟨S2x1x224x224, .f32⟩
  | 41 => ⟨S2x224x224, .f32⟩
  | 42 => ⟨S2x224x224, .f32⟩
  | 43 => ⟨S_, .f32⟩
  | 44 => ⟨S2x224x224, .f32⟩
  | 45 => ⟨S2x224x224, .f32⟩
  | 46 => ⟨S_, .f32⟩
  | 47 => ⟨S2x224x224, .f32⟩
  | 48 => ⟨S2x224x224, .f32⟩
  | 49 => ⟨S2x224x224, .f32⟩
  | 50 => ⟨S_, .f32⟩
  | 51 => ⟨S2x224x224, .f32⟩
  | 52 => ⟨S2x224x224, .f32⟩
  | 53 => ⟨S2x224x224, .f32⟩
  | 54 => ⟨S_, .f32⟩
  | 55 => ⟨S2x224x224, .f32⟩
  | 56 => ⟨S2x224x224, .f32⟩
  | 57 => ⟨S_, .f32⟩
  | 58 => ⟨S2x224x224, .f32⟩
  | 59 => ⟨S2x224x224, .f32⟩
  | 60 => ⟨S_, .f32⟩
  | 61 => ⟨S2x224x224, .f32⟩
  | 62 => ⟨S2x224x224, .f32⟩
  | 63 => ⟨S_, .f32⟩
  | 64 => ⟨S2x224x224, .f32⟩
  | 65 => ⟨S2x224x224, .f32⟩
  | 66 => ⟨S_, .f32⟩
  | 67 => ⟨S2x224x224, .f32⟩
  | 68 => ⟨S2x224x224, .f32⟩
  | 69 => ⟨S_, .f32⟩
  | 70 => ⟨S2x224x224, .f32⟩
  | 71 => ⟨S2x224x224, .f32⟩
  | 72 => ⟨S2x224x224, .f32⟩
  | 73 => ⟨S2x224x224, .f32⟩
  | 74 => ⟨S2x224x224, .f32⟩
  | 75 => ⟨S2x224x224, .f32⟩
  | 76 => ⟨S2x224x224, .f32⟩
  | 77 => ⟨S2x224x224, .f32⟩
  | 78 => ⟨S2x224x224, .f32⟩
  | 79 => ⟨S2x224x224, .f32⟩
  | 80 => ⟨S2x224x224, .f32⟩
  | 81 => ⟨S2x224x224, .f32⟩
  | 82 => ⟨S2x224x224, .f32⟩
  | 83 => ⟨S2x224x224, .f32⟩
  | 84 => ⟨S2x224x224, .f32⟩
  | 85 => ⟨S2x224x224, .f32⟩
  | 86 => ⟨S2x224x224, .f32⟩
  | 87 => ⟨S2x224x224, .f32⟩
  | 88 => ⟨S2x224x224, .f32⟩
  | 89 => ⟨S2x224x224, .f32⟩
  | 90 => ⟨S2x224x224, .f32⟩
  | 91 => ⟨S2x224x224, .f32⟩
  | 92 => ⟨S2x224x224, .f32⟩
  | 93 => ⟨S2x224x224, .f32⟩
  | 94 => ⟨S2x224x224, .f32⟩
  | 95 => ⟨S2x224x224, .f32⟩
  | 96 => ⟨S_, .f32⟩
  | 97 => ⟨S2x224x224, .f32⟩
  | 98 => ⟨S2x224x224, .f32⟩
  | 99 => ⟨S2x224x224, .f32⟩
  | 100 => ⟨S2x224x224, .f32⟩
  | 101 => ⟨S2x224x224, .f32⟩
  | 102 => ⟨S2x224x224, .f32⟩
  | 103 => ⟨S2x224x224, .f32⟩
  | 104 => ⟨S2x224x224, .i32⟩
  | 105 => ⟨S2x224x224, .f32⟩
  | 106 => ⟨S2x224x224, .i32⟩
  | 107 => ⟨S2x224x224x1x1, .f32⟩
  | 108 => ⟨S2x224x224x9x9, .f32⟩
  | 109 => ⟨S2x224x224x1x1, .f32⟩
  | 110 => ⟨S2x224x224x9x9, .f32⟩
  | 111 => ⟨S2x224x224x1x1, .f32⟩
  | 112 => ⟨S2x224x224x9x9, .f32⟩
  | 113 => ⟨S2x224x224x1x1, .f32⟩
  | 114 => ⟨S2x224x224x9x9, .f32⟩
  | 115 => ⟨S2x224x224x1x1, .f32⟩
  | 116 => ⟨S2x224x224x9x9, .f32⟩
  | 117 => ⟨S2x224x224x1x1, .i32⟩
  | 118 => ⟨S2x224x224x9x9, .i32⟩
  | 119 => ⟨S2x224x224x1x1, .i32⟩
  | 120 => ⟨S2x224x224x9x9, .i32⟩
  | 121 => ⟨S2x224x224x9x9, .i32⟩
  | 122 => ⟨S_, .i32⟩
  | 123 => ⟨S2x224x224x9x9, .i32⟩
  | 124 => ⟨S2x224x224x9x9, .i32⟩
  | 125 => ⟨S2x224x224x9x9, .i32⟩
  | 126 => ⟨S2x224x224x9x9, .i32⟩
  | 127 => ⟨S_, .i32⟩
  | _ => ⟨S2x3x224x224, .f32⟩

abbrev hbmTy0_2 (i : Nat) : BufTy := match i % 128 with
  | 0 => ⟨S2x224x224x9x9, .i32⟩
  | 1 => ⟨S2x224x224x9x9, .i32⟩
  | 2 => ⟨S2x224x224x9x9, .i32⟩
  | 3 => ⟨S2x224x224x9x9, .f32⟩
  | 4 => ⟨S_, .f32⟩
  | 5 => ⟨S2x224x224x9x9, .f32⟩
  | 6 => ⟨S2x224x224x9x9, .f32⟩
  | 7 => ⟨S2x224x224x9x9, .f32⟩
  | 8 => ⟨S2x224x224x9x9, .f32⟩
  | 9 => ⟨S_, .f32⟩
  | 10 => ⟨S2x224x224x9x9, .f32⟩
  | 11 => ⟨S2x224x224x9x9, .f32⟩
  | 12 => ⟨S2x224x224x9x9, .f32⟩
  | 13 => ⟨S2x224x224x9x9, .f32⟩
  | 14 => ⟨S2x224x224x9x9, .f32⟩
  | 15 => ⟨S2x224x224x9x9, .f32⟩
  | 16 => ⟨S2x224x224x9x9, .f32⟩
  | 17 => ⟨S2x224x224x9x9, .f32⟩
  | 18 => ⟨S_, .f32⟩
  | 19 => ⟨S2x224x224x9x9, .f32⟩
  | 20 => ⟨S2x224x224x9x9, .f32⟩
  | 21 => ⟨S2x224x224x9x9, .f32⟩
  | 22 => ⟨S2x224x224x9x9, .f32⟩
  | 23 => ⟨S2x224x224x9x9, .f32⟩
  | 24 => ⟨S_, .f32⟩
  | 25 => ⟨S2x224x224x9x9, .f32⟩
  | 26 => ⟨S2x224x224x9x9, .f32⟩
  | 27 => ⟨S2x224x224x9x9, .f32⟩
  | 28 => ⟨S2x3x224x224, .f32⟩
  | 29 => ⟨S_, .i32⟩
  | 30 => ⟨S2x224x224x9x9, .i32⟩
  | 31 => ⟨S2x224x224x9x9, .i1⟩
  | 32 => ⟨S_, .i32⟩
  | 33 => ⟨S2x224x224x9x9, .i32⟩
  | 34 => ⟨S2x224x224x9x9, .i1⟩
  | 35 => ⟨S2x224x224x9x9, .i1⟩
  | 36 => ⟨S_, .i32⟩
  | 37 => ⟨S2x224x224x9x9, .i32⟩
  | 38 => ⟨S2x224x224x9x9, .i1⟩
  | 39 => ⟨S2x224x224x9x9, .i1⟩
  | 40 => ⟨S_, .i32⟩
  | 41 => ⟨S2x224x224x9x9, .i32⟩
  | 42 => ⟨S2x224x224x9x9, .i1⟩
  | 43 => ⟨S2x224x224x9x9, .i1⟩
  | 44 => ⟨S_, .f32⟩
  | 45 => ⟨S_, .f32⟩
  | 46 => ⟨S2x224x224x9x9, .f32⟩
  | 47 => ⟨S2x224x224x9x9, .f32⟩
  | 48 => ⟨S2x224x224x9x9, .i32⟩
  | 49 => ⟨S_, .i32⟩
  | 50 => ⟨S2x224x224x9x9, .i32⟩
  | 51 => ⟨S2x224x224x9x9, .i32⟩
  | 52 => ⟨S2x224x224x9x9, .i32⟩
  | 53 => ⟨S_, .i32⟩
  | 54 => ⟨S2x224x224x9x9, .i32⟩
  | 55 => ⟨S2x224x224x9x9, .i32⟩
  | 56 => ⟨S2x224x224x9x9, .i32⟩
  | 57 => ⟨S_, .i32⟩
  | 58 => ⟨S_, .i32⟩
  | 59 => ⟨S2x224x224x9x9, .i32⟩
  | 60 => ⟨S2x224x224x9x9, .i32⟩
  | 61 => ⟨S2x224x224x9x9x1, .f32⟩
  | 62 => ⟨S2x224x224x3, .f32⟩
  | 63 => ⟨S2x224x224x1x1x3, .f32⟩
  | 64 => ⟨S2x224x224x9x9x3, .f32⟩
  | 65 => ⟨S2x224x224x9x9x3, .f32⟩
  | 66 => ⟨S2x224x224x9x9x3, .f32⟩
  | 67 => ⟨S_, .f32⟩
  | 68 => ⟨S100352x3, .f32⟩
  | 69 => ⟨S_, .i32⟩
  | 70 => ⟨S2x224x224x9x9, .i32⟩
  | 71 => ⟨S2x224x224x9x9, .i1⟩
  | 72 => ⟨S_, .i32⟩
  | 73 => ⟨S2x224x224x9x9, .i32⟩
  | 74 => ⟨S2x224x224x9x9, .i32⟩
  | 75 => ⟨S2x224x224x9x9, .i32⟩
  | 76 => ⟨S2x224x224x9x9x1, .i32⟩
  | 77 => ⟨S100352x3, .f32⟩
  | 78 => ⟨S2x224x224x3, .f32⟩
  | 79 => ⟨S2x3x224x224, .f32⟩
  | 80 => ⟨S_, .f32⟩
  | 81 => ⟨S_, .f32⟩
  | 82 => ⟨S_, .f32⟩
  | 83 => ⟨S2x3x224x224, .f32⟩
  | 84 => ⟨S2x3x224x224, .f32⟩
  | 85 => ⟨S_, .f32⟩
  | 86 => ⟨S2x3x224x224, .f32⟩
  | 87 => ⟨S2x3x224x224, .f32⟩
  | _ => ⟨S2x3x224x224, .f32⟩

abbrev hbmTy (i : Nat) : BufTy := match i / 128 with
  | 0 => hbmTy0_0 i
  | 1 => hbmTy0_1 i
  | 2 => hbmTy0_2 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_0 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_1 : Ref sig .tc := ⟨.hbm, 80, rfl⟩
abbrev main_v71 : Ref sig .tc := ⟨.hbm, 81, rfl⟩
abbrev main_v72 : Ref sig .tc := ⟨.hbm, 82, rfl⟩
abbrev main_cst_2 : Ref sig .tc := ⟨.hbm, 83, rfl⟩
abbrev main_v73 : Ref sig .tc := ⟨.hbm, 84, rfl⟩
abbrev main_v74 : Ref sig .tc := ⟨.hbm, 85, rfl⟩
abbrev main_cst_3 : Ref sig .tc := ⟨.hbm, 86, rfl⟩
abbrev main_v75 : Ref sig .tc := ⟨.hbm, 87, rfl⟩
abbrev main_v76 : Ref sig .tc := ⟨.hbm, 88, rfl⟩
abbrev main_cst_4 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_5 : Ref sig .tc := ⟨.hbm, 96, rfl⟩
abbrev main_v83 : Ref sig .tc := ⟨.hbm, 97, rfl⟩
abbrev main_v84 : Ref sig .tc := ⟨.hbm, 98, rfl⟩
abbrev main_cst_6 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_cst_9 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_10 : Ref sig .tc := ⟨.hbm, 115, rfl⟩
abbrev main_v97 : Ref sig .tc := ⟨.hbm, 116, rfl⟩
abbrev main_v98 : Ref sig .tc := ⟨.hbm, 117, rfl⟩
abbrev main_cst_11 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_v102 : Ref sig .tc := ⟨.hbm, 123, rfl⟩
abbrev main_cst_13 : Ref sig .tc := ⟨.hbm, 124, rfl⟩
abbrev main_v103 : Ref sig .tc := ⟨.hbm, 125, rfl⟩
abbrev main_v104 : Ref sig .tc := ⟨.hbm, 126, rfl⟩
abbrev main_cst_14 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_16 : Ref sig .tc := ⟨.hbm, 134, rfl⟩
abbrev main_v110 : Ref sig .tc := ⟨.hbm, 135, rfl⟩
abbrev main_v111 : Ref sig .tc := ⟨.hbm, 136, rfl⟩
abbrev main_cst_17 : Ref sig .tc := ⟨.hbm, 137, rfl⟩
abbrev main_v112 : Ref sig .tc := ⟨.hbm, 138, rfl⟩
abbrev main_v113 : Ref sig .tc := ⟨.hbm, 139, rfl⟩
abbrev main_cst_18 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_19 : Ref sig .tc := ⟨.hbm, 145, rfl⟩
abbrev main_v118 : Ref sig .tc := ⟨.hbm, 146, rfl⟩
abbrev main_v119 : Ref sig .tc := ⟨.hbm, 147, rfl⟩
abbrev main_cst_20 : Ref sig .tc := ⟨.hbm, 148, rfl⟩
abbrev main_v120 : Ref sig .tc := ⟨.hbm, 149, rfl⟩
abbrev main_v121 : Ref sig .tc := ⟨.hbm, 150, rfl⟩
abbrev main_cst_21 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_22 : Ref sig .tc := ⟨.hbm, 157, rfl⟩
abbrev main_v127 : Ref sig .tc := ⟨.hbm, 158, rfl⟩
abbrev main_v128 : Ref sig .tc := ⟨.hbm, 159, rfl⟩
abbrev main_cst_23 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_25 : Ref sig .tc := ⟨.hbm, 171, rfl⟩
abbrev main_v138 : Ref sig .tc := ⟨.hbm, 172, rfl⟩
abbrev main_v139 : Ref sig .tc := ⟨.hbm, 173, rfl⟩
abbrev main_cst_26 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_27 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_28 : Ref sig .tc := ⟨.hbm, 182, rfl⟩
abbrev main_v146 : Ref sig .tc := ⟨.hbm, 183, rfl⟩
abbrev main_v147 : Ref sig .tc := ⟨.hbm, 184, rfl⟩
abbrev main_cst_29 : Ref sig .tc := ⟨.hbm, 185, rfl⟩
abbrev main_v148 : Ref sig .tc := ⟨.hbm, 186, rfl⟩
abbrev main_v149 : Ref sig .tc := ⟨.hbm, 187, rfl⟩
abbrev main_cst_30 : Ref sig .tc := ⟨.hbm, 188, rfl⟩
abbrev main_v150 : Ref sig .tc := ⟨.hbm, 189, rfl⟩
abbrev main_v151 : Ref sig .tc := ⟨.hbm, 190, rfl⟩
abbrev main_cst_31 : Ref sig .tc := ⟨.hbm, 191, rfl⟩
abbrev main_v152 : Ref sig .tc := ⟨.hbm, 192, rfl⟩
abbrev main_v153 : Ref sig .tc := ⟨.hbm, 193, rfl⟩
abbrev main_cst_32 : Ref sig .tc := ⟨.hbm, 194, rfl⟩
abbrev main_v154 : Ref sig .tc := ⟨.hbm, 195, rfl⟩
abbrev main_v155 : Ref sig .tc := ⟨.hbm, 196, rfl⟩
abbrev main_cst_33 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_cst_34 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_c_35 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_c_36 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_cst_37 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_cst_38 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_cst_39 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_cst_40 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_c_41 : Ref sig .tc := ⟨.hbm, 285, rfl⟩
abbrev main_v236 : Ref sig .tc := ⟨.hbm, 286, rfl⟩
abbrev main_v237 : Ref sig .tc := ⟨.hbm, 287, rfl⟩
abbrev main_c_42 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_c_43 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_c_44 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_cst_45 : Ref sig .tc := ⟨.hbm, 300, rfl⟩
abbrev main_call1_v0 : Ref sig .tc := ⟨.hbm, 301, rfl⟩
abbrev main_call1_v1 : Ref sig .tc := ⟨.hbm, 302, rfl⟩
abbrev main_v247 : Ref sig .tc := ⟨.hbm, 303, rfl⟩
abbrev main_v248 : Ref sig .tc := ⟨.hbm, 304, rfl⟩
abbrev main_c_46 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_c_47 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_c_48 : Ref sig .tc := ⟨.hbm, 313, rfl⟩
abbrev main_call2_v0 : Ref sig .tc := ⟨.hbm, 314, rfl⟩
abbrev main_call2_v1 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_cst_49 : Ref sig .tc := ⟨.hbm, 323, rfl⟩
abbrev main_v262 : Ref sig .tc := ⟨.hbm, 324, rfl⟩
abbrev main_c_50 : Ref sig .tc := ⟨.hbm, 325, rfl⟩
abbrev main_v263 : Ref sig .tc := ⟨.hbm, 326, rfl⟩
abbrev main_v264 : Ref sig .tc := ⟨.hbm, 327, rfl⟩
abbrev main_c_51 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_cst_52 : Ref sig .tc := ⟨.hbm, 336, rfl⟩
abbrev main_cst_53 : Ref sig .tc := ⟨.hbm, 337, rfl⟩
abbrev main_call3_v0 : Ref sig .tc := ⟨.hbm, 338, rfl⟩
abbrev main_call3_v1 : Ref sig .tc := ⟨.hbm, 339, rfl⟩
abbrev main_call3_v2 : Ref sig .tc := ⟨.hbm, 340, rfl⟩
abbrev main_call3_v3 : Ref sig .tc := ⟨.hbm, 341, rfl⟩
abbrev main_call3_v4 : Ref sig .tc := ⟨.hbm, 342, rfl⟩
abbrev main_v272 : Ref sig .tc := ⟨.hbm, 343, rfl⟩

abbrev nD : Nat := 1
abbrev τ : Topo := Topo.v7x

variable {F : FTy → Type} [FloatOps F]
-- ==== Splat.lean ====
abbrev S2x10x224x224 : Shape := ⟨4, ![2, 10, 224, 224]⟩
abbrev S2x3x224x224 : Shape := ⟨4, ![2, 3, 224, 224]⟩
abbrev S10x24x224 : Shape := ⟨3, ![10, 24, 224]⟩
abbrev S3x14x224 : Shape := ⟨3, ![3, 14, 224]⟩
abbrev S_ : Shape := ⟨0, ![]⟩
abbrev S1x10x24x224 : Shape := ⟨4, ![1, 10, 24, 224]⟩
abbrev S16 : Shape := ⟨1, ![16]⟩
abbrev S1x1x16 : Shape := ⟨3, ![1, 1, 16]⟩
abbrev S1x1x224 : Shape := ⟨3, ![1, 1, 224]⟩
abbrev S224 : Shape := ⟨1, ![224]⟩
abbrev S1x14x224 : Shape := ⟨3, ![1, 14, 224]⟩
abbrev S14x224 : Shape := ⟨2, ![14, 224]⟩
abbrev S1x3x14x224 : Shape := ⟨4, ![1, 3, 14, 224]⟩

abbrev nBuf : Table → Nat
  | .hbm => 2
  | .local .scVector .vmem => 2
  | _ => 0

abbrev bufTy : (tb : Table) → Fin (nBuf tb) → BufTy
  | .hbm, ⟨0, _⟩ => ⟨S2x10x224x224, .f32⟩
  | .hbm, ⟨1, _⟩ => ⟨S2x3x224x224, .f32⟩
  | .local .scVector .vmem, ⟨0, _⟩ => ⟨S10x24x224, .f32⟩
  | .local .scVector .vmem, ⟨1, _⟩ => ⟨S3x14x224, .f32⟩
  | _, _ => ⟨S2x10x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg0 : BitVec 32 := BitVec.ofNat 32 (i 0).val
  let c0_i32_13_r0 : BitVec 32 := 0#32
  let arg1 : BitVec 32 := BitVec.ofNat 32 (i 1).val
  let c14_i32 : BitVec 32 := 14#32
  let v0 : BitVec 32 := Scalar.muli arg1 c14_i32
  let c4_i32 : BitVec 32 := 4#32
  let v1 : BitVec 32 := Scalar.subi v0 c4_i32
  let c200_i32 : BitVec 32 := 200#32
  let v2 : BitVec 32 := Scalar.minsi v1 c200_i32
  let c0_i32 : BitVec 32 := 0#32
  let v3 : BitVec 32 := Scalar.maxsi v2 c0_i32
  let c0_i32_14_r0 : BitVec 32 := 0#32
  ![arg0.toNat, 0, v3.toNat, 0]
@[reducible] def k0_t1_loop : Scf.Loop 32 :=
  let c0_i32_1 : BitVec 32 := 0#32
  let c14_i32_2 : BitVec 32 := 14#32
  let v6 : BitVec 32 := Scalar.addi c0_i32_1 c14_i32_2
  let c1_i32 : BitVec 32 := 1#32
  ⟨c0_i32_1, v6, c1_i32⟩
def k0_off2 (k0_t1 : Fin k0_t1_loop.trips) : Fin 3 → Nat :=
  let c0_i32_13 : BitVec 32 := 0#32
  let v15 : Index := Scalar.indexCast c0_i32_13
  let c0_i32_1 : BitVec 32 := 0#32
  let c1_i32 : BitVec 32 := 1#32
  let arg6 : BitVec 32 := Scf.iv c0_i32_1 c1_i32 k0_t1
  let v16 : Index := Scalar.indexCast arg6
  let c0 : Index := 0#32
  ![0, v16.toNat, 0]
def k0_off3 (k0_t1 : Fin k0_t1_loop.trips) : Fin 3 → Nat :=
  let c0_i32_14 : BitVec 32 := 0#32
  let v18 : Index := Scalar.indexCast c0_i32_14
  let c0_i32_1 : BitVec 32 := 0#32
  let c1_i32 : BitVec 32 := 1#32
  let arg6 : BitVec 32 := Scf.iv c0_i32_1 c1_i32 k0_t1
  let v19 : Index := Scalar.indexCast arg6
  let c16 : Index := 16#32
  ![0, v19.toNat, 16]
def k0_off4 (k0_t1 : Fin k0_t1_loop.trips) : Fin 3 → Nat :=
  let c0_i32_15 : BitVec 32 := 0#32
  let v21 : Index := Scalar.indexCast c0_i32_15
  let c0_i32_1 : BitVec 32 := 0#32
  let c1_i32 : BitVec 32 := 1#32
  let arg6 : BitVec 32 := Scf.iv c0_i32_1 c1_i32 k0_t1
  let v22 : Index := Scalar.indexCast arg6
  let c32 : Index := 32#32
  ![0, v22.toNat, 32]
def k0_off5 (k0_t1 : Fin k0_t1_loop.trips) : Fin 3 → Nat :=
  let c0_i32_16 : BitVec 32 := 0#32
  let v24 : Index := Scalar.indexCast c0_i32_16
  let c0_i32_1 : BitVec 32 := 0#32
  let c1_i32 : BitVec 32 := 1#32
  let arg6 : BitVec 32 := Scf.iv c0_i32_1 c1_i32 k0_t1
  let v25 : Index := Scalar.indexCast arg6
  let c48 : Index := 48#32
  ![0, v25.toNat, 48]
def k0_off6 (k0_t1 : Fin k0_t1_loop.trips) : Fin 3 → Nat :=
  let c0_i32_17 : BitVec 32 := 0#32
  let v27 : Index := Scalar.indexCast c0_i32_17
  let c0_i32_1 : BitVec 32 := 0#32
  let c1_i32 : BitVec 32 := 1#32
  let arg6 : BitVec 32 := Scf.iv c0_i32_1 c1_i32 k0_t1
  let v28 : Index := Scalar.indexCast arg6
  let c64 : Index := 64#32
  ![0, v28.toNat, 64]
def k0_off7 (k0_t1 : Fin k0_t1_loop.trips) : Fin 3 → Nat :=
  let c0_i32_18 : BitVec 32 := 0#32
  let v30 : Index := Scalar.indexCast c0_i32_18
  let c0_i32_1 : BitVec 32 := 0#32
  let c1_i32 : BitVec 32 := 1#32
  let arg6 : BitVec 32 := Scf.iv c0_i32_1 c1_i32 k0_t1
  let v31 : Index := Scalar.indexCast arg6
  let c80 : Index := 80#32
  ![0, v31.toNat, 80]
def k0_off8 (k0_t1 : Fin k0_t1_loop.trips) : Fin 3 → Nat :=
  let c0_i32_19 : BitVec 32 := 0#32
  let v33 : Index := Scalar.indexCast c0_i32_19
  let c0_i32_1 : BitVec 32 := 0#32
  let c1_i32 : BitVec 32 := 1#32
  let arg6 : BitVec 32 := Scf.iv c0_i32_1 c1_i32 k0_t1
  let v34 : Index := Scalar.indexCast arg6
  let c96 : Index := 96#32
  ![0, v34.toNat, 96]
def k0_off9 (k0_t1 : Fin k0_t1_loop.trips) : Fin 3 → Nat :=
  let c0_i32_20 : BitVec 32 := 0#32
  let v36 : Index := Scalar.indexCast c0_i32_20
  let c0_i32_1 : BitVec 32 := 0#32
  let c1_i32 : BitVec 32 := 1#32
  let arg6 : BitVec 32 := Scf.iv c0_i32_1 c1_i32 k0_t1
  let v37 : Index := Scalar.indexCast arg6
  let c112 : Index := 112#32
  ![0, v37.toNat, 112]
def k0_off10 (k0_t1 : Fin k0_t1_loop.trips) : Fin 3 → Nat :=
  let c0_i32_21 : BitVec 32 := 0#32
  let v39 : Index := Scalar.indexCast c0_i32_21
  let c0_i32_1 : BitVec 32 := 0#32
  let c1_i32 : BitVec 32 := 1#32
  let arg6 : BitVec 32 := Scf.iv c0_i32_1 c1_i32 k0_t1
  let v40 : Index := Scalar.indexCast arg6
  let c128 : Index := 128#32
  ![0, v40.toNat, 128]
def k0_off11 (k0_t1 : Fin k0_t1_loop.trips) : Fin 3 → Nat :=
  let c0_i32_22 : BitVec 32 := 0#32
  let v42 : Index := Scalar.indexCast c0_i32_22
  let c0_i32_1 : BitVec 32 := 0#32
  let c1_i32 : BitVec 32 := 1#32
  let arg6 : BitVec 32 := Scf.iv c0_i32_1 c1_i32 k0_t1
  let v43 : Index := Scalar.indexCast arg6
  let c144 : Index := 144#32
  ![0, v43.toNat, 144]
def k0_off12 (k0_t1 : Fin k0_t1_loop.trips) : Fin 3 → Nat :=
  let c0_i32_23 : BitVec 32 := 0#32
  let v45 : Index := Scalar.indexCast c0_i32_23
  let c0_i32_1 : BitVec 32 := 0#32
  let c1_i32 : BitVec 32 := 1#32
  let arg6 : BitVec 32 := Scf.iv c0_i32_1 c1_i32 k0_t1
  let v46 : Index := Scalar.indexCast arg6
  let c160 : Index := 160#32
  ![0, v46.toNat, 160]
def k0_off13 (k0_t1 : Fin k0_t1_loop.trips) : Fin 3 → Nat :=
  let c0_i32_24 : BitVec 32 := 0#32
  let v48 : Index := Scalar.indexCast c0_i32_24
  let c0_i32_1 : BitVec 32 := 0#32
  let c1_i32 : BitVec 32 := 1#32
  let arg6 : BitVec 32 := Scf.iv c0_i32_1 c1_i32 k0_t1
  let v49 : Index := Scalar.indexCast arg6
  let c176 : Index := 176#32
  ![0, v49.toNat, 176]
def k0_off14 (k0_t1 : Fin k0_t1_loop.trips) : Fin 3 → Nat :=
  let c0_i32_25 : BitVec 32 := 0#32
  let v51 : Index := Scalar.indexCast c0_i32_25
  let c0_i32_1 : BitVec 32 := 0#32
  let c1_i32 : BitVec 32 := 1#32
  let arg6 : BitVec 32 := Scf.iv c0_i32_1 c1_i32 k0_t1
  let v52 : Index := Scalar.indexCast arg6
  let c192 : Index := 192#32
  ![0, v52.toNat, 192]
def k0_off15 (k0_t1 : Fin k0_t1_loop.trips) : Fin 3 → Nat :=
  let c0_i32_26 : BitVec 32 := 0#32
  let v54 : Index := Scalar.indexCast c0_i32_26
  let c0_i32_1 : BitVec 32 := 0#32
  let c1_i32 : BitVec 32 := 1#32
  let arg6 : BitVec 32 := Scf.iv c0_i32_1 c1_i32 k0_t1
  let v55 : Index := Scalar.indexCast arg6
  let c208 : Index := 208#32
  ![0, v55.toNat, 208]
def k0_off16 (k0_t1 : Fin k0_t1_loop.trips) : Fin 3 → Nat :=
  let c1_i32_27 : BitVec 32 := 1#32
  let v57 : Index := Scalar.indexCast c1_i32_27
  let c0_i32_1 : BitVec 32 := 0#32
  let c1_i32 : BitVec 32 := 1#32
  let arg6 : BitVec 32 := Scf.iv c0_i32_1 c1_i32 k0_t1
  let v58 : Index := Scalar.indexCast arg6
  let c0_28 : Index := 0#32
  ![1, v58.toNat, 0]
def k0_off17 (k0_t1 : Fin k0_t1_loop.trips) : Fin 3 → Nat :=
  let c1_i32_29 : BitVec 32 := 1#32
  let v60 : Index := Scalar.indexCast c1_i32_29
  let c0_i32_1 : BitVec 32 := 0#32
  let c1_i32 : BitVec 32 := 1#32
  let arg6 : BitVec 32 := Scf.iv c0_i32_1 c1_i32 k0_t1
  let v61 : Index := Scalar.indexCast arg6
  let c16_30 : Index := 16#32
  ![1, v61.toNat, 16]
def k0_off18 (k0_t1 : Fin k0_t1_loop.trips) : Fin 3 → Nat :=
  let c1_i32_31 : BitVec 32 := 1#32
  let v63 : Index := Scalar.indexCast c1_i32_31
  let c0_i32_1 : BitVec 32 := 0#32
  let c1_i32 : BitVec 32 := 1#32
  let arg6 : BitVec 32 := Scf.iv c0_i32_1 c1_i32 k0_t1
  let v64 : Index := Scalar.indexCast arg6
  let c32_32 : Index := 32#32
  ![1, v64.toNat, 32]
def k0_off19 (k0_t1 : Fin k0_t1_loop.trips) : Fin 3 → Nat :=
  let c1_i32_33 : BitVec 32 := 1#32
  let v66 : Index := Scalar.indexCast c1_i32_33
  let c0_i32_1 : BitVec 32 := 0#32
  let c1_i32 : BitVec 32 := 1#32
  let arg6 : BitVec 32 := Scf.iv c0_i32_1 c1_i32 k0_t1
  let v67 : Index := Scalar.indexCast arg6
  let c48_34 : Index := 48#32
  ![1, v67.toNat, 48]
def k0_off20 (k0_t1 : Fin k0_t1_loop.trips) : Fin 3 → Nat :=
  let c1_i32_35 : BitVec 32 := 1#32
  let v69 : Index := Scalar.indexCast c1_i32_35
  let c0_i32_1 : BitVec 32 := 0#32
  let c1_i32 : BitVec 32 := 1#32
  let arg6 : BitVec 32 := Scf.iv c0_i32_1 c1_i32 k0_t1
  let v70 : Index := Scalar.indexCast arg6
  let c64_36 : Index := 64#32
  ![1, v70.toNat, 64]
def k0_off21 (k0_t1 : Fin k0_t1_loop.trips) : Fin 3 → Nat :=
  let c1_i32_37 : BitVec 32 := 1#32
  let v72 : Index := Scalar.indexCast c1_i32_37
  let c0_i32_1 : BitVec 32 := 0#32
  let c1_i32 : BitVec 32 := 1#32
  let arg6 : BitVec 32 := Scf.iv c0_i32_1 c1_i32 k0_t1
  let v73 : Index := Scalar.indexCast arg6
  let c80_38 : Index := 80#32
  ![1, v73.toNat, 80]
def k0_off22 (k0_t1 : Fin k0_t1_loop.trips) : Fin 3 → Nat :=
  let c1_i32_39 : BitVec 32 := 1#32
  let v75 : Index := Scalar.indexCast c1_i32_39
  let c0_i32_1 : BitVec 32 := 0#32
  let c1_i32 : BitVec 32 := 1#32
  let arg6 : BitVec 32 := Scf.iv c0_i32_1 c1_i32 k0_t1
  let v76 : Index := Scalar.indexCast arg6
  let c96_40 : Index := 96#32
  ![1, v76.toNat, 96]
def k0_off23 (k0_t1 : Fin k0_t1_loop.trips) : Fin 3 → Nat :=
  let c1_i32_41 : BitVec 32 := 1#32
  let v78 : Index := Scalar.indexCast c1_i32_41
  let c0_i32_1 : BitVec 32 := 0#32
  let c1_i32 : BitVec 32 := 1#32
  let arg6 : BitVec 32 := Scf.iv c0_i32_1 c1_i32 k0_t1
  let v79 : Index := Scalar.indexCast arg6
  let c112_42 : Index := 112#32
  ![1, v79.toNat, 112]
def k0_off24 (k0_t1 : Fin k0_t1_loop.trips) : Fin 3 → Nat :=
  let c1_i32_43 : BitVec 32 := 1#32
  let v81 : Index := Scalar.indexCast c1_i32_43
  let c0_i32_1 : BitVec 32 := 0#32
  let c1_i32 : BitVec 32 := 1#32
  let arg6 : BitVec 32 := Scf.iv c0_i32_1 c1_i32 k0_t1
  let v82 : Index := Scalar.indexCast arg6
  let c128_44 : Index := 128#32
  ![1, v82.toNat, 128]
def k0_off25 (k0_t1 : Fin k0_t1_loop.trips) : Fin 3 → Nat :=
  let c1_i32_45 : BitVec 32 := 1#32
  let v84 : Index := Scalar.indexCast c1_i32_45
  let c0_i32_1 : BitVec 32 := 0#32
  let c1_i32 : BitVec 32 := 1#32
  let arg6 : BitVec 32 := Scf.iv c0_i32_1 c1_i32 k0_t1
  let v85 : Index := Scalar.indexCast arg6
  let c144_46 : Index := 144#32
  ![1, v85.toNat, 144]
def k0_off26 (k0_t1 : Fin k0_t1_loop.trips) : Fin 3 → Nat :=
  let c1_i32_47 : BitVec 32 := 1#32
  let v87 : Index := Scalar.indexCast c1_i32_47
  let c0_i32_1 : BitVec 32 := 0#32
  let c1_i32 : BitVec 32 := 1#32
  let arg6 : BitVec 32 := Scf.iv c0_i32_1 c1_i32 k0_t1
  let v88 : Index := Scalar.indexCast arg6
  let c160_48 : Index := 160#32
  ![1, v88.toNat, 160]
def k0_off27 (k0_t1 : Fin k0_t1_loop.trips) : Fin 3 → Nat :=
  let c1_i32_49 : BitVec 32 := 1#32
  let v90 : Index := Scalar.indexCast c1_i32_49
  let c0_i32_1 : BitVec 32 := 0#32
  let c1_i32 : BitVec 32 := 1#32
  let arg6 : BitVec 32 := Scf.iv c0_i32_1 c1_i32 k0_t1
  let v91 : Index := Scalar.indexCast arg6
  let c176_50 : Index := 176#32
  ![1, v91.toNat, 176]
def k0_off28 (k0_t1 : Fin k0_t1_loop.trips) : Fin 3 → Nat :=
  let c1_i32_51 : BitVec 32 := 1#32
  let v93 : Index := Scalar.indexCast c1_i32_51
  let c0_i32_1 : BitVec 32 := 0#32
  let c1_i32 : BitVec 32 := 1#32
  let arg6 : BitVec 32 := Scf.iv c0_i32_1 c1_i32 k0_t1
  let v94 : Index := Scalar.indexCast arg6
  let c192_52 : Index := 192#32
  ![1, v94.toNat, 192]
def k0_off29 (k0_t1 : Fin k0_t1_loop.trips) : Fin 3 → Nat :=
  let c1_i32_53 : BitVec 32 := 1#32
  let v96 : Index := Scalar.indexCast c1_i32_53
  let c0_i32_1 : BitVec 32 := 0#32
  let c1_i32 : BitVec 32 := 1#32
  let arg6 : BitVec 32 := Scf.iv c0_i32_1 c1_i32 k0_t1
  let v97 : Index := Scalar.indexCast arg6
  let c208_54 : Index := 208#32
  ![1, v97.toNat, 208]
def k0_off30 (k0_t1 : Fin k0_t1_loop.trips) : Fin 3 → Nat :=
  let c2_i32 : BitVec 32 := 2#32
  let v99 : Index := Scalar.indexCast c2_i32
  let c0_i32_1 : BitVec 32 := 0#32
  let c1_i32 : BitVec 32 := 1#32
  let arg6 : BitVec 32 := Scf.iv c0_i32_1 c1_i32 k0_t1
  let v100 : Index := Scalar.indexCast arg6
  let c0_55 : Index := 0#32
  ![2, v100.toNat, 0]
def k0_off31 (k0_t1 : Fin k0_t1_loop.trips) : Fin 3 → Nat :=
  let c2_i32_56 : BitVec 32 := 2#32
  let v102 : Index := Scalar.indexCast c2_i32_56
  let c0_i32_1 : BitVec 32 := 0#32
  let c1_i32 : BitVec 32 := 1#32
  let arg6 : BitVec 32 := Scf.iv c0_i32_1 c1_i32 k0_t1
  let v103 : Index := Scalar.indexCast arg6
  let c16_57 : Index := 16#32
  ![2, v103.toNat, 16]
def k0_off32 (k0_t1 : Fin k0_t1_loop.trips) : Fin 3 → Nat :=
  let c2_i32_58 : BitVec 32 := 2#32
  let v105 : Index := Scalar.indexCast c2_i32_58
  let c0_i32_1 : BitVec 32 := 0#32
  let c1_i32 : BitVec 32 := 1#32
  let arg6 : BitVec 32 := Scf.iv c0_i32_1 c1_i32 k0_t1
  let v106 : Index := Scalar.indexCast arg6
  let c32_59 : Index := 32#32
  ![2, v106.toNat, 32]
def k0_off33 (k0_t1 : Fin k0_t1_loop.trips) : Fin 3 → Nat :=
  let c2_i32_60 : BitVec 32 := 2#32
  let v108 : Index := Scalar.indexCast c2_i32_60
  let c0_i32_1 : BitVec 32 := 0#32
  let c1_i32 : BitVec 32 := 1#32
  let arg6 : BitVec 32 := Scf.iv c0_i32_1 c1_i32 k0_t1
  let v109 : Index := Scalar.indexCast arg6
  let c48_61 : Index := 48#32
  ![2, v109.toNat, 48]
def k0_off34 (k0_t1 : Fin k0_t1_loop.trips) : Fin 3 → Nat :=
  let c2_i32_62 : BitVec 32 := 2#32
  let v111 : Index := Scalar.indexCast c2_i32_62
  let c0_i32_1 : BitVec 32 := 0#32
  let c1_i32 : BitVec 32 := 1#32
  let arg6 : BitVec 32 := Scf.iv c0_i32_1 c1_i32 k0_t1
  let v112 : Index := Scalar.indexCast arg6
  let c64_63 : Index := 64#32
  ![2, v112.toNat, 64]
def k0_off35 (k0_t1 : Fin k0_t1_loop.trips) : Fin 3 → Nat :=
  let c2_i32_64 : BitVec 32 := 2#32
  let v114 : Index := Scalar.indexCast c2_i32_64
  let c0_i32_1 : BitVec 32 := 0#32
  let c1_i32 : BitVec 32 := 1#32
  let arg6 : BitVec 32 := Scf.iv c0_i32_1 c1_i32 k0_t1
  let v115 : Index := Scalar.indexCast arg6
  let c80_65 : Index := 80#32
  ![2, v115.toNat, 80]
def k0_off36 (k0_t1 : Fin k0_t1_loop.trips) : Fin 3 → Nat :=
  let c2_i32_66 : BitVec 32 := 2#32
  let v117 : Index := Scalar.indexCast c2_i32_66
  let c0_i32_1 : BitVec 32 := 0#32
  let c1_i32 : BitVec 32 := 1#32
  let arg6 : BitVec 32 := Scf.iv c0_i32_1 c1_i32 k0_t1
  let v118 : Index := Scalar.indexCast arg6
  let c96_67 : Index := 96#32
  ![2, v118.toNat, 96]
def k0_off37 (k0_t1 : Fin k0_t1_loop.trips) : Fin 3 → Nat :=
  let c2_i32_68 : BitVec 32 := 2#32
  let v120 : Index := Scalar.indexCast c2_i32_68
  let c0_i32_1 : BitVec 32 := 0#32
  let c1_i32 : BitVec 32 := 1#32
  let arg6 : BitVec 32 := Scf.iv c0_i32_1 c1_i32 k0_t1
  let v121 : Index := Scalar.indexCast arg6
  let c112_69 : Index := 112#32
  ![2, v121.toNat, 112]
def k0_off38 (k0_t1 : Fin k0_t1_loop.trips) : Fin 3 → Nat :=
  let c2_i32_70 : BitVec 32 := 2#32
  let v123 : Index := Scalar.indexCast c2_i32_70
  let c0_i32_1 : BitVec 32 := 0#32
  let c1_i32 : BitVec 32 := 1#32
  let arg6 : BitVec 32 := Scf.iv c0_i32_1 c1_i32 k0_t1
  let v124 : Index := Scalar.indexCast arg6
  let c128_71 : Index := 128#32
  ![2, v124.toNat, 128]
def k0_off39 (k0_t1 : Fin k0_t1_loop.trips) : Fin 3 → Nat :=
  let c2_i32_72 : BitVec 32 := 2#32
  let v126 : Index := Scalar.indexCast c2_i32_72
  let c0_i32_1 : BitVec 32 := 0#32
  let c1_i32 : BitVec 32 := 1#32
  let arg6 : BitVec 32 := Scf.iv c0_i32_1 c1_i32 k0_t1
  let v127 : Index := Scalar.indexCast arg6
  let c144_73 : Index := 144#32
  ![2, v127.toNat, 144]
def k0_off40 (k0_t1 : Fin k0_t1_loop.trips) : Fin 3 → Nat :=
  let c2_i32_74 : BitVec 32 := 2#32
  let v129 : Index := Scalar.indexCast c2_i32_74
  let c0_i32_1 : BitVec 32 := 0#32
  let c1_i32 : BitVec 32 := 1#32
  let arg6 : BitVec 32 := Scf.iv c0_i32_1 c1_i32 k0_t1
  let v130 : Index := Scalar.indexCast arg6
  let c160_75 : Index := 160#32
  ![2, v130.toNat, 160]
def k0_off41 (k0_t1 : Fin k0_t1_loop.trips) : Fin 3 → Nat :=
  let c2_i32_76 : BitVec 32 := 2#32
  let v132 : Index := Scalar.indexCast c2_i32_76
  let c0_i32_1 : BitVec 32 := 0#32
  let c1_i32 : BitVec 32 := 1#32
  let arg6 : BitVec 32 := Scf.iv c0_i32_1 c1_i32 k0_t1
  let v133 : Index := Scalar.indexCast arg6
  let c176_77 : Index := 176#32
  ![2, v133.toNat, 176]
def k0_off42 (k0_t1 : Fin k0_t1_loop.trips) : Fin 3 → Nat :=
  let c2_i32_78 : BitVec 32 := 2#32
  let v135 : Index := Scalar.indexCast c2_i32_78
  let c0_i32_1 : BitVec 32 := 0#32
  let c1_i32 : BitVec 32 := 1#32
  let arg6 : BitVec 32 := Scf.iv c0_i32_1 c1_i32 k0_t1
  let v136 : Index := Scalar.indexCast arg6
  let c192_79 : Index := 192#32
  ![2, v136.toNat, 192]
def k0_off43 (k0_t1 : Fin k0_t1_loop.trips) : Fin 3 → Nat :=
  let c2_i32_80 : BitVec 32 := 2#32
  let v138 : Index := Scalar.indexCast c2_i32_80
  let c0_i32_1 : BitVec 32 := 0#32
  let c1_i32 : BitVec 32 := 1#32
  let arg6 : BitVec 32 := Scf.iv c0_i32_1 c1_i32 k0_t1
  let v139 : Index := Scalar.indexCast arg6
  let c208_81 : Index := 208#32
  ![2, v139.toNat, 208]
@[reducible] def k0_t2_loop : Scf.Loop 32 :=
  let c0_i32_5 : BitVec 32 := 0#32
  let c24_i32 : BitVec 32 := 24#32
  let v11 : BitVec 32 := Scalar.addi c0_i32_5 c24_i32
  let c1_i32_6 : BitVec 32 := 1#32
  ⟨c0_i32_5, v11, c1_i32_6⟩
@[reducible] def k0_t3_loop : Scf.Loop 32 :=
  let c0_i32_14 : BitVec 32 := 0#32
  let c15_i32_15 : BitVec 32 := 15#32
  let v15 : BitVec 32 := Scalar.addi c0_i32_14 c15_i32_15
  let c1_i32_16 : BitVec 32 := 1#32
  ⟨c0_i32_14, v15, c1_i32_16⟩
def k0_off44 (k0_t2 : Fin k0_t2_loop.trips) : Fin 3 → Nat :=
  let c0_i32_19 : BitVec 32 := 0#32
  let c0_i32_5 : BitVec 32 := 0#32
  let c1_i32_6 : BitVec 32 := 1#32
  let arg6 : BitVec 32 := Scf.iv c0_i32_5 c1_i32_6 k0_t2
  let c0_i32_20 : BitVec 32 := 0#32
  ![0, arg6.toNat, 0]
def k0_off45 (k0_t2 : Fin k0_t2_loop.trips) : Fin 3 → Nat :=
  let c1_i32_21 : BitVec 32 := 1#32
  let c0_i32_5 : BitVec 32 := 0#32
  let c1_i32_6 : BitVec 32 := 1#32
  let arg6 : BitVec 32 := Scf.iv c0_i32_5 c1_i32_6 k0_t2
  let c0_i32_22 : BitVec 32 := 0#32
  ![1, arg6.toNat, 0]
def k0_off46 (k0_t2 : Fin k0_t2_loop.trips) : Fin 3 → Nat :=
  let c2_i32 : BitVec 32 := 2#32
  let c0_i32_5 : BitVec 32 := 0#32
  let c1_i32_6 : BitVec 32 := 1#32
  let arg6 : BitVec 32 := Scf.iv c0_i32_5 c1_i32_6 k0_t2
  let c0_i32_23 : BitVec 32 := 0#32
  ![2, arg6.toNat, 0]
def k0_off47 (k0_t2 : Fin k0_t2_loop.trips) : Fin 3 → Nat :=
  let c3_i32 : BitVec 32 := 3#32
  let c0_i32_5 : BitVec 32 := 0#32
  let c1_i32_6 : BitVec 32 := 1#32
  let arg6 : BitVec 32 := Scf.iv c0_i32_5 c1_i32_6 k0_t2
  let c0_i32_24 : BitVec 32 := 0#32
  ![3, arg6.toNat, 0]
def k0_off48 (k0_t2 : Fin k0_t2_loop.trips) : Fin 3 → Nat :=
  let c4_i32_25 : BitVec 32 := 4#32
  let c0_i32_5 : BitVec 32 := 0#32
  let c1_i32_6 : BitVec 32 := 1#32
  let arg6 : BitVec 32 := Scf.iv c0_i32_5 c1_i32_6 k0_t2
  let c0_i32_26 : BitVec 32 := 0#32
  ![4, arg6.toNat, 0]
def k0_off49 (k0_t2 : Fin k0_t2_loop.trips) : Fin 3 → Nat :=
  let c5_i32 : BitVec 32 := 5#32
  let c0_i32_5 : BitVec 32 := 0#32
  let c1_i32_6 : BitVec 32 := 1#32
  let arg6 : BitVec 32 := Scf.iv c0_i32_5 c1_i32_6 k0_t2
  let c0_i32_27 : BitVec 32 := 0#32
  ![5, arg6.toNat, 0]
def k0_off50 (k0_t2 : Fin k0_t2_loop.trips) : Fin 3 → Nat :=
  let c6_i32 : BitVec 32 := 6#32
  let c0_i32_5 : BitVec 32 := 0#32
  let c1_i32_6 : BitVec 32 := 1#32
  let arg6 : BitVec 32 := Scf.iv c0_i32_5 c1_i32_6 k0_t2
  let c0_i32_28 : BitVec 32 := 0#32
  ![6, arg6.toNat, 0]
def k0_off51 (k0_t2 : Fin k0_t2_loop.trips) : Fin 3 → Nat :=
  let c7_i32 : BitVec 32 := 7#32
  let c0_i32_5 : BitVec 32 := 0#32
  let c1_i32_6 : BitVec 32 := 1#32
  let arg6 : BitVec 32 := Scf.iv c0_i32_5 c1_i32_6 k0_t2
  let c0_i32_29 : BitVec 32 := 0#32
  ![7, arg6.toNat, 0]
def k0_off52 (k0_t2 : Fin k0_t2_loop.trips) : Fin 3 → Nat :=
  let c8_i32 : BitVec 32 := 8#32
  let c0_i32_5 : BitVec 32 := 0#32
  let c1_i32_6 : BitVec 32 := 1#32
  let arg6 : BitVec 32 := Scf.iv c0_i32_5 c1_i32_6 k0_t2
  let c0_i32_30 : BitVec 32 := 0#32
  ![8, arg6.toNat, 0]
def k0_off53 (k0_t2 : Fin k0_t2_loop.trips) : Fin 3 → Nat :=
  let c9_i32 : BitVec 32 := 9#32
  let c0_i32_5 : BitVec 32 := 0#32
  let c1_i32_6 : BitVec 32 := 1#32
  let arg6 : BitVec 32 := Scf.iv c0_i32_5 c1_i32_6 k0_t2
  let c0_i32_31 : BitVec 32 := 0#32
  ![9, arg6.toNat, 0]

def k0_chk1 (v22 : IVec S16 32) : Prop :=
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a) ∧
  (∀ a x, ((![v22] : Fin 1 → IVec S16 32) a x).toNat < S224.size a)
theorem k0_idx1_inb : ∀ (v22 : IVec S16 32) (k0_hw1 : k0_chk1 v22), ∀ a x, ((![v22] : Fin 1 → IVec S16 32) a x).toNat < S224.size a := fun v22 k0_hw1 => k0_hw1.1
theorem k0_idx2_inb : ∀ (v22 : IVec S16 32) (k0_hw1 : k0_chk1 v22), ∀ a x, ((![v22] : Fin 1 → IVec S16 32) a x).toNat < S224.size a := fun v22 k0_hw1 => k0_hw1.2.1
theorem k0_idx3_inb : ∀ (v22 : IVec S16 32) (k0_hw1 : k0_chk1 v22), ∀ a x, ((![v22] : Fin 1 → IVec S16 32) a x).toNat < S224.size a := fun v22 k0_hw1 => k0_hw1.2.2.1
theorem k0_idx4_inb : ∀ (v22 : IVec S16 32) (k0_hw1 : k0_chk1 v22), ∀ a x, ((![v22] : Fin 1 → IVec S16 32) a x).toNat < S224.size a := fun v22 k0_hw1 => k0_hw1.2.2.2.1
theorem k0_idx5_inb : ∀ (v22 : IVec S16 32) (k0_hw1 : k0_chk1 v22), ∀ a x, ((![v22] : Fin 1 → IVec S16 32) a x).toNat < S224.size a := fun v22 k0_hw1 => k0_hw1.2.2.2.2.1
theorem k0_idx6_inb : ∀ (v22 : IVec S16 32) (k0_hw1 : k0_chk1 v22), ∀ a x, ((![v22] : Fin 1 → IVec S16 32) a x).toNat < S224.size a := fun v22 k0_hw1 => k0_hw1.2.2.2.2.2.1
theorem k0_idx7_inb : ∀ (v22 : IVec S16 32) (k0_hw1 : k0_chk1 v22), ∀ a x, ((![v22] : Fin 1 → IVec S16 32) a x).toNat < S224.size a := fun v22 k0_hw1 => k0_hw1.2.2.2.2.2.2.1
theorem k0_idx8_inb : ∀ (v22 : IVec S16 32) (k0_hw1 : k0_chk1 v22), ∀ a x, ((![v22] : Fin 1 → IVec S16 32) a x).toNat < S224.size a := fun v22 k0_hw1 => k0_hw1.2.2.2.2.2.2.2.1
theorem k0_idx9_inb : ∀ (v22 : IVec S16 32) (k0_hw1 : k0_chk1 v22), ∀ a x, ((![v22] : Fin 1 → IVec S16 32) a x).toNat < S224.size a := fun v22 k0_hw1 => k0_hw1.2.2.2.2.2.2.2.2.1
theorem k0_idx10_inb : ∀ (v22 : IVec S16 32) (k0_hw1 : k0_chk1 v22), ∀ a x, ((![v22] : Fin 1 → IVec S16 32) a x).toNat < S224.size a := fun v22 k0_hw1 => k0_hw1.2.2.2.2.2.2.2.2.2

def k0_chk2 (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) : Prop :=
  (∀ a x, ((![v204, v134] : Fin 2 → IVec S16 32) a x).toNat < S14x224.size a) ∧
  (∀ a x, ((![v204, v134] : Fin 2 → IVec S16 32) a x).toNat < S14x224.size a) ∧
  (∀ a x, ((![v204, v134] : Fin 2 → IVec S16 32) a x).toNat < S14x224.size a) ∧
  (∀ a x, ((![v204, v138] : Fin 2 → IVec S16 32) a x).toNat < S14x224.size a) ∧
  (∀ a x, ((![v204, v138] : Fin 2 → IVec S16 32) a x).toNat < S14x224.size a) ∧
  (∀ a x, ((![v204, v138] : Fin 2 → IVec S16 32) a x).toNat < S14x224.size a) ∧
  (∀ a x, ((![v204, v142] : Fin 2 → IVec S16 32) a x).toNat < S14x224.size a) ∧
  (∀ a x, ((![v204, v142] : Fin 2 → IVec S16 32) a x).toNat < S14x224.size a) ∧
  (∀ a x, ((![v204, v142] : Fin 2 → IVec S16 32) a x).toNat < S14x224.size a) ∧
  (∀ a x, ((![v204, v146] : Fin 2 → IVec S16 32) a x).toNat < S14x224.size a) ∧
  (∀ a x, ((![v204, v146] : Fin 2 → IVec S16 32) a x).toNat < S14x224.size a) ∧
  (∀ a x, ((![v204, v146] : Fin 2 → IVec S16 32) a x).toNat < S14x224.size a) ∧
  (∀ a x, ((![v204, v150] : Fin 2 → IVec S16 32) a x).toNat < S14x224.size a) ∧
  (∀ a x, ((![v204, v150] : Fin 2 → IVec S16 32) a x).toNat < S14x224.size a) ∧
  (∀ a x, ((![v204, v150] : Fin 2 → IVec S16 32) a x).toNat < S14x224.size a) ∧
  (∀ a x, ((![v204, v154] : Fin 2 → IVec S16 32) a x).toNat < S14x224.size a) ∧
  (∀ a x, ((![v204, v154] : Fin 2 → IVec S16 32) a x).toNat < S14x224.size a) ∧
  (∀ a x, ((![v204, v154] : Fin 2 → IVec S16 32) a x).toNat < S14x224.size a) ∧
  (∀ a x, ((![v204, v158] : Fin 2 → IVec S16 32) a x).toNat < S14x224.size a) ∧
  (∀ a x, ((![v204, v158] : Fin 2 → IVec S16 32) a x).toNat < S14x224.size a) ∧
  (∀ a x, ((![v204, v158] : Fin 2 → IVec S16 32) a x).toNat < S14x224.size a) ∧
  (∀ a x, ((![v204, v162] : Fin 2 → IVec S16 32) a x).toNat < S14x224.size a) ∧
  (∀ a x, ((![v204, v162] : Fin 2 → IVec S16 32) a x).toNat < S14x224.size a) ∧
  (∀ a x, ((![v204, v162] : Fin 2 → IVec S16 32) a x).toNat < S14x224.size a) ∧
  (∀ a x, ((![v204, v166] : Fin 2 → IVec S16 32) a x).toNat < S14x224.size a) ∧
  (∀ a x, ((![v204, v166] : Fin 2 → IVec S16 32) a x).toNat < S14x224.size a) ∧
  (∀ a x, ((![v204, v166] : Fin 2 → IVec S16 32) a x).toNat < S14x224.size a)
theorem k0_idx11_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v134] : Fin 2 → IVec S16 32) a x).toNat < S14x224.size a := fun v134 v138 v142 v146 v150 v154 v158 v162 v166 v204 k0_hw2 => k0_hw2.1
theorem k0_idx12_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v134] : Fin 2 → IVec S16 32) a x).toNat < S14x224.size a := fun v134 v138 v142 v146 v150 v154 v158 v162 v166 v204 k0_hw2 => k0_hw2.2.1
theorem k0_idx13_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v134] : Fin 2 → IVec S16 32) a x).toNat < S14x224.size a := fun v134 v138 v142 v146 v150 v154 v158 v162 v166 v204 k0_hw2 => k0_hw2.2.2.1
theorem k0_idx14_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v138] : Fin 2 → IVec S16 32) a x).toNat < S14x224.size a := fun v134 v138 v142 v146 v150 v154 v158 v162 v166 v204 k0_hw2 => k0_hw2.2.2.2.1
theorem k0_idx15_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v138] : Fin 2 → IVec S16 32) a x).toNat < S14x224.size a := fun v134 v138 v142 v146 v150 v154 v158 v162 v166 v204 k0_hw2 => k0_hw2.2.2.2.2.1
theorem k0_idx16_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v138] : Fin 2 → IVec S16 32) a x).toNat < S14x224.size a := fun v134 v138 v142 v146 v150 v154 v158 v162 v166 v204 k0_hw2 => k0_hw2.2.2.2.2.2.1
theorem k0_idx17_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v142] : Fin 2 → IVec S16 32) a x).toNat < S14x224.size a := fun v134 v138 v142 v146 v150 v154 v158 v162 v166 v204 k0_hw2 => k0_hw2.2.2.2.2.2.2.1
theorem k0_idx18_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v142] : Fin 2 → IVec S16 32) a x).toNat < S14x224.size a := fun v134 v138 v142 v146 v150 v154 v158 v162 v166 v204 k0_hw2 => k0_hw2.2.2.2.2.2.2.2.1
theorem k0_idx19_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v142] : Fin 2 → IVec S16 32) a x).toNat < S14x224.size a := fun v134 v138 v142 v146 v150 v154 v158 v162 v166 v204 k0_hw2 => k0_hw2.2.2.2.2.2.2.2.2.1
theorem k0_idx20_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v146] : Fin 2 → IVec S16 32) a x).toNat < S14x224.size a := fun v134 v138 v142 v146 v150 v154 v158 v162 v166 v204 k0_hw2 => k0_hw2.2.2.2.2.2.2.2.2.2.1
theorem k0_idx21_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v146] : Fin 2 → IVec S16 32) a x).toNat < S14x224.size a := fun v134 v138 v142 v146 v150 v154 v158 v162 v166 v204 k0_hw2 => k0_hw2.2.2.2.2.2.2.2.2.2.2.1
theorem k0_idx22_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v146] : Fin 2 → IVec S16 32) a x).toNat < S14x224.size a := fun v134 v138 v142 v146 v150 v154 v158 v162 v166 v204 k0_hw2 => k0_hw2.2.2.2.2.2.2.2.2.2.2.2.1
theorem k0_idx23_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v150] : Fin 2 → IVec S16 32) a x).toNat < S14x224.size a := fun v134 v138 v142 v146 v150 v154 v158 v162 v166 v204 k0_hw2 => k0_hw2.2.2.2.2.2.2.2.2.2.2.2.2.1
theorem k0_idx24_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v150] : Fin 2 → IVec S16 32) a x).toNat < S14x224.size a := fun v134 v138 v142 v146 v150 v154 v158 v162 v166 v204 k0_hw2 => k0_hw2.2.2.2.2.2.2.2.2.2.2.2.2.2.1
theorem k0_idx25_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v150] : Fin 2 → IVec S16 32) a x).toNat < S14x224.size a := fun v134 v138 v142 v146 v150 v154 v158 v162 v166 v204 k0_hw2 => k0_hw2.2.2.2.2.2.2.2.2.2.2.2.2.2.2.1
theorem k0_idx26_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v154] : Fin 2 → IVec S16 32) a x).toNat < S14x224.size a := fun v134 v138 v142 v146 v150 v154 v158 v162 v166 v204 k0_hw2 => k0_hw2.2.2.2.2.2.2.2.2.2.2.2.2.2.2.2.1
theorem k0_idx27_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v154] : Fin 2 → IVec S16 32) a x).toNat < S14x224.size a := fun v134 v138 v142 v146 v150 v154 v158 v162 v166 v204 k0_hw2 => k0_hw2.2.2.2.2.2.2.2.2.2.2.2.2.2.2.2.2.1
theorem k0_idx28_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v154] : Fin 2 → IVec S16 32) a x).toNat < S14x224.size a := fun v134 v138 v142 v146 v150 v154 v158 v162 v166 v204 k0_hw2 => k0_hw2.2.2.2.2.2.2.2.2.2.2.2.2.2.2.2.2.2.1
theorem k0_idx29_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v158] : Fin 2 → IVec S16 32) a x).toNat < S14x224.size a := fun v134 v138 v142 v146 v150 v154 v158 v162 v166 v204 k0_hw2 => k0_hw2.2.2.2.2.2.2.2.2.2.2.2.2.2.2.2.2.2.2.1
theorem k0_idx30_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v158] : Fin 2 → IVec S16 32) a x).toNat < S14x224.size a := fun v134 v138 v142 v146 v150 v154 v158 v162 v166 v204 k0_hw2 => k0_hw2.2.2.2.2.2.2.2.2.2.2.2.2.2.2.2.2.2.2.2.1
theorem k0_idx31_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v158] : Fin 2 → IVec S16 32) a x).toNat < S14x224.size a := fun v134 v138 v142 v146 v150 v154 v158 v162 v166 v204 k0_hw2 => k0_hw2.2.2.2.2.2.2.2.2.2.2.2.2.2.2.2.2.2.2.2.2.1
theorem k0_idx32_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v162] : Fin 2 → IVec S16 32) a x).toNat < S14x224.size a := fun v134 v138 v142 v146 v150 v154 v158 v162 v166 v204 k0_hw2 => k0_hw2.2.2.2.2.2.2.2.2.2.2.2.2.2.2.2.2.2.2.2.2.2.1
theorem k0_idx33_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v162] : Fin 2 → IVec S16 32) a x).toNat < S14x224.size a := fun v134 v138 v142 v146 v150 v154 v158 v162 v166 v204 k0_hw2 => k0_hw2.2.2.2.2.2.2.2.2.2.2.2.2.2.2.2.2.2.2.2.2.2.2.1
theorem k0_idx34_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v162] : Fin 2 → IVec S16 32) a x).toNat < S14x224.size a := fun v134 v138 v142 v146 v150 v154 v158 v162 v166 v204 k0_hw2 => k0_hw2.2.2.2.2.2.2.2.2.2.2.2.2.2.2.2.2.2.2.2.2.2.2.2.1
theorem k0_idx35_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v166] : Fin 2 → IVec S16 32) a x).toNat < S14x224.size a := fun v134 v138 v142 v146 v150 v154 v158 v162 v166 v204 k0_hw2 => k0_hw2.2.2.2.2.2.2.2.2.2.2.2.2.2.2.2.2.2.2.2.2.2.2.2.2.1
theorem k0_idx36_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v166] : Fin 2 → IVec S16 32) a x).toNat < S14x224.size a := fun v134 v138 v142 v146 v150 v154 v158 v162 v166 v204 k0_hw2 => k0_hw2.2.2.2.2.2.2.2.2.2.2.2.2.2.2.2.2.2.2.2.2.2.2.2.2.2.1
theorem k0_idx37_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v204 : IVec S16 32) (k0_hw2 : k0_chk2 v134 v138 v142 v146 v150 v154 v158 v162 v166 v204), ∀ a x, ((![v204, v166] : Fin 2 → IVec S16 32) a x).toNat < S14x224.size a := fun v134 v138 v142 v146 v150 v154 v158 v162 v166 v204 k0_hw2 => k0_hw2.2.2.2.2.2.2.2.2.2.2.2.2.2.2.2.2.2.2.2.2.2.2.2.2.2.2

def k0_chk3 (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) : Prop :=
  (∀ a x, ((![v364, v134] : Fin 2 → IVec S16 32) a x).toNat < S14x224.size a) ∧
  (∀ a x, ((![v364, v134] : Fin 2 → IVec S16 32) a x).toNat < S14x224.size a) ∧
  (∀ a x, ((![v364, v134] : Fin 2 → IVec S16 32) a x).toNat < S14x224.size a) ∧
  (∀ a x, ((![v364, v138] : Fin 2 → IVec S16 32) a x).toNat < S14x224.size a) ∧
  (∀ a x, ((![v364, v138] : Fin 2 → IVec S16 32) a x).toNat < S14x224.size a) ∧
  (∀ a x, ((![v364, v138] : Fin 2 → IVec S16 32) a x).toNat < S14x224.size a) ∧
  (∀ a x, ((![v364, v142] : Fin 2 → IVec S16 32) a x).toNat < S14x224.size a) ∧
  (∀ a x, ((![v364, v142] : Fin 2 → IVec S16 32) a x).toNat < S14x224.size a) ∧
  (∀ a x, ((![v364, v142] : Fin 2 → IVec S16 32) a x).toNat < S14x224.size a) ∧
  (∀ a x, ((![v364, v146] : Fin 2 → IVec S16 32) a x).toNat < S14x224.size a) ∧
  (∀ a x, ((![v364, v146] : Fin 2 → IVec S16 32) a x).toNat < S14x224.size a) ∧
  (∀ a x, ((![v364, v146] : Fin 2 → IVec S16 32) a x).toNat < S14x224.size a) ∧
  (∀ a x, ((![v364, v150] : Fin 2 → IVec S16 32) a x).toNat < S14x224.size a) ∧
  (∀ a x, ((![v364, v150] : Fin 2 → IVec S16 32) a x).toNat < S14x224.size a) ∧
  (∀ a x, ((![v364, v150] : Fin 2 → IVec S16 32) a x).toNat < S14x224.size a) ∧
  (∀ a x, ((![v364, v154] : Fin 2 → IVec S16 32) a x).toNat < S14x224.size a) ∧
  (∀ a x, ((![v364, v154] : Fin 2 → IVec S16 32) a x).toNat < S14x224.size a) ∧
  (∀ a x, ((![v364, v154] : Fin 2 → IVec S16 32) a x).toNat < S14x224.size a) ∧
  (∀ a x, ((![v364, v158] : Fin 2 → IVec S16 32) a x).toNat < S14x224.size a) ∧
  (∀ a x, ((![v364, v158] : Fin 2 → IVec S16 32) a x).toNat < S14x224.size a) ∧
  (∀ a x, ((![v364, v158] : Fin 2 → IVec S16 32) a x).toNat < S14x224.size a) ∧
  (∀ a x, ((![v364, v162] : Fin 2 → IVec S16 32) a x).toNat < S14x224.size a) ∧
  (∀ a x, ((![v364, v162] : Fin 2 → IVec S16 32) a x).toNat < S14x224.size a) ∧
  (∀ a x, ((![v364, v162] : Fin 2 → IVec S16 32) a x).toNat < S14x224.size a) ∧
  (∀ a x, ((![v364, v166] : Fin 2 → IVec S16 32) a x).toNat < S14x224.size a) ∧
  (∀ a x, ((![v364, v166] : Fin 2 → IVec S16 32) a x).toNat < S14x224.size a) ∧
  (∀ a x, ((![v364, v166] : Fin 2 → IVec S16 32) a x).toNat < S14x224.size a)
theorem k0_idx38_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v134] : Fin 2 → IVec S16 32) a x).toNat < S14x224.size a := fun v134 v138 v142 v146 v150 v154 v158 v162 v166 v364 k0_hw3 => k0_hw3.1
theorem k0_idx39_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v134] : Fin 2 → IVec S16 32) a x).toNat < S14x224.size a := fun v134 v138 v142 v146 v150 v154 v158 v162 v166 v364 k0_hw3 => k0_hw3.2.1
theorem k0_idx40_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v134] : Fin 2 → IVec S16 32) a x).toNat < S14x224.size a := fun v134 v138 v142 v146 v150 v154 v158 v162 v166 v364 k0_hw3 => k0_hw3.2.2.1
theorem k0_idx41_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v138] : Fin 2 → IVec S16 32) a x).toNat < S14x224.size a := fun v134 v138 v142 v146 v150 v154 v158 v162 v166 v364 k0_hw3 => k0_hw3.2.2.2.1
theorem k0_idx42_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v138] : Fin 2 → IVec S16 32) a x).toNat < S14x224.size a := fun v134 v138 v142 v146 v150 v154 v158 v162 v166 v364 k0_hw3 => k0_hw3.2.2.2.2.1
theorem k0_idx43_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v138] : Fin 2 → IVec S16 32) a x).toNat < S14x224.size a := fun v134 v138 v142 v146 v150 v154 v158 v162 v166 v364 k0_hw3 => k0_hw3.2.2.2.2.2.1
theorem k0_idx44_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v142] : Fin 2 → IVec S16 32) a x).toNat < S14x224.size a := fun v134 v138 v142 v146 v150 v154 v158 v162 v166 v364 k0_hw3 => k0_hw3.2.2.2.2.2.2.1
theorem k0_idx45_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v142] : Fin 2 → IVec S16 32) a x).toNat < S14x224.size a := fun v134 v138 v142 v146 v150 v154 v158 v162 v166 v364 k0_hw3 => k0_hw3.2.2.2.2.2.2.2.1
theorem k0_idx46_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v142] : Fin 2 → IVec S16 32) a x).toNat < S14x224.size a := fun v134 v138 v142 v146 v150 v154 v158 v162 v166 v364 k0_hw3 => k0_hw3.2.2.2.2.2.2.2.2.1
theorem k0_idx47_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v146] : Fin 2 → IVec S16 32) a x).toNat < S14x224.size a := fun v134 v138 v142 v146 v150 v154 v158 v162 v166 v364 k0_hw3 => k0_hw3.2.2.2.2.2.2.2.2.2.1
theorem k0_idx48_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v146] : Fin 2 → IVec S16 32) a x).toNat < S14x224.size a := fun v134 v138 v142 v146 v150 v154 v158 v162 v166 v364 k0_hw3 => k0_hw3.2.2.2.2.2.2.2.2.2.2.1
theorem k0_idx49_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v146] : Fin 2 → IVec S16 32) a x).toNat < S14x224.size a := fun v134 v138 v142 v146 v150 v154 v158 v162 v166 v364 k0_hw3 => k0_hw3.2.2.2.2.2.2.2.2.2.2.2.1
theorem k0_idx50_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v150] : Fin 2 → IVec S16 32) a x).toNat < S14x224.size a := fun v134 v138 v142 v146 v150 v154 v158 v162 v166 v364 k0_hw3 => k0_hw3.2.2.2.2.2.2.2.2.2.2.2.2.1
theorem k0_idx51_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v150] : Fin 2 → IVec S16 32) a x).toNat < S14x224.size a := fun v134 v138 v142 v146 v150 v154 v158 v162 v166 v364 k0_hw3 => k0_hw3.2.2.2.2.2.2.2.2.2.2.2.2.2.1
theorem k0_idx52_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v150] : Fin 2 → IVec S16 32) a x).toNat < S14x224.size a := fun v134 v138 v142 v146 v150 v154 v158 v162 v166 v364 k0_hw3 => k0_hw3.2.2.2.2.2.2.2.2.2.2.2.2.2.2.1
theorem k0_idx53_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v154] : Fin 2 → IVec S16 32) a x).toNat < S14x224.size a := fun v134 v138 v142 v146 v150 v154 v158 v162 v166 v364 k0_hw3 => k0_hw3.2.2.2.2.2.2.2.2.2.2.2.2.2.2.2.1
theorem k0_idx54_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v154] : Fin 2 → IVec S16 32) a x).toNat < S14x224.size a := fun v134 v138 v142 v146 v150 v154 v158 v162 v166 v364 k0_hw3 => k0_hw3.2.2.2.2.2.2.2.2.2.2.2.2.2.2.2.2.1
theorem k0_idx55_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v154] : Fin 2 → IVec S16 32) a x).toNat < S14x224.size a := fun v134 v138 v142 v146 v150 v154 v158 v162 v166 v364 k0_hw3 => k0_hw3.2.2.2.2.2.2.2.2.2.2.2.2.2.2.2.2.2.1
theorem k0_idx56_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v158] : Fin 2 → IVec S16 32) a x).toNat < S14x224.size a := fun v134 v138 v142 v146 v150 v154 v158 v162 v166 v364 k0_hw3 => k0_hw3.2.2.2.2.2.2.2.2.2.2.2.2.2.2.2.2.2.2.1
theorem k0_idx57_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v158] : Fin 2 → IVec S16 32) a x).toNat < S14x224.size a := fun v134 v138 v142 v146 v150 v154 v158 v162 v166 v364 k0_hw3 => k0_hw3.2.2.2.2.2.2.2.2.2.2.2.2.2.2.2.2.2.2.2.1
theorem k0_idx58_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v158] : Fin 2 → IVec S16 32) a x).toNat < S14x224.size a := fun v134 v138 v142 v146 v150 v154 v158 v162 v166 v364 k0_hw3 => k0_hw3.2.2.2.2.2.2.2.2.2.2.2.2.2.2.2.2.2.2.2.2.1
theorem k0_idx59_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v162] : Fin 2 → IVec S16 32) a x).toNat < S14x224.size a := fun v134 v138 v142 v146 v150 v154 v158 v162 v166 v364 k0_hw3 => k0_hw3.2.2.2.2.2.2.2.2.2.2.2.2.2.2.2.2.2.2.2.2.2.1
theorem k0_idx60_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v162] : Fin 2 → IVec S16 32) a x).toNat < S14x224.size a := fun v134 v138 v142 v146 v150 v154 v158 v162 v166 v364 k0_hw3 => k0_hw3.2.2.2.2.2.2.2.2.2.2.2.2.2.2.2.2.2.2.2.2.2.2.1
theorem k0_idx61_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v162] : Fin 2 → IVec S16 32) a x).toNat < S14x224.size a := fun v134 v138 v142 v146 v150 v154 v158 v162 v166 v364 k0_hw3 => k0_hw3.2.2.2.2.2.2.2.2.2.2.2.2.2.2.2.2.2.2.2.2.2.2.2.1
theorem k0_idx62_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v166] : Fin 2 → IVec S16 32) a x).toNat < S14x224.size a := fun v134 v138 v142 v146 v150 v154 v158 v162 v166 v364 k0_hw3 => k0_hw3.2.2.2.2.2.2.2.2.2.2.2.2.2.2.2.2.2.2.2.2.2.2.2.2.1
theorem k0_idx63_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v166] : Fin 2 → IVec S16 32) a x).toNat < S14x224.size a := fun v134 v138 v142 v146 v150 v154 v158 v162 v166 v364 k0_hw3 => k0_hw3.2.2.2.2.2.2.2.2.2.2.2.2.2.2.2.2.2.2.2.2.2.2.2.2.2.1
theorem k0_idx64_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v364 : IVec S16 32) (k0_hw3 : k0_chk3 v134 v138 v142 v146 v150 v154 v158 v162 v166 v364), ∀ a x, ((![v364, v166] : Fin 2 → IVec S16 32) a x).toNat < S14x224.size a := fun v134 v138 v142 v146 v150 v154 v158 v162 v166 v364 k0_hw3 => k0_hw3.2.2.2.2.2.2.2.2.2.2.2.2.2.2.2.2.2.2.2.2.2.2.2.2.2.2

def k0_chk4 (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) : Prop :=
  (∀ a x, ((![v524, v134] : Fin 2 → IVec S16 32) a x).toNat < S14x224.size a) ∧
  (∀ a x, ((![v524, v134] : Fin 2 → IVec S16 32) a x).toNat < S14x224.size a) ∧
  (∀ a x, ((![v524, v134] : Fin 2 → IVec S16 32) a x).toNat < S14x224.size a) ∧
  (∀ a x, ((![v524, v138] : Fin 2 → IVec S16 32) a x).toNat < S14x224.size a) ∧
  (∀ a x, ((![v524, v138] : Fin 2 → IVec S16 32) a x).toNat < S14x224.size a) ∧
  (∀ a x, ((![v524, v138] : Fin 2 → IVec S16 32) a x).toNat < S14x224.size a) ∧
  (∀ a x, ((![v524, v142] : Fin 2 → IVec S16 32) a x).toNat < S14x224.size a) ∧
  (∀ a x, ((![v524, v142] : Fin 2 → IVec S16 32) a x).toNat < S14x224.size a) ∧
  (∀ a x, ((![v524, v142] : Fin 2 → IVec S16 32) a x).toNat < S14x224.size a) ∧
  (∀ a x, ((![v524, v146] : Fin 2 → IVec S16 32) a x).toNat < S14x224.size a) ∧
  (∀ a x, ((![v524, v146] : Fin 2 → IVec S16 32) a x).toNat < S14x224.size a) ∧
  (∀ a x, ((![v524, v146] : Fin 2 → IVec S16 32) a x).toNat < S14x224.size a) ∧
  (∀ a x, ((![v524, v150] : Fin 2 → IVec S16 32) a x).toNat < S14x224.size a) ∧
  (∀ a x, ((![v524, v150] : Fin 2 → IVec S16 32) a x).toNat < S14x224.size a) ∧
  (∀ a x, ((![v524, v150] : Fin 2 → IVec S16 32) a x).toNat < S14x224.size a) ∧
  (∀ a x, ((![v524, v154] : Fin 2 → IVec S16 32) a x).toNat < S14x224.size a) ∧
  (∀ a x, ((![v524, v154] : Fin 2 → IVec S16 32) a x).toNat < S14x224.size a) ∧
  (∀ a x, ((![v524, v154] : Fin 2 → IVec S16 32) a x).toNat < S14x224.size a) ∧
  (∀ a x, ((![v524, v158] : Fin 2 → IVec S16 32) a x).toNat < S14x224.size a) ∧
  (∀ a x, ((![v524, v158] : Fin 2 → IVec S16 32) a x).toNat < S14x224.size a) ∧
  (∀ a x, ((![v524, v158] : Fin 2 → IVec S16 32) a x).toNat < S14x224.size a) ∧
  (∀ a x, ((![v524, v162] : Fin 2 → IVec S16 32) a x).toNat < S14x224.size a) ∧
  (∀ a x, ((![v524, v162] : Fin 2 → IVec S16 32) a x).toNat < S14x224.size a) ∧
  (∀ a x, ((![v524, v162] : Fin 2 → IVec S16 32) a x).toNat < S14x224.size a) ∧
  (∀ a x, ((![v524, v166] : Fin 2 → IVec S16 32) a x).toNat < S14x224.size a) ∧
  (∀ a x, ((![v524, v166] : Fin 2 → IVec S16 32) a x).toNat < S14x224.size a) ∧
  (∀ a x, ((![v524, v166] : Fin 2 → IVec S16 32) a x).toNat < S14x224.size a)
theorem k0_idx65_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v134] : Fin 2 → IVec S16 32) a x).toNat < S14x224.size a := fun v134 v138 v142 v146 v150 v154 v158 v162 v166 v524 k0_hw4 => k0_hw4.1
theorem k0_idx66_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v134] : Fin 2 → IVec S16 32) a x).toNat < S14x224.size a := fun v134 v138 v142 v146 v150 v154 v158 v162 v166 v524 k0_hw4 => k0_hw4.2.1
theorem k0_idx67_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v134] : Fin 2 → IVec S16 32) a x).toNat < S14x224.size a := fun v134 v138 v142 v146 v150 v154 v158 v162 v166 v524 k0_hw4 => k0_hw4.2.2.1
theorem k0_idx68_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v138] : Fin 2 → IVec S16 32) a x).toNat < S14x224.size a := fun v134 v138 v142 v146 v150 v154 v158 v162 v166 v524 k0_hw4 => k0_hw4.2.2.2.1
theorem k0_idx69_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v138] : Fin 2 → IVec S16 32) a x).toNat < S14x224.size a := fun v134 v138 v142 v146 v150 v154 v158 v162 v166 v524 k0_hw4 => k0_hw4.2.2.2.2.1
theorem k0_idx70_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v138] : Fin 2 → IVec S16 32) a x).toNat < S14x224.size a := fun v134 v138 v142 v146 v150 v154 v158 v162 v166 v524 k0_hw4 => k0_hw4.2.2.2.2.2.1
theorem k0_idx71_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v142] : Fin 2 → IVec S16 32) a x).toNat < S14x224.size a := fun v134 v138 v142 v146 v150 v154 v158 v162 v166 v524 k0_hw4 => k0_hw4.2.2.2.2.2.2.1
theorem k0_idx72_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v142] : Fin 2 → IVec S16 32) a x).toNat < S14x224.size a := fun v134 v138 v142 v146 v150 v154 v158 v162 v166 v524 k0_hw4 => k0_hw4.2.2.2.2.2.2.2.1
theorem k0_idx73_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v142] : Fin 2 → IVec S16 32) a x).toNat < S14x224.size a := fun v134 v138 v142 v146 v150 v154 v158 v162 v166 v524 k0_hw4 => k0_hw4.2.2.2.2.2.2.2.2.1
theorem k0_idx74_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v146] : Fin 2 → IVec S16 32) a x).toNat < S14x224.size a := fun v134 v138 v142 v146 v150 v154 v158 v162 v166 v524 k0_hw4 => k0_hw4.2.2.2.2.2.2.2.2.2.1
theorem k0_idx75_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v146] : Fin 2 → IVec S16 32) a x).toNat < S14x224.size a := fun v134 v138 v142 v146 v150 v154 v158 v162 v166 v524 k0_hw4 => k0_hw4.2.2.2.2.2.2.2.2.2.2.1
theorem k0_idx76_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v146] : Fin 2 → IVec S16 32) a x).toNat < S14x224.size a := fun v134 v138 v142 v146 v150 v154 v158 v162 v166 v524 k0_hw4 => k0_hw4.2.2.2.2.2.2.2.2.2.2.2.1
theorem k0_idx77_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v150] : Fin 2 → IVec S16 32) a x).toNat < S14x224.size a := fun v134 v138 v142 v146 v150 v154 v158 v162 v166 v524 k0_hw4 => k0_hw4.2.2.2.2.2.2.2.2.2.2.2.2.1
theorem k0_idx78_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v150] : Fin 2 → IVec S16 32) a x).toNat < S14x224.size a := fun v134 v138 v142 v146 v150 v154 v158 v162 v166 v524 k0_hw4 => k0_hw4.2.2.2.2.2.2.2.2.2.2.2.2.2.1
theorem k0_idx79_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v150] : Fin 2 → IVec S16 32) a x).toNat < S14x224.size a := fun v134 v138 v142 v146 v150 v154 v158 v162 v166 v524 k0_hw4 => k0_hw4.2.2.2.2.2.2.2.2.2.2.2.2.2.2.1
theorem k0_idx80_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v154] : Fin 2 → IVec S16 32) a x).toNat < S14x224.size a := fun v134 v138 v142 v146 v150 v154 v158 v162 v166 v524 k0_hw4 => k0_hw4.2.2.2.2.2.2.2.2.2.2.2.2.2.2.2.1
theorem k0_idx81_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v154] : Fin 2 → IVec S16 32) a x).toNat < S14x224.size a := fun v134 v138 v142 v146 v150 v154 v158 v162 v166 v524 k0_hw4 => k0_hw4.2.2.2.2.2.2.2.2.2.2.2.2.2.2.2.2.1
theorem k0_idx82_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v154] : Fin 2 → IVec S16 32) a x).toNat < S14x224.size a := fun v134 v138 v142 v146 v150 v154 v158 v162 v166 v524 k0_hw4 => k0_hw4.2.2.2.2.2.2.2.2.2.2.2.2.2.2.2.2.2.1
theorem k0_idx83_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v158] : Fin 2 → IVec S16 32) a x).toNat < S14x224.size a := fun v134 v138 v142 v146 v150 v154 v158 v162 v166 v524 k0_hw4 => k0_hw4.2.2.2.2.2.2.2.2.2.2.2.2.2.2.2.2.2.2.1
theorem k0_idx84_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v158] : Fin 2 → IVec S16 32) a x).toNat < S14x224.size a := fun v134 v138 v142 v146 v150 v154 v158 v162 v166 v524 k0_hw4 => k0_hw4.2.2.2.2.2.2.2.2.2.2.2.2.2.2.2.2.2.2.2.1
theorem k0_idx85_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v158] : Fin 2 → IVec S16 32) a x).toNat < S14x224.size a := fun v134 v138 v142 v146 v150 v154 v158 v162 v166 v524 k0_hw4 => k0_hw4.2.2.2.2.2.2.2.2.2.2.2.2.2.2.2.2.2.2.2.2.1
theorem k0_idx86_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v162] : Fin 2 → IVec S16 32) a x).toNat < S14x224.size a := fun v134 v138 v142 v146 v150 v154 v158 v162 v166 v524 k0_hw4 => k0_hw4.2.2.2.2.2.2.2.2.2.2.2.2.2.2.2.2.2.2.2.2.2.1
theorem k0_idx87_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v162] : Fin 2 → IVec S16 32) a x).toNat < S14x224.size a := fun v134 v138 v142 v146 v150 v154 v158 v162 v166 v524 k0_hw4 => k0_hw4.2.2.2.2.2.2.2.2.2.2.2.2.2.2.2.2.2.2.2.2.2.2.1
theorem k0_idx88_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v162] : Fin 2 → IVec S16 32) a x).toNat < S14x224.size a := fun v134 v138 v142 v146 v150 v154 v158 v162 v166 v524 k0_hw4 => k0_hw4.2.2.2.2.2.2.2.2.2.2.2.2.2.2.2.2.2.2.2.2.2.2.2.1
theorem k0_idx89_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v166] : Fin 2 → IVec S16 32) a x).toNat < S14x224.size a := fun v134 v138 v142 v146 v150 v154 v158 v162 v166 v524 k0_hw4 => k0_hw4.2.2.2.2.2.2.2.2.2.2.2.2.2.2.2.2.2.2.2.2.2.2.2.2.1
theorem k0_idx90_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v166] : Fin 2 → IVec S16 32) a x).toNat < S14x224.size a := fun v134 v138 v142 v146 v150 v154 v158 v162 v166 v524 k0_hw4 => k0_hw4.2.2.2.2.2.2.2.2.2.2.2.2.2.2.2.2.2.2.2.2.2.2.2.2.2.1
theorem k0_idx91_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v524 : IVec S16 32) (k0_hw4 : k0_chk4 v134 v138 v142 v146 v150 v154 v158 v162 v166 v524), ∀ a x, ((![v524, v166] : Fin 2 → IVec S16 32) a x).toNat < S14x224.size a := fun v134 v138 v142 v146 v150 v154 v158 v162 v166 v524 k0_hw4 => k0_hw4.2.2.2.2.2.2.2.2.2.2.2.2.2.2.2.2.2.2.2.2.2.2.2.2.2.2

def k0_chk5 (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) : Prop :=
  (∀ a x, ((![v684, v134] : Fin 2 → IVec S16 32) a x).toNat < S14x224.size a) ∧
  (∀ a x, ((![v684, v134] : Fin 2 → IVec S16 32) a x).toNat < S14x224.size a) ∧
  (∀ a x, ((![v684, v134] : Fin 2 → IVec S16 32) a x).toNat < S14x224.size a) ∧
  (∀ a x, ((![v684, v138] : Fin 2 → IVec S16 32) a x).toNat < S14x224.size a) ∧
  (∀ a x, ((![v684, v138] : Fin 2 → IVec S16 32) a x).toNat < S14x224.size a) ∧
  (∀ a x, ((![v684, v138] : Fin 2 → IVec S16 32) a x).toNat < S14x224.size a) ∧
  (∀ a x, ((![v684, v142] : Fin 2 → IVec S16 32) a x).toNat < S14x224.size a) ∧
  (∀ a x, ((![v684, v142] : Fin 2 → IVec S16 32) a x).toNat < S14x224.size a) ∧
  (∀ a x, ((![v684, v142] : Fin 2 → IVec S16 32) a x).toNat < S14x224.size a) ∧
  (∀ a x, ((![v684, v146] : Fin 2 → IVec S16 32) a x).toNat < S14x224.size a) ∧
  (∀ a x, ((![v684, v146] : Fin 2 → IVec S16 32) a x).toNat < S14x224.size a) ∧
  (∀ a x, ((![v684, v146] : Fin 2 → IVec S16 32) a x).toNat < S14x224.size a) ∧
  (∀ a x, ((![v684, v150] : Fin 2 → IVec S16 32) a x).toNat < S14x224.size a) ∧
  (∀ a x, ((![v684, v150] : Fin 2 → IVec S16 32) a x).toNat < S14x224.size a) ∧
  (∀ a x, ((![v684, v150] : Fin 2 → IVec S16 32) a x).toNat < S14x224.size a) ∧
  (∀ a x, ((![v684, v154] : Fin 2 → IVec S16 32) a x).toNat < S14x224.size a) ∧
  (∀ a x, ((![v684, v154] : Fin 2 → IVec S16 32) a x).toNat < S14x224.size a) ∧
  (∀ a x, ((![v684, v154] : Fin 2 → IVec S16 32) a x).toNat < S14x224.size a) ∧
  (∀ a x, ((![v684, v158] : Fin 2 → IVec S16 32) a x).toNat < S14x224.size a) ∧
  (∀ a x, ((![v684, v158] : Fin 2 → IVec S16 32) a x).toNat < S14x224.size a) ∧
  (∀ a x, ((![v684, v158] : Fin 2 → IVec S16 32) a x).toNat < S14x224.size a) ∧
  (∀ a x, ((![v684, v162] : Fin 2 → IVec S16 32) a x).toNat < S14x224.size a) ∧
  (∀ a x, ((![v684, v162] : Fin 2 → IVec S16 32) a x).toNat < S14x224.size a) ∧
  (∀ a x, ((![v684, v162] : Fin 2 → IVec S16 32) a x).toNat < S14x224.size a) ∧
  (∀ a x, ((![v684, v166] : Fin 2 → IVec S16 32) a x).toNat < S14x224.size a) ∧
  (∀ a x, ((![v684, v166] : Fin 2 → IVec S16 32) a x).toNat < S14x224.size a) ∧
  (∀ a x, ((![v684, v166] : Fin 2 → IVec S16 32) a x).toNat < S14x224.size a)
theorem k0_idx92_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v134] : Fin 2 → IVec S16 32) a x).toNat < S14x224.size a := fun v134 v138 v142 v146 v150 v154 v158 v162 v166 v684 k0_hw5 => k0_hw5.1
theorem k0_idx93_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v134] : Fin 2 → IVec S16 32) a x).toNat < S14x224.size a := fun v134 v138 v142 v146 v150 v154 v158 v162 v166 v684 k0_hw5 => k0_hw5.2.1
theorem k0_idx94_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v134] : Fin 2 → IVec S16 32) a x).toNat < S14x224.size a := fun v134 v138 v142 v146 v150 v154 v158 v162 v166 v684 k0_hw5 => k0_hw5.2.2.1
theorem k0_idx95_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v138] : Fin 2 → IVec S16 32) a x).toNat < S14x224.size a := fun v134 v138 v142 v146 v150 v154 v158 v162 v166 v684 k0_hw5 => k0_hw5.2.2.2.1
theorem k0_idx96_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v138] : Fin 2 → IVec S16 32) a x).toNat < S14x224.size a := fun v134 v138 v142 v146 v150 v154 v158 v162 v166 v684 k0_hw5 => k0_hw5.2.2.2.2.1
theorem k0_idx97_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v138] : Fin 2 → IVec S16 32) a x).toNat < S14x224.size a := fun v134 v138 v142 v146 v150 v154 v158 v162 v166 v684 k0_hw5 => k0_hw5.2.2.2.2.2.1
theorem k0_idx98_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v142] : Fin 2 → IVec S16 32) a x).toNat < S14x224.size a := fun v134 v138 v142 v146 v150 v154 v158 v162 v166 v684 k0_hw5 => k0_hw5.2.2.2.2.2.2.1
theorem k0_idx99_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v142] : Fin 2 → IVec S16 32) a x).toNat < S14x224.size a := fun v134 v138 v142 v146 v150 v154 v158 v162 v166 v684 k0_hw5 => k0_hw5.2.2.2.2.2.2.2.1
theorem k0_idx100_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v142] : Fin 2 → IVec S16 32) a x).toNat < S14x224.size a := fun v134 v138 v142 v146 v150 v154 v158 v162 v166 v684 k0_hw5 => k0_hw5.2.2.2.2.2.2.2.2.1
theorem k0_idx101_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v146] : Fin 2 → IVec S16 32) a x).toNat < S14x224.size a := fun v134 v138 v142 v146 v150 v154 v158 v162 v166 v684 k0_hw5 => k0_hw5.2.2.2.2.2.2.2.2.2.1
theorem k0_idx102_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v146] : Fin 2 → IVec S16 32) a x).toNat < S14x224.size a := fun v134 v138 v142 v146 v150 v154 v158 v162 v166 v684 k0_hw5 => k0_hw5.2.2.2.2.2.2.2.2.2.2.1
theorem k0_idx103_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v146] : Fin 2 → IVec S16 32) a x).toNat < S14x224.size a := fun v134 v138 v142 v146 v150 v154 v158 v162 v166 v684 k0_hw5 => k0_hw5.2.2.2.2.2.2.2.2.2.2.2.1
theorem k0_idx104_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v150] : Fin 2 → IVec S16 32) a x).toNat < S14x224.size a := fun v134 v138 v142 v146 v150 v154 v158 v162 v166 v684 k0_hw5 => k0_hw5.2.2.2.2.2.2.2.2.2.2.2.2.1
theorem k0_idx105_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v150] : Fin 2 → IVec S16 32) a x).toNat < S14x224.size a := fun v134 v138 v142 v146 v150 v154 v158 v162 v166 v684 k0_hw5 => k0_hw5.2.2.2.2.2.2.2.2.2.2.2.2.2.1
theorem k0_idx106_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v150] : Fin 2 → IVec S16 32) a x).toNat < S14x224.size a := fun v134 v138 v142 v146 v150 v154 v158 v162 v166 v684 k0_hw5 => k0_hw5.2.2.2.2.2.2.2.2.2.2.2.2.2.2.1
theorem k0_idx107_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v154] : Fin 2 → IVec S16 32) a x).toNat < S14x224.size a := fun v134 v138 v142 v146 v150 v154 v158 v162 v166 v684 k0_hw5 => k0_hw5.2.2.2.2.2.2.2.2.2.2.2.2.2.2.2.1
theorem k0_idx108_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v154] : Fin 2 → IVec S16 32) a x).toNat < S14x224.size a := fun v134 v138 v142 v146 v150 v154 v158 v162 v166 v684 k0_hw5 => k0_hw5.2.2.2.2.2.2.2.2.2.2.2.2.2.2.2.2.1
theorem k0_idx109_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v154] : Fin 2 → IVec S16 32) a x).toNat < S14x224.size a := fun v134 v138 v142 v146 v150 v154 v158 v162 v166 v684 k0_hw5 => k0_hw5.2.2.2.2.2.2.2.2.2.2.2.2.2.2.2.2.2.1
theorem k0_idx110_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v158] : Fin 2 → IVec S16 32) a x).toNat < S14x224.size a := fun v134 v138 v142 v146 v150 v154 v158 v162 v166 v684 k0_hw5 => k0_hw5.2.2.2.2.2.2.2.2.2.2.2.2.2.2.2.2.2.2.1
theorem k0_idx111_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v158] : Fin 2 → IVec S16 32) a x).toNat < S14x224.size a := fun v134 v138 v142 v146 v150 v154 v158 v162 v166 v684 k0_hw5 => k0_hw5.2.2.2.2.2.2.2.2.2.2.2.2.2.2.2.2.2.2.2.1
theorem k0_idx112_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v158] : Fin 2 → IVec S16 32) a x).toNat < S14x224.size a := fun v134 v138 v142 v146 v150 v154 v158 v162 v166 v684 k0_hw5 => k0_hw5.2.2.2.2.2.2.2.2.2.2.2.2.2.2.2.2.2.2.2.2.1
theorem k0_idx113_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v162] : Fin 2 → IVec S16 32) a x).toNat < S14x224.size a := fun v134 v138 v142 v146 v150 v154 v158 v162 v166 v684 k0_hw5 => k0_hw5.2.2.2.2.2.2.2.2.2.2.2.2.2.2.2.2.2.2.2.2.2.1
theorem k0_idx114_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v162] : Fin 2 → IVec S16 32) a x).toNat < S14x224.size a := fun v134 v138 v142 v146 v150 v154 v158 v162 v166 v684 k0_hw5 => k0_hw5.2.2.2.2.2.2.2.2.2.2.2.2.2.2.2.2.2.2.2.2.2.2.1
theorem k0_idx115_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v162] : Fin 2 → IVec S16 32) a x).toNat < S14x224.size a := fun v134 v138 v142 v146 v150 v154 v158 v162 v166 v684 k0_hw5 => k0_hw5.2.2.2.2.2.2.2.2.2.2.2.2.2.2.2.2.2.2.2.2.2.2.2.1
theorem k0_idx116_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v166] : Fin 2 → IVec S16 32) a x).toNat < S14x224.size a := fun v134 v138 v142 v146 v150 v154 v158 v162 v166 v684 k0_hw5 => k0_hw5.2.2.2.2.2.2.2.2.2.2.2.2.2.2.2.2.2.2.2.2.2.2.2.2.1
theorem k0_idx117_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v166] : Fin 2 → IVec S16 32) a x).toNat < S14x224.size a := fun v134 v138 v142 v146 v150 v154 v158 v162 v166 v684 k0_hw5 => k0_hw5.2.2.2.2.2.2.2.2.2.2.2.2.2.2.2.2.2.2.2.2.2.2.2.2.2.1
theorem k0_idx118_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v684 : IVec S16 32) (k0_hw5 : k0_chk5 v134 v138 v142 v146 v150 v154 v158 v162 v166 v684), ∀ a x, ((![v684, v166] : Fin 2 → IVec S16 32) a x).toNat < S14x224.size a := fun v134 v138 v142 v146 v150 v154 v158 v162 v166 v684 k0_hw5 => k0_hw5.2.2.2.2.2.2.2.2.2.2.2.2.2.2.2.2.2.2.2.2.2.2.2.2.2.2

def k0_chk6 (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) : Prop :=
  (∀ a x, ((![v844, v134] : Fin 2 → IVec S16 32) a x).toNat < S14x224.size a) ∧
  (∀ a x, ((![v844, v134] : Fin 2 → IVec S16 32) a x).toNat < S14x224.size a) ∧
  (∀ a x, ((![v844, v134] : Fin 2 → IVec S16 32) a x).toNat < S14x224.size a) ∧
  (∀ a x, ((![v844, v138] : Fin 2 → IVec S16 32) a x).toNat < S14x224.size a) ∧
  (∀ a x, ((![v844, v138] : Fin 2 → IVec S16 32) a x).toNat < S14x224.size a) ∧
  (∀ a x, ((![v844, v138] : Fin 2 → IVec S16 32) a x).toNat < S14x224.size a) ∧
  (∀ a x, ((![v844, v142] : Fin 2 → IVec S16 32) a x).toNat < S14x224.size a) ∧
  (∀ a x, ((![v844, v142] : Fin 2 → IVec S16 32) a x).toNat < S14x224.size a) ∧
  (∀ a x, ((![v844, v142] : Fin 2 → IVec S16 32) a x).toNat < S14x224.size a) ∧
  (∀ a x, ((![v844, v146] : Fin 2 → IVec S16 32) a x).toNat < S14x224.size a) ∧
  (∀ a x, ((![v844, v146] : Fin 2 → IVec S16 32) a x).toNat < S14x224.size a) ∧
  (∀ a x, ((![v844, v146] : Fin 2 → IVec S16 32) a x).toNat < S14x224.size a) ∧
  (∀ a x, ((![v844, v150] : Fin 2 → IVec S16 32) a x).toNat < S14x224.size a) ∧
  (∀ a x, ((![v844, v150] : Fin 2 → IVec S16 32) a x).toNat < S14x224.size a) ∧
  (∀ a x, ((![v844, v150] : Fin 2 → IVec S16 32) a x).toNat < S14x224.size a) ∧
  (∀ a x, ((![v844, v154] : Fin 2 → IVec S16 32) a x).toNat < S14x224.size a) ∧
  (∀ a x, ((![v844, v154] : Fin 2 → IVec S16 32) a x).toNat < S14x224.size a) ∧
  (∀ a x, ((![v844, v154] : Fin 2 → IVec S16 32) a x).toNat < S14x224.size a) ∧
  (∀ a x, ((![v844, v158] : Fin 2 → IVec S16 32) a x).toNat < S14x224.size a) ∧
  (∀ a x, ((![v844, v158] : Fin 2 → IVec S16 32) a x).toNat < S14x224.size a) ∧
  (∀ a x, ((![v844, v158] : Fin 2 → IVec S16 32) a x).toNat < S14x224.size a) ∧
  (∀ a x, ((![v844, v162] : Fin 2 → IVec S16 32) a x).toNat < S14x224.size a) ∧
  (∀ a x, ((![v844, v162] : Fin 2 → IVec S16 32) a x).toNat < S14x224.size a) ∧
  (∀ a x, ((![v844, v162] : Fin 2 → IVec S16 32) a x).toNat < S14x224.size a) ∧
  (∀ a x, ((![v844, v166] : Fin 2 → IVec S16 32) a x).toNat < S14x224.size a) ∧
  (∀ a x, ((![v844, v166] : Fin 2 → IVec S16 32) a x).toNat < S14x224.size a) ∧
  (∀ a x, ((![v844, v166] : Fin 2 → IVec S16 32) a x).toNat < S14x224.size a)
theorem k0_idx119_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v134] : Fin 2 → IVec S16 32) a x).toNat < S14x224.size a := fun v134 v138 v142 v146 v150 v154 v158 v162 v166 v844 k0_hw6 => k0_hw6.1
theorem k0_idx120_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v134] : Fin 2 → IVec S16 32) a x).toNat < S14x224.size a := fun v134 v138 v142 v146 v150 v154 v158 v162 v166 v844 k0_hw6 => k0_hw6.2.1
theorem k0_idx121_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v134] : Fin 2 → IVec S16 32) a x).toNat < S14x224.size a := fun v134 v138 v142 v146 v150 v154 v158 v162 v166 v844 k0_hw6 => k0_hw6.2.2.1
theorem k0_idx122_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v138] : Fin 2 → IVec S16 32) a x).toNat < S14x224.size a := fun v134 v138 v142 v146 v150 v154 v158 v162 v166 v844 k0_hw6 => k0_hw6.2.2.2.1
theorem k0_idx123_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v138] : Fin 2 → IVec S16 32) a x).toNat < S14x224.size a := fun v134 v138 v142 v146 v150 v154 v158 v162 v166 v844 k0_hw6 => k0_hw6.2.2.2.2.1
theorem k0_idx124_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v138] : Fin 2 → IVec S16 32) a x).toNat < S14x224.size a := fun v134 v138 v142 v146 v150 v154 v158 v162 v166 v844 k0_hw6 => k0_hw6.2.2.2.2.2.1
theorem k0_idx125_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v142] : Fin 2 → IVec S16 32) a x).toNat < S14x224.size a := fun v134 v138 v142 v146 v150 v154 v158 v162 v166 v844 k0_hw6 => k0_hw6.2.2.2.2.2.2.1
theorem k0_idx126_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v142] : Fin 2 → IVec S16 32) a x).toNat < S14x224.size a := fun v134 v138 v142 v146 v150 v154 v158 v162 v166 v844 k0_hw6 => k0_hw6.2.2.2.2.2.2.2.1
theorem k0_idx127_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v142] : Fin 2 → IVec S16 32) a x).toNat < S14x224.size a := fun v134 v138 v142 v146 v150 v154 v158 v162 v166 v844 k0_hw6 => k0_hw6.2.2.2.2.2.2.2.2.1
theorem k0_idx128_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v146] : Fin 2 → IVec S16 32) a x).toNat < S14x224.size a := fun v134 v138 v142 v146 v150 v154 v158 v162 v166 v844 k0_hw6 => k0_hw6.2.2.2.2.2.2.2.2.2.1
theorem k0_idx129_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v146] : Fin 2 → IVec S16 32) a x).toNat < S14x224.size a := fun v134 v138 v142 v146 v150 v154 v158 v162 v166 v844 k0_hw6 => k0_hw6.2.2.2.2.2.2.2.2.2.2.1
theorem k0_idx130_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v146] : Fin 2 → IVec S16 32) a x).toNat < S14x224.size a := fun v134 v138 v142 v146 v150 v154 v158 v162 v166 v844 k0_hw6 => k0_hw6.2.2.2.2.2.2.2.2.2.2.2.1
theorem k0_idx131_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v150] : Fin 2 → IVec S16 32) a x).toNat < S14x224.size a := fun v134 v138 v142 v146 v150 v154 v158 v162 v166 v844 k0_hw6 => k0_hw6.2.2.2.2.2.2.2.2.2.2.2.2.1
theorem k0_idx132_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v150] : Fin 2 → IVec S16 32) a x).toNat < S14x224.size a := fun v134 v138 v142 v146 v150 v154 v158 v162 v166 v844 k0_hw6 => k0_hw6.2.2.2.2.2.2.2.2.2.2.2.2.2.1
theorem k0_idx133_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v150] : Fin 2 → IVec S16 32) a x).toNat < S14x224.size a := fun v134 v138 v142 v146 v150 v154 v158 v162 v166 v844 k0_hw6 => k0_hw6.2.2.2.2.2.2.2.2.2.2.2.2.2.2.1
theorem k0_idx134_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v154] : Fin 2 → IVec S16 32) a x).toNat < S14x224.size a := fun v134 v138 v142 v146 v150 v154 v158 v162 v166 v844 k0_hw6 => k0_hw6.2.2.2.2.2.2.2.2.2.2.2.2.2.2.2.1
theorem k0_idx135_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v154] : Fin 2 → IVec S16 32) a x).toNat < S14x224.size a := fun v134 v138 v142 v146 v150 v154 v158 v162 v166 v844 k0_hw6 => k0_hw6.2.2.2.2.2.2.2.2.2.2.2.2.2.2.2.2.1
theorem k0_idx136_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v154] : Fin 2 → IVec S16 32) a x).toNat < S14x224.size a := fun v134 v138 v142 v146 v150 v154 v158 v162 v166 v844 k0_hw6 => k0_hw6.2.2.2.2.2.2.2.2.2.2.2.2.2.2.2.2.2.1
theorem k0_idx137_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v158] : Fin 2 → IVec S16 32) a x).toNat < S14x224.size a := fun v134 v138 v142 v146 v150 v154 v158 v162 v166 v844 k0_hw6 => k0_hw6.2.2.2.2.2.2.2.2.2.2.2.2.2.2.2.2.2.2.1
theorem k0_idx138_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v158] : Fin 2 → IVec S16 32) a x).toNat < S14x224.size a := fun v134 v138 v142 v146 v150 v154 v158 v162 v166 v844 k0_hw6 => k0_hw6.2.2.2.2.2.2.2.2.2.2.2.2.2.2.2.2.2.2.2.1
theorem k0_idx139_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v158] : Fin 2 → IVec S16 32) a x).toNat < S14x224.size a := fun v134 v138 v142 v146 v150 v154 v158 v162 v166 v844 k0_hw6 => k0_hw6.2.2.2.2.2.2.2.2.2.2.2.2.2.2.2.2.2.2.2.2.1
theorem k0_idx140_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v162] : Fin 2 → IVec S16 32) a x).toNat < S14x224.size a := fun v134 v138 v142 v146 v150 v154 v158 v162 v166 v844 k0_hw6 => k0_hw6.2.2.2.2.2.2.2.2.2.2.2.2.2.2.2.2.2.2.2.2.2.1
theorem k0_idx141_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v162] : Fin 2 → IVec S16 32) a x).toNat < S14x224.size a := fun v134 v138 v142 v146 v150 v154 v158 v162 v166 v844 k0_hw6 => k0_hw6.2.2.2.2.2.2.2.2.2.2.2.2.2.2.2.2.2.2.2.2.2.2.1
theorem k0_idx142_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v162] : Fin 2 → IVec S16 32) a x).toNat < S14x224.size a := fun v134 v138 v142 v146 v150 v154 v158 v162 v166 v844 k0_hw6 => k0_hw6.2.2.2.2.2.2.2.2.2.2.2.2.2.2.2.2.2.2.2.2.2.2.2.1
theorem k0_idx143_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v166] : Fin 2 → IVec S16 32) a x).toNat < S14x224.size a := fun v134 v138 v142 v146 v150 v154 v158 v162 v166 v844 k0_hw6 => k0_hw6.2.2.2.2.2.2.2.2.2.2.2.2.2.2.2.2.2.2.2.2.2.2.2.2.1
theorem k0_idx144_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v166] : Fin 2 → IVec S16 32) a x).toNat < S14x224.size a := fun v134 v138 v142 v146 v150 v154 v158 v162 v166 v844 k0_hw6 => k0_hw6.2.2.2.2.2.2.2.2.2.2.2.2.2.2.2.2.2.2.2.2.2.2.2.2.2.1
theorem k0_idx145_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v844 : IVec S16 32) (k0_hw6 : k0_chk6 v134 v138 v142 v146 v150 v154 v158 v162 v166 v844), ∀ a x, ((![v844, v166] : Fin 2 → IVec S16 32) a x).toNat < S14x224.size a := fun v134 v138 v142 v146 v150 v154 v158 v162 v166 v844 k0_hw6 => k0_hw6.2.2.2.2.2.2.2.2.2.2.2.2.2.2.2.2.2.2.2.2.2.2.2.2.2.2

def k0_chk7 (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) : Prop :=
  (∀ a x, ((![v1004, v134] : Fin 2 → IVec S16 32) a x).toNat < S14x224.size a) ∧
  (∀ a x, ((![v1004, v134] : Fin 2 → IVec S16 32) a x).toNat < S14x224.size a) ∧
  (∀ a x, ((![v1004, v134] : Fin 2 → IVec S16 32) a x).toNat < S14x224.size a) ∧
  (∀ a x, ((![v1004, v138] : Fin 2 → IVec S16 32) a x).toNat < S14x224.size a) ∧
  (∀ a x, ((![v1004, v138] : Fin 2 → IVec S16 32) a x).toNat < S14x224.size a) ∧
  (∀ a x, ((![v1004, v138] : Fin 2 → IVec S16 32) a x).toNat < S14x224.size a) ∧
  (∀ a x, ((![v1004, v142] : Fin 2 → IVec S16 32) a x).toNat < S14x224.size a) ∧
  (∀ a x, ((![v1004, v142] : Fin 2 → IVec S16 32) a x).toNat < S14x224.size a) ∧
  (∀ a x, ((![v1004, v142] : Fin 2 → IVec S16 32) a x).toNat < S14x224.size a) ∧
  (∀ a x, ((![v1004, v146] : Fin 2 → IVec S16 32) a x).toNat < S14x224.size a) ∧
  (∀ a x, ((![v1004, v146] : Fin 2 → IVec S16 32) a x).toNat < S14x224.size a) ∧
  (∀ a x, ((![v1004, v146] : Fin 2 → IVec S16 32) a x).toNat < S14x224.size a) ∧
  (∀ a x, ((![v1004, v150] : Fin 2 → IVec S16 32) a x).toNat < S14x224.size a) ∧
  (∀ a x, ((![v1004, v150] : Fin 2 → IVec S16 32) a x).toNat < S14x224.size a) ∧
  (∀ a x, ((![v1004, v150] : Fin 2 → IVec S16 32) a x).toNat < S14x224.size a) ∧
  (∀ a x, ((![v1004, v154] : Fin 2 → IVec S16 32) a x).toNat < S14x224.size a) ∧
  (∀ a x, ((![v1004, v154] : Fin 2 → IVec S16 32) a x).toNat < S14x224.size a) ∧
  (∀ a x, ((![v1004, v154] : Fin 2 → IVec S16 32) a x).toNat < S14x224.size a) ∧
  (∀ a x, ((![v1004, v158] : Fin 2 → IVec S16 32) a x).toNat < S14x224.size a) ∧
  (∀ a x, ((![v1004, v158] : Fin 2 → IVec S16 32) a x).toNat < S14x224.size a) ∧
  (∀ a x, ((![v1004, v158] : Fin 2 → IVec S16 32) a x).toNat < S14x224.size a) ∧
  (∀ a x, ((![v1004, v162] : Fin 2 → IVec S16 32) a x).toNat < S14x224.size a) ∧
  (∀ a x, ((![v1004, v162] : Fin 2 → IVec S16 32) a x).toNat < S14x224.size a) ∧
  (∀ a x, ((![v1004, v162] : Fin 2 → IVec S16 32) a x).toNat < S14x224.size a) ∧
  (∀ a x, ((![v1004, v166] : Fin 2 → IVec S16 32) a x).toNat < S14x224.size a) ∧
  (∀ a x, ((![v1004, v166] : Fin 2 → IVec S16 32) a x).toNat < S14x224.size a) ∧
  (∀ a x, ((![v1004, v166] : Fin 2 → IVec S16 32) a x).toNat < S14x224.size a)
theorem k0_idx146_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v134] : Fin 2 → IVec S16 32) a x).toNat < S14x224.size a := fun v134 v138 v142 v146 v150 v154 v158 v162 v166 v1004 k0_hw7 => k0_hw7.1
theorem k0_idx147_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v134] : Fin 2 → IVec S16 32) a x).toNat < S14x224.size a := fun v134 v138 v142 v146 v150 v154 v158 v162 v166 v1004 k0_hw7 => k0_hw7.2.1
theorem k0_idx148_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v134] : Fin 2 → IVec S16 32) a x).toNat < S14x224.size a := fun v134 v138 v142 v146 v150 v154 v158 v162 v166 v1004 k0_hw7 => k0_hw7.2.2.1
theorem k0_idx149_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v138] : Fin 2 → IVec S16 32) a x).toNat < S14x224.size a := fun v134 v138 v142 v146 v150 v154 v158 v162 v166 v1004 k0_hw7 => k0_hw7.2.2.2.1
theorem k0_idx150_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v138] : Fin 2 → IVec S16 32) a x).toNat < S14x224.size a := fun v134 v138 v142 v146 v150 v154 v158 v162 v166 v1004 k0_hw7 => k0_hw7.2.2.2.2.1
theorem k0_idx151_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v138] : Fin 2 → IVec S16 32) a x).toNat < S14x224.size a := fun v134 v138 v142 v146 v150 v154 v158 v162 v166 v1004 k0_hw7 => k0_hw7.2.2.2.2.2.1
theorem k0_idx152_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v142] : Fin 2 → IVec S16 32) a x).toNat < S14x224.size a := fun v134 v138 v142 v146 v150 v154 v158 v162 v166 v1004 k0_hw7 => k0_hw7.2.2.2.2.2.2.1
theorem k0_idx153_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v142] : Fin 2 → IVec S16 32) a x).toNat < S14x224.size a := fun v134 v138 v142 v146 v150 v154 v158 v162 v166 v1004 k0_hw7 => k0_hw7.2.2.2.2.2.2.2.1
theorem k0_idx154_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v142] : Fin 2 → IVec S16 32) a x).toNat < S14x224.size a := fun v134 v138 v142 v146 v150 v154 v158 v162 v166 v1004 k0_hw7 => k0_hw7.2.2.2.2.2.2.2.2.1
theorem k0_idx155_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v146] : Fin 2 → IVec S16 32) a x).toNat < S14x224.size a := fun v134 v138 v142 v146 v150 v154 v158 v162 v166 v1004 k0_hw7 => k0_hw7.2.2.2.2.2.2.2.2.2.1
theorem k0_idx156_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v146] : Fin 2 → IVec S16 32) a x).toNat < S14x224.size a := fun v134 v138 v142 v146 v150 v154 v158 v162 v166 v1004 k0_hw7 => k0_hw7.2.2.2.2.2.2.2.2.2.2.1
theorem k0_idx157_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v146] : Fin 2 → IVec S16 32) a x).toNat < S14x224.size a := fun v134 v138 v142 v146 v150 v154 v158 v162 v166 v1004 k0_hw7 => k0_hw7.2.2.2.2.2.2.2.2.2.2.2.1
theorem k0_idx158_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v150] : Fin 2 → IVec S16 32) a x).toNat < S14x224.size a := fun v134 v138 v142 v146 v150 v154 v158 v162 v166 v1004 k0_hw7 => k0_hw7.2.2.2.2.2.2.2.2.2.2.2.2.1
theorem k0_idx159_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v150] : Fin 2 → IVec S16 32) a x).toNat < S14x224.size a := fun v134 v138 v142 v146 v150 v154 v158 v162 v166 v1004 k0_hw7 => k0_hw7.2.2.2.2.2.2.2.2.2.2.2.2.2.1
theorem k0_idx160_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v150] : Fin 2 → IVec S16 32) a x).toNat < S14x224.size a := fun v134 v138 v142 v146 v150 v154 v158 v162 v166 v1004 k0_hw7 => k0_hw7.2.2.2.2.2.2.2.2.2.2.2.2.2.2.1
theorem k0_idx161_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v154] : Fin 2 → IVec S16 32) a x).toNat < S14x224.size a := fun v134 v138 v142 v146 v150 v154 v158 v162 v166 v1004 k0_hw7 => k0_hw7.2.2.2.2.2.2.2.2.2.2.2.2.2.2.2.1
theorem k0_idx162_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v154] : Fin 2 → IVec S16 32) a x).toNat < S14x224.size a := fun v134 v138 v142 v146 v150 v154 v158 v162 v166 v1004 k0_hw7 => k0_hw7.2.2.2.2.2.2.2.2.2.2.2.2.2.2.2.2.1
theorem k0_idx163_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v154] : Fin 2 → IVec S16 32) a x).toNat < S14x224.size a := fun v134 v138 v142 v146 v150 v154 v158 v162 v166 v1004 k0_hw7 => k0_hw7.2.2.2.2.2.2.2.2.2.2.2.2.2.2.2.2.2.1
theorem k0_idx164_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v158] : Fin 2 → IVec S16 32) a x).toNat < S14x224.size a := fun v134 v138 v142 v146 v150 v154 v158 v162 v166 v1004 k0_hw7 => k0_hw7.2.2.2.2.2.2.2.2.2.2.2.2.2.2.2.2.2.2.1
theorem k0_idx165_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v158] : Fin 2 → IVec S16 32) a x).toNat < S14x224.size a := fun v134 v138 v142 v146 v150 v154 v158 v162 v166 v1004 k0_hw7 => k0_hw7.2.2.2.2.2.2.2.2.2.2.2.2.2.2.2.2.2.2.2.1
theorem k0_idx166_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v158] : Fin 2 → IVec S16 32) a x).toNat < S14x224.size a := fun v134 v138 v142 v146 v150 v154 v158 v162 v166 v1004 k0_hw7 => k0_hw7.2.2.2.2.2.2.2.2.2.2.2.2.2.2.2.2.2.2.2.2.1
theorem k0_idx167_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v162] : Fin 2 → IVec S16 32) a x).toNat < S14x224.size a := fun v134 v138 v142 v146 v150 v154 v158 v162 v166 v1004 k0_hw7 => k0_hw7.2.2.2.2.2.2.2.2.2.2.2.2.2.2.2.2.2.2.2.2.2.1
theorem k0_idx168_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v162] : Fin 2 → IVec S16 32) a x).toNat < S14x224.size a := fun v134 v138 v142 v146 v150 v154 v158 v162 v166 v1004 k0_hw7 => k0_hw7.2.2.2.2.2.2.2.2.2.2.2.2.2.2.2.2.2.2.2.2.2.2.1
theorem k0_idx169_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v162] : Fin 2 → IVec S16 32) a x).toNat < S14x224.size a := fun v134 v138 v142 v146 v150 v154 v158 v162 v166 v1004 k0_hw7 => k0_hw7.2.2.2.2.2.2.2.2.2.2.2.2.2.2.2.2.2.2.2.2.2.2.2.1
theorem k0_idx170_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v166] : Fin 2 → IVec S16 32) a x).toNat < S14x224.size a := fun v134 v138 v142 v146 v150 v154 v158 v162 v166 v1004 k0_hw7 => k0_hw7.2.2.2.2.2.2.2.2.2.2.2.2.2.2.2.2.2.2.2.2.2.2.2.2.1
theorem k0_idx171_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v166] : Fin 2 → IVec S16 32) a x).toNat < S14x224.size a := fun v134 v138 v142 v146 v150 v154 v158 v162 v166 v1004 k0_hw7 => k0_hw7.2.2.2.2.2.2.2.2.2.2.2.2.2.2.2.2.2.2.2.2.2.2.2.2.2.1
theorem k0_idx172_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1004 : IVec S16 32) (k0_hw7 : k0_chk7 v134 v138 v142 v146 v150 v154 v158 v162 v166 v1004), ∀ a x, ((![v1004, v166] : Fin 2 → IVec S16 32) a x).toNat < S14x224.size a := fun v134 v138 v142 v146 v150 v154 v158 v162 v166 v1004 k0_hw7 => k0_hw7.2.2.2.2.2.2.2.2.2.2.2.2.2.2.2.2.2.2.2.2.2.2.2.2.2.2

def k0_chk8 (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) : Prop :=
  (∀ a x, ((![v1164, v134] : Fin 2 → IVec S16 32) a x).toNat < S14x224.size a) ∧
  (∀ a x, ((![v1164, v134] : Fin 2 → IVec S16 32) a x).toNat < S14x224.size a) ∧
  (∀ a x, ((![v1164, v134] : Fin 2 → IVec S16 32) a x).toNat < S14x224.size a) ∧
  (∀ a x, ((![v1164, v138] : Fin 2 → IVec S16 32) a x).toNat < S14x224.size a) ∧
  (∀ a x, ((![v1164, v138] : Fin 2 → IVec S16 32) a x).toNat < S14x224.size a) ∧
  (∀ a x, ((![v1164, v138] : Fin 2 → IVec S16 32) a x).toNat < S14x224.size a) ∧
  (∀ a x, ((![v1164, v142] : Fin 2 → IVec S16 32) a x).toNat < S14x224.size a) ∧
  (∀ a x, ((![v1164, v142] : Fin 2 → IVec S16 32) a x).toNat < S14x224.size a) ∧
  (∀ a x, ((![v1164, v142] : Fin 2 → IVec S16 32) a x).toNat < S14x224.size a) ∧
  (∀ a x, ((![v1164, v146] : Fin 2 → IVec S16 32) a x).toNat < S14x224.size a) ∧
  (∀ a x, ((![v1164, v146] : Fin 2 → IVec S16 32) a x).toNat < S14x224.size a) ∧
  (∀ a x, ((![v1164, v146] : Fin 2 → IVec S16 32) a x).toNat < S14x224.size a) ∧
  (∀ a x, ((![v1164, v150] : Fin 2 → IVec S16 32) a x).toNat < S14x224.size a) ∧
  (∀ a x, ((![v1164, v150] : Fin 2 → IVec S16 32) a x).toNat < S14x224.size a) ∧
  (∀ a x, ((![v1164, v150] : Fin 2 → IVec S16 32) a x).toNat < S14x224.size a) ∧
  (∀ a x, ((![v1164, v154] : Fin 2 → IVec S16 32) a x).toNat < S14x224.size a) ∧
  (∀ a x, ((![v1164, v154] : Fin 2 → IVec S16 32) a x).toNat < S14x224.size a) ∧
  (∀ a x, ((![v1164, v154] : Fin 2 → IVec S16 32) a x).toNat < S14x224.size a) ∧
  (∀ a x, ((![v1164, v158] : Fin 2 → IVec S16 32) a x).toNat < S14x224.size a) ∧
  (∀ a x, ((![v1164, v158] : Fin 2 → IVec S16 32) a x).toNat < S14x224.size a) ∧
  (∀ a x, ((![v1164, v158] : Fin 2 → IVec S16 32) a x).toNat < S14x224.size a) ∧
  (∀ a x, ((![v1164, v162] : Fin 2 → IVec S16 32) a x).toNat < S14x224.size a) ∧
  (∀ a x, ((![v1164, v162] : Fin 2 → IVec S16 32) a x).toNat < S14x224.size a) ∧
  (∀ a x, ((![v1164, v162] : Fin 2 → IVec S16 32) a x).toNat < S14x224.size a) ∧
  (∀ a x, ((![v1164, v166] : Fin 2 → IVec S16 32) a x).toNat < S14x224.size a) ∧
  (∀ a x, ((![v1164, v166] : Fin 2 → IVec S16 32) a x).toNat < S14x224.size a) ∧
  (∀ a x, ((![v1164, v166] : Fin 2 → IVec S16 32) a x).toNat < S14x224.size a)
theorem k0_idx173_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v134] : Fin 2 → IVec S16 32) a x).toNat < S14x224.size a := fun v134 v138 v142 v146 v150 v154 v158 v162 v166 v1164 k0_hw8 => k0_hw8.1
theorem k0_idx174_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v134] : Fin 2 → IVec S16 32) a x).toNat < S14x224.size a := fun v134 v138 v142 v146 v150 v154 v158 v162 v166 v1164 k0_hw8 => k0_hw8.2.1
theorem k0_idx175_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v134] : Fin 2 → IVec S16 32) a x).toNat < S14x224.size a := fun v134 v138 v142 v146 v150 v154 v158 v162 v166 v1164 k0_hw8 => k0_hw8.2.2.1
theorem k0_idx176_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v138] : Fin 2 → IVec S16 32) a x).toNat < S14x224.size a := fun v134 v138 v142 v146 v150 v154 v158 v162 v166 v1164 k0_hw8 => k0_hw8.2.2.2.1
theorem k0_idx177_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v138] : Fin 2 → IVec S16 32) a x).toNat < S14x224.size a := fun v134 v138 v142 v146 v150 v154 v158 v162 v166 v1164 k0_hw8 => k0_hw8.2.2.2.2.1
theorem k0_idx178_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v138] : Fin 2 → IVec S16 32) a x).toNat < S14x224.size a := fun v134 v138 v142 v146 v150 v154 v158 v162 v166 v1164 k0_hw8 => k0_hw8.2.2.2.2.2.1
theorem k0_idx179_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v142] : Fin 2 → IVec S16 32) a x).toNat < S14x224.size a := fun v134 v138 v142 v146 v150 v154 v158 v162 v166 v1164 k0_hw8 => k0_hw8.2.2.2.2.2.2.1
theorem k0_idx180_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v142] : Fin 2 → IVec S16 32) a x).toNat < S14x224.size a := fun v134 v138 v142 v146 v150 v154 v158 v162 v166 v1164 k0_hw8 => k0_hw8.2.2.2.2.2.2.2.1
theorem k0_idx181_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v142] : Fin 2 → IVec S16 32) a x).toNat < S14x224.size a := fun v134 v138 v142 v146 v150 v154 v158 v162 v166 v1164 k0_hw8 => k0_hw8.2.2.2.2.2.2.2.2.1
theorem k0_idx182_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v146] : Fin 2 → IVec S16 32) a x).toNat < S14x224.size a := fun v134 v138 v142 v146 v150 v154 v158 v162 v166 v1164 k0_hw8 => k0_hw8.2.2.2.2.2.2.2.2.2.1
theorem k0_idx183_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v146] : Fin 2 → IVec S16 32) a x).toNat < S14x224.size a := fun v134 v138 v142 v146 v150 v154 v158 v162 v166 v1164 k0_hw8 => k0_hw8.2.2.2.2.2.2.2.2.2.2.1
theorem k0_idx184_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v146] : Fin 2 → IVec S16 32) a x).toNat < S14x224.size a := fun v134 v138 v142 v146 v150 v154 v158 v162 v166 v1164 k0_hw8 => k0_hw8.2.2.2.2.2.2.2.2.2.2.2.1
theorem k0_idx185_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v150] : Fin 2 → IVec S16 32) a x).toNat < S14x224.size a := fun v134 v138 v142 v146 v150 v154 v158 v162 v166 v1164 k0_hw8 => k0_hw8.2.2.2.2.2.2.2.2.2.2.2.2.1
theorem k0_idx186_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v150] : Fin 2 → IVec S16 32) a x).toNat < S14x224.size a := fun v134 v138 v142 v146 v150 v154 v158 v162 v166 v1164 k0_hw8 => k0_hw8.2.2.2.2.2.2.2.2.2.2.2.2.2.1
theorem k0_idx187_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v150] : Fin 2 → IVec S16 32) a x).toNat < S14x224.size a := fun v134 v138 v142 v146 v150 v154 v158 v162 v166 v1164 k0_hw8 => k0_hw8.2.2.2.2.2.2.2.2.2.2.2.2.2.2.1
theorem k0_idx188_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v154] : Fin 2 → IVec S16 32) a x).toNat < S14x224.size a := fun v134 v138 v142 v146 v150 v154 v158 v162 v166 v1164 k0_hw8 => k0_hw8.2.2.2.2.2.2.2.2.2.2.2.2.2.2.2.1
theorem k0_idx189_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v154] : Fin 2 → IVec S16 32) a x).toNat < S14x224.size a := fun v134 v138 v142 v146 v150 v154 v158 v162 v166 v1164 k0_hw8 => k0_hw8.2.2.2.2.2.2.2.2.2.2.2.2.2.2.2.2.1
theorem k0_idx190_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v154] : Fin 2 → IVec S16 32) a x).toNat < S14x224.size a := fun v134 v138 v142 v146 v150 v154 v158 v162 v166 v1164 k0_hw8 => k0_hw8.2.2.2.2.2.2.2.2.2.2.2.2.2.2.2.2.2.1
theorem k0_idx191_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v158] : Fin 2 → IVec S16 32) a x).toNat < S14x224.size a := fun v134 v138 v142 v146 v150 v154 v158 v162 v166 v1164 k0_hw8 => k0_hw8.2.2.2.2.2.2.2.2.2.2.2.2.2.2.2.2.2.2.1
theorem k0_idx192_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v158] : Fin 2 → IVec S16 32) a x).toNat < S14x224.size a := fun v134 v138 v142 v146 v150 v154 v158 v162 v166 v1164 k0_hw8 => k0_hw8.2.2.2.2.2.2.2.2.2.2.2.2.2.2.2.2.2.2.2.1
theorem k0_idx193_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v158] : Fin 2 → IVec S16 32) a x).toNat < S14x224.size a := fun v134 v138 v142 v146 v150 v154 v158 v162 v166 v1164 k0_hw8 => k0_hw8.2.2.2.2.2.2.2.2.2.2.2.2.2.2.2.2.2.2.2.2.1
theorem k0_idx194_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v162] : Fin 2 → IVec S16 32) a x).toNat < S14x224.size a := fun v134 v138 v142 v146 v150 v154 v158 v162 v166 v1164 k0_hw8 => k0_hw8.2.2.2.2.2.2.2.2.2.2.2.2.2.2.2.2.2.2.2.2.2.1
theorem k0_idx195_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v162] : Fin 2 → IVec S16 32) a x).toNat < S14x224.size a := fun v134 v138 v142 v146 v150 v154 v158 v162 v166 v1164 k0_hw8 => k0_hw8.2.2.2.2.2.2.2.2.2.2.2.2.2.2.2.2.2.2.2.2.2.2.1
theorem k0_idx196_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v162] : Fin 2 → IVec S16 32) a x).toNat < S14x224.size a := fun v134 v138 v142 v146 v150 v154 v158 v162 v166 v1164 k0_hw8 => k0_hw8.2.2.2.2.2.2.2.2.2.2.2.2.2.2.2.2.2.2.2.2.2.2.2.1
theorem k0_idx197_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v166] : Fin 2 → IVec S16 32) a x).toNat < S14x224.size a := fun v134 v138 v142 v146 v150 v154 v158 v162 v166 v1164 k0_hw8 => k0_hw8.2.2.2.2.2.2.2.2.2.2.2.2.2.2.2.2.2.2.2.2.2.2.2.2.1
theorem k0_idx198_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v166] : Fin 2 → IVec S16 32) a x).toNat < S14x224.size a := fun v134 v138 v142 v146 v150 v154 v158 v162 v166 v1164 k0_hw8 => k0_hw8.2.2.2.2.2.2.2.2.2.2.2.2.2.2.2.2.2.2.2.2.2.2.2.2.2.1
theorem k0_idx199_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1164 : IVec S16 32) (k0_hw8 : k0_chk8 v134 v138 v142 v146 v150 v154 v158 v162 v166 v1164), ∀ a x, ((![v1164, v166] : Fin 2 → IVec S16 32) a x).toNat < S14x224.size a := fun v134 v138 v142 v146 v150 v154 v158 v162 v166 v1164 k0_hw8 => k0_hw8.2.2.2.2.2.2.2.2.2.2.2.2.2.2.2.2.2.2.2.2.2.2.2.2.2.2

def k0_chk9 (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) : Prop :=
  (∀ a x, ((![v1324, v134] : Fin 2 → IVec S16 32) a x).toNat < S14x224.size a) ∧
  (∀ a x, ((![v1324, v134] : Fin 2 → IVec S16 32) a x).toNat < S14x224.size a) ∧
  (∀ a x, ((![v1324, v134] : Fin 2 → IVec S16 32) a x).toNat < S14x224.size a) ∧
  (∀ a x, ((![v1324, v138] : Fin 2 → IVec S16 32) a x).toNat < S14x224.size a) ∧
  (∀ a x, ((![v1324, v138] : Fin 2 → IVec S16 32) a x).toNat < S14x224.size a) ∧
  (∀ a x, ((![v1324, v138] : Fin 2 → IVec S16 32) a x).toNat < S14x224.size a) ∧
  (∀ a x, ((![v1324, v142] : Fin 2 → IVec S16 32) a x).toNat < S14x224.size a) ∧
  (∀ a x, ((![v1324, v142] : Fin 2 → IVec S16 32) a x).toNat < S14x224.size a) ∧
  (∀ a x, ((![v1324, v142] : Fin 2 → IVec S16 32) a x).toNat < S14x224.size a) ∧
  (∀ a x, ((![v1324, v146] : Fin 2 → IVec S16 32) a x).toNat < S14x224.size a) ∧
  (∀ a x, ((![v1324, v146] : Fin 2 → IVec S16 32) a x).toNat < S14x224.size a) ∧
  (∀ a x, ((![v1324, v146] : Fin 2 → IVec S16 32) a x).toNat < S14x224.size a) ∧
  (∀ a x, ((![v1324, v150] : Fin 2 → IVec S16 32) a x).toNat < S14x224.size a) ∧
  (∀ a x, ((![v1324, v150] : Fin 2 → IVec S16 32) a x).toNat < S14x224.size a) ∧
  (∀ a x, ((![v1324, v150] : Fin 2 → IVec S16 32) a x).toNat < S14x224.size a) ∧
  (∀ a x, ((![v1324, v154] : Fin 2 → IVec S16 32) a x).toNat < S14x224.size a) ∧
  (∀ a x, ((![v1324, v154] : Fin 2 → IVec S16 32) a x).toNat < S14x224.size a) ∧
  (∀ a x, ((![v1324, v154] : Fin 2 → IVec S16 32) a x).toNat < S14x224.size a) ∧
  (∀ a x, ((![v1324, v158] : Fin 2 → IVec S16 32) a x).toNat < S14x224.size a) ∧
  (∀ a x, ((![v1324, v158] : Fin 2 → IVec S16 32) a x).toNat < S14x224.size a) ∧
  (∀ a x, ((![v1324, v158] : Fin 2 → IVec S16 32) a x).toNat < S14x224.size a) ∧
  (∀ a x, ((![v1324, v162] : Fin 2 → IVec S16 32) a x).toNat < S14x224.size a) ∧
  (∀ a x, ((![v1324, v162] : Fin 2 → IVec S16 32) a x).toNat < S14x224.size a) ∧
  (∀ a x, ((![v1324, v162] : Fin 2 → IVec S16 32) a x).toNat < S14x224.size a) ∧
  (∀ a x, ((![v1324, v166] : Fin 2 → IVec S16 32) a x).toNat < S14x224.size a) ∧
  (∀ a x, ((![v1324, v166] : Fin 2 → IVec S16 32) a x).toNat < S14x224.size a) ∧
  (∀ a x, ((![v1324, v166] : Fin 2 → IVec S16 32) a x).toNat < S14x224.size a)
theorem k0_idx200_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v134] : Fin 2 → IVec S16 32) a x).toNat < S14x224.size a := fun v134 v138 v142 v146 v150 v154 v158 v162 v166 v1324 k0_hw9 => k0_hw9.1
theorem k0_idx201_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v134] : Fin 2 → IVec S16 32) a x).toNat < S14x224.size a := fun v134 v138 v142 v146 v150 v154 v158 v162 v166 v1324 k0_hw9 => k0_hw9.2.1
theorem k0_idx202_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v134] : Fin 2 → IVec S16 32) a x).toNat < S14x224.size a := fun v134 v138 v142 v146 v150 v154 v158 v162 v166 v1324 k0_hw9 => k0_hw9.2.2.1
theorem k0_idx203_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v138] : Fin 2 → IVec S16 32) a x).toNat < S14x224.size a := fun v134 v138 v142 v146 v150 v154 v158 v162 v166 v1324 k0_hw9 => k0_hw9.2.2.2.1
theorem k0_idx204_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v138] : Fin 2 → IVec S16 32) a x).toNat < S14x224.size a := fun v134 v138 v142 v146 v150 v154 v158 v162 v166 v1324 k0_hw9 => k0_hw9.2.2.2.2.1
theorem k0_idx205_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v138] : Fin 2 → IVec S16 32) a x).toNat < S14x224.size a := fun v134 v138 v142 v146 v150 v154 v158 v162 v166 v1324 k0_hw9 => k0_hw9.2.2.2.2.2.1
theorem k0_idx206_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v142] : Fin 2 → IVec S16 32) a x).toNat < S14x224.size a := fun v134 v138 v142 v146 v150 v154 v158 v162 v166 v1324 k0_hw9 => k0_hw9.2.2.2.2.2.2.1
theorem k0_idx207_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v142] : Fin 2 → IVec S16 32) a x).toNat < S14x224.size a := fun v134 v138 v142 v146 v150 v154 v158 v162 v166 v1324 k0_hw9 => k0_hw9.2.2.2.2.2.2.2.1
theorem k0_idx208_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v142] : Fin 2 → IVec S16 32) a x).toNat < S14x224.size a := fun v134 v138 v142 v146 v150 v154 v158 v162 v166 v1324 k0_hw9 => k0_hw9.2.2.2.2.2.2.2.2.1
theorem k0_idx209_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v146] : Fin 2 → IVec S16 32) a x).toNat < S14x224.size a := fun v134 v138 v142 v146 v150 v154 v158 v162 v166 v1324 k0_hw9 => k0_hw9.2.2.2.2.2.2.2.2.2.1
theorem k0_idx210_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v146] : Fin 2 → IVec S16 32) a x).toNat < S14x224.size a := fun v134 v138 v142 v146 v150 v154 v158 v162 v166 v1324 k0_hw9 => k0_hw9.2.2.2.2.2.2.2.2.2.2.1
theorem k0_idx211_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v146] : Fin 2 → IVec S16 32) a x).toNat < S14x224.size a := fun v134 v138 v142 v146 v150 v154 v158 v162 v166 v1324 k0_hw9 => k0_hw9.2.2.2.2.2.2.2.2.2.2.2.1
theorem k0_idx212_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v150] : Fin 2 → IVec S16 32) a x).toNat < S14x224.size a := fun v134 v138 v142 v146 v150 v154 v158 v162 v166 v1324 k0_hw9 => k0_hw9.2.2.2.2.2.2.2.2.2.2.2.2.1
theorem k0_idx213_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v150] : Fin 2 → IVec S16 32) a x).toNat < S14x224.size a := fun v134 v138 v142 v146 v150 v154 v158 v162 v166 v1324 k0_hw9 => k0_hw9.2.2.2.2.2.2.2.2.2.2.2.2.2.1
theorem k0_idx214_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v150] : Fin 2 → IVec S16 32) a x).toNat < S14x224.size a := fun v134 v138 v142 v146 v150 v154 v158 v162 v166 v1324 k0_hw9 => k0_hw9.2.2.2.2.2.2.2.2.2.2.2.2.2.2.1
theorem k0_idx215_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v154] : Fin 2 → IVec S16 32) a x).toNat < S14x224.size a := fun v134 v138 v142 v146 v150 v154 v158 v162 v166 v1324 k0_hw9 => k0_hw9.2.2.2.2.2.2.2.2.2.2.2.2.2.2.2.1
theorem k0_idx216_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v154] : Fin 2 → IVec S16 32) a x).toNat < S14x224.size a := fun v134 v138 v142 v146 v150 v154 v158 v162 v166 v1324 k0_hw9 => k0_hw9.2.2.2.2.2.2.2.2.2.2.2.2.2.2.2.2.1
theorem k0_idx217_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v154] : Fin 2 → IVec S16 32) a x).toNat < S14x224.size a := fun v134 v138 v142 v146 v150 v154 v158 v162 v166 v1324 k0_hw9 => k0_hw9.2.2.2.2.2.2.2.2.2.2.2.2.2.2.2.2.2.1
theorem k0_idx218_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v158] : Fin 2 → IVec S16 32) a x).toNat < S14x224.size a := fun v134 v138 v142 v146 v150 v154 v158 v162 v166 v1324 k0_hw9 => k0_hw9.2.2.2.2.2.2.2.2.2.2.2.2.2.2.2.2.2.2.1
theorem k0_idx219_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v158] : Fin 2 → IVec S16 32) a x).toNat < S14x224.size a := fun v134 v138 v142 v146 v150 v154 v158 v162 v166 v1324 k0_hw9 => k0_hw9.2.2.2.2.2.2.2.2.2.2.2.2.2.2.2.2.2.2.2.1
theorem k0_idx220_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v158] : Fin 2 → IVec S16 32) a x).toNat < S14x224.size a := fun v134 v138 v142 v146 v150 v154 v158 v162 v166 v1324 k0_hw9 => k0_hw9.2.2.2.2.2.2.2.2.2.2.2.2.2.2.2.2.2.2.2.2.1
theorem k0_idx221_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v162] : Fin 2 → IVec S16 32) a x).toNat < S14x224.size a := fun v134 v138 v142 v146 v150 v154 v158 v162 v166 v1324 k0_hw9 => k0_hw9.2.2.2.2.2.2.2.2.2.2.2.2.2.2.2.2.2.2.2.2.2.1
theorem k0_idx222_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v162] : Fin 2 → IVec S16 32) a x).toNat < S14x224.size a := fun v134 v138 v142 v146 v150 v154 v158 v162 v166 v1324 k0_hw9 => k0_hw9.2.2.2.2.2.2.2.2.2.2.2.2.2.2.2.2.2.2.2.2.2.2.1
theorem k0_idx223_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v162] : Fin 2 → IVec S16 32) a x).toNat < S14x224.size a := fun v134 v138 v142 v146 v150 v154 v158 v162 v166 v1324 k0_hw9 => k0_hw9.2.2.2.2.2.2.2.2.2.2.2.2.2.2.2.2.2.2.2.2.2.2.2.1
theorem k0_idx224_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v166] : Fin 2 → IVec S16 32) a x).toNat < S14x224.size a := fun v134 v138 v142 v146 v150 v154 v158 v162 v166 v1324 k0_hw9 => k0_hw9.2.2.2.2.2.2.2.2.2.2.2.2.2.2.2.2.2.2.2.2.2.2.2.2.1
theorem k0_idx225_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v166] : Fin 2 → IVec S16 32) a x).toNat < S14x224.size a := fun v134 v138 v142 v146 v150 v154 v158 v162 v166 v1324 k0_hw9 => k0_hw9.2.2.2.2.2.2.2.2.2.2.2.2.2.2.2.2.2.2.2.2.2.2.2.2.2.1
theorem k0_idx226_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1324 : IVec S16 32) (k0_hw9 : k0_chk9 v134 v138 v142 v146 v150 v154 v158 v162 v166 v1324), ∀ a x, ((![v1324, v166] : Fin 2 → IVec S16 32) a x).toNat < S14x224.size a := fun v134 v138 v142 v146 v150 v154 v158 v162 v166 v1324 k0_hw9 => k0_hw9.2.2.2.2.2.2.2.2.2.2.2.2.2.2.2.2.2.2.2.2.2.2.2.2.2.2

def k0_chk10 (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) : Prop :=
  (∀ a x, ((![v1484, v134] : Fin 2 → IVec S16 32) a x).toNat < S14x224.size a) ∧
  (∀ a x, ((![v1484, v134] : Fin 2 → IVec S16 32) a x).toNat < S14x224.size a) ∧
  (∀ a x, ((![v1484, v134] : Fin 2 → IVec S16 32) a x).toNat < S14x224.size a) ∧
  (∀ a x, ((![v1484, v138] : Fin 2 → IVec S16 32) a x).toNat < S14x224.size a) ∧
  (∀ a x, ((![v1484, v138] : Fin 2 → IVec S16 32) a x).toNat < S14x224.size a) ∧
  (∀ a x, ((![v1484, v138] : Fin 2 → IVec S16 32) a x).toNat < S14x224.size a) ∧
  (∀ a x, ((![v1484, v142] : Fin 2 → IVec S16 32) a x).toNat < S14x224.size a) ∧
  (∀ a x, ((![v1484, v142] : Fin 2 → IVec S16 32) a x).toNat < S14x224.size a) ∧
  (∀ a x, ((![v1484, v142] : Fin 2 → IVec S16 32) a x).toNat < S14x224.size a) ∧
  (∀ a x, ((![v1484, v146] : Fin 2 → IVec S16 32) a x).toNat < S14x224.size a) ∧
  (∀ a x, ((![v1484, v146] : Fin 2 → IVec S16 32) a x).toNat < S14x224.size a) ∧
  (∀ a x, ((![v1484, v146] : Fin 2 → IVec S16 32) a x).toNat < S14x224.size a) ∧
  (∀ a x, ((![v1484, v150] : Fin 2 → IVec S16 32) a x).toNat < S14x224.size a) ∧
  (∀ a x, ((![v1484, v150] : Fin 2 → IVec S16 32) a x).toNat < S14x224.size a) ∧
  (∀ a x, ((![v1484, v150] : Fin 2 → IVec S16 32) a x).toNat < S14x224.size a) ∧
  (∀ a x, ((![v1484, v154] : Fin 2 → IVec S16 32) a x).toNat < S14x224.size a) ∧
  (∀ a x, ((![v1484, v154] : Fin 2 → IVec S16 32) a x).toNat < S14x224.size a) ∧
  (∀ a x, ((![v1484, v154] : Fin 2 → IVec S16 32) a x).toNat < S14x224.size a) ∧
  (∀ a x, ((![v1484, v158] : Fin 2 → IVec S16 32) a x).toNat < S14x224.size a) ∧
  (∀ a x, ((![v1484, v158] : Fin 2 → IVec S16 32) a x).toNat < S14x224.size a) ∧
  (∀ a x, ((![v1484, v158] : Fin 2 → IVec S16 32) a x).toNat < S14x224.size a) ∧
  (∀ a x, ((![v1484, v162] : Fin 2 → IVec S16 32) a x).toNat < S14x224.size a) ∧
  (∀ a x, ((![v1484, v162] : Fin 2 → IVec S16 32) a x).toNat < S14x224.size a) ∧
  (∀ a x, ((![v1484, v162] : Fin 2 → IVec S16 32) a x).toNat < S14x224.size a) ∧
  (∀ a x, ((![v1484, v166] : Fin 2 → IVec S16 32) a x).toNat < S14x224.size a) ∧
  (∀ a x, ((![v1484, v166] : Fin 2 → IVec S16 32) a x).toNat < S14x224.size a) ∧
  (∀ a x, ((![v1484, v166] : Fin 2 → IVec S16 32) a x).toNat < S14x224.size a)
theorem k0_idx227_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v134] : Fin 2 → IVec S16 32) a x).toNat < S14x224.size a := fun v134 v138 v142 v146 v150 v154 v158 v162 v166 v1484 k0_hw10 => k0_hw10.1
theorem k0_idx228_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v134] : Fin 2 → IVec S16 32) a x).toNat < S14x224.size a := fun v134 v138 v142 v146 v150 v154 v158 v162 v166 v1484 k0_hw10 => k0_hw10.2.1
theorem k0_idx229_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v134] : Fin 2 → IVec S16 32) a x).toNat < S14x224.size a := fun v134 v138 v142 v146 v150 v154 v158 v162 v166 v1484 k0_hw10 => k0_hw10.2.2.1
theorem k0_idx230_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v138] : Fin 2 → IVec S16 32) a x).toNat < S14x224.size a := fun v134 v138 v142 v146 v150 v154 v158 v162 v166 v1484 k0_hw10 => k0_hw10.2.2.2.1
theorem k0_idx231_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v138] : Fin 2 → IVec S16 32) a x).toNat < S14x224.size a := fun v134 v138 v142 v146 v150 v154 v158 v162 v166 v1484 k0_hw10 => k0_hw10.2.2.2.2.1
theorem k0_idx232_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v138] : Fin 2 → IVec S16 32) a x).toNat < S14x224.size a := fun v134 v138 v142 v146 v150 v154 v158 v162 v166 v1484 k0_hw10 => k0_hw10.2.2.2.2.2.1
theorem k0_idx233_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v142] : Fin 2 → IVec S16 32) a x).toNat < S14x224.size a := fun v134 v138 v142 v146 v150 v154 v158 v162 v166 v1484 k0_hw10 => k0_hw10.2.2.2.2.2.2.1
theorem k0_idx234_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v142] : Fin 2 → IVec S16 32) a x).toNat < S14x224.size a := fun v134 v138 v142 v146 v150 v154 v158 v162 v166 v1484 k0_hw10 => k0_hw10.2.2.2.2.2.2.2.1
theorem k0_idx235_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v142] : Fin 2 → IVec S16 32) a x).toNat < S14x224.size a := fun v134 v138 v142 v146 v150 v154 v158 v162 v166 v1484 k0_hw10 => k0_hw10.2.2.2.2.2.2.2.2.1
theorem k0_idx236_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v146] : Fin 2 → IVec S16 32) a x).toNat < S14x224.size a := fun v134 v138 v142 v146 v150 v154 v158 v162 v166 v1484 k0_hw10 => k0_hw10.2.2.2.2.2.2.2.2.2.1
theorem k0_idx237_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v146] : Fin 2 → IVec S16 32) a x).toNat < S14x224.size a := fun v134 v138 v142 v146 v150 v154 v158 v162 v166 v1484 k0_hw10 => k0_hw10.2.2.2.2.2.2.2.2.2.2.1
theorem k0_idx238_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v146] : Fin 2 → IVec S16 32) a x).toNat < S14x224.size a := fun v134 v138 v142 v146 v150 v154 v158 v162 v166 v1484 k0_hw10 => k0_hw10.2.2.2.2.2.2.2.2.2.2.2.1
theorem k0_idx239_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v150] : Fin 2 → IVec S16 32) a x).toNat < S14x224.size a := fun v134 v138 v142 v146 v150 v154 v158 v162 v166 v1484 k0_hw10 => k0_hw10.2.2.2.2.2.2.2.2.2.2.2.2.1
theorem k0_idx240_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v150] : Fin 2 → IVec S16 32) a x).toNat < S14x224.size a := fun v134 v138 v142 v146 v150 v154 v158 v162 v166 v1484 k0_hw10 => k0_hw10.2.2.2.2.2.2.2.2.2.2.2.2.2.1
theorem k0_idx241_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v150] : Fin 2 → IVec S16 32) a x).toNat < S14x224.size a := fun v134 v138 v142 v146 v150 v154 v158 v162 v166 v1484 k0_hw10 => k0_hw10.2.2.2.2.2.2.2.2.2.2.2.2.2.2.1
theorem k0_idx242_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v154] : Fin 2 → IVec S16 32) a x).toNat < S14x224.size a := fun v134 v138 v142 v146 v150 v154 v158 v162 v166 v1484 k0_hw10 => k0_hw10.2.2.2.2.2.2.2.2.2.2.2.2.2.2.2.1
theorem k0_idx243_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v154] : Fin 2 → IVec S16 32) a x).toNat < S14x224.size a := fun v134 v138 v142 v146 v150 v154 v158 v162 v166 v1484 k0_hw10 => k0_hw10.2.2.2.2.2.2.2.2.2.2.2.2.2.2.2.2.1
theorem k0_idx244_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v154] : Fin 2 → IVec S16 32) a x).toNat < S14x224.size a := fun v134 v138 v142 v146 v150 v154 v158 v162 v166 v1484 k0_hw10 => k0_hw10.2.2.2.2.2.2.2.2.2.2.2.2.2.2.2.2.2.1
theorem k0_idx245_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v158] : Fin 2 → IVec S16 32) a x).toNat < S14x224.size a := fun v134 v138 v142 v146 v150 v154 v158 v162 v166 v1484 k0_hw10 => k0_hw10.2.2.2.2.2.2.2.2.2.2.2.2.2.2.2.2.2.2.1
theorem k0_idx246_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v158] : Fin 2 → IVec S16 32) a x).toNat < S14x224.size a := fun v134 v138 v142 v146 v150 v154 v158 v162 v166 v1484 k0_hw10 => k0_hw10.2.2.2.2.2.2.2.2.2.2.2.2.2.2.2.2.2.2.2.1
theorem k0_idx247_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v158] : Fin 2 → IVec S16 32) a x).toNat < S14x224.size a := fun v134 v138 v142 v146 v150 v154 v158 v162 v166 v1484 k0_hw10 => k0_hw10.2.2.2.2.2.2.2.2.2.2.2.2.2.2.2.2.2.2.2.2.1
theorem k0_idx248_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v162] : Fin 2 → IVec S16 32) a x).toNat < S14x224.size a := fun v134 v138 v142 v146 v150 v154 v158 v162 v166 v1484 k0_hw10 => k0_hw10.2.2.2.2.2.2.2.2.2.2.2.2.2.2.2.2.2.2.2.2.2.1
theorem k0_idx249_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v162] : Fin 2 → IVec S16 32) a x).toNat < S14x224.size a := fun v134 v138 v142 v146 v150 v154 v158 v162 v166 v1484 k0_hw10 => k0_hw10.2.2.2.2.2.2.2.2.2.2.2.2.2.2.2.2.2.2.2.2.2.2.1
theorem k0_idx250_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v162] : Fin 2 → IVec S16 32) a x).toNat < S14x224.size a := fun v134 v138 v142 v146 v150 v154 v158 v162 v166 v1484 k0_hw10 => k0_hw10.2.2.2.2.2.2.2.2.2.2.2.2.2.2.2.2.2.2.2.2.2.2.2.1
theorem k0_idx251_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v166] : Fin 2 → IVec S16 32) a x).toNat < S14x224.size a := fun v134 v138 v142 v146 v150 v154 v158 v162 v166 v1484 k0_hw10 => k0_hw10.2.2.2.2.2.2.2.2.2.2.2.2.2.2.2.2.2.2.2.2.2.2.2.2.1
theorem k0_idx252_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v166] : Fin 2 → IVec S16 32) a x).toNat < S14x224.size a := fun v134 v138 v142 v146 v150 v154 v158 v162 v166 v1484 k0_hw10 => k0_hw10.2.2.2.2.2.2.2.2.2.2.2.2.2.2.2.2.2.2.2.2.2.2.2.2.2.1
theorem k0_idx253_inb : ∀ (v134 : IVec S16 32) (v138 : IVec S16 32) (v142 : IVec S16 32) (v146 : IVec S16 32) (v150 : IVec S16 32) (v154 : IVec S16 32) (v158 : IVec S16 32) (v162 : IVec S16 32) (v166 : IVec S16 32) (v1484 : IVec S16 32) (k0_hw10 : k0_chk10 v134 v138 v142 v146 v150 v154 v158 v162 v166 v1484), ∀ a x, ((![v1484, v166] : Fin 2 → IVec S16 32) a x).toNat < S14x224.size a := fun v134 v138 v142 v146 v150 v154 v158 v162 v166 v1484 k0_hw10 => k0_hw10.2.2.2.2.2.2.2.2.2.2.2.2.2.2.2.2.2.2.2.2.2.2.2.2.2.2
@[reducible] def k0_t4_loop : Scf.Loop 32 :=
  let c0_i32_9 : BitVec 32 := 0#32
  let c14_i32_10 : BitVec 32 := 14#32
  let v13 : BitVec 32 := Scalar.addi c0_i32_9 c14_i32_10
  let c1_i32_11 : BitVec 32 := 1#32
  ⟨c0_i32_9, v13, c1_i32_11⟩
def k0_off54 (k0_t4 : Fin k0_t4_loop.trips) : Fin 3 → Nat :=
  let c0_i32_13 : BitVec 32 := 0#32
  let v15 : Index := Scalar.indexCast c0_i32_13
  let c0_i32_9 : BitVec 32 := 0#32
  let c1_i32_11 : BitVec 32 := 1#32
  let arg6 : BitVec 32 := Scf.iv c0_i32_9 c1_i32_11 k0_t4
  let v16 : Index := Scalar.indexCast arg6
  let c0 : Index := 0#32
  ![0, v16.toNat, 0]
def k0_off55 (k0_t4 : Fin k0_t4_loop.trips) : Fin 3 → Nat :=
  let c0_i32_18 : BitVec 32 := 0#32
  let v25 : Index := Scalar.indexCast c0_i32_18
  let c0_i32_9 : BitVec 32 := 0#32
  let c1_i32_11 : BitVec 32 := 1#32
  let arg6 : BitVec 32 := Scf.iv c0_i32_9 c1_i32_11 k0_t4
  let v26 : Index := Scalar.indexCast arg6
  let c16 : Index := 16#32
  ![0, v26.toNat, 16]
def k0_off56 (k0_t4 : Fin k0_t4_loop.trips) : Fin 3 → Nat :=
  let c0_i32_23 : BitVec 32 := 0#32
  let v35 : Index := Scalar.indexCast c0_i32_23
  let c0_i32_9 : BitVec 32 := 0#32
  let c1_i32_11 : BitVec 32 := 1#32
  let arg6 : BitVec 32 := Scf.iv c0_i32_9 c1_i32_11 k0_t4
  let v36 : Index := Scalar.indexCast arg6
  let c32 : Index := 32#32
  ![0, v36.toNat, 32]
def k0_off57 (k0_t4 : Fin k0_t4_loop.trips) : Fin 3 → Nat :=
  let c0_i32_28 : BitVec 32 := 0#32
  let v45 : Index := Scalar.indexCast c0_i32_28
  let c0_i32_9 : BitVec 32 := 0#32
  let c1_i32_11 : BitVec 32 := 1#32
  let arg6 : BitVec 32 := Scf.iv c0_i32_9 c1_i32_11 k0_t4
  let v46 : Index := Scalar.indexCast arg6
  let c48 : Index := 48#32
  ![0, v46.toNat, 48]
def k0_off58 (k0_t4 : Fin k0_t4_loop.trips) : Fin 3 → Nat :=
  let c0_i32_33 : BitVec 32 := 0#32
  let v55 : Index := Scalar.indexCast c0_i32_33
  let c0_i32_9 : BitVec 32 := 0#32
  let c1_i32_11 : BitVec 32 := 1#32
  let arg6 : BitVec 32 := Scf.iv c0_i32_9 c1_i32_11 k0_t4
  let v56 : Index := Scalar.indexCast arg6
  let c64 : Index := 64#32
  ![0, v56.toNat, 64]
def k0_off59 (k0_t4 : Fin k0_t4_loop.trips) : Fin 3 → Nat :=
  let c0_i32_38 : BitVec 32 := 0#32
  let v65 : Index := Scalar.indexCast c0_i32_38
  let c0_i32_9 : BitVec 32 := 0#32
  let c1_i32_11 : BitVec 32 := 1#32
  let arg6 : BitVec 32 := Scf.iv c0_i32_9 c1_i32_11 k0_t4
  let v66 : Index := Scalar.indexCast arg6
  let c80 : Index := 80#32
  ![0, v66.toNat, 80]
def k0_off60 (k0_t4 : Fin k0_t4_loop.trips) : Fin 3 → Nat :=
  let c0_i32_43 : BitVec 32 := 0#32
  let v75 : Index := Scalar.indexCast c0_i32_43
  let c0_i32_9 : BitVec 32 := 0#32
  let c1_i32_11 : BitVec 32 := 1#32
  let arg6 : BitVec 32 := Scf.iv c0_i32_9 c1_i32_11 k0_t4
  let v76 : Index := Scalar.indexCast arg6
  let c96 : Index := 96#32
  ![0, v76.toNat, 96]
def k0_off61 (k0_t4 : Fin k0_t4_loop.trips) : Fin 3 → Nat :=
  let c0_i32_48 : BitVec 32 := 0#32
  let v85 : Index := Scalar.indexCast c0_i32_48
  let c0_i32_9 : BitVec 32 := 0#32
  let c1_i32_11 : BitVec 32 := 1#32
  let arg6 : BitVec 32 := Scf.iv c0_i32_9 c1_i32_11 k0_t4
  let v86 : Index := Scalar.indexCast arg6
  let c112 : Index := 112#32
  ![0, v86.toNat, 112]
def k0_off62 (k0_t4 : Fin k0_t4_loop.trips) : Fin 3 → Nat :=
  let c0_i32_53 : BitVec 32 := 0#32
  let v95 : Index := Scalar.indexCast c0_i32_53
  let c0_i32_9 : BitVec 32 := 0#32
  let c1_i32_11 : BitVec 32 := 1#32
  let arg6 : BitVec 32 := Scf.iv c0_i32_9 c1_i32_11 k0_t4
  let v96 : Index := Scalar.indexCast arg6
  let c128 : Index := 128#32
  ![0, v96.toNat, 128]
def k0_off63 (k0_t4 : Fin k0_t4_loop.trips) : Fin 3 → Nat :=
  let c0_i32_58 : BitVec 32 := 0#32
  let v105 : Index := Scalar.indexCast c0_i32_58
  let c0_i32_9 : BitVec 32 := 0#32
  let c1_i32_11 : BitVec 32 := 1#32
  let arg6 : BitVec 32 := Scf.iv c0_i32_9 c1_i32_11 k0_t4
  let v106 : Index := Scalar.indexCast arg6
  let c144 : Index := 144#32
  ![0, v106.toNat, 144]
def k0_off64 (k0_t4 : Fin k0_t4_loop.trips) : Fin 3 → Nat :=
  let c0_i32_63 : BitVec 32 := 0#32
  let v115 : Index := Scalar.indexCast c0_i32_63
  let c0_i32_9 : BitVec 32 := 0#32
  let c1_i32_11 : BitVec 32 := 1#32
  let arg6 : BitVec 32 := Scf.iv c0_i32_9 c1_i32_11 k0_t4
  let v116 : Index := Scalar.indexCast arg6
  let c160 : Index := 160#32
  ![0, v116.toNat, 160]
def k0_off65 (k0_t4 : Fin k0_t4_loop.trips) : Fin 3 → Nat :=
  let c0_i32_68 : BitVec 32 := 0#32
  let v125 : Index := Scalar.indexCast c0_i32_68
  let c0_i32_9 : BitVec 32 := 0#32
  let c1_i32_11 : BitVec 32 := 1#32
  let arg6 : BitVec 32 := Scf.iv c0_i32_9 c1_i32_11 k0_t4
  let v126 : Index := Scalar.indexCast arg6
  let c176 : Index := 176#32
  ![0, v126.toNat, 176]
def k0_off66 (k0_t4 : Fin k0_t4_loop.trips) : Fin 3 → Nat :=
  let c0_i32_73 : BitVec 32 := 0#32
  let v135 : Index := Scalar.indexCast c0_i32_73
  let c0_i32_9 : BitVec 32 := 0#32
  let c1_i32_11 : BitVec 32 := 1#32
  let arg6 : BitVec 32 := Scf.iv c0_i32_9 c1_i32_11 k0_t4
  let v136 : Index := Scalar.indexCast arg6
  let c192 : Index := 192#32
  ![0, v136.toNat, 192]
def k0_off67 (k0_t4 : Fin k0_t4_loop.trips) : Fin 3 → Nat :=
  let c0_i32_78 : BitVec 32 := 0#32
  let v145 : Index := Scalar.indexCast c0_i32_78
  let c0_i32_9 : BitVec 32 := 0#32
  let c1_i32_11 : BitVec 32 := 1#32
  let arg6 : BitVec 32 := Scf.iv c0_i32_9 c1_i32_11 k0_t4
  let v146 : Index := Scalar.indexCast arg6
  let c208 : Index := 208#32
  ![0, v146.toNat, 208]
def k0_off68 (k0_t4 : Fin k0_t4_loop.trips) : Fin 3 → Nat :=
  let c1_i32_83 : BitVec 32 := 1#32
  let v155 : Index := Scalar.indexCast c1_i32_83
  let c0_i32_9 : BitVec 32 := 0#32
  let c1_i32_11 : BitVec 32 := 1#32
  let arg6 : BitVec 32 := Scf.iv c0_i32_9 c1_i32_11 k0_t4
  let v156 : Index := Scalar.indexCast arg6
  let c0_84 : Index := 0#32
  ![1, v156.toNat, 0]
def k0_off69 (k0_t4 : Fin k0_t4_loop.trips) : Fin 3 → Nat :=
  let c1_i32_89 : BitVec 32 := 1#32
  let v165 : Index := Scalar.indexCast c1_i32_89
  let c0_i32_9 : BitVec 32 := 0#32
  let c1_i32_11 : BitVec 32 := 1#32
  let arg6 : BitVec 32 := Scf.iv c0_i32_9 c1_i32_11 k0_t4
  let v166 : Index := Scalar.indexCast arg6
  let c16_90 : Index := 16#32
  ![1, v166.toNat, 16]
def k0_off70 (k0_t4 : Fin k0_t4_loop.trips) : Fin 3 → Nat :=
  let c1_i32_95 : BitVec 32 := 1#32
  let v175 : Index := Scalar.indexCast c1_i32_95
  let c0_i32_9 : BitVec 32 := 0#32
  let c1_i32_11 : BitVec 32 := 1#32
  let arg6 : BitVec 32 := Scf.iv c0_i32_9 c1_i32_11 k0_t4
  let v176 : Index := Scalar.indexCast arg6
  let c32_96 : Index := 32#32
  ![1, v176.toNat, 32]
def k0_off71 (k0_t4 : Fin k0_t4_loop.trips) : Fin 3 → Nat :=
  let c1_i32_101 : BitVec 32 := 1#32
  let v185 : Index := Scalar.indexCast c1_i32_101
  let c0_i32_9 : BitVec 32 := 0#32
  let c1_i32_11 : BitVec 32 := 1#32
  let arg6 : BitVec 32 := Scf.iv c0_i32_9 c1_i32_11 k0_t4
  let v186 : Index := Scalar.indexCast arg6
  let c48_102 : Index := 48#32
  ![1, v186.toNat, 48]
def k0_off72 (k0_t4 : Fin k0_t4_loop.trips) : Fin 3 → Nat :=
  let c1_i32_107 : BitVec 32 := 1#32
  let v195 : Index := Scalar.indexCast c1_i32_107
  let c0_i32_9 : BitVec 32 := 0#32
  let c1_i32_11 : BitVec 32 := 1#32
  let arg6 : BitVec 32 := Scf.iv c0_i32_9 c1_i32_11 k0_t4
  let v196 : Index := Scalar.indexCast arg6
  let c64_108 : Index := 64#32
  ![1, v196.toNat, 64]
def k0_off73 (k0_t4 : Fin k0_t4_loop.trips) : Fin 3 → Nat :=
  let c1_i32_113 : BitVec 32 := 1#32
  let v205 : Index := Scalar.indexCast c1_i32_113
  let c0_i32_9 : BitVec 32 := 0#32
  let c1_i32_11 : BitVec 32 := 1#32
  let arg6 : BitVec 32 := Scf.iv c0_i32_9 c1_i32_11 k0_t4
  let v206 : Index := Scalar.indexCast arg6
  let c80_114 : Index := 80#32
  ![1, v206.toNat, 80]
def k0_off74 (k0_t4 : Fin k0_t4_loop.trips) : Fin 3 → Nat :=
  let c1_i32_119 : BitVec 32 := 1#32
  let v215 : Index := Scalar.indexCast c1_i32_119
  let c0_i32_9 : BitVec 32 := 0#32
  let c1_i32_11 : BitVec 32 := 1#32
  let arg6 : BitVec 32 := Scf.iv c0_i32_9 c1_i32_11 k0_t4
  let v216 : Index := Scalar.indexCast arg6
  let c96_120 : Index := 96#32
  ![1, v216.toNat, 96]
def k0_off75 (k0_t4 : Fin k0_t4_loop.trips) : Fin 3 → Nat :=
  let c1_i32_125 : BitVec 32 := 1#32
  let v225 : Index := Scalar.indexCast c1_i32_125
  let c0_i32_9 : BitVec 32 := 0#32
  let c1_i32_11 : BitVec 32 := 1#32
  let arg6 : BitVec 32 := Scf.iv c0_i32_9 c1_i32_11 k0_t4
  let v226 : Index := Scalar.indexCast arg6
  let c112_126 : Index := 112#32
  ![1, v226.toNat, 112]
def k0_off76 (k0_t4 : Fin k0_t4_loop.trips) : Fin 3 → Nat :=
  let c1_i32_131 : BitVec 32 := 1#32
  let v235 : Index := Scalar.indexCast c1_i32_131
  let c0_i32_9 : BitVec 32 := 0#32
  let c1_i32_11 : BitVec 32 := 1#32
  let arg6 : BitVec 32 := Scf.iv c0_i32_9 c1_i32_11 k0_t4
  let v236 : Index := Scalar.indexCast arg6
  let c128_132 : Index := 128#32
  ![1, v236.toNat, 128]
def k0_off77 (k0_t4 : Fin k0_t4_loop.trips) : Fin 3 → Nat :=
  let c1_i32_137 : BitVec 32 := 1#32
  let v245 : Index := Scalar.indexCast c1_i32_137
  let c0_i32_9 : BitVec 32 := 0#32
  let c1_i32_11 : BitVec 32 := 1#32
  let arg6 : BitVec 32 := Scf.iv c0_i32_9 c1_i32_11 k0_t4
  let v246 : Index := Scalar.indexCast arg6
  let c144_138 : Index := 144#32
  ![1, v246.toNat, 144]
def k0_off78 (k0_t4 : Fin k0_t4_loop.trips) : Fin 3 → Nat :=
  let c1_i32_143 : BitVec 32 := 1#32
  let v255 : Index := Scalar.indexCast c1_i32_143
  let c0_i32_9 : BitVec 32 := 0#32
  let c1_i32_11 : BitVec 32 := 1#32
  let arg6 : BitVec 32 := Scf.iv c0_i32_9 c1_i32_11 k0_t4
  let v256 : Index := Scalar.indexCast arg6
  let c160_144 : Index := 160#32
  ![1, v256.toNat, 160]
def k0_off79 (k0_t4 : Fin k0_t4_loop.trips) : Fin 3 → Nat :=
  let c1_i32_149 : BitVec 32 := 1#32
  let v265 : Index := Scalar.indexCast c1_i32_149
  let c0_i32_9 : BitVec 32 := 0#32
  let c1_i32_11 : BitVec 32 := 1#32
  let arg6 : BitVec 32 := Scf.iv c0_i32_9 c1_i32_11 k0_t4
  let v266 : Index := Scalar.indexCast arg6
  let c176_150 : Index := 176#32
  ![1, v266.toNat, 176]
def k0_off80 (k0_t4 : Fin k0_t4_loop.trips) : Fin 3 → Nat :=
  let c1_i32_155 : BitVec 32 := 1#32
  let v275 : Index := Scalar.indexCast c1_i32_155
  let c0_i32_9 : BitVec 32 := 0#32
  let c1_i32_11 : BitVec 32 := 1#32
  let arg6 : BitVec 32 := Scf.iv c0_i32_9 c1_i32_11 k0_t4
  let v276 : Index := Scalar.indexCast arg6
  let c192_156 : Index := 192#32
  ![1, v276.toNat, 192]
def k0_off81 (k0_t4 : Fin k0_t4_loop.trips) : Fin 3 → Nat :=
  let c1_i32_161 : BitVec 32 := 1#32
  let v285 : Index := Scalar.indexCast c1_i32_161
  let c0_i32_9 : BitVec 32 := 0#32
  let c1_i32_11 : BitVec 32 := 1#32
  let arg6 : BitVec 32 := Scf.iv c0_i32_9 c1_i32_11 k0_t4
  let v286 : Index := Scalar.indexCast arg6
  let c208_162 : Index := 208#32
  ![1, v286.toNat, 208]
def k0_off82 (k0_t4 : Fin k0_t4_loop.trips) : Fin 3 → Nat :=
  let c2_i32 : BitVec 32 := 2#32
  let v295 : Index := Scalar.indexCast c2_i32
  let c0_i32_9 : BitVec 32 := 0#32
  let c1_i32_11 : BitVec 32 := 1#32
  let arg6 : BitVec 32 := Scf.iv c0_i32_9 c1_i32_11 k0_t4
  let v296 : Index := Scalar.indexCast arg6
  let c0_167 : Index := 0#32
  ![2, v296.toNat, 0]
def k0_off83 (k0_t4 : Fin k0_t4_loop.trips) : Fin 3 → Nat :=
  let c2_i32_172 : BitVec 32 := 2#32
  let v305 : Index := Scalar.indexCast c2_i32_172
  let c0_i32_9 : BitVec 32 := 0#32
  let c1_i32_11 : BitVec 32 := 1#32
  let arg6 : BitVec 32 := Scf.iv c0_i32_9 c1_i32_11 k0_t4
  let v306 : Index := Scalar.indexCast arg6
  let c16_173 : Index := 16#32
  ![2, v306.toNat, 16]
def k0_off84 (k0_t4 : Fin k0_t4_loop.trips) : Fin 3 → Nat :=
  let c2_i32_178 : BitVec 32 := 2#32
  let v315 : Index := Scalar.indexCast c2_i32_178
  let c0_i32_9 : BitVec 32 := 0#32
  let c1_i32_11 : BitVec 32 := 1#32
  let arg6 : BitVec 32 := Scf.iv c0_i32_9 c1_i32_11 k0_t4
  let v316 : Index := Scalar.indexCast arg6
  let c32_179 : Index := 32#32
  ![2, v316.toNat, 32]
def k0_off85 (k0_t4 : Fin k0_t4_loop.trips) : Fin 3 → Nat :=
  let c2_i32_184 : BitVec 32 := 2#32
  let v325 : Index := Scalar.indexCast c2_i32_184
  let c0_i32_9 : BitVec 32 := 0#32
  let c1_i32_11 : BitVec 32 := 1#32
  let arg6 : BitVec 32 := Scf.iv c0_i32_9 c1_i32_11 k0_t4
  let v326 : Index := Scalar.indexCast arg6
  let c48_185 : Index := 48#32
  ![2, v326.toNat, 48]
def k0_off86 (k0_t4 : Fin k0_t4_loop.trips) : Fin 3 → Nat :=
  let c2_i32_190 : BitVec 32 := 2#32
  let v335 : Index := Scalar.indexCast c2_i32_190
  let c0_i32_9 : BitVec 32 := 0#32
  let c1_i32_11 : BitVec 32 := 1#32
  let arg6 : BitVec 32 := Scf.iv c0_i32_9 c1_i32_11 k0_t4
  let v336 : Index := Scalar.indexCast arg6
  let c64_191 : Index := 64#32
  ![2, v336.toNat, 64]
def k0_off87 (k0_t4 : Fin k0_t4_loop.trips) : Fin 3 → Nat :=
  let c2_i32_196 : BitVec 32 := 2#32
  let v345 : Index := Scalar.indexCast c2_i32_196
  let c0_i32_9 : BitVec 32 := 0#32
  let c1_i32_11 : BitVec 32 := 1#32
  let arg6 : BitVec 32 := Scf.iv c0_i32_9 c1_i32_11 k0_t4
  let v346 : Index := Scalar.indexCast arg6
  let c80_197 : Index := 80#32
  ![2, v346.toNat, 80]
def k0_off88 (k0_t4 : Fin k0_t4_loop.trips) : Fin 3 → Nat :=
  let c2_i32_202 : BitVec 32 := 2#32
  let v355 : Index := Scalar.indexCast c2_i32_202
  let c0_i32_9 : BitVec 32 := 0#32
  let c1_i32_11 : BitVec 32 := 1#32
  let arg6 : BitVec 32 := Scf.iv c0_i32_9 c1_i32_11 k0_t4
  let v356 : Index := Scalar.indexCast arg6
  let c96_203 : Index := 96#32
  ![2, v356.toNat, 96]
def k0_off89 (k0_t4 : Fin k0_t4_loop.trips) : Fin 3 → Nat :=
  let c2_i32_208 : BitVec 32 := 2#32
  let v365 : Index := Scalar.indexCast c2_i32_208
  let c0_i32_9 : BitVec 32 := 0#32
  let c1_i32_11 : BitVec 32 := 1#32
  let arg6 : BitVec 32 := Scf.iv c0_i32_9 c1_i32_11 k0_t4
  let v366 : Index := Scalar.indexCast arg6
  let c112_209 : Index := 112#32
  ![2, v366.toNat, 112]
def k0_off90 (k0_t4 : Fin k0_t4_loop.trips) : Fin 3 → Nat :=
  let c2_i32_214 : BitVec 32 := 2#32
  let v375 : Index := Scalar.indexCast c2_i32_214
  let c0_i32_9 : BitVec 32 := 0#32
  let c1_i32_11 : BitVec 32 := 1#32
  let arg6 : BitVec 32 := Scf.iv c0_i32_9 c1_i32_11 k0_t4
  let v376 : Index := Scalar.indexCast arg6
  let c128_215 : Index := 128#32
  ![2, v376.toNat, 128]
def k0_off91 (k0_t4 : Fin k0_t4_loop.trips) : Fin 3 → Nat :=
  let c2_i32_220 : BitVec 32 := 2#32
  let v385 : Index := Scalar.indexCast c2_i32_220
  let c0_i32_9 : BitVec 32 := 0#32
  let c1_i32_11 : BitVec 32 := 1#32
  let arg6 : BitVec 32 := Scf.iv c0_i32_9 c1_i32_11 k0_t4
  let v386 : Index := Scalar.indexCast arg6
  let c144_221 : Index := 144#32
  ![2, v386.toNat, 144]
def k0_off92 (k0_t4 : Fin k0_t4_loop.trips) : Fin 3 → Nat :=
  let c2_i32_226 : BitVec 32 := 2#32
  let v395 : Index := Scalar.indexCast c2_i32_226
  let c0_i32_9 : BitVec 32 := 0#32
  let c1_i32_11 : BitVec 32 := 1#32
  let arg6 : BitVec 32 := Scf.iv c0_i32_9 c1_i32_11 k0_t4
  let v396 : Index := Scalar.indexCast arg6
  let c160_227 : Index := 160#32
  ![2, v396.toNat, 160]
def k0_off93 (k0_t4 : Fin k0_t4_loop.trips) : Fin 3 → Nat :=
  let c2_i32_232 : BitVec 32 := 2#32
  let v405 : Index := Scalar.indexCast c2_i32_232
  let c0_i32_9 : BitVec 32 := 0#32
  let c1_i32_11 : BitVec 32 := 1#32
  let arg6 : BitVec 32 := Scf.iv c0_i32_9 c1_i32_11 k0_t4
  let v406 : Index := Scalar.indexCast arg6
  let c176_233 : Index := 176#32
  ![2, v406.toNat, 176]
def k0_off94 (k0_t4 : Fin k0_t4_loop.trips) : Fin 3 → Nat :=
  let c2_i32_238 : BitVec 32 := 2#32
  let v415 : Index := Scalar.indexCast c2_i32_238
  let c0_i32_9 : BitVec 32 := 0#32
  let c1_i32_11 : BitVec 32 := 1#32
  let arg6 : BitVec 32 := Scf.iv c0_i32_9 c1_i32_11 k0_t4
  let v416 : Index := Scalar.indexCast arg6
  let c192_239 : Index := 192#32
  ![2, v416.toNat, 192]
def k0_off95 (k0_t4 : Fin k0_t4_loop.trips) : Fin 3 → Nat :=
  let c2_i32_244 : BitVec 32 := 2#32
  let v425 : Index := Scalar.indexCast c2_i32_244
  let c0_i32_9 : BitVec 32 := 0#32
  let c1_i32_11 : BitVec 32 := 1#32
  let arg6 : BitVec 32 := Scf.iv c0_i32_9 c1_i32_11 k0_t4
  let v426 : Index := Scalar.indexCast arg6
  let c208_245 : Index := 208#32
  ![2, v426.toNat, 208]
def k0_off96 (i : grid0.Coords) : Fin 4 → Nat :=
  let arg0 : BitVec 32 := BitVec.ofNat 32 (i 0).val
  let c0_i32_13_r1 : BitVec 32 := 0#32
  let arg1 : BitVec 32 := BitVec.ofNat 32 (i 1).val
  let c14_i32 : BitVec 32 := 14#32
  let v0 : BitVec 32 := Scalar.muli arg1 c14_i32
  let c0_i32_14_r1 : BitVec 32 := 0#32
  ![arg0.toNat, 0, v0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SplatReferenceIdeal.lean ====
abbrev S2x10x224x224 : Shape := ⟨4, ![2, 10, 224, 224]⟩
abbrev S2x1x224x224 : Shape := ⟨4, ![2, 1, 224, 224]⟩
abbrev S2x224x224 : Shape := ⟨3, ![2, 224, 224]⟩
abbrev S2x224x224x1x1 : Shape := ⟨5, ![2, 224, 224, 1, 1]⟩
abbrev S2x224x224x9x9 : Shape := ⟨5, ![2, 224, 224, 9, 9]⟩
abbrev S_ : Shape := ⟨0, ![]⟩
abbrev S2x3x224x224 : Shape := ⟨4, ![2, 3, 224, 224]⟩
abbrev S2x224x224x9x9x1 : Shape := ⟨6, ![2, 224, 224, 9, 9, 1]⟩
abbrev S2x224x224x3 : Shape := ⟨4, ![2, 224, 224, 3]⟩
abbrev S2x224x224x1x1x3 : Shape := ⟨6, ![2, 224, 224, 1, 1, 3]⟩
abbrev S2x224x224x9x9x3 : Shape := ⟨6, ![2, 224, 224, 9, 9, 3]⟩
abbrev S100352x3 : Shape := ⟨2, ![100352, 3]⟩

abbrev nBuf : Space → Nat
  | .hbm => 120
  | .vmem => 0
  | .smem => 0
  | _ => 0

abbrev bufTy : (tb : Table) → Fin (tcTables nBuf tb) → BufTy
  | .hbm, ⟨0, _⟩ => ⟨S2x10x224x224, .f32⟩
  | .hbm, ⟨1, _⟩ => ⟨S2x1x224x224, .f32⟩
  | .hbm, ⟨2, _⟩ => ⟨S2x224x224, .f32⟩
  | .hbm, ⟨3, _⟩ => ⟨S2x224x224x1x1, .f32⟩
  | .hbm, ⟨4, _⟩ => ⟨S2x224x224x9x9, .f32⟩
  | .hbm, ⟨5, _⟩ => ⟨S2x1x224x224, .f32⟩
  | .hbm, ⟨6, _⟩ => ⟨S2x224x224, .f32⟩
  | .hbm, ⟨7, _⟩ => ⟨S2x224x224x1x1, .f32⟩
  | .hbm, ⟨8, _⟩ => ⟨S2x224x224x9x9, .f32⟩
  | .hbm, ⟨9, _⟩ => ⟨S2x1x224x224, .f32⟩
  | .hbm, ⟨10, _⟩ => ⟨S2x224x224, .f32⟩
  | .hbm, ⟨11, _⟩ => ⟨S2x224x224x1x1, .f32⟩
  | .hbm, ⟨12, _⟩ => ⟨S2x224x224x9x9, .f32⟩
  | .hbm, ⟨13, _⟩ => ⟨S2x1x224x224, .f32⟩
  | .hbm, ⟨14, _⟩ => ⟨S2x224x224, .f32⟩
  | .hbm, ⟨15, _⟩ => ⟨S2x224x224x1x1, .f32⟩
  | .hbm, ⟨16, _⟩ => ⟨S2x224x224x9x9, .f32⟩
  | .hbm, ⟨17, _⟩ => ⟨S2x1x224x224, .f32⟩
  | .hbm, ⟨18, _⟩ => ⟨S2x224x224, .f32⟩
  | .hbm, ⟨19, _⟩ => ⟨S2x224x224x1x1, .f32⟩
  | .hbm, ⟨20, _⟩ => ⟨S2x224x224x9x9, .f32⟩
  | .hbm, ⟨21, _⟩ => ⟨S2x1x224x224, .f32⟩
  | .hbm, ⟨22, _⟩ => ⟨S2x224x224, .f32⟩
  | .hbm, ⟨23, _⟩ => ⟨S2x224x224x1x1, .f32⟩
  | .hbm, ⟨24, _⟩ => ⟨S2x224x224x9x9, .f32⟩
  | .hbm, ⟨25, _⟩ => ⟨S2x1x224x224, .f32⟩
  | .hbm, ⟨26, _⟩ => ⟨S2x224x224, .f32⟩
  | .hbm, ⟨27, _⟩ => ⟨S2x224x224x1x1, .f32⟩
  | .hbm, ⟨28, _⟩ => ⟨S2x224x224x9x9, .f32⟩
  | .hbm, ⟨29, _⟩ => ⟨S2x224x224x9x9, .i32⟩
  | .hbm, ⟨30, _⟩ => ⟨S_, .i32⟩
  | .hbm, ⟨31, _⟩ => ⟨S2x224x224x9x9, .i32⟩
  | .hbm, ⟨32, _⟩ => ⟨S2x224x224x9x9, .i32⟩
  | .hbm, ⟨33, _⟩ => ⟨S2x224x224x9x9, .i32⟩
  | .hbm, ⟨34, _⟩ => ⟨S_, .i32⟩
  | .hbm, ⟨35, _⟩ => ⟨S2x224x224x9x9, .i32⟩
  | .hbm, ⟨36, _⟩ => ⟨S2x224x224x9x9, .i32⟩
  | .hbm, ⟨37, _⟩ => ⟨S2x224x224x9x9, .i32⟩
  | .hbm, ⟨38, _⟩ => ⟨S2x224x224x9x9, .i32⟩
  | .hbm, ⟨39, _⟩ => ⟨S2x224x224x9x9, .i32⟩
  | .hbm, ⟨40, _⟩ => ⟨S2x224x224x9x9, .i32⟩
  | .hbm, ⟨41, _⟩ => ⟨S2x224x224x9x9, .i32⟩
  | .hbm, ⟨42, _⟩ => ⟨S2x224x224x9x9, .i32⟩
  | .hbm, ⟨43, _⟩ => ⟨S2x224x224x9x9, .i32⟩
  | .hbm, ⟨44, _⟩ => ⟨S2x224x224x9x9, .i32⟩
  | .hbm, ⟨45, _⟩ => ⟨S2x224x224x9x9, .f32⟩
  | .hbm, ⟨46, _⟩ => ⟨S2x224x224x9x9, .f32⟩
  | .hbm, ⟨47, _⟩ => ⟨S2x224x224x9x9, .f32⟩
  | .hbm, ⟨48, _⟩ => ⟨S2x224x224x9x9, .f32⟩
  | .hbm, ⟨49, _⟩ => ⟨S2x224x224x9x9, .f32⟩
  | .hbm, ⟨50, _⟩ => ⟨S2x224x224x9x9, .f32⟩
  | .hbm, ⟨51, _⟩ => ⟨S2x224x224x9x9, .f32⟩
  | .hbm, ⟨52, _⟩ => ⟨S2x224x224x9x9, .f32⟩
  | .hbm, ⟨53, _⟩ => ⟨S2x224x224x9x9, .f32⟩
  | .hbm, ⟨54, _⟩ => ⟨S2x224x224x9x9, .f32⟩
  | .hbm, ⟨55, _⟩ => ⟨S2x224x224x9x9, .f32⟩
  | .hbm, ⟨56, _⟩ => ⟨S_, .f32⟩
  | .hbm, ⟨57, _⟩ => ⟨S2x224x224x9x9, .f32⟩
  | .hbm, ⟨58, _⟩ => ⟨S2x224x224x9x9, .f32⟩
  | .hbm, ⟨59, _⟩ => ⟨S2x224x224x9x9, .f32⟩
  | .hbm, ⟨60, _⟩ => ⟨S2x3x224x224, .f32⟩
  | .hbm, ⟨61, _⟩ => ⟨S_, .i32⟩
  | .hbm, ⟨62, _⟩ => ⟨S2x224x224x9x9, .i32⟩
  | .hbm, ⟨63, _⟩ => ⟨S2x224x224x9x9, .i1⟩
  | .hbm, ⟨64, _⟩ => ⟨S_, .i32⟩
  | .hbm, ⟨65, _⟩ => ⟨S2x224x224x9x9, .i32⟩
  | .hbm, ⟨66, _⟩ => ⟨S2x224x224x9x9, .i1⟩
  | .hbm, ⟨67, _⟩ => ⟨S2x224x224x9x9, .i1⟩
  | .hbm, ⟨68, _⟩ => ⟨S_, .i32⟩
  | .hbm, ⟨69, _⟩ => ⟨S2x224x224x9x9, .i32⟩
  | .hbm, ⟨70, _⟩ => ⟨S2x224x224x9x9, .i1⟩
  | .hbm, ⟨71, _⟩ => ⟨S2x224x224x9x9, .i1⟩
  | .hbm, ⟨72, _⟩ => ⟨S_, .i32⟩
  | .hbm, ⟨73, _⟩ => ⟨S2x224x224x9x9, .i32⟩
  | .hbm, ⟨74, _⟩ => ⟨S2x224x224x9x9, .i1⟩
  | .hbm, ⟨75, _⟩ => ⟨S2x224x224x9x9, .i1⟩
  | .hbm, ⟨76, _⟩ => ⟨S_, .f32⟩
  | .hbm, ⟨77, _⟩ => ⟨S_, .f32⟩
  | .hbm, ⟨78, _⟩ => ⟨S2x224x224x9x9, .f32⟩
  | .hbm, ⟨79, _⟩ => ⟨S2x224x224x9x9, .f32⟩
  | .hbm, ⟨80, _⟩ => ⟨S2x224x224x9x9, .i32⟩
  | .hbm, ⟨81, _⟩ => ⟨S_, .i32⟩
  | .hbm, ⟨82, _⟩ => ⟨S2x224x224x9x9, .i32⟩
  | .hbm, ⟨83, _⟩ => ⟨S2x224x224x9x9, .i32⟩
  | .hbm, ⟨84, _⟩ => ⟨S2x224x224x9x9, .i32⟩
  | .hbm, ⟨85, _⟩ => ⟨S_, .i32⟩
  | .hbm, ⟨86, _⟩ => ⟨S2x224x224x9x9, .i32⟩
  | .hbm, ⟨87, _⟩ => ⟨S2x224x224x9x9, .i32⟩
  | .hbm, ⟨88, _⟩ => ⟨S2x224x224x9x9, .i32⟩
  | .hbm, ⟨89, _⟩ => ⟨S_, .i32⟩
  | .hbm, ⟨90, _⟩ => ⟨S_, .i32⟩
  | .hbm, ⟨91, _⟩ => ⟨S2x224x224x9x9, .i32⟩
  | .hbm, ⟨92, _⟩ => ⟨S2x224x224x9x9, .i32⟩
  | .hbm, ⟨93, _⟩ => ⟨S2x224x224x9x9x1, .f32⟩
  | .hbm, ⟨94, _⟩ => ⟨S2x224x224x3, .f32⟩
  | .hbm, ⟨95, _⟩ => ⟨S2x224x224x1x1x3, .f32⟩
  | .hbm, ⟨96, _⟩ => ⟨S2x224x224x9x9x3, .f32⟩
  | .hbm, ⟨97, _⟩ => ⟨S2x224x224x9x9x3, .f32⟩
  | .hbm, ⟨98, _⟩ => ⟨S2x224x224x9x9x3, .f32⟩
  | .hbm, ⟨99, _⟩ => ⟨S_, .f32⟩
  | .hbm, ⟨100, _⟩ => ⟨S100352x3, .f32⟩
  | .hbm, ⟨101, _⟩ => ⟨S_, .i32⟩
  | .hbm, ⟨102, _⟩ => ⟨S2x224x224x9x9, .i32⟩
  | .hbm, ⟨103, _⟩ => ⟨S2x224x224x9x9, .i1⟩
  | .hbm, ⟨104, _⟩ => ⟨S_, .i32⟩
  | .hbm, ⟨105, _⟩ => ⟨S2x224x224x9x9, .i32⟩
  | .hbm, ⟨106, _⟩ => ⟨S2x224x224x9x9, .i32⟩
  | .hbm, ⟨107, _⟩ => ⟨S2x224x224x9x9, .i32⟩
  | .hbm, ⟨108, _⟩ => ⟨S2x224x224x9x9x1, .i32⟩
  | .hbm, ⟨109, _⟩ => ⟨S100352x3, .f32⟩
  | .hbm, ⟨110, _⟩ => ⟨S2x224x224x3, .f32⟩
  | .hbm, ⟨111, _⟩ => ⟨S2x3x224x224, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S2x3x224x224, .f32⟩
  | .hbm, ⟨116, _⟩ => ⟨S2x3x224x224, .f32⟩
  | .hbm, ⟨117, _⟩ => ⟨S_, .f32⟩
  | .hbm, ⟨118, _⟩ => ⟨S2x3x224x224, .f32⟩
  | .hbm, ⟨119, _⟩ => ⟨S2x3x224x224, .f32⟩
  | _, _ => ⟨S2x10x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_c : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_c_0 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_cst : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_c_1 : Ref sig .tc := ⟨.hbm, 61, rfl⟩
abbrev main_v57 : Ref sig .tc := ⟨.hbm, 62, rfl⟩
abbrev main_v58 : Ref sig .tc := ⟨.hbm, 63, rfl⟩
abbrev main_c_2 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_c_3 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_c_4 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_call0_v0 : Ref sig .tc := ⟨.hbm, 77, rfl⟩
abbrev main_call0_v1 : Ref sig .tc := ⟨.hbm, 78, rfl⟩
abbrev main_v68 : Ref sig .tc := ⟨.hbm, 79, rfl⟩
abbrev main_v69 : Ref sig .tc := ⟨.hbm, 80, rfl⟩
abbrev main_c_6 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c_7 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_c_8 : Ref sig .tc := ⟨.hbm, 89, rfl⟩
abbrev main_call1_v0 : Ref sig .tc := ⟨.hbm, 90, rfl⟩
abbrev main_call1_v1 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_c_10 : Ref sig .tc := ⟨.hbm, 101, rfl⟩
abbrev main_v84 : Ref sig .tc := ⟨.hbm, 102, rfl⟩
abbrev main_v85 : Ref sig .tc := ⟨.hbm, 103, rfl⟩
abbrev main_c_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_12 : Ref sig .tc := ⟨.hbm, 112, rfl⟩
abbrev main_cst_13 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Proof.Setup.lean ====
/-
  The program as the launch theorem for the SparseCore calls sees it: the configuration, the tables of bodies, the
  ghost state (the handshakes' rounds, the pipeline's rounds, the copies' counters) and the operand names of the
  vector subcores' body.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels: the program's own, with the one pipeline's. -/
abbrev ΛP : Labels := Pipeline.Sig Λ₀ (Fin 1) fun p => (pcfgs (F := F) p).Adm

/-- The SparseCore configuration of the program. -/
abbrev K : SparseCore.Cfg τ sig (ΛP (F := F)) 1 := sc (F := F)

/-- The table of bodies the SparseCore configuration is laid over: the pipeline's. -/
abbrev D [FloatOps F] : Defs nD τ sig (Elt F) (ΛP (F := F)) := Pipeline.defs pcfgs defs₀

/-- No body of the program has a variant. -/
abbrev 𝒱₀ : Variants := Variants.none

abbrev 𝒱 : Variants := 𝒱₀.lift

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ

/-- The pipeline's rounds. -/
abbrev UP : Type := UR sig nD τ

/-- The user's resource algebra: handshakes, pipeline, counters of the plain copies. -/
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds inside the user's resource algebra. -/
def EP : Emb UP (MT nD τ sig (HIx 1) (Elt F) ℕ UU ℕ) :=
  ((Emb.inl : Emb UP (UP × Counters)).trans Emb.inr).trans (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The SparseCore of a grid point. -/
abbrev cL (i : grid1.Coords) : Fin τ.nSC := (i 0).castLE hcore1
/-- The tile of a grid point. -/
abbrev jL (i : grid1.Coords) : Fin τ.nSub := (i 1).castLE hsub1

/-- The parameter array, as a tile names it. -/
abbrev aP : Memref sig .scVector .hbm S2x10x224x224 .f32 := Memref.whole main_v28_scv
/-- The image array, as a tile names it. -/
abbrev aO : Memref sig .scVector .hbm S2x3x224x224 .f32 := Memref.whole main_v29_scv
/-- A tile's slab of parameter rows. -/
abbrev sP : Memref sig .scVector .vmem S10x24x224 .f32 := Memref.whole cc1_scratch0
/-- A tile's block of the image. -/
abbrev sO : Memref sig .scVector .vmem S3x14x224 .f32 := Memref.whole cc1_scratch1

end Cert.Proof

end
-- ==== Proof.Splat.lean ====
/-
  One group of sixteen pixels splatted by a tile: the ten parameter vectors gathered from the tile's slab, and the
  9 × 9 × 3 masked scatter-adds into the tile's block of the image. The group's index vectors, masks and values are
  stated once, as functions of the window offsets `(dy, dx)` and the channel, and one lemma steps over one
  scatter-add; the block's contents are carried as a fold over the window.
-/
module

public import proofs.«01_k».proof.Proof.Setup
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## A group as values -/

/-- What a group of sixteen pixels reads: the base column and row in the tile's block, the mask of the lanes whose
    column is in the image, and the parameters. -/
structure Grp (F : FTy → Type) where
  cx : IVec S16 32
  cm : IVec S16 1
  cy : IVec S16 32
  gx : FVec F S16 .f32
  gy : FVec F S16 .f32
  hA : FVec F S16 .f32
  cB : FVec F S16 .f32
  hC : FVec F S16 .f32
  col : Fin 3 → FVec F S16 .f32

/-- The window offset `d - 4`, as a word. -/
def dI : Nat → BitVec 32
  | 0 => 4294967292#32 | 1 => 4294967293#32 | 2 => 4294967294#32 | 3 => 4294967295#32 | 4 => 0#32
  | 5 => 1#32 | 6 => 2#32 | 7 => 3#32 | _ => 4#32

/-- The window offset `d - 4`, as the word of a float. -/
def dW : Nat → BitVec 32
  | 0 => 0xC0800000#32 | 1 => 0xC0400000#32 | 2 => 0xC0000000#32 | 3 => 0xBF800000#32 | 4 => 0x00000000#32
  | 5 => 0x3F800000#32 | 6 => 0x40000000#32 | 7 => 0x40400000#32 | _ => 0x40800000#32

/-- The window offset `d - 4`, as a float. -/
def dF (d : Nat) : F .f32 := Scalar.ofBits .f32 (dW d)

/-- Row words below 14 and column words below 224 index the block. -/
theorem inb_of (u v : IVec S16 32) (hu : ∀ x, (u x).toNat < 14) (hv : ∀ x, (v x).toNat < 224) :
    ∀ a x, ((![u, v] : Fin 2 → IVec S16 32) a x).toNat < S14x224.size a :=
  Fin.forall_fin_two.2 ⟨fun x => hu x, fun x => hv x⟩

namespace Grp

variable (G : Grp F)

/-- The columns hit at offset `dx`. -/
def xs (dx : Nat) : IVec S16 32 := addi G.cx (broadcast S16 (dI dx))
/-- The lanes whose hit column is in the image (and which hold a pixel). -/
def xm (dx : Nat) : IVec S16 1 :=
  andi (andi (cmpi .sge (G.xs dx) (broadcast S16 0#32)) (cmpi .slt (G.xs dx) (broadcast S16 224#32))) G.cm
/-- The hit columns, clipped to the image. -/
def ux (dx : Nat) : IVec S16 32 := minsi (broadcast S16 223#32) (maxsi (broadcast S16 0#32) (G.xs dx))
/-- The rows hit at offset `dy`. -/
def ys (dy : Nat) : IVec S16 32 := addi G.cy (broadcast S16 (dI dy))
/-- The lanes whose hit row is one of the block's. -/
def ym (dy : Nat) : IVec S16 1 :=
  andi (cmpi .sge (G.ys dy) (broadcast S16 0#32)) (cmpi .slt (G.ys dy) (broadcast S16 14#32))
/-- The hit rows, clipped to the block. -/
def uy (dy : Nat) : IVec S16 32 := minsi (broadcast S16 13#32) (maxsi (broadcast S16 0#32) (G.ys dy))
/-- The horizontal distance at offset `dx`. -/
def fx (dx : Nat) : FVec F S16 .f32 := addf G.gx (broadcast S16 (dF dx))
/-- The vertical distance at offset `dy`. -/
def fy (dy : Nat) : FVec F S16 .f32 := addf G.gy (broadcast S16 (dF dy))
/-- The weight at offset `(dy, dx)`. -/
def w (dy dx : Nat) : FVec F S16 .f32 :=
  minimumf (exp (addf (mulf (addf (mulf G.hA (G.fx dx)) (mulf G.cB (G.fy dy))) (G.fx dx))
    (mulf (mulf G.hC (G.fy dy)) (G.fy dy)))) (broadcast S16 (Scalar.ofBits .f32 0x3F800000#32))
/-- What is added at offset `(dy, dx)` in channel `ch`. -/
def val (dy dx : Nat) (ch : Fin 3) : FVec F S16 .f32 := mulf (G.w dy dx) (G.col ch)
/-- The lanes that add at offset `(dy, dx)`. -/
def mask (dy dx : Nat) : IVec S16 1 := andi (G.ym dy) (G.xm dx)

/-- A word clipped to `[0, m]`, `m` small, read as a number. -/
theorem clip_toNat (m : Nat) (hm : m < 2 ^ 31) (x : BitVec 32) :
    ((IntOp.minsi (BitVec.ofNat 32 m) (IntOp.maxsi 0#32 x)).toNat : Int) = min (m : Int) (max 0 x.toInt) := by
  have h1 : (BitVec.ofNat 32 m).toNat = m := by rw [BitVec.toNat_ofNat]; omega
  have h2 : (BitVec.ofNat 32 m).toInt = m := by rw [BitVec.toInt_eq_toNat_cond, h1]; omega
  have h3 : (0#32 : BitVec 32).toInt = 0 := by decide
  have h4 : (0#32 : BitVec 32).toNat = 0 := by decide
  have h5 := BitVec.toInt_eq_toNat_cond x
  have h6 := x.isLt
  unfold IntOp.minsi IntOp.maxsi
  by_cases hx : x.slt 0#32 = true
  · rw [if_pos hx]
    rw [BitVec.slt_iff_toInt_lt, h3] at hx
    by_cases hc : (BitVec.ofNat 32 m).slt 0#32 = true
    · rw [BitVec.slt_iff_toInt_lt, h2, h3] at hc; omega
    · rw [if_neg hc, h4]; omega
  · rw [if_neg hx]
    rw [BitVec.slt_iff_toInt_lt, h3] at hx
    by_cases hc : (BitVec.ofNat 32 m).slt x = true
    · rw [if_pos hc, h1]; rw [BitVec.slt_iff_toInt_lt, h2] at hc; omega
    · rw [if_neg hc]; rw [BitVec.slt_iff_toInt_lt, h2] at hc
      split at h5 <;> omega

theorem clip_le (m : Nat) (hm : m < 2 ^ 31) (x : BitVec 32) :
    (IntOp.minsi (BitVec.ofNat 32 m) (IntOp.maxsi 0#32 x)).toNat ≤ m := by
  have := clip_toNat m hm x; omega

theorem ux_apply (dx : Nat) (x : S16.Idx) :
    G.ux dx x = IntOp.minsi (BitVec.ofNat 32 223) (IntOp.maxsi 0#32 (G.xs dx x)) := rfl
theorem uy_apply (dy : Nat) (x : S16.Idx) :
    G.uy dy x = IntOp.minsi (BitVec.ofNat 32 13) (IntOp.maxsi 0#32 (G.ys dy x)) := rfl

theorem uy_lt (dy : Nat) (x : S16.Idx) : (G.uy dy x).toNat < 14 := by
  rw [uy_apply]
  exact Nat.lt_succ_of_le (clip_le 13 (by norm_num) _)
theorem ux_lt (dx : Nat) (x : S16.Idx) : (G.ux dx x).toNat < 224 := by
  rw [ux_apply]
  exact Nat.lt_succ_of_le (clip_le 223 (by norm_num) _)

theorem inb (dy dx : Nat) : ∀ a x, ((![G.uy dy, G.ux dx] : Fin 2 → IVec S16 32) a x).toNat < S14x224.size a :=
  inb_of _ _ (G.uy_lt dy) (G.ux_lt dx)

/-- One scatter-add into channel `ch` of the block. -/
def put (dy dx : Nat) (ch : Fin 3) (g : Vec F S3x14x224 .f32) : Vec F S3x14x224 .f32 := fun j =>
  if (j 0).val = ch.val then
    storeIdx (fun q : S14x224.Idx => g (ix3 ch (q 0) (q 1))) ![G.uy dy, G.ux dx] (G.val dy dx ch) (G.mask dy dx) true
      (G.inb dy dx) (ix2 (j 1) (j 2))
  else g j

/-- The first `n` scatter-adds of offset row `dy`: the offsets `dx` in order, the channels within each. -/
def rowAcc (dy : Nat) (g : Vec F S3x14x224 .f32) : Nat → Vec F S3x14x224 .f32
  | 0 => g
  | n + 1 => G.put dy (n / 3) ⟨n % 3, Nat.mod_lt _ (by decide)⟩ (rowAcc dy g n)

/-- The first `n` offset rows. -/
def acc (g : Vec F S3x14x224 .f32) : Nat → Vec F S3x14x224 .f32
  | 0 => g
  | n + 1 => G.rowAcc n (acc g n) 27

end Grp

/-- The columns of group `t`: lane `l` has column `15 l + t`, clipped to the image. -/
def colIdx (t : Fin k1_t3_loop.trips) : IVec S16 32 := k1_pay3 k1_pay567 0#32 1#32 t

theorem colIdx_inb (t : Fin k1_t3_loop.trips) :
    ∀ a x, ((![colIdx t] : Fin 1 → IVec S16 32) a x).toNat < S224.size a := by
  have h : ∀ (t : Fin k1_t3_loop.trips) (x : Fin 16), (colIdx t (ix1 x)).toNat < 224 := by decide +kernel
  intro a x
  rw [show x = ix1 (x 0) from eq_ix1 x]
  match a with
  | 0 => exact h t (x 0)

/-- Parameter `ch` of the slab's row `r`, gathered at the group's columns. -/
def gat (A : Vec F S10x24x224 .f32) (r : Fin 24) (t : Fin k1_t3_loop.trips) (ch : Fin 10) : FVec F S16 .f32 :=
  loadIdx (s := S224) (fun q : S224.Idx => A (ix3 ch r (q 0))) ![colIdx t] (colIdx_inb t)

/-- The group `t` of the slab's row `r`, the slab starting `v4` rows below the tile's block. -/
def grp (A : Vec F S10x24x224 .f32) (v4 : BitVec 32) (r : Fin k1_t2_loop.trips) (t : Fin k1_t3_loop.trips) : Grp F where
  cx := subi (k1_pay1 k1_pay567 0#32 1#32 t) (fptosi 32 (gat A r t 2))
  cm := k1_pay2 k1_pay567 0#32 1#32 t
  cy := subi (broadcast S16 (Scalar.addi (Scf.iv 0#32 1#32 r) v4)) (fptosi 32 (gat A r t 3))
  gx := gat A r t 0
  gy := gat A r t 1
  hA := gat A r t 4
  cB := gat A r t 5
  hC := gat A r t 6
  col := fun | 0 => gat A r t 7 | 1 => gat A r t 8 | 2 => gat A r t 9

/-! ## One step of the executor -/

/-- The view of channel `ch` of a tile's block. -/
abbrev slO (ch : Nat) (h : ∀ a, (![ch, 0, 0] : Fin 3 → Nat) a + S1x14x224.size a ≤ S3x14x224.size a) :
    Memref sig .scVector .vmem S14x224 .f32 :=
  ((sO.slice (Rect.unit (s := S3x14x224) ![ch, 0, 0] S1x14x224.size h) (fun _ => rfl)).squeeze S14x224 squeezes_S1x14x224_S14x224)

theorem slO_emb (ch : Fin 3) (h) (q : S14x224.Idx) :
    ((slO ch.val h).access (.whole _)).emb q = ix3 (n0 := 3) (n1 := 14) (n2 := 224) ch (q 0) (q 1) := by
  have h1 : Shape.reshapeEquiv (Shape.Squeezes.numel_eq squeezes_S1x14x224_S14x224) q = ix3 (⟨0, Nat.one_pos⟩ : Fin 1) (q 0) (q 1) := by
    conv_lhs => rw [eq_ix2 q]
    exact ValueIdx.reshapeEquiv_ix2_1ab _ _ _
  have h2 : ((Rect.whole S14x224).emb q) = q := Rect.emb_whole_apply S14x224 q
  show (Rect.unit (s := S3x14x224) ![ch.val, 0, 0] S1x14x224.size h).emb (Shape.reshapeEquiv _ ((Rect.whole S14x224).emb q)) = _
  rw [h2, h1]
  funext a; apply Fin.ext
  match a with
  | 0 => show ch.val + 1 * 0 = ch.val; omega
  | 1 => show 0 + 1 * (q 0).val = (q 0).val; omega
  | 2 => show 0 + 1 * (q 1).val = (q 1).val; omega

/-- Through the channel's view, the block's contents after a write are the new values on the channel and the old ones
    elsewhere. -/
theorem slO_write (ch : Fin 3) (h) (g : Vec F S3x14x224 .f32) (v : Vec F S14x224 .f32) (j : S3x14x224.Idx) :
    (((slO ch.val h).access (.whole _)).write (Elt F) g v Finset.univ : Vec F S3x14x224 .f32) j
      = if (j 0).val = ch.val then v (ix2 (j 1) (j 2)) else g j := by
  by_cases hj : (j 0).val = ch.val
  · rw [if_pos hj]
    have hjj : j = ((slO ch.val h).access (.whole _)).emb (ix2 (j 1) (j 2)) := by
      rw [slO_emb]
      have : j 0 = ch := Fin.ext hj
      rw [← this]
      exact eq_ix3 j
    conv_lhs => rw [hjj]
    exact View.write_emb_of_mem (v := (slO ch.val h).access (.whole _)) (Val := Elt F) g v (Finset.mem_univ _)
  · rw [if_neg hj]
    refine View.write_of_not_mem (v := (slO ch.val h).access (.whole _)) (Val := Elt F) g v _ fun hm => hj ?_
    obtain ⟨q, -, hq⟩ := Finset.mem_map.1 hm
    rw [slO_emb] at hq
    rw [← hq]

/-- Through the channel's view, the block's contents are read at that channel. -/
theorem slO_read (ch : Fin 3) (h) (g : Vec F S3x14x224 .f32) (q : S14x224.Idx) :
    ((slO ch.val h).access (.whole _)).read (Elt F) g q = g (ix3 ch (q 0) (q 1)) := by
  rw [View.read_apply, slO_emb]; rfl

theorem put_eq (G : Grp F) (dy dx : Nat) (ch : Fin 3) (h) (g : Vec F S3x14x224 .f32) :
    ((slO ch.val h).access (.whole _)).write (Elt F) g
        (storeIdx (((slO ch.val h).access (.whole _)).read (Elt F) g) ![G.uy dy, G.ux dx] (G.val dy dx ch) (G.mask dy dx) true
          (G.inb dy dx)) Finset.univ
      = (G.put dy dx ch g : Vec F S3x14x224 .f32) := by
  funext j
  refine (slO_write ch h g _ j).trans ?_
  rw [show (((slO ch.val h).access (.whole _)).read (Elt F) g) = (fun q : S14x224.Idx => g (ix3 ch (q 0) (q 1))) from
    funext fun q => slO_read ch h g q]
  rfl

/-- The thread of a grid point's tile. -/
abbrev Vt (d : Dev nD) (i : grid1.Coords) : Thread nD τ := V d (cL i) (jL i)

section General

variable {sg : RefSig} {nD' : Nat} {τ' : Topo} {Λ : Labels} {c : Thread nD' τ'} {Ix : Type} [DecidableEq Ix] {Name : Type} [DecidableEq Name] {U : Type} [URA U]
  {Lvl : Type} [Preorder Lvl] {s : Shape} {e : EltTy} {α : Type}
  {defs : Defs nD' τ' sg (Elt F) Λ} (Var : Variants) (bd : Option Var.V) (E : Set Name) {Q : α → sProp (MT nD' τ' sg Ix (Elt F) Name U Lvl)}

/-- `vectorStoreIdx` at the head of a program, more than the view's elements held. -/
theorem wp_storeIdx_in {d : Fin 1 → Nat} {base : Memref sg c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD' τ' sg (Elt F) Λ c.2) α} {f : Buf (Elt F) ((base.access (.whole s)).loc c)} :
    ((base.access (.whole s)).loc c ↦[Finset.univ]{fullShare} f)
      ⊢ iprop((((base.access (.whole s)).loc c ↦[Finset.univ]{fullShare}
            ((base.access (.whole s)).write (Elt F) f (storeIdx ((base.access (.whole s)).read (Elt F) f) idxs v mask add h) Finset.univ))
          -∗ wp frame (wpE defs Var c bd) E (k ⟨⟩) Q)
        -∗ wp frame (wpE defs Var c bd) E (SparseCore.vectorStoreIdx base idxs v mask add h hs >>= k) Q) := by
  rw [SparseCore.vectorStoreIdx_bind]
  iintro H Hk
  iapply (wp_load_rect (defs := defs) Var c bd E (Q := Q) (r := Rect.whole s) (hl := View.loadsAt_rect hs.loads)
    (k := fun f' => .op (.store base (.whole s) (storeIdx f' idxs v mask add h) Finset.univ hs (.inl rfl)) k)
    (q := fullShare) (f := f) (S := Finset.univ) (Finset.subset_univ _)) $$ H
  iintro H
  iapply (wp_store (defs := defs) Var c bd E (Q := Q) (m := base) (r := .whole s) (Mk := Finset.univ)
    (hx := hs) (hm := .inl rfl) (k := k) (f := f) (S := Finset.univ) (Finset.subset_univ _)) $$ H
  iexact Hk

end General

section Step

variable (d : Dev nD) (i : grid1.Coords)

/-- A scatter-add at the head of a program, the block held whole. -/
theorem wp_scat {α : Type} {Q : α → sProp 𝕄} (G : Grp F) (dy dx : Nat) (ch : Fin 3) (g : Vec F S3x14x224 .f32)
    {h} {u u' : IVec S16 32} {v : Vec F S16 .f32} {mask : IVec S16 1} {hi hs}
    {k : PUnit → Prog (TpuEff nD τ sig (Elt F) Λ₀ (.scVector ((i 0).castLE hcore1) ((i 1).castLE hsub1))) α}
    (e0 : u = G.uy dy) (e1 : u' = G.ux dx) (e2 : v = G.val dy dx ch) (e3 : mask = G.mask dy dx) :
    ((sO.view.loc (Vt d i) ↦[Finset.univ]{fullShare} (g : Buf (Elt F) (sO.view.loc (Vt d i)))) : sProp 𝕄)
      ⊢ iprop(((sO.view.loc (Vt d i) ↦[Finset.univ]{fullShare} (G.put dy dx ch g : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (SparseCore.vectorStoreIdx (slO ch.val h) ![u, u'] v mask true hi hs >>= k) Q) := by
  subst e0 e1 e2 e3
  rw [← put_eq G dy dx ch h g]
  exact wp_storeIdx_in (c := Vt d i) 𝒱₀ none Set.univ (base := slO ch.val h) (f := (g : Vec F S3x14x224 .f32))

/-- The view of row `r` of channel `ch` of the slab. -/
abbrev slP (off : Fin 3 → Nat) (h : ∀ a, off a + S1x1x224.size a ≤ S10x24x224.size a) : Memref sig .scVector .vmem S224 .f32 :=
  ((sP.slice (Rect.unit (s := S10x24x224) off S1x1x224.size h) (fun _ => rfl)).squeeze S224 squeezes_S1x1x224_S224)

theorem slP_read (off : Fin 3 → Nat) (h) (ch : Fin 10) (r : Fin 24) (ho : off = ![ch.val, r.val, 0]) (A : Vec F S10x24x224 .f32) (q : S224.Idx) :
    ((slP off h).access (.whole _)).read (Elt F) A q = A (ix3 ch r (q 0)) := by
  subst ho
  have h1 : Shape.reshapeEquiv (Shape.Squeezes.numel_eq squeezes_S1x1x224_S224) q = ix3 (⟨0, Nat.one_pos⟩ : Fin 1) (⟨0, Nat.one_pos⟩ : Fin 1) (q 0) :=
    Shape.reshapeEquiv_eq_of_rowMajor _ ((Shape.rowMajor_val_three (d := ![1, 1, 224]) _).trans
      ((show ((0 * 1 + 0) * 224 + (q 0).val) = (q 0).val by omega).trans (Shape.rowMajor_val_one (d := ![224]) q).symm))
  have h2 : ((Rect.whole S224).emb q) = q := Rect.emb_whole_apply S224 q
  have h3 : ((slP ![ch.val, r.val, 0] h).access (.whole _)).emb q = ix3 (n0 := 10) (n1 := 24) (n2 := 224) ch r (q 0) := by
    show (Rect.unit (s := S10x24x224) ![ch.val, r.val, 0] S1x1x224.size h).emb (Shape.reshapeEquiv _ ((Rect.whole S224).emb q)) = _
    rw [h2, h1]
    funext a; apply Fin.ext
    match a with
    | 0 => show ch.val + 1 * 0 = ch.val; omega
    | 1 => show r.val + 1 * 0 = r.val; omega
    | 2 => show 0 + 1 * (q 0).val = (q 0).val; omega
  rw [View.read_apply, h3]; rfl

/-- A gather at the head of a program, the slab held whole. -/
theorem wp_gat {α : Type} {Q : α → sProp 𝕄} (A : Vec F S10x24x224 .f32) (r : Fin 24) (t : Fin k1_t3_loop.trips) (ch : Fin 10)
    {off : Fin 3 → Nat} {h} {u : IVec S16 32} {hi hl}
    {k : Vec F S16 .f32 → Prog (TpuEff nD τ sig (Elt F) Λ₀ (.scVector ((i 0).castLE hcore1) ((i 1).castLE hsub1))) α}
    (ho : off = ![ch.val, r.val, 0]) (e0 : u = colIdx t) :
    ((sP.view.loc (Vt d i) ↦[Finset.univ]{fullShare} (A : Buf (Elt F) (sP.view.loc (Vt d i)))) : sProp 𝕄)
      ⊢ iprop(((sP.view.loc (Vt d i) ↦[Finset.univ]{fullShare} (A : Buf (Elt F) (sP.view.loc (Vt d i))))
          -∗ wp frame (wpE (defs₀ (F := F)) 𝒱₀ (Vt d i) none) Set.univ (k (gat A r t ch)) Q)
        -∗ wp frame (wpE (defs₀ (F := F)) 𝒱₀ (Vt d i) none) Set.univ
            (SparseCore.vectorLoadIdx (slP off h) ![u] hi hl >>= k) Q) := by
  subst e0
  have e : gat A r t ch = loadIdx (((slP off h).access (.whole _)).read (Elt F) A) ![colIdx t] hi := by
    rw [show ((slP off h).access (.whole _)).read (Elt F) A = (fun q : S224.Idx => A (ix3 ch r (q 0))) from
      funext fun q => slP_read off h ch r ho A q]
    rfl
  rw [e]
  exact SparseCore.wp_vectorLoadIdx (c := Vt d i) 𝒱₀ none Set.univ (base := slP off h) (S := Finset.univ)
    (f := (A : Vec F S10x24x224 .f32)) (Finset.subset_univ _)

/-- A group's checks: the gather's columns are in the image, -/
theorem chk1_col (t : Fin k1_t3_loop.trips) : k1_chk1 (colIdx t) :=
  ⟨colIdx_inb t, colIdx_inb t, colIdx_inb t, colIdx_inb t, colIdx_inb t, colIdx_inb t, colIdx_inb t, colIdx_inb t, colIdx_inb t, colIdx_inb t⟩

end Step

end Cert.Proof

end
-- ==== Proof.Rows.lean ====
/-
  The loops that zero and clip the tile's block, one row a trip, by chunks of sixteen columns.
-/
module

public import proofs.«01_k».proof.Proof.Splat
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## Rows updated by chunks -/

/-- The block with the first `n` chunks of row `r` (fourteen chunks to a channel) passed through `φ`. -/
def updTo (φ : F .f32 → F .f32) (r n : Nat) (g : Vec F S3x14x224 .f32) : Vec F S3x14x224 .f32 := fun j =>
  if (j 1).val = r ∧ 14 * (j 0).val + (j 2).val / 16 < n then φ (g j) else g j

/-- The block with its first `n` rows passed through `φ`. -/
def updRows (φ : F .f32 → F .f32) (n : Nat) (g : Vec F S3x14x224 .f32) : Vec F S3x14x224 .f32 := fun j =>
  if (j 1).val < n then φ (g j) else g j

theorem updTo_zero (φ : F .f32 → F .f32) (r : Nat) (g : Vec F S3x14x224 .f32) : updTo φ r 0 g = g := by
  funext j; exact if_neg fun h => absurd h.2 (Nat.not_lt_zero _)

theorem updRows_zero (φ : F .f32 → F .f32) (g : Vec F S3x14x224 .f32) : updRows φ 0 g = g := by
  funext j; exact if_neg (Nat.not_lt_zero _)

theorem updTo_last (φ : F .f32 → F .f32) (r : Nat) (g : Vec F S3x14x224 .f32) :
    updTo φ r 42 (updRows φ r g) = updRows φ (r + 1) g := by
  funext j
  have h0 : (j 0).val < 3 := (j 0).isLt
  have h2 : (j 2).val < 224 := (j 2).isLt
  unfold updTo updRows
  by_cases h : (j 1).val = r
  · rw [if_pos ⟨h, by omega⟩, if_neg (by omega), if_pos (by omega)]
  · rw [if_neg fun h' => h h'.1]
    by_cases h' : (j 1).val < r
    · rw [if_pos h', if_pos (by omega)]
    · rw [if_neg h', if_neg (by omega)]

theorem updRows_all (φ : F .f32 → F .f32) (g : Vec F S3x14x224 .f32) : updRows φ 14 g = fun j => φ (g j) := by
  funext j; exact if_pos (j 1).isLt

/-- The word of zero. -/
def zeroF : F .f32 := Scalar.ofBits .f32 0x00000000#32

/-- A value clipped to the unit interval. -/
def clip01 (x : F .f32) : F .f32 :=
  (minimumf (maximumf (broadcast S16 x) (broadcast S16 (Scalar.ofBits .f32 0x00000000#32))) (broadcast S16 (Scalar.ofBits .f32 0x3F800000#32))
    : FVec F S16 .f32) (ix1 0)

/-- The chunk's view of the block. -/
abbrev slC (off : Fin 3 → Nat) (h : ∀ a, off a + S1x1x16.size a ≤ S3x14x224.size a) :=
  (sO).access (Rect.unit (s := S3x14x224) off S1x1x16.size h)

theorem slC_emb {off : Fin 3 → Nat} {h} (y : S1x1x16.Idx) (a : Fin 3) : ((slC off h).emb y a).val = off a + (y a).val := by
  show off a + 1 * (y a).val = _
  omega

theorem cast16 (h) (v : Vec F S16 .f32) (y : S1x1x16.Idx) : shapeCast S1x1x16 v h y = v (ix1 (y 2)) := by
  have y0 : (y 0).val < 1 := (y 0).isLt
  have y1 : (y 1).val < 1 := (y 1).isLt
  show v (Shape.reshapeEquiv _ y) = _
  refine congrArg v (Shape.reshapeEquiv_eq_of_rowMajor _ ((Shape.rowMajor_val_one (d := ![16]) _).trans ?_))
  refine Eq.trans ?_ (Shape.rowMajor_val_three (d := ![1, 1, 16]) y).symm
  show (y 2).val = ((y 0).val * 1 + (y 1).val) * 16 + (y 2).val
  omega

theorem cast16' (h) (v : Vec F S1x1x16 .f32) (y : S1x1x16.Idx) : shapeCast S16 v h (ix1 (y 2)) = v y := by
  have y0 : (y 0).val < 1 := (y 0).isLt
  have y1 : (y 1).val < 1 := (y 1).isLt
  show v (Shape.reshapeEquiv _ (ix1 (y 2))) = _
  refine congrArg v (Shape.reshapeEquiv_eq_of_rowMajor _ ((Shape.rowMajor_val_three (d := ![1, 1, 16]) y).trans ?_))
  refine Eq.trans ?_ (Shape.rowMajor_val_one (d := ![16]) (ix1 (y 2))).symm
  show ((y 0).val * 1 + (y 1).val) * 16 + (y 2).val = (y 2).val
  omega

theorem slC_write (φ : F .f32 → F .f32) (r n : Nat) (hn : n < 42) (g : Vec F S3x14x224 .f32) {off : Fin 3 → Nat} {h h1 h2}
    (ho : off = ![n / 14, r, 16 * (n % 14)]) (v : Vec F S16 .f32)
    (e : ∀ x, v x = φ (shapeCast S16 ((slC off h).read (Elt F) (updTo φ r n g)) h2 x)) :
    ((slC off h).write (Elt F) (updTo φ r n g) (shapeCast S1x1x16 v h1) Finset.univ : Vec F S3x14x224 .f32) = updTo φ r (n + 1) g := by
  have o0 : off 0 = n / 14 := by rw [ho]; rfl
  have o1 : off 1 = r := by rw [ho]; rfl
  have o2 : off 2 = 16 * (n % 14) := by rw [ho]; rfl
  funext j
  have j0 : (j 0).val < 3 := (j 0).isLt
  have j2 : (j 2).val < 224 := (j 2).isLt
  by_cases hj : (j 1).val = r ∧ 14 * (j 0).val + (j 2).val / 16 = n
  · obtain ⟨ha, hb⟩ := hj
    obtain ⟨y, hy⟩ : ∃ y : S1x1x16.Idx, j = (slC off h).emb y := by
      refine ⟨ix3 (n0 := 1) (n1 := 1) (n2 := 16) 0 0 ⟨(j 2).val - 16 * (n % 14), by omega⟩, funext fun a => Fin.ext ?_⟩
      rw [slC_emb]
      match a with
      | 0 => show (j 0).val = off 0 + 0; omega
      | 1 => show (j 1).val = off 1 + 0; omega
      | 2 => show (j 2).val = off 2 + ((j 2).val - 16 * (n % 14)); omega
    have hw : (slC off h).write (Elt F) (updTo φ r n g) (shapeCast S1x1x16 v h1) Finset.univ j = shapeCast S1x1x16 v h1 y := by
      rw [hy]
      exact View.write_emb_of_mem (v := slC off h) (Val := Elt F) _ _ (Finset.mem_univ _)
    refine hw.trans ?_
    rw [cast16, e, cast16', View.read_apply]
    have hu : (updTo φ r n g) j = g j := if_neg fun h' => by omega
    have hu' : (updTo φ r (n + 1) g) j = φ (g j) := if_pos ⟨ha, by omega⟩
    rw [hu', ← hu, hy]; rfl
  · have hw : (slC off h).write (Elt F) (updTo φ r n g) (shapeCast S1x1x16 v h1) Finset.univ j = updTo φ r n g j := by
      refine View.write_of_not_mem (v := slC off h) (Val := Elt F) _ _ _ fun hm => hj ?_
      obtain ⟨y, -, hq⟩ := Finset.mem_map.1 hm
      have q0 := slC_emb (off := off) (h := h) y 0
      have q1 := slC_emb (off := off) (h := h) y 1
      have q2 := slC_emb (off := off) (h := h) y 2
      rw [hq] at q0 q1 q2
      have y0 : (y 0).val < 1 := (y 0).isLt
      have y1 : (y 1).val < 1 := (y 1).isLt
      have y2 : (y 2).val < 16 := (y 2).isLt
      omega
    refine hw.trans ?_
    unfold updTo
    by_cases hc : (j 1).val = r ∧ 14 * (j 0).val + (j 2).val / 16 < n
    · rw [if_pos hc, if_pos (by omega)]
    · rw [if_neg hc, if_neg (by omega)]

section Step

variable (d : Dev nD) (i : grid1.Coords)

/-- A chunk's load at the head of a program. -/
theorem wp_ldC {α : Type} {Q : α → sProp 𝕄} (g : Vec F S3x14x224 .f32) {off : Fin 3 → Nat} {h hl}
    {k : Vec F S1x1x16 .f32 → Prog (TpuEff nD τ sig (Elt F) Λ₀ (.scVector ((i 0).castLE hcore1) ((i 1).castLE hsub1))) α} :
    ((sO.view.loc (Vt d i) ↦[Finset.univ]{fullShare} (g : Buf (Elt F) (sO.view.loc (Vt d i)))) : sProp 𝕄)
      ⊢ iprop(((sO.view.loc (Vt d i) ↦[Finset.univ]{fullShare} (g : Buf (Elt F) (sO.view.loc (Vt d i))))
          -∗ wp frame (wpE (defs₀ (F := F)) 𝒱₀ (Vt d i) none) Set.univ (k ((slC off h).read (Elt F) g)) Q)
        -∗ wp frame (wpE (defs₀ (F := F)) 𝒱₀ (Vt d i) none) Set.univ
            (Prog.lift (.load sO (Rect.unit (s := S3x14x224) off S1x1x16.size h).toLoadRect hl) >>= k) Q) :=
  wp_load_rect (c := Vt d i) 𝒱₀ none Set.univ (m := sO) (r := Rect.unit (s := S3x14x224) off S1x1x16.size h) (S := Finset.univ)
    (f := (g : Vec F S3x14x224 .f32)) (Finset.subset_univ _)

/-- A chunk's store at the head of a program, what it stores the chunk passed through `φ`. -/
theorem wp_stC {α : Type} {Q : α → sProp 𝕄} (φ : F .f32 → F .f32) (r n : Nat) (hn : n < 42) (g : Vec F S3x14x224 .f32)
    {off : Fin 3 → Nat} {h h1 hx hm} [co : ClosedOff off] {v : Vec F S16 .f32}
    {k : PUnit → Prog (TpuEff nD τ sig (Elt F) Λ₀ (.scVector ((i 0).castLE hcore1) ((i 1).castLE hsub1))) α}
    (ho : co.form = ![n / 14, r, 16 * (n % 14)])
    (e : ∀ x, v x = φ (shapeCast S16 ((slC off h).read (Elt F) (updTo φ r n g)) shapeCasts_S1x1x16_S16 x)) :
    ((sO.view.loc (Vt d i) ↦[Finset.univ]{fullShare} (updTo φ r n g : Buf (Elt F) (sO.view.loc (Vt d i)))) : sProp 𝕄)
      ⊢ iprop(((sO.view.loc (Vt d i) ↦[Finset.univ]{fullShare} (updTo φ r (n + 1) g : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (Prog.lift (.store sO (Rect.unit (s := S3x14x224) off S1x1x16.size h) (shapeCast S1x1x16 v h1) Finset.univ hx hm) >>= k) Q) := by
  rw [← slC_write φ r n hn g (h := h) (h1 := h1) (co.eq.trans ho) v e]
  exact wp_store (c := Vt d i) 𝒱₀ none Set.univ (m := sO) (r := Rect.unit (s := S3x14x224) off S1x1x16.size h) (Mk := Finset.univ)
    (S := Finset.univ) (f := (updTo φ r n g : Vec F S3x14x224 .f32)) (Finset.subset_univ _)

end Step

end Cert.Proof

end
-- ==== Proof.Loops.lean ====
/-
  The trips of the loops that zero and clip the tile's block.
-/
module

public import proofs.«01_k».proof.Proof.Rows
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

section Step

variable (d : Dev nD) (i : grid1.Coords)

theorem st_ret {α : Type} {Q : α → sProp 𝕄} {A : sProp 𝕄} {x : α} (h : A ⊢ Q x) :
    A ⊢ wp frame (wpE (defs₀ (F := F)) 𝒱₀ (Vt d i) none) Set.univ
      (.ret x : Prog (TpuEff nD τ sig (Elt F) Λ₀ (.scVector ((i 0).castLE hcore1) ((i 1).castLE hsub1))) α) Q :=
  h.trans (le_wp_ret _ _ _ _ _)

theorem st_seq {α β : Type} {Q : α → sProp 𝕄} {A : sProp 𝕄} {p : Prog (TpuEff nD τ sig (Elt F) Λ₀ (.scVector ((i 0).castLE hcore1) ((i 1).castLE hsub1))) β}
    {k : β → Prog (TpuEff nD τ sig (Elt F) Λ₀ (.scVector ((i 0).castLE hcore1) ((i 1).castLE hsub1))) α}
    (h : A ⊢ wp frame (wpE (defs₀ (F := F)) 𝒱₀ (Vt d i) none) Set.univ p
        (fun b => wp frame (wpE (defs₀ (F := F)) 𝒱₀ (Vt d i) none) Set.univ (k b) Q)) :
    A ⊢ wp frame (wpE (defs₀ (F := F)) 𝒱₀ (Vt d i) none) Set.univ (p >>= k) Q := by
  rwa [wp_bind]

theorem st_ldC {α : Type} {Q : α → sProp 𝕄} {g : Vec F S3x14x224 .f32} {off : Fin 3 → Nat} {h hl}
    {k : Vec F S1x1x16 .f32 → Prog (TpuEff nD τ sig (Elt F) Λ₀ (.scVector ((i 0).castLE hcore1) ((i 1).castLE hsub1))) α}
    (hk : ((sO.view.loc (Vt d i) ↦[Finset.univ]{fullShare} (g : Buf (Elt F) (sO.view.loc (Vt d i)))) : sProp 𝕄)
      ⊢ wp frame (wpE (defs₀ (F := F)) 𝒱₀ (Vt d i) none) Set.univ (k ((slC off h).read (Elt F) g)) Q) :
    ((sO.view.loc (Vt d i) ↦[Finset.univ]{fullShare} (g : Buf (Elt F) (sO.view.loc (Vt d i)))) : sProp 𝕄)
      ⊢ wp frame (wpE (defs₀ (F := F)) 𝒱₀ (Vt d i) none) Set.univ
            (Prog.lift (.load sO (Rect.unit (s := S3x14x224) off S1x1x16.size h).toLoadRect hl) >>= k) Q := by
  iintro H
  iapply (wp_ldC d i g) $$ H
  iintro H
  iapply hk
  iexact H

theorem st_stC {α : Type} {Q : α → sProp 𝕄} (φ : F .f32 → F .f32) (r n : Nat) (hn : n < 42) (g : Vec F S3x14x224 .f32)
    {off : Fin 3 → Nat} {h h1 hx hm} [co : ClosedOff off] {v : Vec F S16 .f32}
    {k : PUnit → Prog (TpuEff nD τ sig (Elt F) Λ₀ (.scVector ((i 0).castLE hcore1) ((i 1).castLE hsub1))) α}
    (ho : co.form = ![n / 14, r, 16 * (n % 14)])
    (e : ∀ x, v x = φ (shapeCast S16 ((slC off h).read (Elt F) (updTo φ r n g)) shapeCasts_S1x1x16_S16 x))
    (hk : ((sO.view.loc (Vt d i) ↦[Finset.univ]{fullShare} (updTo φ r (n + 1) g : Buf (Elt F) (sO.view.loc (Vt d i)))) : sProp 𝕄)
      ⊢ wp frame (wpE (defs₀ (F := F)) 𝒱₀ (Vt d i) none) Set.univ (k ⟨⟩) Q) :
    ((sO.view.loc (Vt d i) ↦[Finset.univ]{fullShare} (updTo φ r n g : Buf (Elt F) (sO.view.loc (Vt d i)))) : sProp 𝕄)
      ⊢ wp frame (wpE (defs₀ (F := F)) 𝒱₀ (Vt d i) none) Set.univ
            (Prog.lift (.store sO (Rect.unit (s := S3x14x224) off S1x1x16.size h) (shapeCast S1x1x16 v h1) Finset.univ hx hm) >>= k) Q := by
  iintro H
  iapply (wp_stC d i φ r n hn g ho e) $$ H
  iintro H
  iapply hk
  iexact H

set_option maxRecDepth 65536 in
set_option maxHeartbeats 4000000 in
/-- A trip of the zeroing loop: the next row of the block is zero. -/
theorem wp_zeroRow (g : Vec F S3x14x224 .f32) (t : Fin k1_t1_loop.trips) (a : BitVec 32) :
    ((sO.view.loc (Vt d i) ↦[Finset.univ]{fullShare} (updRows (fun _ => zeroF) t g : Buf (Elt F) (sO.view.loc (Vt d i)))) : sProp 𝕄)
      ⊢ wp frame (wpE (defs₀ (F := F)) 𝒱₀ (Vt d i) none) Set.univ
          (k1_t1_body i aP (Memref.isWhole_whole _) aO (Memref.isWhole_whole _) sP (Memref.isWhole_whole _) sO (Memref.isWhole_whole _)
            cc1_scoped0 cc1_scoped1 t a)
          fun _ => (sO.view.loc (Vt d i) ↦[Finset.univ]{fullShare} (updRows (fun _ => zeroF) (t + 1) g : Buf (Elt F) (sO.view.loc (Vt d i)))) := by
  rw [← updTo_last]
  generalize updRows (fun _ => zeroF) t g = g'
  conv_lhs => rw [← updTo_zero (fun _ => zeroF) t.val g']
  unfold k1_t1_body
  simp only [k1_part1_eq_skeleton, k1_part2_eq_skeleton, k1_part3_eq_skeleton, k1_part4_eq_skeleton, k1_part5_eq_skeleton]
  refine st_seq d i ?_
  iterate 8 (refine st_ldC d i ?_; refine st_stC d i (fun _ => zeroF) t.val _ ?_ _ ?_ ?_ ?_; decide; rfl; (intro x; rfl))
  refine st_ret d i ?_
  dsimp only
  refine st_seq d i ?_
  iterate 9 (refine st_ldC d i ?_; refine st_stC d i (fun _ => zeroF) t.val _ ?_ _ ?_ ?_ ?_; decide; rfl; (intro x; rfl))
  refine st_ret d i ?_
  dsimp only
  refine st_seq d i ?_
  iterate 8 (refine st_ldC d i ?_; refine st_stC d i (fun _ => zeroF) t.val _ ?_ _ ?_ ?_ ?_; decide; rfl; (intro x; rfl))
  refine st_ret d i ?_
  dsimp only
  refine st_seq d i ?_
  iterate 9 (refine st_ldC d i ?_; refine st_stC d i (fun _ => zeroF) t.val _ ?_ _ ?_ ?_ ?_; decide; rfl; (intro x; rfl))
  refine st_ret d i ?_
  dsimp only
  iterate 8 (refine st_ldC d i ?_; refine st_stC d i (fun _ => zeroF) t.val _ ?_ _ ?_ ?_ ?_; decide; rfl; (intro x; rfl))
  refine st_ret d i ?_
  iintro H
  iexact H

set_option maxRecDepth 65536 in
set_option maxHeartbeats 4000000 in
/-- A trip of the clipping loop: the next row of the block is clipped. -/
theorem wp_clipRow (g : Vec F S3x14x224 .f32) (t : Fin k1_t4_loop.trips) (a : BitVec 32) :
    ((sO.view.loc (Vt d i) ↦[Finset.univ]{fullShare} (updRows clip01 t g : Buf (Elt F) (sO.view.loc (Vt d i)))) : sProp 𝕄)
      ⊢ wp frame (wpE (defs₀ (F := F)) 𝒱₀ (Vt d i) none) Set.univ
          (k1_t4_body i aP (Memref.isWhole_whole _) aO (Memref.isWhole_whole _) sP (Memref.isWhole_whole _) sO (Memref.isWhole_whole _)
            cc1_scoped0 cc1_scoped1 t a)
          fun _ => (sO.view.loc (Vt d i) ↦[Finset.univ]{fullShare} (updRows clip01 (t + 1) g : Buf (Elt F) (sO.view.loc (Vt d i)))) := by
  rw [← updTo_last]
  generalize updRows clip01 t g = g'
  conv_lhs => rw [← updTo_zero clip01 t.val g']
  unfold k1_t4_body
  simp only [k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton]
  refine st_seq d i ?_
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ldC d i ?_
  refine st_ret d i ?_
  dsimp only
  refine st_seq d i ?_
  refine st_stC d i clip01 t.val _ ?_ _ ?_ ?_ ?_; decide; rfl; (intro x; rfl)
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 3 (refine st_ldC d i ?_; refine st_ldC d i ?_; refine st_stC d i clip01 t.val _ ?_ _ ?_ ?_ ?_; decide; rfl; (intro x; rfl))
  refine st_ret d i ?_
  dsimp only
  iterate 1 (refine st_ldC d i ?_; refine st_ldC d i ?_; refine st_stC d i clip01 t.val _ ?_ _ ?_ ?_ ?_; decide; rfl; (intro x; rfl))
  refine st_ret d i ?_
  iintro H
  iexact H

end Step

end Cert.Proof

end
-- ==== Proof.Group.lean ====
/-
  The body of the kernel's group loop: from the slab and the block held whole to the slab unchanged and the block with
  the group's scatter-adds made.
-/
module

public import proofs.«01_k».proof.Proof.Loops
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (d : Dev nD) (i : grid1.Coords)

/-- A window row's checks: the scatter's rows are the block's and its columns the image's. -/
theorem chk_row (G : Grp F) (dy : Nat) {u0 u1 u2 u3 u4 u5 u6 u7 u8 y : IVec S16 32} (hy : y = G.uy dy) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8) :
    k1_chk2 u0 u1 u2 u3 u4 u5 u6 u7 u8 y := by
  subst hy h0 h1 h2 h3 h4 h5 h6 h7 h8
  have h := fun dx => G.inb dy dx
  exact ⟨h 0, h 0, h 0, h 1, h 1, h 1, h 2, h 2, h 2, h 3, h 3, h 3, h 4, h 4, h 4, h 5, h 5, h 5, h 6, h 6, h 6, h 7, h 7, h 7,
    h 8, h 8, h 8⟩

/-- A check at the head of a program, its fact given. -/
theorem wp_chk {α : Type} {Q : α → sProp 𝕄} {P : Prop} {dec : Decidable P}
    {k : PLift P → Prog (TpuEff nD τ sig (Elt F) Λ₀ (.scVector ((i 0).castLE hcore1) ((i 1).castLE hsub1))) α} (h : P) :
    wp frame (wpE (defs₀ (F := F)) 𝒱₀ (Vt d i) none) Set.univ (Prog.lift (TpuEff.assume P dec) >>= k) Q
      = (wp frame (wpE (defs₀ (F := F)) 𝒱₀ (Vt d i) none) Set.univ (k ⟨h⟩) Q : sProp 𝕄) :=
  wp_assume_of (c := Vt d i) 𝒱₀ none Set.univ h

theorem wp_chk' {α : Type} {Q : α → sProp 𝕄} {P : Prop} {dec : Decidable P}
    {k : PLift P → Prog (TpuEff nD τ sig (Elt F) Λ₀ (.scVector ((i 0).castLE hcore1) ((i 1).castLE hsub1))) α} (h : P) :
    (wp frame (wpE (defs₀ (F := F)) 𝒱₀ (Vt d i) none) Set.univ (k ⟨h⟩) Q : sProp 𝕄)
      ⊢ wp frame (wpE (defs₀ (F := F)) 𝒱₀ (Vt d i) none) Set.univ (Prog.lift (TpuEff.assume P dec) >>= k) Q := by
  rw [wp_chk d i h]

/-- The first program of two at the head. -/
theorem wp_seq {α β : Type} {Q : α → sProp 𝕄}
    {p : Prog (TpuEff nD τ sig (Elt F) Λ₀ (.scVector ((i 0).castLE hcore1) ((i 1).castLE hsub1))) β}
    {k : β → Prog (TpuEff nD τ sig (Elt F) Λ₀ (.scVector ((i 0).castLE hcore1) ((i 1).castLE hsub1))) α} :
    (wp frame (wpE (defs₀ (F := F)) 𝒱₀ (Vt d i) none) Set.univ p
        (fun b => wp frame (wpE (defs₀ (F := F)) 𝒱₀ (Vt d i) none) Set.univ (k b) Q) : sProp 𝕄)
      ⊢ wp frame (wpE (defs₀ (F := F)) 𝒱₀ (Vt d i) none) Set.univ (p >>= k) Q := by
  rw [wp_bind]

/-- The next scatter-add of an offset row. -/
theorem wp_scat_row {α : Type} {Q : α → sProp 𝕄} (G : Grp F) (dy n : Nat) (g : Vec F S3x14x224 .f32)
    {h} {u u' : IVec S16 32} {v : Vec F S16 .f32} {mask : IVec S16 1} {hi hs}
    {k : PUnit → Prog (TpuEff nD τ sig (Elt F) Λ₀ (.scVector ((i 0).castLE hcore1) ((i 1).castLE hsub1))) α}
    (e0 : u = G.uy dy) (e1 : u' = G.ux (n / 3)) (e2 : v = G.val dy (n / 3) ⟨n % 3, Nat.mod_lt _ (by decide)⟩)
    (e3 : mask = G.mask dy (n / 3)) :
    ((sO.view.loc (Vt d i) ↦[Finset.univ]{fullShare} (G.rowAcc dy g n : Buf (Elt F) (sO.view.loc (Vt d i)))) : sProp 𝕄)
      ⊢ iprop(((sO.view.loc (Vt d i) ↦[Finset.univ]{fullShare} (G.rowAcc dy g (n + 1) : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (SparseCore.vectorStoreIdx (slO (n % 3) h) ![u, u'] v mask true hi hs >>= k) Q) :=
  wp_scat d i G dy (n / 3) ⟨n % 3, Nat.mod_lt _ (by decide)⟩ (G.rowAcc dy g n) e0 e1 e2 e3

theorem Grp.acc_next (G : Grp F) (g : Vec F S3x14x224 .f32) (dy : Nat) :
    G.rowAcc dy (G.acc g dy) 27 = G.rowAcc (dy + 1) (G.acc g (dy + 1)) 0 :=
  (show G.rowAcc dy (G.acc g dy) 27 = G.acc g (dy + 1) from rfl).trans
    (show G.acc g (dy + 1) = G.rowAcc (dy + 1) (G.acc g (dy + 1)) 0 from rfl)

theorem acc_start (G : Grp F) (g : Vec F S3x14x224 .f32) :
    ((sO.view.loc (Vt d i) ↦[Finset.univ]{fullShare} (g : Buf (Elt F) (sO.view.loc (Vt d i)))) : sProp 𝕄)
      ⊢ (sO.view.loc (Vt d i) ↦[Finset.univ]{fullShare} (G.rowAcc 0 (G.acc g 0) 0 : Buf (Elt F) (sO.view.loc (Vt d i)))) :=
  .rfl

/-- A window row done, the next one's check at the head of the program. -/
theorem wp_chk_row {α : Type} {Q : α → sProp 𝕄} (G : Grp F) (dy : Nat) (g : Vec F S3x14x224 .f32)
    {P : Prop} {dec : Decidable P} {u0 u1 u2 u3 u4 u5 u6 u7 u8 y : IVec S16 32}
    {k : PLift P → Prog (TpuEff nD τ sig (Elt F) Λ₀ (.scVector ((i 0).castLE hcore1) ((i 1).castLE hsub1))) α}
    (hP : P = k1_chk2 u0 u1 u2 u3 u4 u5 u6 u7 u8 y) (hy : y = G.uy (dy + 1)) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8) :
    ((sO.view.loc (Vt d i) ↦[Finset.univ]{fullShare} (G.rowAcc dy (G.acc g dy) 27 : Buf (Elt F) (sO.view.loc (Vt d i)))) : sProp 𝕄)
      ⊢ iprop(((sO.view.loc (Vt d i) ↦[Finset.univ]{fullShare} (G.rowAcc (dy + 1) (G.acc g (dy + 1)) 0 : Buf (Elt F) (sO.view.loc (Vt d i))))
          -∗ wp frame (wpE (defs₀ (F := F)) 𝒱₀ (Vt d i) none) Set.univ
              (k ⟨hP ▸ chk_row G (dy + 1) hy h0 h1 h2 h3 h4 h5 h6 h7 h8⟩) Q)
        -∗ wp frame (wpE (defs₀ (F := F)) 𝒱₀ (Vt d i) none) Set.univ (Prog.lift (TpuEff.assume P dec) >>= k) Q) := by
  rw [wp_chk d i (hP ▸ chk_row G (dy + 1) hy h0 h1 h2 h3 h4 h5 h6 h7 h8)]
  rw [← Grp.acc_next]
  iintro H Hk
  iapply Hk $$ H

/-! The same steps over a frame, as rules for a goal with the whole state on the left. -/

theorem st_chk {α : Type} {Q : α → sProp 𝕄} {A : sProp 𝕄} {P : Prop} {dec : Decidable P}
    {k : PLift P → Prog (TpuEff nD τ sig (Elt F) Λ₀ (.scVector ((i 0).castLE hcore1) ((i 1).castLE hsub1))) α} (h : P)
    (hk : A ⊢ wp frame (wpE (defs₀ (F := F)) 𝒱₀ (Vt d i) none) Set.univ (k ⟨h⟩) Q) :
    A ⊢ wp frame (wpE (defs₀ (F := F)) 𝒱₀ (Vt d i) none) Set.univ (Prog.lift (TpuEff.assume P dec) >>= k) Q := by
  rw [wp_chk d i h]; exact hk

theorem st_gat {α : Type} {Q : α → sProp 𝕄} {R : sProp 𝕄} (A : Vec F S10x24x224 .f32) (r : Fin 24) (t : Fin k1_t3_loop.trips) (ch : Fin 10)
    {off : Fin 3 → Nat} {h} {u : IVec S16 32} {hi hl}
    {k : Vec F S16 .f32 → Prog (TpuEff nD τ sig (Elt F) Λ₀ (.scVector ((i 0).castLE hcore1) ((i 1).castLE hsub1))) α}
    (ho : off = ![ch.val, r.val, 0]) (e0 : u = colIdx t)
    (hk : (iprop((sP.view.loc (Vt d i) ↦[Finset.univ]{fullShare} (A : Buf (Elt F) (sP.view.loc (Vt d i)))) ∗ R) : sProp 𝕄)
      ⊢ wp frame (wpE (defs₀ (F := F)) 𝒱₀ (Vt d i) none) Set.univ (k (gat A r t ch)) Q) :
    (iprop((sP.view.loc (Vt d i) ↦[Finset.univ]{fullShare} (A : Buf (Elt F) (sP.view.loc (Vt d i)))) ∗ R) : sProp 𝕄)
      ⊢ wp frame (wpE (defs₀ (F := F)) 𝒱₀ (Vt d i) none) Set.univ
            (SparseCore.vectorLoadIdx (slP off h) ![u] hi hl >>= k) Q := by
  iintro ⟨HA, HR⟩
  iapply (wp_gat d i A r t ch ho e0) $$ HA
  iintro HA
  iapply hk
  isplitl [HA]
  · iexact HA
  · iexact HR

theorem st_scat {α : Type} {Q : α → sProp 𝕄} {R : sProp 𝕄} (G : Grp F) (dy n : Nat) (g : Vec F S3x14x224 .f32)
    {h} {u u' : IVec S16 32} {v : Vec F S16 .f32} {mask : IVec S16 1} {hi hs}
    {k : PUnit → Prog (TpuEff nD τ sig (Elt F) Λ₀ (.scVector ((i 0).castLE hcore1) ((i 1).castLE hsub1))) α}
    (e0 : u = G.uy dy) (e1 : u' = G.ux (n / 3)) (e2 : v = G.val dy (n / 3) ⟨n % 3, Nat.mod_lt _ (by decide)⟩)
    (e3 : mask = G.mask dy (n / 3))
    (hk : (iprop(R ∗ (sO.view.loc (Vt d i) ↦[Finset.univ]{fullShare} (G.rowAcc dy g (n + 1) : Buf (Elt F) (sO.view.loc (Vt d i))))) : sProp 𝕄)
      ⊢ wp frame (wpE (defs₀ (F := F)) 𝒱₀ (Vt d i) none) Set.univ (k ⟨⟩) Q) :
    (iprop(R ∗ (sO.view.loc (Vt d i) ↦[Finset.univ]{fullShare} (G.rowAcc dy g n : Buf (Elt F) (sO.view.loc (Vt d i))))) : sProp 𝕄)
      ⊢ wp frame (wpE (defs₀ (F := F)) 𝒱₀ (Vt d i) none) Set.univ
            (SparseCore.vectorStoreIdx (slO (n % 3) h) ![u, u'] v mask true hi hs >>= k) Q := by
  iintro ⟨HR, Hg⟩
  iapply (wp_scat_row d i G dy n g e0 e1 e2 e3) $$ Hg
  iintro Hg
  iapply hk
  isplitl [HR]
  · iexact HR
  · iexact Hg

theorem st_row {α : Type} {Q : α → sProp 𝕄} {R : sProp 𝕄} (G : Grp F) (dy : Nat) (g : Vec F S3x14x224 .f32)
    {P : Prop} {dec : Decidable P} {u0 u1 u2 u3 u4 u5 u6 u7 u8 y : IVec S16 32}
    {k : PLift P → Prog (TpuEff nD τ sig (Elt F) Λ₀ (.scVector ((i 0).castLE hcore1) ((i 1).castLE hsub1))) α}
    (hP : P = k1_chk2 u0 u1 u2 u3 u4 u5 u6 u7 u8 y) (hy : y = G.uy (dy + 1)) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8)
    (hk : (iprop(R ∗ (sO.view.loc (Vt d i) ↦[Finset.univ]{fullShare} (G.rowAcc (dy + 1) (G.acc g (dy + 1)) 0 : Buf (Elt F) (sO.view.loc (Vt d i))))) : sProp 𝕄)
      ⊢ wp frame (wpE (defs₀ (F := F)) 𝒱₀ (Vt d i) none) Set.univ
              (k ⟨hP ▸ chk_row G (dy + 1) hy h0 h1 h2 h3 h4 h5 h6 h7 h8⟩) Q) :
    (iprop(R ∗ (sO.view.loc (Vt d i) ↦[Finset.univ]{fullShare} (G.rowAcc dy (G.acc g dy) 27 : Buf (Elt F) (sO.view.loc (Vt d i))))) : sProp 𝕄)
      ⊢ wp frame (wpE (defs₀ (F := F)) 𝒱₀ (Vt d i) none) Set.univ (Prog.lift (TpuEff.assume P dec) >>= k) Q := by
  rw [wp_chk d i (hP ▸ chk_row G (dy + 1) hy h0 h1 h2 h3 h4 h5 h6 h7 h8), Grp.acc_next]
  exact hk

set_option maxRecDepth 65536 in
set_option maxHeartbeats 20000000 in
theorem wp_group (A : Vec F S10x24x224 .f32) (g : Vec F S3x14x224 .f32) (v4 : BitVec 32) (r : Fin k1_t2_loop.trips)
    (t : Fin k1_t3_loop.trips) (a : BitVec 32) :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))) : sProp 𝕄)
      ⊢ wp frame (wpE (defs₀ (F := F)) 𝒱₀ (Vt d i) none) Set.univ
          (k1_t3_body i aP (Memref.isWhole_whole _) aO (Memref.isWhole_whole _) sP (Memref.isWhole_whole _) sO (Memref.isWhole_whole _)
            cc1_scoped0 cc1_scoped1 v4 r (Scf.iv 0#32 1#32 r) t a)
          fun _ => iprop((sP.view.loc (Vt d i) ↦[Finset.univ]{fullShare} (A : Buf (Elt F) (sP.view.loc (Vt d i))))
            ∗ (sO.view.loc (Vt d i) ↦[Finset.univ]{fullShare} ((grp A v4 r t).acc g 9 : Buf (Elt F) (sO.view.loc (Vt d i))))) := by
  unfold k1_t3_body
  rw [k1_part52_eq_skeleton]
  refine st_seq d i ?_
  unfold k1_part52_skel
  simp only [k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton]
  refine st_seq d i ?_
  refine st_chk d i (chk1_col t) ?_
  refine st_gat d i A r t 0 (k1_off44_eq r) rfl ?_
  refine st_gat d i A r t 1 (k1_off45_eq r) rfl ?_
  refine st_gat d i A r t 2 (k1_off46_eq r) rfl ?_
  refine st_gat d i A r t 3 (k1_off47_eq r) rfl ?_
  refine st_gat d i A r t 4 (k1_off48_eq r) rfl ?_
  refine st_gat d i A r t 5 (k1_off49_eq r) rfl ?_
  refine st_gat d i A r t 6 (k1_off50_eq r) rfl ?_
  refine st_gat d i A r t 7 (k1_off51_eq r) rfl ?_
  refine st_gat d i A r t 8 (k1_off52_eq r) rfl ?_
  refine st_ret d i ?_
  dsimp only
  refine st_seq d i ?_
  refine st_gat d i A r t 9 (k1_off53_eq r) rfl ?_
  refine st_ret d i ?_
  dsimp only
  refine st_seq d i ?_
  refine st_ret d i ?_
  dsimp only
  refine st_seq d i ?_
  refine st_ret d i ?_
  dsimp only
  refine st_seq d i ?_
  refine st_chk d i (chk_row (grp A v4 r t) 0 rfl rfl rfl rfl rfl rfl rfl rfl rfl rfl) ?_
  refine (sep_mono_r (acc_start d i (grp A v4 r t) g)).trans ?_
  iterate 2 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 5 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 5 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 3 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 2 (refine st_scat d i (grp A v4 r t) _ _ _ rfl rfl rfl rfl ?_)
  refine st_row d i (grp A v4 r t) _ g rfl rfl rfl rfl rfl rfl rfl rfl rfl rfl rfl ?_
  iterate 2 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 5 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 3 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 1 (refine st_scat d i (grp A v4 r t) _ _ _ rfl rfl rfl rfl ?_)
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_scat d i (grp A v4 r t) _ _ _ rfl rfl rfl rfl ?_
  refine st_ret d i ?_
  dsimp only
  iterate 5 (refine st_scat d i (grp A v4 r t) _ _ _ rfl rfl rfl rfl ?_)
  refine st_ret d i ?_
  iintro ⟨HA, Hg⟩
  isplitl [HA]
  · iexact HA
  · iexact Hg

end Cert.Proof

end
-- ==== Proof.Tile.lean ====
/-
  A tile's task: the slab of parameter rows fetched, the block zeroed, every group of every row splatted, the block
  clipped and written out.
-/
module

public import proofs.«01_k».proof.Proof.Group
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (d : Dev nD) (i : grid1.Coords)

/-! ## What a tile computes -/

/-- A row's first `n` groups splatted. -/
def rowGroups (A : Vec F S10x24x224 .f32) (v4 : BitVec 32) (r : Fin k1_t2_loop.trips) (g : Vec F S3x14x224 .f32) : Nat → Vec F S3x14x224 .f32
  | 0 => g
  | n + 1 => if h : n < k1_t3_loop.trips then (grp A v4 r ⟨n, h⟩).acc (rowGroups A v4 r g n) 9 else rowGroups A v4 r g n

/-- The slab's first `n` rows splatted. -/
def slabRows (A : Vec F S10x24x224 .f32) (v4 : BitVec 32) (g : Vec F S3x14x224 .f32) : Nat → Vec F S3x14x224 .f32
  | 0 => g
  | n + 1 => if h : n < k1_t2_loop.trips then rowGroups A v4 ⟨n, h⟩ (slabRows A v4 g n) k1_t3_loop.trips else slabRows A v4 g n

theorem rowGroups_succ (A : Vec F S10x24x224 .f32) (v4 : BitVec 32) (r : Fin k1_t2_loop.trips) (g : Vec F S3x14x224 .f32) (t : Fin k1_t3_loop.trips) :
    rowGroups A v4 r g (t.val + 1) = (grp A v4 r t).acc (rowGroups A v4 r g t.val) 9 := by
  rw [rowGroups, dif_pos t.isLt]

theorem slabRows_succ (A : Vec F S10x24x224 .f32) (v4 : BitVec 32) (g : Vec F S3x14x224 .f32) (r : Fin k1_t2_loop.trips) :
    slabRows A v4 g (r.val + 1) = rowGroups A v4 r (slabRows A v4 g r.val) k1_t3_loop.trips := by
  rw [slabRows, dif_pos r.isLt]

/-- A tile's first slab row relative to its block's first. -/
def offL (i : grid1.Coords) : BitVec 32 :=
  Scalar.subi (Scalar.maxsi (Scalar.minsi (Scalar.subi (Scalar.muli (BitVec.ofNat 32 (i 1).val) 14#32) 4#32) 200#32) 0#32)
    (Scalar.muli (BitVec.ofNat 32 (i 1).val) 14#32)

/-- The slab a tile fetches, as it addresses it. -/
abbrev slabK (i : grid1.Coords) : Memref sig .scVector .hbm S10x24x224 .f32 :=
  (aP.slice (Rect.unit (s := S2x10x224x224) (k1_off1 i) S1x10x24x224.size (k1_off1_inb i)) (fun _ => rfl)).squeeze S10x24x224 squeezes_S1x10x24x224_S10x24x224

/-- The block a tile writes out to, as it addresses it. -/
abbrev blkK (i : grid1.Coords) : Memref sig .scVector .hbm S3x14x224 .f32 :=
  (aO.slice (Rect.unit (s := S2x3x224x224) (k1_off96 i) S1x3x14x224.size (k1_off96_inb i)) (fun _ => rfl)).squeeze S3x14x224 squeezes_S1x3x14x224_S3x14x224

/-- The slab's contents. -/
def slab (i : grid1.Coords) (B : Vec F S2x10x224x224 .f32) : Vec F S10x24x224 .f32 := (slabK i).view.read (Elt F) B

/-- The block a tile computes from a slab. -/
def blockOf (A : Vec F S10x24x224 .f32) (v4 : BitVec 32) : Vec F S3x14x224 .f32 :=
  fun j => clip01 (slabRows A v4 (fun _ => zeroF) k1_t2_loop.trips j)

set_option maxRecDepth 65536 in
set_option maxHeartbeats 4000000 in
/-- A slab row's groups. -/
theorem wp_row (A : Vec F S10x24x224 .f32) (g : Vec F S3x14x224 .f32) (v4 : BitVec 32) (r : Fin k1_t2_loop.trips) (a : BitVec 32) :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))) : sProp 𝕄)
      ⊢ wp frame (wpE (defs₀ (F := F)) 𝒱₀ (Vt d i) none) Set.univ
          (k1_t2_body i aP (Memref.isWhole_whole _) aO (Memref.isWhole_whole _) sP (Memref.isWhole_whole _) sO (Memref.isWhole_whole _)
            cc1_scoped0 cc1_scoped1 v4 r a)
          fun _ => iprop((sP.view.loc (Vt d i) ↦[Finset.univ]{fullShare} (A : Buf (Elt F) (sP.view.loc (Vt d i))))
            ∗ (sO.view.loc (Vt d i) ↦[Finset.univ]{fullShare} (rowGroups A v4 r g k1_t3_loop.trips : Buf (Elt F) (sO.view.loc (Vt d i))))) := by
  unfold k1_t2_body
  dsimp only
  iintro ⟨HA, Hg⟩
  sl_for (fun n (_ : BitVec 32) => iprop((sP.view.loc (Vt d i) ↦[Finset.univ]{fullShare} (A : Buf (Elt F) (sP.view.loc (Vt d i))))
      ∗ (sO.view.loc (Vt d i) ↦[Finset.univ]{fullShare} (rowGroups A v4 r g n : Buf (Elt F) (sO.view.loc (Vt d i)))))) $$ [HA Hg]
  case region =>
    intro t b
    rw [rowGroups_succ]
    exact wp_group d i A (rowGroups A v4 r g t.val) v4 r t b
  · isplitl [HA]; · iexact HA
    iexact Hg
  iintro %_ HI
  icases HI with ⟨HA, Hg⟩
  sl_step
  isplitl [HA]; · iexact HA
  iexact Hg

set_option maxRecDepth 65536 in
set_option maxHeartbeats 4000000 in
/-- The three loops. -/
theorem wp_loops {α : Type} {Q : α → sProp 𝕄} (A : Vec F S10x24x224 .f32) (g : Vec F S3x14x224 .f32) (v4 : BitVec 32)
    {k : Prog (TpuEff nD τ sig (Elt F) Λ₀ (.scVector ((i 0).castLE hcore1) ((i 1).castLE hsub1))) α} :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))
      ∗ (((sP.view.loc (Vt d i) ↦[Finset.univ]{fullShare} (A : Buf (Elt F) (sP.view.loc (Vt d i))))
          ∗ (sO.view.loc (Vt d i) ↦[Finset.univ]{fullShare} (blockOf A v4 : Buf (Elt F) (sO.view.loc (Vt d i)))))
        -∗ wp frame (wpE (defs₀ (F := F)) 𝒱₀ (Vt d i) none) Set.univ k Q)) : sProp 𝕄)
      ⊢ wp frame (wpE (defs₀ (F := F)) 𝒱₀ (Vt d i) none) Set.univ
          (do
            let _ ← Scf.Loop.for k1_t1_loop k1_t1_ok 0#32 (k1_t1_body i aP (Memref.isWhole_whole _) aO (Memref.isWhole_whole _) sP (Memref.isWhole_whole _) sO (Memref.isWhole_whole _) cc1_scoped0 cc1_scoped1)
            let _ ← Scf.Loop.for k1_t2_loop k1_t2_ok 0#32 (k1_t2_body i aP (Memref.isWhole_whole _) aO (Memref.isWhole_whole _) sP (Memref.isWhole_whole _) sO (Memref.isWhole_whole _) cc1_scoped0 cc1_scoped1 v4)
            let _ ← Scf.Loop.for k1_t4_loop k1_t4_ok 0#32 (k1_t4_body i aP (Memref.isWhole_whole _) aO (Memref.isWhole_whole _) sP (Memref.isWhole_whole _) sO (Memref.isWhole_whole _) cc1_scoped0 cc1_scoped1)
            k) Q := by
  iintro ⟨HA, Hg, Hk⟩
  sl_for (fun n (_ : BitVec 32) => (sO.view.loc (Vt d i) ↦[Finset.univ]{fullShare} (updRows (fun _ => zeroF) n g : Buf (Elt F) (sO.view.loc (Vt d i))))) $$ [Hg]
  case region =>
    intro t b
    exact wp_zeroRow d i g t b
  · rw [updRows_zero]; iexact Hg
  iintro %_ Hg
  rw [show Scf.trips k1_t1_loop.lb k1_t1_loop.ub k1_t1_loop.st = 14 from rfl, updRows_all]
  sl_for (fun n (_ : BitVec 32) => iprop((sP.view.loc (Vt d i) ↦[Finset.univ]{fullShare} (A : Buf (Elt F) (sP.view.loc (Vt d i))))
      ∗ (sO.view.loc (Vt d i) ↦[Finset.univ]{fullShare} (slabRows A v4 (fun _ => zeroF) n : Buf (Elt F) (sO.view.loc (Vt d i)))))) $$ [HA Hg]
  case region =>
    intro t b
    rw [slabRows_succ]
    exact wp_row d i A (slabRows A v4 (fun _ => zeroF) t.val) v4 t b
  · isplitl [HA]; · iexact HA
    iexact Hg
  iintro %_ HI
  icases HI with ⟨HA, Hg⟩
  sl_for (fun n (_ : BitVec 32) => (sO.view.loc (Vt d i) ↦[Finset.univ]{fullShare} (updRows clip01 n (slabRows A v4 (fun _ => zeroF) k1_t2_loop.trips) : Buf (Elt F) (sO.view.loc (Vt d i))))) $$ [Hg]
  case region =>
    intro t b
    exact wp_clipRow d i _ t b
  · rw [updRows_zero]; iexact Hg
  iintro %_ Hg
  rw [show Scf.trips k1_t4_loop.lb k1_t4_loop.ub k1_t4_loop.st = 14 from rfl, updRows_all]
  iapply Hk
  isplitl [HA]; · iexact HA
  iexact Hg

end Cert.Proof

end
-- ==== Proof.Task.lean ====
/-
  A tile's whole task, from its scoped storage, a share of the parameter array and its block of the image array, and
  the parameter array's rounds among the tiles.
-/
module

public import proofs.«01_k».proof.Proof.Tile
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-- The parameter array and the image array, as locations of a device. -/
abbrev pLoc (d : Dev nD) : Loc nD τ sig := (SparseCore.T d : Thread nD τ).loc main_v28
abbrev oLoc (d : Dev nD) : Loc nD τ sig := (SparseCore.T d : Thread nD τ).loc main_v29

/-! ## The image as blocks -/

/-- The grid point that owns an element of the image. -/
def ownerOf (j : S2x3x224x224.Idx) : grid1.Coords :=
  fun | 0 => ⟨(j 0).val, (j 0).isLt⟩ | 1 => ⟨(j 2).val / 14, Nat.div_lt_of_lt_mul (j 2).isLt⟩
      | ⟨_ + 2, h⟩ => absurd h (Nat.not_lt.2 (Nat.le_add_left _ _))

/-- The image the tiles compute from the parameter array. -/
def imageOf (B : Vec F S2x10x224x224 .f32) : Vec F S2x3x224x224 .f32 := fun j =>
  blockOf (slab (ownerOf j) B) (offL (ownerOf j)) (ix3 (j 1) ⟨(j 2).val % 14, Nat.mod_lt _ (by decide)⟩ (j 3))

section Body

variable (d : Dev nD) (i : grid1.Coords)

/-- An index of a tile's block, a leading axis of extent one added. -/
theorem unsq3 (h) (x : S3x14x224.Idx) :
    Shape.reshapeEquiv (s := S1x3x14x224) (s' := S3x14x224) h x = ix4 (n0 := 1) (n1 := 3) (n2 := 14) (n3 := 224) 0 (x 0) (x 1) (x 2) := by
  refine Shape.reshapeEquiv_eq_of_rowMajor _ ((Shape.rowMajor_val_four (d := ![1, 3, 14, 224]) _).trans ?_)
  refine Eq.trans ?_ (Shape.rowMajor_val_three (d := ![3, 14, 224]) x).symm
  show (((0 : ℕ) * 3 + (x 0).val) * 14 + (x 1).val) * 224 + (x 2).val = ((x 0).val * 14 + (x 1).val) * 224 + (x 2).val
  omega

/-- An element of a tile's block as the image has it. -/
theorem blkK_emb (x : S3x14x224.Idx) :
    ((blkK i).view.emb x : S2x3x224x224.Idx) = ix4 ⟨(i 0).val, (i 0).isLt⟩ (x 0) ⟨14 * (i 1).val + (x 1).val, by
      have h1 := (i 1).isLt; have h2 := (x 1).isLt
      change (i 1).val < 16 at h1; change (x 1).val < 14 at h2; change _ < 224; omega⟩ (x 2) := by
  have e : ((blkK i).view.emb x : S2x3x224x224.Idx)
      = (Rect.unit (s := S2x3x224x224) (k1_off96 i) S1x3x14x224.size (k1_off96_inb i)).emb (Shape.reshapeEquiv (s := S1x3x14x224) (s' := S3x14x224) squeezes_S1x3x14x224_S3x14x224.numel_eq x) := rfl
  rw [e, unsq3]
  have h := k1_off96_eq i
  funext a
  refine Fin.ext ?_
  match a with
  | 0 => show k1_off96 i 0 + 1 * 0 = (i 0).val; rw [h]; rfl
  | 1 => show k1_off96 i 1 + 1 * (x 0).val = (x 0).val; rw [h]; show 0 + 1 * (x 0).val = _; omega
  | 2 => show k1_off96 i 2 + 1 * (x 1).val = 14 * (i 1).val + (x 1).val; rw [h]; show 14 * (i 1).val + 1 * (x 1).val = _; omega
  | 3 => show k1_off96 i 3 + 1 * (x 2).val = (x 2).val; rw [h]; show 0 + 1 * (x 2).val = _; omega

theorem ownerOf_blkK (x : S3x14x224.Idx) : ownerOf ((blkK i).view.emb x) = i := by
  rw [blkK_emb]
  funext a
  match a with
  | 0 => rfl
  | 1 =>
    refine Fin.ext ?_
    have h2 := (x 1).isLt
    change (x 1).val < 14 at h2
    show (14 * (i 1).val + (x 1).val) / 14 = (i 1).val
    omega

theorem imageOf_blkK (B : Vec F S2x10x224x224 .f32) (x : S3x14x224.Idx) :
    imageOf B ((blkK i).view.emb x) = blockOf (slab i B) (offL i) x := by
  unfold imageOf
  rw [ownerOf_blkK, blkK_emb]
  congr 1
  have h2 := (x 1).isLt
  change (x 1).val < 14 at h2
  refine (congrArg (fun y => ix3 (x 0) y (x 2)) (Fin.ext ?_)).trans (eq_ix3 x).symm
  show (14 * (i 1).val + (x 1).val) % 14 = (x 1).val
  omega

set_option maxRecDepth 65536 in
/-- The block written out is the image's. -/
theorem blk_written (B : Vec F S2x10x224x224 .f32) (f0 : Buf (Elt F) (oLoc d)) :
    ((oLoc d) ↦[(blkK i).view.set]{fullShare} ((blkK i).view.writes (Elt F) f0 [⟨Rect.whole S3x14x224, blockOf (slab i B) (offL i)⟩] : Buf (Elt F) (oLoc d)) : sProp 𝕄)
      = (oLoc d ↦[(blkK i).view.set]{fullShare} (imageOf B : Buf (Elt F) (oLoc d))) := by
  refine pointsTo_congr fun j hj => ?_
  obtain ⟨x, -, hx⟩ := Finset.mem_map.1 hj
  rw [← hx]
  have e : (blkK i).view.emb x = ((blkK i).view.slice (Rect.whole S3x14x224)).emb x :=
    congrArg (fun y : S3x14x224.Idx => (blkK i).view.emb y) (Rect.emb_whole_apply S3x14x224 x).symm
  refine Eq.trans ?_ (imageOf_blkK i B x).symm
  rw [e]
  exact View.write_emb_of_mem (v := (blkK i).view.slice (Rect.whole S3x14x224)) (Val := Elt F) _ _ (Finset.mem_univ _)

abbrev cAcell (d : Dev nD) (c : Fin τ.nSC) (j : Fin τ.nSub) : GSem nD τ sig := (V d c j, .dma cc1_scoped0.sem)
abbrev cBcell (d : Dev nD) (c : Fin τ.nSC) (j : Fin τ.nSub) : GSem nD τ sig := (V d c j, .dma cc1_scoped1.sem)

theorem ownSems_tile :
    (ownSems0 (Vt d i) : sProp 𝕄)
      = iprop(semVal (cAcell d (cL i) (jL i)) 0 ∗ semVal (cBcell d (cL i) (jL i)) 0
          ∗ bigSep (((ownCells (Vt d i)).erase (cAcell d (cL i) (jL i))).erase (cBcell d (cL i) (jL i))) fun g => semVal g 0) := by
  unfold SparseCore.Cfg.ownSems0
  rw [SparseCore.bigSep_erase' ((mem_ownCells (g := cAcell d (cL i) (jL i))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cL i) (jL i))).mpr ⟨rfl, by
      show (SemLoc.dma cc1_scoped1.sem : SemLoc sig).isScoped .scVector = true; decide⟩⟩)]

theorem ownBufs_tile :
    (ownBufs (Vt d i) : sProp 𝕄)
      = iprop((∃ f, (Vt d i).loc cc1_scratch0 ↦{fullShare} f) ∗ (∃ f, (Vt d i).loc cc1_scratch1 ↦{fullShare} f)
          ∗ bigSep (((ownRefs (τ := τ) (.scVector (cL i) (jL i))).erase ((Proc.scVector (cL i) (jL i)).devRef cc1_scratch0)).erase
              ((Proc.scVector (cL i) (jL i)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cL i) (jL i))
    (b := (Proc.scVector (cL i) (jL i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cL i) (jL i)) (b := (Proc.scVector (cL i) (jL i)).devRef cc1_scratch1) rfl⟩)]

set_option maxRecDepth 65536 in
set_option maxHeartbeats 4000000 in
/-- The task on the tile of grid point `i`. -/
theorem tile_body (B : Vec F S2x10x224x224 .f32) (q : PosShare TreeShare) (f0 : Buf (Elt F) (oLoc d))
    (O : CellTallies nD τ sig (HIx 1)) (W : Waits sig (HIx 1)) (hO : ∀ g, O g none = 0) :
    (iprop(levAts (K (F := F)).L (K (F := F)).lev ∗ emp
        ∗ ((pLoc d ↦{q} (B : Buf (Elt F) (pLoc d))) ∗ (oLoc d ↦[(blkK i).view.set]{fullShare} f0))
        ∗ scopedBufs (Vt d i) ∗ scopedSems0 (Vt d i) ∗ owes (Vt d i) O W) : sProp 𝕄)
      ⊢ wp frame (wpE (defs₀ (F := F)) 𝒱₀ (Vt d i) none) Set.univ
          (cc1__sc_splat_body i aP (Memref.isWhole_whole _) aO (Memref.isWhole_whole _) sP (Memref.isWhole_whole _) sO (Memref.isWhole_whole _)
            cc1_scoped0 cc1_scoped1)
          fun _ => (iprop(((pLoc d ↦{q} (B : Buf (Elt F) (pLoc d))) ∗ (oLoc d ↦[(blkK i).view.set]{fullShare} (imageOf B : Buf (Elt F) (oLoc d))))
            ∗ scopedBufs (Vt d i) ∗ scopedSems0 (Vt d i)
            ∗ ∃ W', ⌜∀ p ∈ W', p ∈ W ∨ p.2 = none⌝ ∗ owes (Vt d i) O W') : sProp 𝕄) := by
  rw [cc1__sc_splat_body_eq_skeleton]; unfold cc1__sc_splat_body_skel
  rw [k1_part66_eq_skeleton]; unfold k1_part66_skel
  rw [(K (F := F)).scopedBufs_V facts d (cL i) (jL i), SparseCore.Cfg.scopedSems0_V (Val := Elt F) d (cL i) (jL i), ownSems_tile, ownBufs_tile]
  dsimp only
  iintro ⟨#Hlv, -, ⟨Hp, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (Vt d i) (default : HIx 1) O from
    (K (F := F)).mayWaits_none (thr := Vt d i) hO) $$ Hlv
  ihave Hp' := (Entails.of_eq (show (pLoc d ↦{q} (B : Buf (Elt F) (pLoc d)) : sProp 𝕄) = ((slabK i).view.loc (Vt d i) ↦{q} (B : Buf (Elt F) (pLoc d)) : sProp 𝕄) from rfl)) $$ Hp
  ihave Ho' := (Entails.of_eq (show (oLoc d ↦[(blkK i).view.set]{fullShare} f0 : sProp 𝕄) = ((blkK i).view.loc (Vt d i) ↦[(blkK i).view.set]{fullShare} f0 : sProp 𝕄) from rfl)) $$ Ho
  ihave Hs' := (Entails.of_eq (show ((Vt d i).loc cc1_scratch0 ↦{fullShare} fs : sProp 𝕄) = (sP.view.loc (Vt d i) ↦{fullShare} fs : sProp 𝕄) from rfl)) $$ Hs
  ihave Hr' := (Entails.of_eq (show ((Vt d i).loc cc1_scratch1 ↦{fullShare} fr : sProp 𝕄) = (sO.view.loc (Vt d i) ↦{fullShare} fr : sProp 𝕄) from rfl)) $$ Hr
  sl_exec
  ihave Hs2 := (Entails.of_eq (show (sP.view.loc (Vt d i) ↦{fullShare} View.write (Elt F) sP.view fs (tile_body.sl.dma0 i B) Finset.univ : sProp 𝕄)
      = (sP.view.loc (Vt d i) ↦[Finset.univ]{fullShare} (slab i B : Buf (Elt F) (sP.view.loc (Vt d i)))) from
    congrArg (fun f : Buf (Elt F) (sP.view.loc (Vt d i)) => (sP.view.loc (Vt d i) ↦[Finset.univ]{fullShare} f : sProp 𝕄))
      (View.write_whole_univ cc1_scratch0 fs _))) $$ Hs'
  rw [wp_bind]
  iapply (wp_loops d i (slab i B) fr (offL i))
  isplitl [Hs2]; · iexact Hs2
  isplitl [Hr']; · iexact Hr'
  iintro ⟨Hs', Hr'⟩
  iapply le_wp_ret
  sl_exec
  sl_step
  isplitl [Hp' Ho']
  · isplitl [Hp']; · iexact Hp'
    iapply (Entails.of_eq (blk_written d i B f0))
    iexact Ho'
  isplitl [Hs' Hr' Hbufs]
  · isplitl [Hs']; · iexists _; iexact Hs'
    isplitl [Hr']; · iexists _; iexact Hr'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Body

end Cert.Proof

end
-- ==== Proof.Share.lean ====
/-
  What the handshakes of the SparseCore call carry: the parameter array by shares, the image by blocks; each tile's
  obligation from its task's proof; the parts dealt out and joined.
-/
module

public import proofs.«01_k».proof.Proof.Task

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## Shares -/

/-- A share cut into `n + 1` pieces, half of what is left at a time. -/
def piece : (n : ℕ) → PosShare TreeShare → Fin (n + 1) → PosShare TreeShare
  | 0, q => fun _ => q
  | n + 1, q => Fin.cases q.left (piece n q.right)

omit [FloatOps F] in
/-- A whole at a share is the pieces' wholes together. -/
theorem pointsTo_pieces {ℓ : Loc nD τ sig} (I : Finset (Idx ℓ)) (f : Buf (Elt F) ℓ) (n : ℕ) :
    ∀ q : PosShare TreeShare, (ℓ ↦[I]{q} f : sProp 𝕄) = bigSep Finset.univ fun k : Fin (n + 1) => ℓ ↦[I]{piece n q k} f := by
  induction n with
  | zero => exact fun q => (bigSep_univ_of_subsingleton (0 : Fin 1) (Φ := fun k : Fin 1 => (ℓ ↦[I]{piece 0 q k} f : sProp 𝕄))).symm
  | succ n ih =>
    intro q
    have h := pointsTo_share (nD := nD) (τ := τ) (sig := sig) (Ix := HIx 1) (Val := Elt F) (Name := ℕ) (U := UU) (Lvl := ℕ) (ℓ := ℓ) (I := I) (f := f) (PosShare.mem_left_op_right q)
    rw [BI.Entails.antisymm h.1 h.2, Fin.univ_succ, Finset.cons_eq_insert,
      SparseCore.bigSep_insert' (by simp), bigSep_map, ih q.right]
    rfl

theorem nCore_eq (q : Fin 1) : (K (F := F)).nCore q = 2 := match q with | 0 => rfl
theorem nSub_eq (q : Fin 1) : (K (F := F)).nSub q = 16 := match q with | 0 => rfl

/-- The grid point of a tile of a core. -/
def coordsV (c : Fin (grid1.bound 0)) (s : Fin (grid1.bound 1)) : grid1.Coords :=
  fun | 0 => c | 1 => s | ⟨_ + 2, h⟩ => absurd h (Nat.not_lt.2 (Nat.le_add_left _ _))

/-! ## The image among the cores and tiles -/

/-- A tile's block of the image, as a set of its elements. -/
def tileSet (c : Fin 2) (s : Fin 16) : Finset S2x3x224x224.Idx := (blkK (coordsV c s)).view.set

/-- A core's part of the image. -/
def coreSet (c : Fin 2) : Finset S2x3x224x224.Idx := Finset.univ.biUnion (tileSet c)

theorem owner_of_mem {c : Fin 2} {s : Fin 16} {j : S2x3x224x224.Idx} (h : j ∈ tileSet c s) : ownerOf j = coordsV c s := by
  obtain ⟨x, -, hx⟩ := Finset.mem_map.1 h
  rw [← hx]; exact ownerOf_blkK _ x

theorem coordsV_inj {c c' : Fin 2} {s s' : Fin 16} (h : coordsV c s = coordsV c' s') : c = c' ∧ s = s' :=
  ⟨congrFun h 0, congrFun h 1⟩

theorem mem_tileSet_owner (j : S2x3x224x224.Idx) : j ∈ tileSet (ownerOf j 0) (ownerOf j 1) := by
  have h2 := (j 2).isLt
  change (j 2).val < 224 at h2
  refine Finset.mem_map.2 ⟨ix3 (n0 := 3) (n1 := 14) (n2 := 224) (j 1) ⟨(j 2).val % 14, Nat.mod_lt _ (by decide)⟩ (j 3), Finset.mem_univ _, ?_⟩
  refine (blkK_emb (coordsV (ownerOf j 0) (ownerOf j 1)) _).trans ?_
  refine Eq.trans ?_ (eq_ix4 j).symm
  funext a
  refine Fin.ext ?_
  match a with
  | 0 => rfl
  | 1 => rfl
  | 2 => show 14 * ((j 2).val / 14) + (j 2).val % 14 = (j 2).val; omega
  | 3 => rfl

theorem tiles_disjoint (c : Fin 2) : ∀ s ∈ (Finset.univ : Finset (Fin 16)), ∀ s' ∈ (Finset.univ : Finset (Fin 16)), s ≠ s' → Disjoint (tileSet c s) (tileSet c s') :=
  fun _ _ _ _ h => Finset.disjoint_left.2 fun _ h1 h2 => h (coordsV_inj ((owner_of_mem h1).symm.trans (owner_of_mem h2))).2

theorem cores_disjoint : ∀ c ∈ (Finset.univ : Finset (Fin 2)), ∀ c' ∈ (Finset.univ : Finset (Fin 2)), c ≠ c' → Disjoint (coreSet c) (coreSet c') :=
  fun _ _ _ _ h => Finset.disjoint_left.2 fun _ h1 h2 => by
    obtain ⟨_, -, h1⟩ := Finset.mem_biUnion.1 h1
    obtain ⟨_, -, h2⟩ := Finset.mem_biUnion.1 h2
    exact h (coordsV_inj ((owner_of_mem h1).symm.trans (owner_of_mem h2))).1

theorem cores_cover : (Finset.univ : Finset (Fin 2)).biUnion coreSet = Finset.univ :=
  Finset.eq_univ_of_forall fun j => Finset.mem_biUnion.2 ⟨ownerOf j 0, Finset.mem_univ _, Finset.mem_biUnion.2 ⟨ownerOf j 1, Finset.mem_univ _, mem_tileSet_owner j⟩⟩

/-- A core's and a tile's share of the parameter array. -/
abbrev coreQ (c : Fin 2) : PosShare TreeShare := piece 1 fullShare c
abbrev tileQ (c : Fin 2) (s : Fin 16) : PosShare TreeShare := piece 15 (coreQ c) s

/-! ## What the handshakes carry -/

variable (B : Dev nD → Vec F S2x10x224x224 .f32) (f0 : (d : Dev nD) → Buf (Elt F) (oLoc d))

abbrev corePts (d : Dev nD) (c : Fin 2) (f : Buf (Elt F) (oLoc d)) : sProp 𝕄 :=
  iprop((pLoc d ↦{coreQ c} (B d : Buf (Elt F) (pLoc d))) ∗ (oLoc d ↦[(coreSet c : Finset (Idx (oLoc d)))]{fullShare} f))
abbrev tilePts (d : Dev nD) (c : Fin 2) (s : Fin 16) (f : Buf (Elt F) (oLoc d)) : sProp 𝕄 :=
  iprop((pLoc d ↦{tileQ c s} (B d : Buf (Elt F) (pLoc d))) ∗ (oLoc d ↦[(tileSet c s : Finset (Idx (oLoc d)))]{fullShare} f))

/-- Each core takes its share of the parameters and its part of the image, each tile its share of the core's and its
    block; they come back with the image computed. -/
def P : (K (F := F)).Pay (nD := nD) (Val := Elt F) (Name := ℕ) (U := UU) where
  st := fun q d c => corePts B d (Fin.cast (nCore_eq q) c) (f0 d)
  dn := fun q d c => corePts B d (Fin.cast (nCore_eq q) c) (imageOf (B d))
  go := fun q d c i => tilePts B d (Fin.cast (nCore_eq q) c) (Fin.cast (nSub_eq q) i) (f0 d)
  td := fun q d c i => tilePts B d (Fin.cast (nCore_eq q) c) (Fin.cast (nSub_eq q) i) (imageOf (B d))
  x := fun _ _ => iprop(emp)

instance P_storable : (P (F := F) B f0).IsStorable where
  st q d c := (inferInstance : BI.Storable (upEmb : UEmb _ 𝕄) (corePts B d (Fin.cast (nCore_eq q) c) (f0 d)))
  dn q d c := (inferInstance : BI.Storable (upEmb : UEmb _ 𝕄) (corePts B d (Fin.cast (nCore_eq q) c) (imageOf (B d))))
  go q d c i := (inferInstance : BI.Storable (upEmb : UEmb _ 𝕄) (tilePts B d (Fin.cast (nCore_eq q) c) (Fin.cast (nSub_eq q) i) (f0 d)))
  td q d c i := (inferInstance : BI.Storable (upEmb : UEmb _ 𝕄) (tilePts B d (Fin.cast (nCore_eq q) c) (Fin.cast (nSub_eq q) i) (imageOf (B d))))

/-! ## A tile's obligation -/

theorem defs₀_vector (c : Fin τ.nSC) (s : Fin τ.nSub) :
    defs₀ (F := F) (.scVector c s) 1 ()
      = SparseCore.onTile hcore1 hsub1 (fun c s => cc1__sc_splat_body (coordsV c s)
          aP (Memref.isWhole_whole _) aO (Memref.isWhole_whole _)
          sP (Memref.isWhole_whole _) sO (Memref.isWhole_whole _) cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl : (K (F := F)).TileObl (D (F := F)) 𝒱 (P B f0) v₀ 0 := by
  intro d c i O W hO _ _
  simp only [show (P B f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (B d) _ (f0 d) O W hO).trans (wp_mono frame _ _ fun _ => obl_post)

/-! ## A core's part among its tiles, the arrays among the cores -/

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

theorem corePts_tiles (d : Dev nD) (c : Fin 2) (f : Buf (Elt F) (oLoc d)) :
    corePts B d c f = bigSep Finset.univ fun s => tilePts B d c s f := by
  unfold corePts tilePts
  rw [bigSep_sep', pointsTo_pieces Finset.univ _ 15, ← pointsTo_biUnion Finset.univ (ℓ := oLoc d) (tileSet c) (tiles_disjoint c)]
  rfl

theorem whole_cores (d : Dev nD) (f : Buf (Elt F) (oLoc d)) :
    (bigSep Finset.univ fun c => corePts B d c f) = (iprop((pLoc d ↦{fullShare} (B d : Buf (Elt F) (pLoc d))) ∗ (oLoc d ↦{fullShare} f)) : sProp 𝕄) := by
  unfold corePts
  rw [bigSep_sep', ← pointsTo_pieces Finset.univ _ 1, ← pointsTo_biUnion Finset.univ (ℓ := oLoc d) coreSet cores_disjoint, cores_cover]

theorem vecSplit : (K (F := F)).VecSplit' (P B f0) 0 := by
  intro d c
  show corePts B d (Fin.cast (nCore_eq 0) c) (f0 d) ⊢ |={Set.univ}=> iprop(
      (bigSep Finset.univ fun i : Fin ((K (F := F)).nSub 0) => tilePts B d (Fin.cast (nCore_eq 0) c) (Fin.cast (nSub_eq 0) i) (f0 d))
      ∗ ((bigSep Finset.univ fun i : Fin ((K (F := F)).nSub 0) => tilePts B d (Fin.cast (nCore_eq 0) c) (Fin.cast (nSub_eq 0) i) (imageOf (B d)))
          -∗ corePts B d (Fin.cast (nCore_eq 0) c) (imageOf (B d))))
  rw [bigSep_tasks (F := F) (fun s => tilePts B d (Fin.cast (nCore_eq 0) c) s (f0 d)),
    bigSep_tasks (F := F) (fun s => tilePts B d (Fin.cast (nCore_eq 0) c) s (imageOf (B d))), ← corePts_tiles, ← corePts_tiles]
  iintro H; imodintro
  isplitl [H]; · iexact H
  iintro H; iexact H

theorem st0_eq (d : Dev nD) : (bigSep Finset.univ fun c : Fin ((K (F := F)).nCore 0) => (P B f0).st 0 d c)
    = (iprop((pLoc d ↦{fullShare} (B d : Buf (Elt F) (pLoc d))) ∗ (oLoc d ↦{fullShare} f0 d)) : sProp 𝕄) :=
  (bigSep_congr fun _ _ => rfl).trans (whole_cores B d (f0 d))
theorem dn0_eq (d : Dev nD) : (bigSep Finset.univ fun c : Fin ((K (F := F)).nCore 0) => (P B f0).dn 0 d c)
    = (iprop((pLoc d ↦{fullShare} (B d : Buf (Elt F) (pLoc d))) ∗ (oLoc d ↦{fullShare} (imageOf (B d) : Buf (Elt F) (oLoc d)))) : sProp 𝕄) :=
  (bigSep_congr fun _ _ => rfl).trans (whole_cores B d (imageOf (B d)))

end Cert.Proof

end
-- ==== Proof.Params.lean ====
/-
  The TensorCore kernel that computes the parameter array: its body, the proof data of its pipeline and its region.
-/
module

public import proofs.«01_k».proof.Proof.Share
public import Idealize.ShloMosaic.Lib.VecWindow

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-- What the kernel's body stores, from the five blocks staged. -/
def paramsBlk (x : Vec F S1x32x6272 .f32) (w : Vec F S64x32 .f32) (b : Vec F S64x1 .f32) (hw : Vec F S8x64 .f32) (hb : Vec F S8x1 .f32) :
    Vec F S1x10x6272 .f32 :=
  k0_pay1 (k0_pay3 x w hw b hb) (k0_pay7 (k0_pay2 x w hw b hb))
    (k0_pay14 (k0_pay4 x w hw b hb) (k0_pay5 x w hw b hb) (k0_pay6 x w hw b hb) (FloatOps.ofBits .f32 1121976320#32))
    (k0_pay15 (k0_pay4 x w hw b hb) (k0_pay5 x w hw b hb) (k0_pay6 x w hw b hb) (FloatOps.ofBits .f32 1121976320#32))
    (k0_pay16 (k0_pay4 x w hw b hb) (k0_pay5 x w hw b hb) (k0_pay6 x w hw b hb) (FloatOps.ofBits .f32 1121976320#32))
    (k0_pay17 (k0_pay4 x w hw b hb) (k0_pay5 x w hw b hb) (k0_pay6 x w hw b hb) (FloatOps.ofBits .f32 1121976320#32))
    (k0_pay18 (k0_pay2 x w hw b hb)) (k0_pay19 (k0_pay2 x w hw b hb)) (k0_pay20 (k0_pay2 x w hw b hb)) (k0_pay21 (k0_pay2 x w hw b hb))

set_option maxHeartbeats 400000 in
set_option maxRecDepth 65536 in
/-- The kernel's body, from its staging buffers at contents reading as the five blocks. -/
theorem params_body (c : Dev nD) (i : grid0.Coords)
    (a2 : Memref sig .tc .vmem S1x32x6272 .f32) (h2 : a2.IsWhole) (a3 : Memref sig .tc .vmem S64x32 .f32) (h3 : a3.IsWhole)
    (a4 : Memref sig .tc .vmem S64x1 .f32) (h4 : a4.IsWhole) (a5 : Memref sig .tc .vmem S8x64 .f32) (h5 : a5.IsWhole)
    (a6 : Memref sig .tc .vmem S8x1 .f32) (h6 : a6.IsWhole) (a7 : Memref sig .tc .vmem S1x10x6272 .f32) (h7 : a7.IsWhole)
    (x : Vec F S1x32x6272 .f32) (w : Vec F S64x32 .f32) (b : Vec F S64x1 .f32) (hw : Vec F S8x64 .f32) (hb : Vec F S8x1 .f32)
    (y : Vec F S1x10x6272 .f32) :
    (iprop(owns (c : Thread nD τ) a2 fullShare x ∗ owns (c : Thread nD τ) a3 fullShare w ∗ owns (c : Thread nD τ) a4 fullShare b
        ∗ owns (c : Thread nD τ) a5 fullShare hw ∗ owns (c : Thread nD τ) a6 fullShare hb ∗ owns (c : Thread nD τ) a7 fullShare y) : sProp 𝕄)
      ⊢ wp frame (wpE (defs₀ (F := F)) 𝒱₀ (c : Thread nD τ) none) Set.univ (cc0__params_kernel i a2 h2 a3 h3 a4 h4 a5 h5 a6 h6 a7 h7)
          fun _ => (iprop(owns (c : Thread nD τ) a2 fullShare x ∗ owns (c : Thread nD τ) a3 fullShare w ∗ owns (c : Thread nD τ) a4 fullShare b
            ∗ owns (c : Thread nD τ) a5 fullShare hw ∗ owns (c : Thread nD τ) a6 fullShare hb
            ∗ owns (c : Thread nD τ) a7 fullShare (paramsBlk x w b hw hb)) : sProp 𝕄) := by
  rw [cc0__params_kernel_eq_skeleton]
  unfold cc0__params_kernel_skel
  simp only [k0_part1_eq_skeleton, k0_part2_eq_skeleton]
  unfold k0_part1_skel k0_part2_skel
  simp only [bind_assoc, pure_bind]
  unfold owns
  iintro ⟨⟨%f2, %e2, H2⟩, ⟨%f3, %e3, H3⟩, ⟨%f4, %e4, H4⟩, ⟨%f5, %e5, H5⟩, ⟨%f6, %e6, H6⟩, ⟨%f7, %e7, H7⟩⟩
  sl_exec
  sl_step
  have r2 : View.readAt (Elt F) a2.view (Rect.unit ![0, 0, 0] ![1, 32, 6272] inb_S1x32x6272_S1x32x6272_0_0_0).toLoadRect f2 = x := by
    rw [← e2]; exact View.readAt_full _ _ _
  have r3 : View.readAt (Elt F) a3.view (Rect.unit ![0, 0] ![64, 32] inb_S64x32_S64x32_0_0).toLoadRect f3 = w := by
    rw [← e3]; exact View.readAt_full _ _ _
  have r4 : View.readAt (Elt F) a4.view (Rect.unit ![0, 0] ![64, 1] inb_S64x1_S64x1_0_0).toLoadRect f4 = b := by
    rw [← e4]; exact View.readAt_full _ _ _
  have r5 : View.readAt (Elt F) a5.view (Rect.unit ![0, 0] ![8, 64] inb_S8x64_S8x64_0_0).toLoadRect f5 = hw := by
    rw [← e5]; exact View.readAt_full _ _ _
  have r6 : View.readAt (Elt F) a6.view (Rect.unit ![0, 0] ![8, 1] inb_S8x1_S8x1_0_0).toLoadRect f6 = hb := by
    rw [← e6]; exact View.readAt_full _ _ _
  simp only [r2, r3, r4, r5, r6]
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  unfold paramsBlk
  iexists _; isplitr; swap; · iexact H7
  ipureintro; exact View.read_writes_full a7.view f7 inb_S1x10x6272_S1x10x6272_0_0_0 _ []

end Cert.Proof

end
-- ==== Proof.Region.lean ====
/-
  The parameter kernel's pipeline as one region of `@main`: its proof data, its body at every point, and the region
  entered from the TensorCore's unscoped buffers at a valuation `V` and left at `V` with the result's array filled in.
-/
module

public import proofs.«01_k».proof.Proof.Params
public import proofs.«01_k».proof.Proof.Gen.KernelIdeal.Points
public import Idealize.ShloMosaic.Lib.Pipeline.RegionArrays
public import Idealize.ShloMosaic.Lib.Pipeline.FrameSuffix

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

open Idealize.ShloMosaic.Pipeline (Dat BodyObligation arrRef)

variable (V : Dev nD → Valuation τ sig (Elt F))

/-- Window `w`'s block at a point, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- What the kernel leaves at a point: from the frames' block of that point and the four weights' only blocks. -/
def outBlk (c : Dev nD) (t : Fin cfg0.N) : Vec F S1x10x6272 .f32 :=
  paramsBlk (iblk V c 0 t) (iblk V c 1 t0_0) (iblk V c 2 t0_0) (iblk V c 3 t0_0) (iblk V c 4 t0_0)

def dats (_ : Fin 1) (c : Dev nD) : Dat τ (Elt F) (HIx 1) ℕ UU ℕ cfg0 c where
  A w := V c (Proc.devRef .tc (arrRef spec0 w))
  after w t := match w with
    | ⟨0, _⟩ => iblk V c 0 t
    | ⟨1, _⟩ => iblk V c 1 t0_0
    | ⟨2, _⟩ => iblk V c 2 t0_0
    | ⟨3, _⟩ => iblk V c 3 t0_0
    | ⟨4, _⟩ => iblk V c 4 t0_0
    | ⟨5, _⟩ => outBlk V c t
  Φ _ := iprop(emp)
  q _ := fullShare
  owed _ := (K (F := F)).Otc c 0
  recorded _ := {p | (K (F := F)).lev ((c : Thread nD τ), p.1) p.2 ≤ 0}

theorem before_0 (c : Dev nD) (t : Fin cfg0.N) (d) : (dats V 0 c).before 0 t d = iblk V c 0 t := by
  unfold Dat.before; rw [if_pos (fetch0_0 t)]; unfold Dat.fetched Dat.blockOf iblk; dsimp only [dats]; rfl

/-- A window fetched at the first point only, which the body leaves at its one block `X`, is found at `X` at every point. -/
theorem before_res (c : Dev nD) (w : Fin cfg0.W) (X : (cfg0.win w).block.Idx → Elt F (cfg0.win w).elt)
    (hf : ∀ t, (cfg0.win w).fetch t = true ↔ t.val % 16 = 0) (hl : ∀ t, (cfg0.win w).flush t = false)
    (h0 : ∀ d, (dats V 0 c).fetched w t0_0 d = X) (hk : ∀ t d, (dats V 0 c).left w t d = X) (t : Fin cfg0.N) (d) :
    (dats V 0 c).before w t d = X := by
  have ht : t.val < 16 := lt_of_lt_of_eq t.isLt N_0
  by_cases h : t.val = 0
  · obtain rfl : t = t0_0 := Fin.ext h
    unfold Dat.before; rw [if_pos ((hf _).mpr rfl)]; exact h0 d
  · rw [Dat.before_of_pos _ _ _ h (Bool.eq_false_iff.mpr fun e => by have := (hf t).mp e; omega), if_neg (by rw [hl]; exact Bool.false_ne_true)]
    exact hk _ _

theorem before_1 (c : Dev nD) (t : Fin cfg0.N) (d) : (dats V 0 c).before 1 t d = iblk V c 1 t0_0 :=
  before_res V c 1 _ fetch0_1 (fun _ => rfl) (fun _ => rfl) (fun _ _ => rfl) t d
theorem before_2 (c : Dev nD) (t : Fin cfg0.N) (d) : (dats V 0 c).before 2 t d = iblk V c 2 t0_0 :=
  before_res V c 2 _ fetch0_2 (fun _ => rfl) (fun _ => rfl) (fun _ _ => rfl) t d
theorem before_3 (c : Dev nD) (t : Fin cfg0.N) (d) : (dats V 0 c).before 3 t d = iblk V c 3 t0_0 :=
  before_res V c 3 _ fetch0_3 (fun _ => rfl) (fun _ => rfl) (fun _ _ => rfl) t d
theorem before_4 (c : Dev nD) (t : Fin cfg0.N) (d) : (dats V 0 c).before 4 t d = iblk V c 4 t0_0 :=
  before_res V c 4 _ fetch0_4 (fun _ => rfl) (fun _ => rfl) (fun _ _ => rfl) t d

theorem after_0 (c : Dev nD) (t : Fin cfg0.N) : (dats V 0 c).after 0 t = iblk V c 0 t := by dsimp only [dats]
theorem after_1 (c : Dev nD) (t : Fin cfg0.N) : (dats V 0 c).after 1 t = iblk V c 1 t0_0 := by dsimp only [dats]
theorem after_2 (c : Dev nD) (t : Fin cfg0.N) : (dats V 0 c).after 2 t = iblk V c 2 t0_0 := by dsimp only [dats]
theorem after_3 (c : Dev nD) (t : Fin cfg0.N) : (dats V 0 c).after 3 t = iblk V c 3 t0_0 := by dsimp only [dats]
theorem after_4 (c : Dev nD) (t : Fin cfg0.N) : (dats V 0 c).after 4 t = iblk V c 4 t0_0 := by dsimp only [dats]
theorem after_5 (c : Dev nD) (t : Fin cfg0.N) : (dats V 0 c).after 5 t = outBlk V c t := by dsimp only [dats]

theorem defs_tc : (defs₀ (F := F)) .tc cfg0.body
    = fun a => cc0__params_kernel (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5)) := rfl
theorem prog_eq (t : Fin cfg0.N) : (defs₀ (F := F)) .tc cfg0.body (cfg0.bodyArgs t (cfg0.slots t)) = bodyAt0 t :=
  (congrFun defs_tc _).trans rfl

set_option backward.isDefEq.respectTransparency.types false in
theorem body_obligation (c : Dev nD) : BodyObligation (dats (F := F) V 0 c) (defs₀ (F := F)) 𝒱₀ none Set.univ := fun t => by
  rw [bigSep_W0, bigSep_W0]
  dsimp only
  simp only [before_0, before_1, before_2, before_3, before_4, after_0, after_1, after_2, after_3, after_4, after_5]
  rw [show (dats V 0 c).Φ t.castSucc = iprop(emp) from rfl, show (dats V 0 c).Φ t.succ = iprop(emp) from rfl,
    show (dats V 0 c).owesAt none t.succ = (dats V 0 c).owesAt none t.castSucc from rfl]
  iintro ⟨-, HW, ⟨%d0, H0⟩, ⟨%d1, H1⟩, ⟨%d2, H2⟩, ⟨%d3, H3⟩, ⟨%d4, H4⟩, ⟨%d5, H5⟩⟩
  sl_rw [prog_eq t]
  iapply (wp_wand_r frame (wpE (defs₀ (F := F)) 𝒱₀ (c : Thread nD τ) none) Set.univ)
  isplitl [H0 H1 H2 H3 H4 H5]
  · iapply (params_body c (grid0.coords t) _ _ _ _ _ _ _ _ _ _ _ _ (iblk V c 0 t) (iblk V c 1 t0_0) (iblk V c 2 t0_0) (iblk V c 3 t0_0)
      (iblk V c 4 t0_0) ((dats V 0 c).before 5 t d5))
    isplitl [H0]; · iexact H0
    isplitl [H1]; · iexact H1
    isplitl [H2]; · iexact H2
    isplitl [H3]; · iexact H3
    isplitl [H4]; · iexact H4
    iexact H5
  · iintro %_ ⟨H0, H1, H2, H3, H4, H5⟩
    isplitr; · iempintro
    isplitl [HW]; · iexact HW
    isplitl [H0]; · iexact H0
    isplitl [H1]; · iexact H1
    isplitl [H2]; · iexact H2
    isplitl [H3]; · iexact H3
    isplitl [H4]; · iexact H4
    iexact H5

/-- The one choice of prefetched tables: there is none. -/
def adm : (p : Fin 1) → (pcfgs (F := F) p).Adm := fun p => (cfgs p).toPCfg_adm

/-- The result's array when the pipeline is done. -/
def outArr (c : Dev nD) : Buf (Elt F) (((cfg0.win 5).arr).view.loc (c : Thread nD τ)) := (dats V 0 c).arrAt 5 cfg0.N

/-- The valuation the region leaves: the windows' arrays as the pipeline leaves them, every other buffer as it was. -/
def VR (c : Dev nD) : Valuation τ sig (Elt F) := Pipeline.withArrays spec0 c (V c) fun w => (dats V 0 c).arrAt w cfg0.N

theorem owed_none (c : Dev nD) (g) : (K (F := F)).Otc c 0 g none = 0 := by
  by_contra h
  have := (K (F := F)).lev_of_Otc_pos (Nat.pos_of_ne_zero h)
  rw [show (K (F := F)).lev g none = 0 from rfl] at this
  omega

/-- What the core owes around the region: the calls' starts, nothing recorded above level zero. -/
def owesR (c : Dev nD) : sProp 𝕄 :=
  iprop(∃ W, ⌜(K (F := F)).WBelow (c : Thread nD τ) W 0⌝ ∗ owes (c : Thread nD τ) ((K (F := F)).Otc c 0) W)

theorem arrays_in (c : Dev nD) : ((dats V 0 c).arrays ((dats V 0 c).arrAt · 0) : sProp 𝕄)
    = StableHlo.held (c : Thread nD τ) (Pipeline.arrRefs spec0) (V c) :=
  Pipeline.arrays_held (pcfgs (F := F)) adm (dats V) 0 launch0.toP c ((dats V 0 c).share_full fun _ => rfl) _ (V c) fun _ => rfl

theorem arrays_out (c : Dev nD) : ((dats V 0 c).arrays ((dats V 0 c).arrAt · cfg0.N) : sProp 𝕄)
    = StableHlo.held (c : Thread nD τ) (Pipeline.arrRefs spec0) (VR V c) :=
  Pipeline.arrays_held (pcfgs (F := F)) adm (dats V) 0 launch0.toP c ((dats V 0 c).share_full fun _ => rfl) _ (VR V c) fun w =>
    (Pipeline.withArrays_arr spec0 winFacts0.arr_inj c (V c) (fun w => (dats V 0 c).arrAt w cfg0.N) w).symm

/-- What is no window's array the region leaves as it was. -/
theorem held_rest (c : Dev nD) : (StableHlo.held (c : Thread nD τ) (Pipeline.ucRefs τ sig \ Pipeline.arrRefs spec0) (V c) : sProp 𝕄)
    = StableHlo.held (c : Thread nD τ) (Pipeline.ucRefs τ sig \ Pipeline.arrRefs spec0) (VR V c) :=
  StableHlo.held_congr (c : Thread nD τ) fun b hb => by
    obtain ⟨hb, hn⟩ := Finset.mem_sdiff.mp hb
    obtain ⟨r, -, rfl⟩ := Finset.mem_map.mp (Finset.mem_filter.mp hb).1
    exact (Pipeline.withArrays_of_ne spec0 c (V c) _ r fun w e => hn (Finset.mem_map.mpr ⟨_, Finset.mem_image.mpr ⟨w, Finset.mem_univ _, rfl⟩, by rw [e]⟩)).symm

/-- The pairs recorded when the region is left are at level zero: those from before it, and its own waits'. -/
theorem below_of_bound (c : Dev nD) (W : Waits sig (HIx 1)) (h : ↑W ⊆ (dats V 0 c).bound none (Fin.last cfg0.N)) :
    (K (F := F)).WBelow (c : Thread nD τ) W 0 := fun p hp => by
  rcases h hp with h | ⟨w, s, e⟩
  · exact h
  · rw [e]; exact le_of_eq rfl

def reg0 : Pipeline.RegionSeg (pcfgs (F := F)) adm (dats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (owed_none c)
  pre c := iprop(StableHlo.held (c : Thread nD τ) (Pipeline.ucRefs τ sig) (V c) ∗ owesR c)
  post c := iprop(StableHlo.held (c : Thread nD τ) (Pipeline.ucRefs τ sig) (VR V c) ∗ owesR c)
  X _ := iprop(emp)
  Y _ := iprop(emp)
  Z c := StableHlo.held (c : Thread nD τ) (Pipeline.ucRefs τ sig \ Pipeline.arrRefs spec0) (V c)
  hentry c := by
    rw [Pipeline.ownSems0_none, Pipeline.prefHeld_of_none _ rfl]
    iintro ⟨⟨Hh, HO⟩, -, -⟩
    ihave H := (Entails.of_eq (StableHlo.held_sub_split (c : Thread nD τ) (Pipeline.arrRefs_sub_ucRefs spec0 (by decide)) (V c))) $$ Hh
    icases H with ⟨Ha, Hr⟩
    imodintro
    isplitl [Ha]; · iapply (Entails.of_eq (arrays_in V c).symm); iexact Ha
    isplitr; · iempintro
    isplitl [HO]
    · unfold owesR Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show Pipeline.scopedRest spec0 c = (BI.emp : sProp 𝕄) from scopedRest0_eq c]
    iintro -; iempintro
  hout c := by
    rw [Pipeline.ownSems0_none, show Pipeline.scopedRest spec0 c = (BI.emp : sProp 𝕄) from scopedRest0_eq c]
    iintro -
    isplitr; · iempintro
    isplitr <;> iempintro
  hexit c := by
    iintro ⟨Ha, HO, -, Hr⟩
    imodintro
    isplitl [Ha Hr]
    · iapply (Entails.of_eq (StableHlo.held_sub_split (c : Thread nD τ) (Pipeline.arrRefs_sub_ucRefs spec0 (by decide)) (VR V c)).symm)
      isplitl [Ha]; · iapply (Entails.of_eq (arrays_out V c)); iexact Ha
      iapply (Entails.of_eq (held_rest V c)); iexact Hr
    · unfold owesR Pipeline.Dat.owesAt Pipeline.owesWithin
      icases HO with ⟨%W, %hW, HO⟩; iexists W; isplitr; · ipureintro; exact below_of_bound V c W hW
      iexact HO

end Cert.Proof

end
-- ==== Proof.Host.lean ====
/-
  `@main` around its two calls: the operations before the first as a list, the reshape between them, and which buffers they
  leave alone.
-/
module

public import proofs.«01_k».proof.Proof.Region

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

open Idealize.ShloMosaic.Pipeline (arrRef)

/-- The operations of `@main` before the parameter kernel. -/
def hostOps : List (HloOp τ sig (Elt F)) := [
  StableHlo.nullary main_c (constantI S_ 32 0#32),
  StableHlo.TRef.unary (StableHlo.TRef.of main_c : StableHlo.TRef sig ⟨S_, .i32⟩) main_call0.v0 (sitofp .f32),
  StableHlo.TRef.binary (StableHlo.TRef.of main_arg0 : StableHlo.TRef sig ⟨S2x3x224x224, .f32⟩) main_call0.v0 main_call0.v1 (fun x v => pad S2x3x226x226 ![0, 0, 1, 1] ![0, 0, 1, 1] ![0, 0, 0, 0] x v pads_S2x3x224x224_S2x3x226x226_000_000_110_110 h_S_),
  StableHlo.unary main_v0 main_v1 ((extractStridedSlice S2x3x224x224 ![0, 0, 0, 0] · slices_S2x3x226x226_S2x3x224x224_0_0_0_0) : (⟨S2x3x226x226, .f32⟩ : BufTy).Contents (Elt F) → (⟨S2x3x224x224, .f32⟩ : BufTy).Contents (Elt F)),
  StableHlo.unary main_v0 main_v2 ((extractStridedSlice S2x3x224x224 ![0, 0, 0, 1] · slices_S2x3x226x226_S2x3x224x224_0_0_0_1) : (⟨S2x3x226x226, .f32⟩ : BufTy).Contents (Elt F) → (⟨S2x3x224x224, .f32⟩ : BufTy).Contents (Elt F)),
  StableHlo.unary main_v0 main_v3 ((extractStridedSlice S2x3x224x224 ![0, 0, 0, 2] · slices_S2x3x226x226_S2x3x224x224_0_0_0_2) : (⟨S2x3x226x226, .f32⟩ : BufTy).Contents (Elt F) → (⟨S2x3x224x224, .f32⟩ : BufTy).Contents (Elt F)),
  StableHlo.unary main_v0 main_v4 ((extractStridedSlice S2x3x224x224 ![0, 0, 1, 0] · slices_S2x3x226x226_S2x3x224x224_0_0_1_0) : (⟨S2x3x226x226, .f32⟩ : BufTy).Contents (Elt F) → (⟨S2x3x224x224, .f32⟩ : BufTy).Contents (Elt F)),
  StableHlo.unary main_v0 main_v5 ((extractStridedSlice S2x3x224x224 ![0, 0, 1, 1] · slices_S2x3x226x226_S2x3x224x224_0_0_1_1) : (⟨S2x3x226x226, .f32⟩ : BufTy).Contents (Elt F) → (⟨S2x3x224x224, .f32⟩ : BufTy).Contents (Elt F)),
  StableHlo.unary main_v0 main_v6 ((extractStridedSlice S2x3x224x224 ![0, 0, 1, 2] · slices_S2x3x226x226_S2x3x224x224_0_0_1_2) : (⟨S2x3x226x226, .f32⟩ : BufTy).Contents (Elt F) → (⟨S2x3x224x224, .f32⟩ : BufTy).Contents (Elt F)),
  StableHlo.unary main_v0 main_v7 ((extractStridedSlice S2x3x224x224 ![0, 0, 2, 0] · slices_S2x3x226x226_S2x3x224x224_0_0_2_0) : (⟨S2x3x226x226, .f32⟩ : BufTy).Contents (Elt F) → (⟨S2x3x224x224, .f32⟩ : BufTy).Contents (Elt F)),
  StableHlo.unary main_v0 main_v8 ((extractStridedSlice S2x3x224x224 ![0, 0, 2, 1] · slices_S2x3x226x226_S2x3x224x224_0_0_2_1) : (⟨S2x3x226x226, .f32⟩ : BufTy).Contents (Elt F) → (⟨S2x3x224x224, .f32⟩ : BufTy).Contents (Elt F)),
  StableHlo.unary main_v0 main_v9 ((extractStridedSlice S2x3x224x224 ![0, 0, 2, 2] · slices_S2x3x226x226_S2x3x224x224_0_0_2_2) : (⟨S2x3x226x226, .f32⟩ : BufTy).Contents (Elt F) → (⟨S2x3x224x224, .f32⟩ : BufTy).Contents (Elt F)),
  StableHlo.unary main_v1 main_v10 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v2 main_v11 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v3 main_v12 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v4 main_v13 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v5 main_v14 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v6 main_v15 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v7 main_v16 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v8 main_v17 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.unary main_v9 main_v18 (broadcastInDim S2x3x1x224x224 ![0, 1, 3, 4] bcast_S2x3x224x224_S2x3x1x224x224_0_1_3_4 : (⟨S2x3x224x224, .f32⟩ : BufTy).Contents (Elt F) → (⟨S2x3x1x224x224, .f32⟩ : BufTy).Contents (Elt F)),
  StableHlo.nary ![main_v10, main_v11, main_v12, main_v13, main_v14, main_v15, main_v16, main_v17, main_v18] main_v19 (fun u => (concatenate S2x3x9x224x224 2 [⟨S2x3x1x224x224, (u 0 : (⟨S2x3x1x224x224, .f32⟩ : BufTy).Contents (Elt F))⟩, ⟨S2x3x1x224x224, (u 1 : (⟨S2x3x1x224x224, .f32⟩ : BufTy).Contents (Elt F))⟩, ⟨S2x3x1x224x224, (u 2 : (⟨S2x3x1x224x224, .f32⟩ : BufTy).Contents (Elt F))⟩, ⟨S2x3x1x224x224, (u 3 : (⟨S2x3x1x224x224, .f32⟩ : BufTy).Contents (Elt F))⟩, ⟨S2x3x1x224x224, (u 4 : (⟨S2x3x1x224x224, .f32⟩ : BufTy).Contents (Elt F))⟩, ⟨S2x3x1x224x224, (u 5 : (⟨S2x3x1x224x224, .f32⟩ : BufTy).Contents (Elt F))⟩, ⟨S2x3x1x224x224, (u 6 : (⟨S2x3x1x224x224, .f32⟩ : BufTy).Contents (Elt F))⟩, ⟨S2x3x1x224x224, (u 7 : (⟨S2x3x1x224x224, .f32⟩ : BufTy).Contents (Elt F))⟩, ⟨S2x3x1x224x224, (u 8 : (⟨S2x3x1x224x224, .f32⟩ : BufTy).Contents (Elt F))⟩] concatenates_S2x3x1x224x224_S2x3x1x224x224_S2x3x1x224x224_S2x3x1x224x224_S2x3x1x224x224_S2x3x1x224x224_S2x3x1x224x224_S2x3x1x224x224_S2x3x1x224x224_S2x3x9x224x224_d2 : (⟨S2x3x9x224x224, .f32⟩ : BufTy).Contents (Elt F))),
  StableHlo.reshape main_v19 main_v20 (rfl : (.f32 : EltTy) = .f32) shapeCasts_S2x3x9x224x224_S2x27x50176,
  StableHlo.nullary main_c_0 (constantI S_ 32 0#32),
  StableHlo.TRef.unary (StableHlo.TRef.of main_c_0 : StableHlo.TRef sig ⟨S_, .i32⟩) main_call1.v0 (sitofp .f32),
  StableHlo.TRef.binary (StableHlo.TRef.of main_v20 : StableHlo.TRef sig ⟨S2x27x50176, .f32⟩) main_call1.v0 main_call1.v1 (fun x v => pad S2x32x50176 ![0, 0, 0] ![0, 5, 0] ![0, 0, 0] x v pads_S2x27x50176_S2x32x50176_000_050_000 h_S_),
  StableHlo.reshape main_arg1 main_v22 (rfl : (.f32 : EltTy) = .f32) shapeCasts_S64x3x3x3_S64x27,
  StableHlo.nullary main_c_1 (constantI S_ 32 0#32),
  StableHlo.TRef.unary (StableHlo.TRef.of main_c_1 : StableHlo.TRef sig ⟨S_, .i32⟩) main_call2.v0 (sitofp .f32),
  StableHlo.TRef.binary (StableHlo.TRef.of main_v22 : StableHlo.TRef sig ⟨S64x27, .f32⟩) main_call2.v0 main_call2.v1 (fun x v => pad S64x32 ![0, 0] ![0, 5] ![0, 0] x v pads_S64x27_S64x32_000_050 h_S_),
  StableHlo.reshape main_arg3 main_v24 (rfl : (.f32 : EltTy) = .f32) shapeCasts_S8x64x1x1_S8x64,
  StableHlo.reshape main_arg2 main_v25 (rfl : (.f32 : EltTy) = .f32) shapeCasts_S64_S64x1,
  StableHlo.reshape main_arg4 main_v26 (rfl : (.f32 : EltTy) = .f32) shapeCasts_S8_S8x1]

/-- The reshape between the calls. -/
def midOp : HloOp τ sig (Elt F) := StableHlo.reshape main_v27 main_v28 (rfl : (.f32 : EltTy) = .f32) shapeCasts_S2x10x50176_S2x10x224x224

theorem main_eq (d : Dev nD) : main (F := F) d
    = (StableHlo.seq hostOps >>= fun _ => Prog.lift (.customCall (SparseCore.inner (Pipeline.entry 0)) ()) >>= fun _ =>
        StableHlo.seq [midOp] >>= fun _ => (sc.run d 0 >>= fun _ => pure ⟨⟩)) := by
  rw [StableHlo.seq_bind_seqK]
  simp only [StableHlo.seq_bind_seqK]
  rfl

theorem hostOps_sub : ∀ op ∈ (hostOps (F := F)), op.bufs ⊆ Pipeline.ucRefs τ sig := fun op hop =>
  Pipeline.sub_ucRefs op (List.forall_iff_forall_mem.mp (show (hostOps (F := F)).Forall fun op => op.bufs ⊆ StableHlo.tcRefs τ sig by
    unfold hostOps
    simp) op hop)

theorem hostOps_fresh : ∀ op ∈ (hostOps (F := F)), op.fresh = ∅ := fun op hop =>
  List.forall_iff_forall_mem.mp (StableHlo.forall_fresh_of_map (ops := hostOps (F := F)) rfl) op hop

/-- What the operations before the first call write. -/
def hostRefs : List (Ref sig .tc) := [main_c, main_call0_v0, main_v0, main_v1, main_v2, main_v3, main_v4, main_v5, main_v6, main_v7, main_v8,
  main_v9, main_v10, main_v11, main_v12, main_v13, main_v14, main_v15, main_v16, main_v17, main_v18, main_v19, main_v20, main_c_0,
  main_call1_v0, main_v21, main_v22, main_c_1, main_call2_v0, main_v23, main_v24, main_v25, main_v26]

theorem hostOps_writes : (hostOps (F := F)).Forall fun op => op.writes ⊆ (hostRefs.map (Proc.devRef (τ := τ) .tc)).toFinset :=
  StableHlo.forall_writes_sub_of_map rfl

variable (m : (ℓ : Loc nD τ sig) → Buf (Elt F) ℓ)

/-- The buffers of a device at launch; -/
def Vm (d : Dev nD) : Valuation τ sig (Elt F) := fun b => m ((d, b) : Loc nD τ sig)
/-- when the parameter kernel is entered; -/
def V0 (d : Dev nD) : Valuation τ sig (Elt F) := StableHlo.after hostOps (Vm m d)
/-- when it is left; -/
def V1 (d : Dev nD) : Valuation τ sig (Elt F) := VR (V0 m) d
/-- and when the SparseCore call starts. -/
def V2 (d : Dev nD) : Valuation τ sig (Elt F) := StableHlo.after [midOp] (V1 m d)

/-- A buffer no operation writes and no window names is, at the SparseCore call, as launched. -/
theorem V2_kept (d : Dev nD) (r : Ref sig .tc) (h0 : r ∉ hostRefs) (h1 : ∀ w, arrRef spec0 w ≠ r) (h2 : r ≠ main_v28) :
    V2 m d (Proc.devRef .tc r) = m ((d.tc : Thread nD τ).loc r) := by
  unfold V2 V1 VR V0
  rw [StableHlo.after_of_forall_not_mem [midOp] _ (fun op hop => by
      obtain rfl := List.mem_singleton.mp hop
      unfold midOp
      rw [StableHlo.reshape_writes, Finset.mem_singleton]; exact StableHlo.devRef_ne_of_ne h2),
    Pipeline.withArrays_of_ne spec0 d _ _ r h1, StableHlo.after_of_writes_sub hostOps _ hostOps_writes h0]
  rfl

end Cert.Proof

end
-- ==== Proof.Run.lean ====
/-
  The program's run: `@main` on the TensorCore — the host operations, the parameter kernel's region, the reshape, the
  SparseCore call — and what every execution ends with: the arguments as launched, the result at the splatted image.
-/
module

public import proofs.«01_k».proof.Proof.Host

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (m : (ℓ : Loc nD τ sig) → Buf (Elt F) ℓ) (ρ : Dev nD → PrngReg)

/-- The parameters the SparseCore call reads. -/
def Bm (d : Dev nD) : Vec F S2x10x224x224 .f32 := V2 m d (Proc.devRef .tc main_v28)
/-- What the image's buffer holds when it starts. -/
def fm (d : Dev nD) : Buf (Elt F) (oLoc d) := V2 m d (Proc.devRef .tc main_v29)

/-- The handshakes' rounds and the pipeline's; no copy counted. -/
def u₀ : UU := (initOf (K (F := F)).hsCells (K (F := F)).hsToks,
  (initOf (Pipeline.cells (nD := nD) (τ := τ) cfgs cellOf_inj) (Pipeline.launchToks cfgs cellOf_inj), 1))

/-- The pipeline's rounds of device `d`. -/
abbrev G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (Bm m) (fm m)).x q thr) := by
  unfold u₀
  iintro Hu
  ihave H := (ownU_pair (initOf (K (F := F)).hsCells (K (F := F)).hsToks) _) $$ Hu
  icases H with ⟨HH, HP⟩
  ihave H2 := (own_pair_emb embR _ _) $$ HP
  icases H2 with ⟨HP, -⟩
  ihave H3 := (show (BI.own ((Emb.inl.trans embR) (initOf (Pipeline.cells (nD := nD) (τ := τ) cfgs cellOf_inj) (Pipeline.launchToks cfgs cellOf_inj))) : sProp 𝕄)
    ⊢ _ from Pipeline.fund_ghost cfgs EP cellOf_inj) $$ HP
  imod H3
  icases H3 with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p : Fin 1 => Pipeline.cellsGhost (nD := nD) (τ := τ) cfgs EP p c) = (bigSep Finset.univ fun c : Dev nD => Pipeline.cellsGhost cfgs EP 0 c : sProp 𝕄)
        from bigSep_congr fun d _ => bigSep_univ_of_subsingleton (0 : Fin 1))); iexact Hg
    · iapply (Entails.of_eq (show (bigSep Finset.univ fun c : Dev nD => bigSep Finset.univ fun p : Fin 1 => Pipeline.toksInit (nD := nD) (τ := τ) cfgs EP p c) = (bigSep Finset.univ fun c : Dev nD => Pipeline.toksInit cfgs EP 0 c : sProp 𝕄)
        from bigSep_congr fun d _ => bigSep_univ_of_subsingleton (0 : Fin 1))); iexact Ht
  rw [show (bigSep Finset.univ fun thr : Thread nD τ => bigSep Finset.univ fun q : Fin 1 => (P (F := F) (Bm m) (fm m)).x q thr)
    = bigSep Finset.univ fun _ => (iprop(emp) : sProp 𝕄) from bigSep_congr fun _ _ => bigSep_univ_of_subsingleton (0 : Fin 1)]
  rw [show (bigSep Finset.univ fun _ : Thread nD τ => (iprop(emp) : sProp 𝕄)) = iprop(emp) from bigSep_emp_const _]
  iempintro

/-- The buffers the end is stated of, out of the unscoped ones. -/
def keyRefs : Finset (Ref sig .tc) := {main_arg0, main_arg1, main_arg2, main_arg3, main_arg4, main_v28, main_v29}

theorem unscoped_split (d : Dev nD) (W : Valuation τ sig (Elt F)) : (StableHlo.held (d : Thread nD τ) (Pipeline.ucRefs τ sig) W : sProp 𝕄)
    ⊢ iprop(((d.tc : Thread nD τ).loc main_arg0 ↦{fullShare} W (Proc.devRef .tc main_arg0)) ∗ ((d.tc : Thread nD τ).loc main_arg1 ↦{fullShare} W (Proc.devRef .tc main_arg1))
        ∗ ((d.tc : Thread nD τ).loc main_arg2 ↦{fullShare} W (Proc.devRef .tc main_arg2)) ∗ ((d.tc : Thread nD τ).loc main_arg3 ↦{fullShare} W (Proc.devRef .tc main_arg3))
        ∗ ((d.tc : Thread nD τ).loc main_arg4 ↦{fullShare} W (Proc.devRef .tc main_arg4)) ∗ (pLoc d ↦{fullShare} W (Proc.devRef .tc main_v28))
        ∗ (oLoc d ↦{fullShare} W (Proc.devRef .tc main_v29))) := by
  rw [← Pipeline.unscopedBufs_held]
  unfold unscopedBufs
  refine (bigSep_subset (t := keyRefs) (by decide)).trans ?_
  unfold keyRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  exact Entails.of_eq (show (iprop(((d.tc : Thread nD τ).loc main_arg0 ↦{fullShare} W (Proc.devRef .tc main_arg0)) ∗ ((d.tc : Thread nD τ).loc main_arg1 ↦{fullShare} W (Proc.devRef .tc main_arg1))
        ∗ ((d.tc : Thread nD τ).loc main_arg2 ↦{fullShare} W (Proc.devRef .tc main_arg2)) ∗ ((d.tc : Thread nD τ).loc main_arg3 ↦{fullShare} W (Proc.devRef .tc main_arg3))
        ∗ ((d.tc : Thread nD τ).loc main_arg4 ↦{fullShare} W (Proc.devRef .tc main_arg4)) ∗ ((d.tc : Thread nD τ).loc main_v28 ↦{fullShare} W (Proc.devRef .tc main_v28))
        ∗ ((d.tc : Thread nD τ).loc main_v29 ↦{fullShare} W (Proc.devRef .tc main_v29))) : sProp 𝕄) = _ from rfl)

abbrev argPts (d : Dev nD) : sProp 𝕄 :=
  iprop(((d.tc : Thread nD τ).loc main_arg0 ↦{fullShare} m ((d.tc : Thread nD τ).loc main_arg0)) ∗ ((d.tc : Thread nD τ).loc main_arg1 ↦{fullShare} m ((d.tc : Thread nD τ).loc main_arg1))
    ∗ ((d.tc : Thread nD τ).loc main_arg2 ↦{fullShare} m ((d.tc : Thread nD τ).loc main_arg2)) ∗ ((d.tc : Thread nD τ).loc main_arg3 ↦{fullShare} m ((d.tc : Thread nD τ).loc main_arg3))
    ∗ ((d.tc : Thread nD τ).loc main_arg4 ↦{fullShare} m ((d.tc : Thread nD τ).loc main_arg4)))

abbrev FIN (d : Dev nD) : sProp 𝕄 := iprop(argPts m d ∗ (oLoc d ↦{fullShare} (imageOf (Bm m d) : Buf (Elt F) (oLoc d))))

theorem midOp_sub : ∀ op ∈ [midOp (F := F)], op.bufs ⊆ Pipeline.ucRefs τ sig := by
  intro op h
  rw [List.mem_singleton.mp h]
  exact Pipeline.sub_ucRefs _ (by simp [midOp])

theorem midOp_fresh : ∀ op ∈ [midOp (F := F)], op.fresh = ∅ := by
  intro op h
  rw [List.mem_singleton.mp h]
  rfl

theorem V0_def (d : Dev nD) : V0 m d = StableHlo.after hostOps (Vm m d) := by unfold V0; rfl
theorem V2_def (d : Dev nD) : V2 m d = StableHlo.after [midOp] (V1 m d) := by unfold V2; rfl

theorem held_V0 (d : Dev nD) : (StableHlo.held (d : Thread nD τ) (Pipeline.ucRefs τ sig) (StableHlo.after hostOps (Vm m d)) : sProp 𝕄)
    ⊢ StableHlo.held (d : Thread nD τ) (Pipeline.ucRefs τ sig) (V0 m d) :=
  Entails.of_eq (congrArg _ (V0_def m d).symm)

theorem held_V2 (d : Dev nD) : (StableHlo.held (d : Thread nD τ) (Pipeline.ucRefs τ sig) (StableHlo.after [midOp] (V1 m d)) : sProp 𝕄)
    ⊢ StableHlo.held (d : Thread nD τ) (Pipeline.ucRefs τ sig) (V2 m d) :=
  Entails.of_eq (congrArg _ (V2_def m d).symm)

theorem reg0_pre (d : Dev nD) : (reg0 (V0 m)).pre d = (iprop(StableHlo.held (d : Thread nD τ) (Pipeline.ucRefs τ sig) (V0 m d) ∗ owesR d) : sProp 𝕄) := rfl

theorem reg0_post (d : Dev nD) : (reg0 (V0 m)).post d ⊢ (iprop(StableHlo.held (d : Thread nD τ) (Pipeline.ucRefs τ sig) (V1 m d) ∗ owesR d) : sProp 𝕄) :=
  Entails.of_eq rfl

/-- What the TensorCore owes, taken out of its state before the call, and the state from it. -/
theorem tcSt_owes (d : Dev nD) : ((K (F := F)).tcSt EH d 0 : sProp 𝕄) ⊢ iprop(owesR d ∗ (owesR d -∗ (K (F := F)).tcSt EH d 0)) := by
  unfold SparseCore.Cfg.tcSt owesR
  iintro ⟨HO, Hst⟩
  isplitl [HO]; · iexact HO
  iintro HO
  isplitl [HO]; · iexact HO
  iexact Hst

theorem V2_args (d : Dev nD) : ∀ r ∈ ({main_arg0, main_arg1, main_arg2, main_arg3, main_arg4} : Finset (Ref sig .tc)),
    V2 m d (Proc.devRef .tc r) = m ((d.tc : Thread nD τ).loc r) := by
  have h : ∀ r ∈ ({main_arg0, main_arg1, main_arg2, main_arg3, main_arg4} : Finset (Ref sig .tc)),
      r ∉ hostRefs ∧ (∀ w, Pipeline.arrRef spec0 w ≠ r) ∧ r ≠ main_v28 := by decide
  exact fun r hr => V2_kept m d r (h r hr).1 (h r hr).2.1 (h r hr).2.2

variable [∀ e, Nonempty (Elt F e)]

set_option backward.isDefEq.respectTransparency.types false in
theorem hmain (κ : GSem nD τ sig → ℕ) (d : Dev nD) :
    iprop((K (F := F)).ctx EH (P (Bm m) (fm m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hub, Hts, -⟩, Hg, Htk⟩
  ihave Hh := (show (unscopedBufs d (fun b => m ((SparseCore.T d : Thread nD τ).loc b)) : sProp 𝕄) ⊢ StableHlo.held (d : Thread nD τ) (Pipeline.ucRefs τ sig) (Vm m d)
    from Entails.of_eq (Pipeline.unscopedBufs_held d (Vm m d))) $$ Hub
  iapply (StableHlo.wp_seq 𝒱 none Set.univ d (Pipeline.ucRefs τ sig) _ hostOps hostOps_sub hostOps_fresh (Vm m d)) $$ [Hb Hh]
  · isplitl [Hb] <;> iassumption
  iintro ⟨Hb, Hh⟩
  ihave #Hlev := (SparseCore.Cfg.ctx_levAts κ) $$ Hctx
  ihave Hh := (held_V0 m d) $$ Hh
  ihave Hst := (tcSt_owes d) $$ Hst
  icases Hst with ⟨HO, Hst⟩
  rw [wp_bind]
  iapply (SparseCore.Cfg.wp_liftProg (K := K (F := F)) (D := D (F := F)) (𝒱 := 𝒱) (SparseCore.T d) Set.univ none (Prog.lift (.customCall (Pipeline.entry 0) ())) _)
  iapply (Pipeline.RegionSeg.wp pcfgs adm (dats (V0 m)) none cellOf_inj EP defs₀ 𝒱₀ (K (F := F)).L (K (F := F)).lev (reg0 (V0 m)) d none (fun _ h => nomatch h) (fun x => .ret x) _)
  isplitr [Hb Hh HO Hg Htk]
  · iintro ⟨Hb, Hp⟩
    ihave Hp := (reg0_post m d) $$ Hp
    icases Hp with ⟨Hh, HO⟩
    ihave Hst := Hst $$ HO
    rw [wp_ret]
    imodintro
    iapply (StableHlo.wp_seq 𝒱 none Set.univ d (Pipeline.ucRefs τ sig) _ [midOp] midOp_sub midOp_fresh (V1 m d)) $$ [Hb Hh]
    · isplitl [Hb] <;> iassumption
    iintro ⟨Hb, Hh⟩
    ihave Hh := (held_V2 m d) $$ Hh
    ihave Hh := (unscoped_split d (V2 m d)) $$ Hh
    rw [V2_args m d main_arg0 (by decide), V2_args m d main_arg1 (by decide), V2_args m d main_arg2 (by decide), V2_args m d main_arg3 (by decide), V2_args m d main_arg4 (by decide)]
    icases Hh with ⟨H0, H1, H2, H3, H4, HP, HQ⟩
    rw [wp_bind]
    iapply (SparseCore.Cfg.wp_run (K := K (F := F)) (D := D (F := F)) (𝒱 := 𝒱) (EH := EH) (P := P (Bm m) (fm m)) (κ := κ) d 0)
    isplitr; · iexact Hctx
    isplitl [Hst]; · iexact Hst
    isplitl [HP HQ]
    · rw [st0_eq (Bm m) (fm m) d]
      isplitl [HP]; · iexact HP
      iexact HQ
    rw [dn0_eq (Bm m) (fm m) d]
    iintro ⟨Hst, HP, HQ⟩
    rw [wp_pure]
    imodintro
    isplitl [Hst]; · iexact Hst
    isplitl [H0 H1 H2 H3 H4 HQ]
    · isplitr [HQ]
      · isplitl [H0]; · iexact H0
        isplitl [H1]; · iexact H1
        isplitl [H2]; · iexact H2
        isplitl [H3]; · iexact H3
        iexact H4
      iexact HQ
    isplitl [Hb]; · iexact Hb
    iexact Hts
  isplitl [Hb]; · iexact Hb
  isplitl [Hh HO]
  · rw [reg0_pre]
    isplitl [Hh]; · iexact Hh
    iexact HO
  isplitr; · iexact Hlev
  isplitl [Hg]; · iexact Hg
  iexact Htk

/-- A whole buffer owned is what the memory holds there. -/
theorem mem_agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro ⟨HSI, Hi⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr [HSI]
  · ipureintro; exact funext fun i => h1 i (Finset.mem_univ i)
  · iexact HSI

/-- What the end is read for: the arguments as launched, and the result the image of the kernel's parameters. -/
def fq (c : Dev nD) (s' : Phys nD τ sig (Elt F)) : Prop :=
  (s'.mem.mem ((c.tc : Thread nD τ).loc main_arg0) = m ((c.tc : Thread nD τ).loc main_arg0)
    ∧ s'.mem.mem ((c.tc : Thread nD τ).loc main_arg1) = m ((c.tc : Thread nD τ).loc main_arg1)
    ∧ s'.mem.mem ((c.tc : Thread nD τ).loc main_arg2) = m ((c.tc : Thread nD τ).loc main_arg2)
    ∧ s'.mem.mem ((c.tc : Thread nD τ).loc main_arg3) = m ((c.tc : Thread nD τ).loc main_arg3)
    ∧ s'.mem.mem ((c.tc : Thread nD τ).loc main_arg4) = m ((c.tc : Thread nD τ).loc main_arg4))
  ∧ s'.mem.mem (oLoc c) = (imageOf (Bm m c) : Buf (Elt F) (oLoc c))

theorem hfin (c : Dev nD) (s' : Phys nD τ sig (Elt F)) : iprop(FIN m c ∗ SI s') ⊢ (⌜fq m c s'⌝ : sProp 𝕄) := by
  iintro ⟨⟨⟨H0, H1, H2, H3, H4⟩, HQ⟩, HSI⟩
  ihave H := (mem_agree s' _ _) $$ [HSI H0]
  · isplitl [HSI] <;> iassumption
  icases H with ⟨%h0, HSI⟩
  ihave H := (mem_agree s' _ _) $$ [HSI H1]
  · isplitl [HSI] <;> iassumption
  icases H with ⟨%h1, HSI⟩
  ihave H := (mem_agree s' _ _) $$ [HSI H2]
  · isplitl [HSI] <;> iassumption
  icases H with ⟨%h2, HSI⟩
  ihave H := (mem_agree s' _ _) $$ [HSI H3]
  · isplitl [HSI] <;> iassumption
  icases H with ⟨%h3, HSI⟩
  ihave H := (mem_agree s' _ _) $$ [HSI H4]
  · isplitl [HSI] <;> iassumption
  icases H with ⟨%h4, HSI⟩
  ihave H := (mem_agree s' _ _) $$ [HSI HQ]
  · isplitl [HSI] <;> iassumption
  icases H with ⟨%h5, HSI⟩
  ipureintro
  exact ⟨⟨h0, h1, h2, h3, h4⟩, h5⟩

def QC : PUnit × MemSt nD τ sig (Elt F) → Prop := fun r =>
  (∀ c : Dev nD, (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.mem (oLoc c) = (imageOf (Bm m c) : Buf (Elt F) (oLoc c))) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Bm m) (fm m)) (A := ∅) facts v₀
    (fun q hq => match q with | 0 => nomatch hq)
    (fun q _ => match q with | 0 => tileObl (Bm m) (fm m))
    (fun q _ => match q with | 0 => SparseCore.Cfg.VecSplit.of_plain (vecSplit (Bm m) (fm m)))
    m ρ main (fun d => G d) (FIN m) (u₀ (F := F)) (sep_elim_left.trans (hu₀ m)) (hmain m ρ) (fq m) (hfin m) (QC m) (fun _ h hz => ⟨h, hz⟩)

end Cert.Proof

end
-- ==== Proof.Call.Setup.lean ====
/-
  The program as the launch theorem for the SparseCore calls sees it: the configuration, the tables of bodies, the
  ghost state (the handshakes' rounds, the pipeline's rounds, the copies' counters) and the operand names of the
  vector subcores' body.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.SplatIdeal
public import proofs.«01_k».proof.Proof.Gen.SplatIdeal.Skeleton

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels: the program's own, with no pipeline's. -/
abbrev ΛP : Labels := Pipeline.Sig Λ₀ (Fin 0) fun p => (pcfgs (F := F) p).Adm

/-- The SparseCore configuration of the program. -/
abbrev K : SparseCore.Cfg τ sig (ΛP (F := F)) 1 := sc (F := F)

/-- The table of bodies the SparseCore configuration is laid over: the pipeline's. -/
abbrev D [FloatOps F] : Defs nD τ sig (Elt F) (ΛP (F := F)) := Pipeline.defs pcfgs defs₀

/-- No body of the program has a variant. -/
abbrev 𝒱₀ : Variants := Variants.none

abbrev 𝒱 : Variants := 𝒱₀.lift

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ

/-- The user's resource algebra: handshakes, counters of the plain copies. -/
abbrev UU : Type := UH × Counters

local notation "𝕄" => MT nD τ sig (HIx 1) (Elt F) ℕ UU ℕ

abbrev EH : Emb UH (MT nD τ sig (HIx 1) (Elt F) ℕ UU ℕ) := embL

/-- The SparseCore of a grid point. -/
abbrev cL (i : grid0.Coords) : Fin τ.nSC := (i 0).castLE hcore0
/-- The tile of a grid point. -/
abbrev jL (i : grid0.Coords) : Fin τ.nSub := (i 1).castLE hsub0

/-- The parameter array, as a tile names it. -/
abbrev aP : Memref sig .scVector .hbm S2x10x224x224 .f32 := Memref.whole main_arg0_scv
/-- The image array, as a tile names it. -/
abbrev aO : Memref sig .scVector .hbm S2x3x224x224 .f32 := Memref.whole main_v0_scv
/-- A tile's slab of parameter rows. -/
abbrev sP : Memref sig .scVector .vmem S10x24x224 .f32 := Memref.whole cc0_scratch0
/-- A tile's block of the image. -/
abbrev sO : Memref sig .scVector .vmem S3x14x224 .f32 := Memref.whole cc0_scratch1

end Cert.Proof.Call

end
-- ==== Proof.Call.Splat.lean ====
/-
  One group of sixteen pixels splatted by a tile: the ten parameter vectors gathered from the tile's slab, and the
  9 × 9 × 3 masked scatter-adds into the tile's block of the image. The group's index vectors, masks and values are
  stated once, as functions of the window offsets `(dy, dx)` and the channel, and one lemma steps over one
  scatter-add; the block's contents are carried as a fold over the window.
-/
module

public import proofs.«01_k».proof.Proof.Call.Setup
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## A group as values -/

/-- What a group of sixteen pixels reads: the base column and row in the tile's block, the mask of the lanes whose
    column is in the image, and the parameters. -/
structure Grp (F : FTy → Type) where
  cx : IVec S16 32
  cm : IVec S16 1
  cy : IVec S16 32
  gx : FVec F S16 .f32
  gy : FVec F S16 .f32
  hA : FVec F S16 .f32
  cB : FVec F S16 .f32
  hC : FVec F S16 .f32
  col : Fin 3 → FVec F S16 .f32

/-- The window offset `d - 4`, as a word. -/
def dI : Nat → BitVec 32
  | 0 => 4294967292#32 | 1 => 4294967293#32 | 2 => 4294967294#32 | 3 => 4294967295#32 | 4 => 0#32
  | 5 => 1#32 | 6 => 2#32 | 7 => 3#32 | _ => 4#32

/-- The window offset `d - 4`, as the word of a float. -/
def dW : Nat → BitVec 32
  | 0 => 0xC0800000#32 | 1 => 0xC0400000#32 | 2 => 0xC0000000#32 | 3 => 0xBF800000#32 | 4 => 0x00000000#32
  | 5 => 0x3F800000#32 | 6 => 0x40000000#32 | 7 => 0x40400000#32 | _ => 0x40800000#32

/-- The window offset `d - 4`, as a float. -/
def dF (d : Nat) : F .f32 := Scalar.ofBits .f32 (dW d)

/-- Row words below 14 and column words below 224 index the block. -/
theorem inb_of (u v : IVec S16 32) (hu : ∀ x, (u x).toNat < 14) (hv : ∀ x, (v x).toNat < 224) :
    ∀ a x, ((![u, v] : Fin 2 → IVec S16 32) a x).toNat < S14x224.size a :=
  Fin.forall_fin_two.2 ⟨fun x => hu x, fun x => hv x⟩

namespace Grp

variable (G : Grp F)

/-- The columns hit at offset `dx`. -/
def xs (dx : Nat) : IVec S16 32 := addi G.cx (broadcast S16 (dI dx))
/-- The lanes whose hit column is in the image (and which hold a pixel). -/
def xm (dx : Nat) : IVec S16 1 :=
  andi (andi (cmpi .sge (G.xs dx) (broadcast S16 0#32)) (cmpi .slt (G.xs dx) (broadcast S16 224#32))) G.cm
/-- The hit columns, clipped to the image. -/
def ux (dx : Nat) : IVec S16 32 := minsi (broadcast S16 223#32) (maxsi (broadcast S16 0#32) (G.xs dx))
/-- The rows hit at offset `dy`. -/
def ys (dy : Nat) : IVec S16 32 := addi G.cy (broadcast S16 (dI dy))
/-- The lanes whose hit row is one of the block's. -/
def ym (dy : Nat) : IVec S16 1 :=
  andi (cmpi .sge (G.ys dy) (broadcast S16 0#32)) (cmpi .slt (G.ys dy) (broadcast S16 14#32))
/-- The hit rows, clipped to the block. -/
def uy (dy : Nat) : IVec S16 32 := minsi (broadcast S16 13#32) (maxsi (broadcast S16 0#32) (G.ys dy))
/-- The horizontal distance at offset `dx`. -/
def fx (dx : Nat) : FVec F S16 .f32 := addf G.gx (broadcast S16 (dF dx))
/-- The vertical distance at offset `dy`. -/
def fy (dy : Nat) : FVec F S16 .f32 := addf G.gy (broadcast S16 (dF dy))
/-- The weight at offset `(dy, dx)`. -/
def w (dy dx : Nat) : FVec F S16 .f32 :=
  minimumf (exp (addf (mulf (addf (mulf G.hA (G.fx dx)) (mulf G.cB (G.fy dy))) (G.fx dx))
    (mulf (mulf G.hC (G.fy dy)) (G.fy dy)))) (broadcast S16 (Scalar.ofBits .f32 0x3F800000#32))
/-- What is added at offset `(dy, dx)` in channel `ch`. -/
def val (dy dx : Nat) (ch : Fin 3) : FVec F S16 .f32 := mulf (G.w dy dx) (G.col ch)
/-- The lanes that add at offset `(dy, dx)`. -/
def mask (dy dx : Nat) : IVec S16 1 := andi (G.ym dy) (G.xm dx)

/-- A word clipped to `[0, m]`, `m` small, read as a number. -/
theorem clip_toNat (m : Nat) (hm : m < 2 ^ 31) (x : BitVec 32) :
    ((IntOp.minsi (BitVec.ofNat 32 m) (IntOp.maxsi 0#32 x)).toNat : Int) = min (m : Int) (max 0 x.toInt) := by
  have h1 : (BitVec.ofNat 32 m).toNat = m := by rw [BitVec.toNat_ofNat]; omega
  have h2 : (BitVec.ofNat 32 m).toInt = m := by rw [BitVec.toInt_eq_toNat_cond, h1]; omega
  have h3 : (0#32 : BitVec 32).toInt = 0 := by decide
  have h4 : (0#32 : BitVec 32).toNat = 0 := by decide
  have h5 := BitVec.toInt_eq_toNat_cond x
  have h6 := x.isLt
  unfold IntOp.minsi IntOp.maxsi
  by_cases hx : x.slt 0#32 = true
  · rw [if_pos hx]
    rw [BitVec.slt_iff_toInt_lt, h3] at hx
    by_cases hc : (BitVec.ofNat 32 m).slt 0#32 = true
    · rw [BitVec.slt_iff_toInt_lt, h2, h3] at hc; omega
    · rw [if_neg hc, h4]; omega
  · rw [if_neg hx]
    rw [BitVec.slt_iff_toInt_lt, h3] at hx
    by_cases hc : (BitVec.ofNat 32 m).slt x = true
    · rw [if_pos hc, h1]; rw [BitVec.slt_iff_toInt_lt, h2] at hc; omega
    · rw [if_neg hc]; rw [BitVec.slt_iff_toInt_lt, h2] at hc
      split at h5 <;> omega

theorem clip_le (m : Nat) (hm : m < 2 ^ 31) (x : BitVec 32) :
    (IntOp.minsi (BitVec.ofNat 32 m) (IntOp.maxsi 0#32 x)).toNat ≤ m := by
  have := clip_toNat m hm x; omega

theorem ux_apply (dx : Nat) (x : S16.Idx) :
    G.ux dx x = IntOp.minsi (BitVec.ofNat 32 223) (IntOp.maxsi 0#32 (G.xs dx x)) := rfl
theorem uy_apply (dy : Nat) (x : S16.Idx) :
    G.uy dy x = IntOp.minsi (BitVec.ofNat 32 13) (IntOp.maxsi 0#32 (G.ys dy x)) := rfl

theorem uy_lt (dy : Nat) (x : S16.Idx) : (G.uy dy x).toNat < 14 := by
  rw [uy_apply]
  exact Nat.lt_succ_of_le (clip_le 13 (by norm_num) _)
theorem ux_lt (dx : Nat) (x : S16.Idx) : (G.ux dx x).toNat < 224 := by
  rw [ux_apply]
  exact Nat.lt_succ_of_le (clip_le 223 (by norm_num) _)

theorem inb (dy dx : Nat) : ∀ a x, ((![G.uy dy, G.ux dx] : Fin 2 → IVec S16 32) a x).toNat < S14x224.size a :=
  inb_of _ _ (G.uy_lt dy) (G.ux_lt dx)

/-- One scatter-add into channel `ch` of the block. -/
def put (dy dx : Nat) (ch : Fin 3) (g : Vec F S3x14x224 .f32) : Vec F S3x14x224 .f32 := fun j =>
  if (j 0).val = ch.val then
    storeIdx (fun q : S14x224.Idx => g (ix3 ch (q 0) (q 1))) ![G.uy dy, G.ux dx] (G.val dy dx ch) (G.mask dy dx) true
      (G.inb dy dx) (ix2 (j 1) (j 2))
  else g j

/-- The first `n` scatter-adds of offset row `dy`: the offsets `dx` in order, the channels within each. -/
def rowAcc (dy : Nat) (g : Vec F S3x14x224 .f32) : Nat → Vec F S3x14x224 .f32
  | 0 => g
  | n + 1 => G.put dy (n / 3) ⟨n % 3, Nat.mod_lt _ (by decide)⟩ (rowAcc dy g n)

/-- The first `n` offset rows. -/
def acc (g : Vec F S3x14x224 .f32) : Nat → Vec F S3x14x224 .f32
  | 0 => g
  | n + 1 => G.rowAcc n (acc g n) 27

end Grp

/-- The columns of group `t`: lane `l` has column `15 l + t`, clipped to the image. -/
def colIdx (t : Fin k0_t3_loop.trips) : IVec S16 32 := k0_pay3 k0_pay567 0#32 1#32 t

theorem colIdx_inb (t : Fin k0_t3_loop.trips) :
    ∀ a x, ((![colIdx t] : Fin 1 → IVec S16 32) a x).toNat < S224.size a := by
  have h : ∀ (t : Fin k0_t3_loop.trips) (x : Fin 16), (colIdx t (ix1 x)).toNat < 224 := by decide +kernel
  intro a x
  rw [show x = ix1 (x 0) from eq_ix1 x]
  match a with
  | 0 => exact h t (x 0)

/-- Parameter `ch` of the slab's row `r`, gathered at the group's columns. -/
def gat (A : Vec F S10x24x224 .f32) (r : Fin 24) (t : Fin k0_t3_loop.trips) (ch : Fin 10) : FVec F S16 .f32 :=
  loadIdx (s := S224) (fun q : S224.Idx => A (ix3 ch r (q 0))) ![colIdx t] (colIdx_inb t)

/-- The group `t` of the slab's row `r`, the slab starting `v4` rows below the tile's block. -/
def grp (A : Vec F S10x24x224 .f32) (v4 : BitVec 32) (r : Fin k0_t2_loop.trips) (t : Fin k0_t3_loop.trips) : Grp F where
  cx := subi (k0_pay1 k0_pay567 0#32 1#32 t) (fptosi 32 (gat A r t 2))
  cm := k0_pay2 k0_pay567 0#32 1#32 t
  cy := subi (broadcast S16 (Scalar.addi (Scf.iv 0#32 1#32 r) v4)) (fptosi 32 (gat A r t 3))
  gx := gat A r t 0
  gy := gat A r t 1
  hA := gat A r t 4
  cB := gat A r t 5
  hC := gat A r t 6
  col := fun | 0 => gat A r t 7 | 1 => gat A r t 8 | 2 => gat A r t 9

/-! ## One step of the executor -/

/-- The view of channel `ch` of a tile's block. -/
abbrev slO (ch : Nat) (h : ∀ a, (![ch, 0, 0] : Fin 3 → Nat) a + S1x14x224.size a ≤ S3x14x224.size a) :
    Memref sig .scVector .vmem S14x224 .f32 :=
  ((sO.slice (Rect.unit (s := S3x14x224) ![ch, 0, 0] S1x14x224.size h) (fun _ => rfl)).squeeze S14x224 squeezes_S1x14x224_S14x224)

theorem slO_emb (ch : Fin 3) (h) (q : S14x224.Idx) :
    ((slO ch.val h).access (.whole _)).emb q = ix3 (n0 := 3) (n1 := 14) (n2 := 224) ch (q 0) (q 1) := by
  have h1 : Shape.reshapeEquiv (Shape.Squeezes.numel_eq squeezes_S1x14x224_S14x224) q = ix3 (⟨0, Nat.one_pos⟩ : Fin 1) (q 0) (q 1) := by
    conv_lhs => rw [eq_ix2 q]
    exact ValueIdx.reshapeEquiv_ix2_1ab _ _ _
  have h2 : ((Rect.whole S14x224).emb q) = q := Rect.emb_whole_apply S14x224 q
  show (Rect.unit (s := S3x14x224) ![ch.val, 0, 0] S1x14x224.size h).emb (Shape.reshapeEquiv _ ((Rect.whole S14x224).emb q)) = _
  rw [h2, h1]
  funext a; apply Fin.ext
  match a with
  | 0 => show ch.val + 1 * 0 = ch.val; omega
  | 1 => show 0 + 1 * (q 0).val = (q 0).val; omega
  | 2 => show 0 + 1 * (q 1).val = (q 1).val; omega

/-- Through the channel's view, the block's contents after a write are the new values on the channel and the old ones
    elsewhere. -/
theorem slO_write (ch : Fin 3) (h) (g : Vec F S3x14x224 .f32) (v : Vec F S14x224 .f32) (j : S3x14x224.Idx) :
    (((slO ch.val h).access (.whole _)).write (Elt F) g v Finset.univ : Vec F S3x14x224 .f32) j
      = if (j 0).val = ch.val then v (ix2 (j 1) (j 2)) else g j := by
  by_cases hj : (j 0).val = ch.val
  · rw [if_pos hj]
    have hjj : j = ((slO ch.val h).access (.whole _)).emb (ix2 (j 1) (j 2)) := by
      rw [slO_emb]
      have : j 0 = ch := Fin.ext hj
      rw [← this]
      exact eq_ix3 j
    conv_lhs => rw [hjj]
    exact View.write_emb_of_mem (v := (slO ch.val h).access (.whole _)) (Val := Elt F) g v (Finset.mem_univ _)
  · rw [if_neg hj]
    refine View.write_of_not_mem (v := (slO ch.val h).access (.whole _)) (Val := Elt F) g v _ fun hm => hj ?_
    obtain ⟨q, -, hq⟩ := Finset.mem_map.1 hm
    rw [slO_emb] at hq
    rw [← hq]

/-- Through the channel's view, the block's contents are read at that channel. -/
theorem slO_read (ch : Fin 3) (h) (g : Vec F S3x14x224 .f32) (q : S14x224.Idx) :
    ((slO ch.val h).access (.whole _)).read (Elt F) g q = g (ix3 ch (q 0) (q 1)) := by
  rw [View.read_apply, slO_emb]; rfl

theorem put_eq (G : Grp F) (dy dx : Nat) (ch : Fin 3) (h) (g : Vec F S3x14x224 .f32) :
    ((slO ch.val h).access (.whole _)).write (Elt F) g
        (storeIdx (((slO ch.val h).access (.whole _)).read (Elt F) g) ![G.uy dy, G.ux dx] (G.val dy dx ch) (G.mask dy dx) true
          (G.inb dy dx)) Finset.univ
      = (G.put dy dx ch g : Vec F S3x14x224 .f32) := by
  funext j
  refine (slO_write ch h g _ j).trans ?_
  rw [show (((slO ch.val h).access (.whole _)).read (Elt F) g) = (fun q : S14x224.Idx => g (ix3 ch (q 0) (q 1))) from
    funext fun q => slO_read ch h g q]
  rfl

/-- The thread of a grid point's tile. -/
abbrev Vt (d : Dev nD) (i : grid0.Coords) : Thread nD τ := V d (cL i) (jL i)

section General

variable {sg : RefSig} {nD' : Nat} {τ' : Topo} {Λ : Labels} {c : Thread nD' τ'} {Ix : Type} [DecidableEq Ix] {Name : Type} [DecidableEq Name] {U : Type} [URA U]
  {Lvl : Type} [Preorder Lvl] {s : Shape} {e : EltTy} {α : Type}
  {defs : Defs nD' τ' sg (Elt F) Λ} (Var : Variants) (bd : Option Var.V) (E : Set Name) {Q : α → sProp (MT nD' τ' sg Ix (Elt F) Name U Lvl)}

/-- `vectorStoreIdx` at the head of a program, more than the view's elements held. -/
theorem wp_storeIdx_in {d : Fin 1 → Nat} {base : Memref sg c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD' τ' sg (Elt F) Λ c.2) α} {f : Buf (Elt F) ((base.access (.whole s)).loc c)} :
    ((base.access (.whole s)).loc c ↦[Finset.univ]{fullShare} f)
      ⊢ iprop((((base.access (.whole s)).loc c ↦[Finset.univ]{fullShare}
            ((base.access (.whole s)).write (Elt F) f (storeIdx ((base.access (.whole s)).read (Elt F) f) idxs v mask add h) Finset.univ))
          -∗ wp frame (wpE defs Var c bd) E (k ⟨⟩) Q)
        -∗ wp frame (wpE defs Var c bd) E (SparseCore.vectorStoreIdx base idxs v mask add h hs >>= k) Q) := by
  rw [SparseCore.vectorStoreIdx_bind]
  iintro H Hk
  iapply (wp_load_rect (defs := defs) Var c bd E (Q := Q) (r := Rect.whole s) (hl := View.loadsAt_rect hs.loads)
    (k := fun f' => .op (.store base (.whole s) (storeIdx f' idxs v mask add h) Finset.univ hs (.inl rfl)) k)
    (q := fullShare) (f := f) (S := Finset.univ) (Finset.subset_univ _)) $$ H
  iintro H
  iapply (wp_store (defs := defs) Var c bd E (Q := Q) (m := base) (r := .whole s) (Mk := Finset.univ)
    (hx := hs) (hm := .inl rfl) (k := k) (f := f) (S := Finset.univ) (Finset.subset_univ _)) $$ H
  iexact Hk

end General

section Step

variable (d : Dev nD) (i : grid0.Coords)

/-- A scatter-add at the head of a program, the block held whole. -/
theorem wp_scat {α : Type} {Q : α → sProp 𝕄} (G : Grp F) (dy dx : Nat) (ch : Fin 3) (g : Vec F S3x14x224 .f32)
    {h} {u u' : IVec S16 32} {v : Vec F S16 .f32} {mask : IVec S16 1} {hi hs}
    {k : PUnit → Prog (TpuEff nD τ sig (Elt F) Λ₀ (.scVector ((i 0).castLE hcore0) ((i 1).castLE hsub0))) α}
    (e0 : u = G.uy dy) (e1 : u' = G.ux dx) (e2 : v = G.val dy dx ch) (e3 : mask = G.mask dy dx) :
    ((sO.view.loc (Vt d i) ↦[Finset.univ]{fullShare} (g : Buf (Elt F) (sO.view.loc (Vt d i)))) : sProp 𝕄)
      ⊢ iprop(((sO.view.loc (Vt d i) ↦[Finset.univ]{fullShare} (G.put dy dx ch g : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (SparseCore.vectorStoreIdx (slO ch.val h) ![u, u'] v mask true hi hs >>= k) Q) := by
  subst e0 e1 e2 e3
  rw [← put_eq G dy dx ch h g]
  exact wp_storeIdx_in (c := Vt d i) 𝒱₀ none Set.univ (base := slO ch.val h) (f := (g : Vec F S3x14x224 .f32))

/-- The view of row `r` of channel `ch` of the slab. -/
abbrev slP (off : Fin 3 → Nat) (h : ∀ a, off a + S1x1x224.size a ≤ S10x24x224.size a) : Memref sig .scVector .vmem S224 .f32 :=
  ((sP.slice (Rect.unit (s := S10x24x224) off S1x1x224.size h) (fun _ => rfl)).squeeze S224 squeezes_S1x1x224_S224)

theorem slP_read (off : Fin 3 → Nat) (h) (ch : Fin 10) (r : Fin 24) (ho : off = ![ch.val, r.val, 0]) (A : Vec F S10x24x224 .f32) (q : S224.Idx) :
    ((slP off h).access (.whole _)).read (Elt F) A q = A (ix3 ch r (q 0)) := by
  subst ho
  have h1 : Shape.reshapeEquiv (Shape.Squeezes.numel_eq squeezes_S1x1x224_S224) q = ix3 (⟨0, Nat.one_pos⟩ : Fin 1) (⟨0, Nat.one_pos⟩ : Fin 1) (q 0) :=
    Shape.reshapeEquiv_eq_of_rowMajor _ ((Shape.rowMajor_val_three (d := ![1, 1, 224]) _).trans
      ((show ((0 * 1 + 0) * 224 + (q 0).val) = (q 0).val by omega).trans (Shape.rowMajor_val_one (d := ![224]) q).symm))
  have h2 : ((Rect.whole S224).emb q) = q := Rect.emb_whole_apply S224 q
  have h3 : ((slP ![ch.val, r.val, 0] h).access (.whole _)).emb q = ix3 (n0 := 10) (n1 := 24) (n2 := 224) ch r (q 0) := by
    show (Rect.unit (s := S10x24x224) ![ch.val, r.val, 0] S1x1x224.size h).emb (Shape.reshapeEquiv _ ((Rect.whole S224).emb q)) = _
    rw [h2, h1]
    funext a; apply Fin.ext
    match a with
    | 0 => show ch.val + 1 * 0 = ch.val; omega
    | 1 => show r.val + 1 * 0 = r.val; omega
    | 2 => show 0 + 1 * (q 0).val = (q 0).val; omega
  rw [View.read_apply, h3]; rfl

/-- A gather at the head of a program, the slab held whole. -/
theorem wp_gat {α : Type} {Q : α → sProp 𝕄} (A : Vec F S10x24x224 .f32) (r : Fin 24) (t : Fin k0_t3_loop.trips) (ch : Fin 10)
    {off : Fin 3 → Nat} {h} {u : IVec S16 32} {hi hl}
    {k : Vec F S16 .f32 → Prog (TpuEff nD τ sig (Elt F) Λ₀ (.scVector ((i 0).castLE hcore0) ((i 1).castLE hsub0))) α}
    (ho : off = ![ch.val, r.val, 0]) (e0 : u = colIdx t) :
    ((sP.view.loc (Vt d i) ↦[Finset.univ]{fullShare} (A : Buf (Elt F) (sP.view.loc (Vt d i)))) : sProp 𝕄)
      ⊢ iprop(((sP.view.loc (Vt d i) ↦[Finset.univ]{fullShare} (A : Buf (Elt F) (sP.view.loc (Vt d i))))
          -∗ wp frame (wpE (defs₀ (F := F)) 𝒱₀ (Vt d i) none) Set.univ (k (gat A r t ch)) Q)
        -∗ wp frame (wpE (defs₀ (F := F)) 𝒱₀ (Vt d i) none) Set.univ
            (SparseCore.vectorLoadIdx (slP off h) ![u] hi hl >>= k) Q) := by
  subst e0
  have e : gat A r t ch = loadIdx (((slP off h).access (.whole _)).read (Elt F) A) ![colIdx t] hi := by
    rw [show ((slP off h).access (.whole _)).read (Elt F) A = (fun q : S224.Idx => A (ix3 ch r (q 0))) from
      funext fun q => slP_read off h ch r ho A q]
    rfl
  rw [e]
  exact SparseCore.wp_vectorLoadIdx (c := Vt d i) 𝒱₀ none Set.univ (base := slP off h) (S := Finset.univ)
    (f := (A : Vec F S10x24x224 .f32)) (Finset.subset_univ _)

/-- A group's checks: the gather's columns are in the image, -/
theorem chk0_col (t : Fin k0_t3_loop.trips) : k0_chk1 (colIdx t) :=
  ⟨colIdx_inb t, colIdx_inb t, colIdx_inb t, colIdx_inb t, colIdx_inb t, colIdx_inb t, colIdx_inb t, colIdx_inb t, colIdx_inb t, colIdx_inb t⟩

end Step

end Cert.Proof.Call

end
-- ==== Proof.Call.Rows.lean ====
/-
  The loops that zero and clip the tile's block, one row a trip, by chunks of sixteen columns.
-/
module

public import proofs.«01_k».proof.Proof.Call.Splat
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## Rows updated by chunks -/

/-- The block with the first `n` chunks of row `r` (fourteen chunks to a channel) passed through `φ`. -/
def updTo (φ : F .f32 → F .f32) (r n : Nat) (g : Vec F S3x14x224 .f32) : Vec F S3x14x224 .f32 := fun j =>
  if (j 1).val = r ∧ 14 * (j 0).val + (j 2).val / 16 < n then φ (g j) else g j

/-- The block with its first `n` rows passed through `φ`. -/
def updRows (φ : F .f32 → F .f32) (n : Nat) (g : Vec F S3x14x224 .f32) : Vec F S3x14x224 .f32 := fun j =>
  if (j 1).val < n then φ (g j) else g j

theorem updTo_zero (φ : F .f32 → F .f32) (r : Nat) (g : Vec F S3x14x224 .f32) : updTo φ r 0 g = g := by
  funext j; exact if_neg fun h => absurd h.2 (Nat.not_lt_zero _)

theorem updRows_zero (φ : F .f32 → F .f32) (g : Vec F S3x14x224 .f32) : updRows φ 0 g = g := by
  funext j; exact if_neg (Nat.not_lt_zero _)

theorem updTo_last (φ : F .f32 → F .f32) (r : Nat) (g : Vec F S3x14x224 .f32) :
    updTo φ r 42 (updRows φ r g) = updRows φ (r + 1) g := by
  funext j
  have h0 : (j 0).val < 3 := (j 0).isLt
  have h2 : (j 2).val < 224 := (j 2).isLt
  unfold updTo updRows
  by_cases h : (j 1).val = r
  · rw [if_pos ⟨h, by omega⟩, if_neg (by omega), if_pos (by omega)]
  · rw [if_neg fun h' => h h'.1]
    by_cases h' : (j 1).val < r
    · rw [if_pos h', if_pos (by omega)]
    · rw [if_neg h', if_neg (by omega)]

theorem updRows_all (φ : F .f32 → F .f32) (g : Vec F S3x14x224 .f32) : updRows φ 14 g = fun j => φ (g j) := by
  funext j; exact if_pos (j 1).isLt

/-- The word of zero. -/
def zeroF : F .f32 := Scalar.ofBits .f32 0x00000000#32

/-- A value clipped to the unit interval. -/
def clip01 (x : F .f32) : F .f32 :=
  (minimumf (maximumf (broadcast S16 x) (broadcast S16 (Scalar.ofBits .f32 0x00000000#32))) (broadcast S16 (Scalar.ofBits .f32 0x3F800000#32))
    : FVec F S16 .f32) (ix1 0)

/-- The chunk's view of the block. -/
abbrev slC (off : Fin 3 → Nat) (h : ∀ a, off a + S1x1x16.size a ≤ S3x14x224.size a) :=
  (sO).access (Rect.unit (s := S3x14x224) off S1x1x16.size h)

theorem slC_emb {off : Fin 3 → Nat} {h} (y : S1x1x16.Idx) (a : Fin 3) : ((slC off h).emb y a).val = off a + (y a).val := by
  show off a + 1 * (y a).val = _
  omega

theorem cast16 (h) (v : Vec F S16 .f32) (y : S1x1x16.Idx) : shapeCast S1x1x16 v h y = v (ix1 (y 2)) := by
  have y0 : (y 0).val < 1 := (y 0).isLt
  have y1 : (y 1).val < 1 := (y 1).isLt
  show v (Shape.reshapeEquiv _ y) = _
  refine congrArg v (Shape.reshapeEquiv_eq_of_rowMajor _ ((Shape.rowMajor_val_one (d := ![16]) _).trans ?_))
  refine Eq.trans ?_ (Shape.rowMajor_val_three (d := ![1, 1, 16]) y).symm
  show (y 2).val = ((y 0).val * 1 + (y 1).val) * 16 + (y 2).val
  omega

theorem cast16' (h) (v : Vec F S1x1x16 .f32) (y : S1x1x16.Idx) : shapeCast S16 v h (ix1 (y 2)) = v y := by
  have y0 : (y 0).val < 1 := (y 0).isLt
  have y1 : (y 1).val < 1 := (y 1).isLt
  show v (Shape.reshapeEquiv _ (ix1 (y 2))) = _
  refine congrArg v (Shape.reshapeEquiv_eq_of_rowMajor _ ((Shape.rowMajor_val_three (d := ![1, 1, 16]) y).trans ?_))
  refine Eq.trans ?_ (Shape.rowMajor_val_one (d := ![16]) (ix1 (y 2))).symm
  show ((y 0).val * 1 + (y 1).val) * 16 + (y 2).val = (y 2).val
  omega

theorem slC_write (φ : F .f32 → F .f32) (r n : Nat) (hn : n < 42) (g : Vec F S3x14x224 .f32) {off : Fin 3 → Nat} {h h1 h2}
    (ho : off = ![n / 14, r, 16 * (n % 14)]) (v : Vec F S16 .f32)
    (e : ∀ x, v x = φ (shapeCast S16 ((slC off h).read (Elt F) (updTo φ r n g)) h2 x)) :
    ((slC off h).write (Elt F) (updTo φ r n g) (shapeCast S1x1x16 v h1) Finset.univ : Vec F S3x14x224 .f32) = updTo φ r (n + 1) g := by
  have o0 : off 0 = n / 14 := by rw [ho]; rfl
  have o1 : off 1 = r := by rw [ho]; rfl
  have o2 : off 2 = 16 * (n % 14) := by rw [ho]; rfl
  funext j
  have j0 : (j 0).val < 3 := (j 0).isLt
  have j2 : (j 2).val < 224 := (j 2).isLt
  by_cases hj : (j 1).val = r ∧ 14 * (j 0).val + (j 2).val / 16 = n
  · obtain ⟨ha, hb⟩ := hj
    obtain ⟨y, hy⟩ : ∃ y : S1x1x16.Idx, j = (slC off h).emb y := by
      refine ⟨ix3 (n0 := 1) (n1 := 1) (n2 := 16) 0 0 ⟨(j 2).val - 16 * (n % 14), by omega⟩, funext fun a => Fin.ext ?_⟩
      rw [slC_emb]
      match a with
      | 0 => show (j 0).val = off 0 + 0; omega
      | 1 => show (j 1).val = off 1 + 0; omega
      | 2 => show (j 2).val = off 2 + ((j 2).val - 16 * (n % 14)); omega
    have hw : (slC off h).write (Elt F) (updTo φ r n g) (shapeCast S1x1x16 v h1) Finset.univ j = shapeCast S1x1x16 v h1 y := by
      rw [hy]
      exact View.write_emb_of_mem (v := slC off h) (Val := Elt F) _ _ (Finset.mem_univ _)
    refine hw.trans ?_
    rw [cast16, e, cast16', View.read_apply]
    have hu : (updTo φ r n g) j = g j := if_neg fun h' => by omega
    have hu' : (updTo φ r (n + 1) g) j = φ (g j) := if_pos ⟨ha, by omega⟩
    rw [hu', ← hu, hy]; rfl
  · have hw : (slC off h).write (Elt F) (updTo φ r n g) (shapeCast S1x1x16 v h1) Finset.univ j = updTo φ r n g j := by
      refine View.write_of_not_mem (v := slC off h) (Val := Elt F) _ _ _ fun hm => hj ?_
      obtain ⟨y, -, hq⟩ := Finset.mem_map.1 hm
      have q0 := slC_emb (off := off) (h := h) y 0
      have q1 := slC_emb (off := off) (h := h) y 1
      have q2 := slC_emb (off := off) (h := h) y 2
      rw [hq] at q0 q1 q2
      have y0 : (y 0).val < 1 := (y 0).isLt
      have y1 : (y 1).val < 1 := (y 1).isLt
      have y2 : (y 2).val < 16 := (y 2).isLt
      omega
    refine hw.trans ?_
    unfold updTo
    by_cases hc : (j 1).val = r ∧ 14 * (j 0).val + (j 2).val / 16 < n
    · rw [if_pos hc, if_pos (by omega)]
    · rw [if_neg hc, if_neg (by omega)]

section Step

variable (d : Dev nD) (i : grid0.Coords)

/-- A chunk's load at the head of a program. -/
theorem wp_ldC {α : Type} {Q : α → sProp 𝕄} (g : Vec F S3x14x224 .f32) {off : Fin 3 → Nat} {h hl}
    {k : Vec F S1x1x16 .f32 → Prog (TpuEff nD τ sig (Elt F) Λ₀ (.scVector ((i 0).castLE hcore0) ((i 1).castLE hsub0))) α} :
    ((sO.view.loc (Vt d i) ↦[Finset.univ]{fullShare} (g : Buf (Elt F) (sO.view.loc (Vt d i)))) : sProp 𝕄)
      ⊢ iprop(((sO.view.loc (Vt d i) ↦[Finset.univ]{fullShare} (g : Buf (Elt F) (sO.view.loc (Vt d i))))
          -∗ wp frame (wpE (defs₀ (F := F)) 𝒱₀ (Vt d i) none) Set.univ (k ((slC off h).read (Elt F) g)) Q)
        -∗ wp frame (wpE (defs₀ (F := F)) 𝒱₀ (Vt d i) none) Set.univ
            (Prog.lift (.load sO (Rect.unit (s := S3x14x224) off S1x1x16.size h).toLoadRect hl) >>= k) Q) :=
  wp_load_rect (c := Vt d i) 𝒱₀ none Set.univ (m := sO) (r := Rect.unit (s := S3x14x224) off S1x1x16.size h) (S := Finset.univ)
    (f := (g : Vec F S3x14x224 .f32)) (Finset.subset_univ _)

/-- A chunk's store at the head of a program, what it stores the chunk passed through `φ`. -/
theorem wp_stC {α : Type} {Q : α → sProp 𝕄} (φ : F .f32 → F .f32) (r n : Nat) (hn : n < 42) (g : Vec F S3x14x224 .f32)
    {off : Fin 3 → Nat} {h h1 hx hm} [co : ClosedOff off] {v : Vec F S16 .f32}
    {k : PUnit → Prog (TpuEff nD τ sig (Elt F) Λ₀ (.scVector ((i 0).castLE hcore0) ((i 1).castLE hsub0))) α}
    (ho : co.form = ![n / 14, r, 16 * (n % 14)])
    (e : ∀ x, v x = φ (shapeCast S16 ((slC off h).read (Elt F) (updTo φ r n g)) shapeCasts_S1x1x16_S16 x)) :
    ((sO.view.loc (Vt d i) ↦[Finset.univ]{fullShare} (updTo φ r n g : Buf (Elt F) (sO.view.loc (Vt d i)))) : sProp 𝕄)
      ⊢ iprop(((sO.view.loc (Vt d i) ↦[Finset.univ]{fullShare} (updTo φ r (n + 1) g : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (Prog.lift (.store sO (Rect.unit (s := S3x14x224) off S1x1x16.size h) (shapeCast S1x1x16 v h1) Finset.univ hx hm) >>= k) Q) := by
  rw [← slC_write φ r n hn g (h := h) (h1 := h1) (co.eq.trans ho) v e]
  exact wp_store (c := Vt d i) 𝒱₀ none Set.univ (m := sO) (r := Rect.unit (s := S3x14x224) off S1x1x16.size h) (Mk := Finset.univ)
    (S := Finset.univ) (f := (updTo φ r n g : Vec F S3x14x224 .f32)) (Finset.subset_univ _)

end Step

end Cert.Proof.Call

end
-- ==== Proof.Call.Loops.lean ====
/-
  The trips of the loops that zero and clip the tile's block.
-/
module

public import proofs.«01_k».proof.Proof.Call.Rows
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

section Step

variable (d : Dev nD) (i : grid0.Coords)

theorem st_ret {α : Type} {Q : α → sProp 𝕄} {A : sProp 𝕄} {x : α} (h : A ⊢ Q x) :
    A ⊢ wp frame (wpE (defs₀ (F := F)) 𝒱₀ (Vt d i) none) Set.univ
      (.ret x : Prog (TpuEff nD τ sig (Elt F) Λ₀ (.scVector ((i 0).castLE hcore0) ((i 1).castLE hsub0))) α) Q :=
  h.trans (le_wp_ret _ _ _ _ _)

theorem st_seq {α β : Type} {Q : α → sProp 𝕄} {A : sProp 𝕄} {p : Prog (TpuEff nD τ sig (Elt F) Λ₀ (.scVector ((i 0).castLE hcore0) ((i 1).castLE hsub0))) β}
    {k : β → Prog (TpuEff nD τ sig (Elt F) Λ₀ (.scVector ((i 0).castLE hcore0) ((i 1).castLE hsub0))) α}
    (h : A ⊢ wp frame (wpE (defs₀ (F := F)) 𝒱₀ (Vt d i) none) Set.univ p
        (fun b => wp frame (wpE (defs₀ (F := F)) 𝒱₀ (Vt d i) none) Set.univ (k b) Q)) :
    A ⊢ wp frame (wpE (defs₀ (F := F)) 𝒱₀ (Vt d i) none) Set.univ (p >>= k) Q := by
  rwa [wp_bind]

theorem st_ldC {α : Type} {Q : α → sProp 𝕄} {g : Vec F S3x14x224 .f32} {off : Fin 3 → Nat} {h hl}
    {k : Vec F S1x1x16 .f32 → Prog (TpuEff nD τ sig (Elt F) Λ₀ (.scVector ((i 0).castLE hcore0) ((i 1).castLE hsub0))) α}
    (hk : ((sO.view.loc (Vt d i) ↦[Finset.univ]{fullShare} (g : Buf (Elt F) (sO.view.loc (Vt d i)))) : sProp 𝕄)
      ⊢ wp frame (wpE (defs₀ (F := F)) 𝒱₀ (Vt d i) none) Set.univ (k ((slC off h).read (Elt F) g)) Q) :
    ((sO.view.loc (Vt d i) ↦[Finset.univ]{fullShare} (g : Buf (Elt F) (sO.view.loc (Vt d i)))) : sProp 𝕄)
      ⊢ wp frame (wpE (defs₀ (F := F)) 𝒱₀ (Vt d i) none) Set.univ
            (Prog.lift (.load sO (Rect.unit (s := S3x14x224) off S1x1x16.size h).toLoadRect hl) >>= k) Q := by
  iintro H
  iapply (wp_ldC d i g) $$ H
  iintro H
  iapply hk
  iexact H

theorem st_stC {α : Type} {Q : α → sProp 𝕄} (φ : F .f32 → F .f32) (r n : Nat) (hn : n < 42) (g : Vec F S3x14x224 .f32)
    {off : Fin 3 → Nat} {h h1 hx hm} [co : ClosedOff off] {v : Vec F S16 .f32}
    {k : PUnit → Prog (TpuEff nD τ sig (Elt F) Λ₀ (.scVector ((i 0).castLE hcore0) ((i 1).castLE hsub0))) α}
    (ho : co.form = ![n / 14, r, 16 * (n % 14)])
    (e : ∀ x, v x = φ (shapeCast S16 ((slC off h).read (Elt F) (updTo φ r n g)) shapeCasts_S1x1x16_S16 x))
    (hk : ((sO.view.loc (Vt d i) ↦[Finset.univ]{fullShare} (updTo φ r (n + 1) g : Buf (Elt F) (sO.view.loc (Vt d i)))) : sProp 𝕄)
      ⊢ wp frame (wpE (defs₀ (F := F)) 𝒱₀ (Vt d i) none) Set.univ (k ⟨⟩) Q) :
    ((sO.view.loc (Vt d i) ↦[Finset.univ]{fullShare} (updTo φ r n g : Buf (Elt F) (sO.view.loc (Vt d i)))) : sProp 𝕄)
      ⊢ wp frame (wpE (defs₀ (F := F)) 𝒱₀ (Vt d i) none) Set.univ
            (Prog.lift (.store sO (Rect.unit (s := S3x14x224) off S1x1x16.size h) (shapeCast S1x1x16 v h1) Finset.univ hx hm) >>= k) Q := by
  iintro H
  iapply (wp_stC d i φ r n hn g ho e) $$ H
  iintro H
  iapply hk
  iexact H

set_option maxRecDepth 65536 in
set_option maxHeartbeats 4000000 in
/-- A trip of the zeroing loop: the next row of the block is zero. -/
theorem wp_zeroRow (g : Vec F S3x14x224 .f32) (t : Fin k0_t1_loop.trips) (a : BitVec 32) :
    ((sO.view.loc (Vt d i) ↦[Finset.univ]{fullShare} (updRows (fun _ => zeroF) t g : Buf (Elt F) (sO.view.loc (Vt d i)))) : sProp 𝕄)
      ⊢ wp frame (wpE (defs₀ (F := F)) 𝒱₀ (Vt d i) none) Set.univ
          (k0_t1_body i aP (Memref.isWhole_whole _) aO (Memref.isWhole_whole _) sP (Memref.isWhole_whole _) sO (Memref.isWhole_whole _)
            cc0_scoped0 cc0_scoped1 t a)
          fun _ => (sO.view.loc (Vt d i) ↦[Finset.univ]{fullShare} (updRows (fun _ => zeroF) (t + 1) g : Buf (Elt F) (sO.view.loc (Vt d i)))) := by
  rw [← updTo_last]
  generalize updRows (fun _ => zeroF) t g = g'
  conv_lhs => rw [← updTo_zero (fun _ => zeroF) t.val g']
  unfold k0_t1_body
  simp only [k0_part1_eq_skeleton, k0_part2_eq_skeleton, k0_part3_eq_skeleton, k0_part4_eq_skeleton, k0_part5_eq_skeleton]
  refine st_seq d i ?_
  iterate 8 (refine st_ldC d i ?_; refine st_stC d i (fun _ => zeroF) t.val _ ?_ _ ?_ ?_ ?_; decide; rfl; (intro x; rfl))
  refine st_ret d i ?_
  dsimp only
  refine st_seq d i ?_
  iterate 9 (refine st_ldC d i ?_; refine st_stC d i (fun _ => zeroF) t.val _ ?_ _ ?_ ?_ ?_; decide; rfl; (intro x; rfl))
  refine st_ret d i ?_
  dsimp only
  refine st_seq d i ?_
  iterate 8 (refine st_ldC d i ?_; refine st_stC d i (fun _ => zeroF) t.val _ ?_ _ ?_ ?_ ?_; decide; rfl; (intro x; rfl))
  refine st_ret d i ?_
  dsimp only
  refine st_seq d i ?_
  iterate 9 (refine st_ldC d i ?_; refine st_stC d i (fun _ => zeroF) t.val _ ?_ _ ?_ ?_ ?_; decide; rfl; (intro x; rfl))
  refine st_ret d i ?_
  dsimp only
  iterate 8 (refine st_ldC d i ?_; refine st_stC d i (fun _ => zeroF) t.val _ ?_ _ ?_ ?_ ?_; decide; rfl; (intro x; rfl))
  refine st_ret d i ?_
  iintro H
  iexact H

set_option maxRecDepth 65536 in
set_option maxHeartbeats 4000000 in
/-- A trip of the clipping loop: the next row of the block is clipped. -/
theorem wp_clipRow (g : Vec F S3x14x224 .f32) (t : Fin k0_t4_loop.trips) (a : BitVec 32) :
    ((sO.view.loc (Vt d i) ↦[Finset.univ]{fullShare} (updRows clip01 t g : Buf (Elt F) (sO.view.loc (Vt d i)))) : sProp 𝕄)
      ⊢ wp frame (wpE (defs₀ (F := F)) 𝒱₀ (Vt d i) none) Set.univ
          (k0_t4_body i aP (Memref.isWhole_whole _) aO (Memref.isWhole_whole _) sP (Memref.isWhole_whole _) sO (Memref.isWhole_whole _)
            cc0_scoped0 cc0_scoped1 t a)
          fun _ => (sO.view.loc (Vt d i) ↦[Finset.univ]{fullShare} (updRows clip01 (t + 1) g : Buf (Elt F) (sO.view.loc (Vt d i)))) := by
  rw [← updTo_last]
  generalize updRows clip01 t g = g'
  conv_lhs => rw [← updTo_zero clip01 t.val g']
  unfold k0_t4_body
  simp only [k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
  refine st_seq d i ?_
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ldC d i ?_
  refine st_ret d i ?_
  dsimp only
  refine st_seq d i ?_
  refine st_stC d i clip01 t.val _ ?_ _ ?_ ?_ ?_; decide; rfl; (intro x; rfl)
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ret d i ?_
  dsimp only
  refine st_seq d i ?_
  iterate 3 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 2 (refine st_ldC d i ?_; refine st_ldC d i ?_; refine st_stC d i clip01 t.val _ ?_ _ ?_ ?_ ?_; decide; rfl; (intro x; rfl))
  refine st_ldC d i ?_
  refine st_ret d i ?_
  dsimp only
  refine st_seq d i ?_
  iterate 1 (refine st_ldC d i ?_; refine st_stC d i clip01 t.val _ ?_ _ ?_ ?_ ?_; decide; rfl; (intro x; rfl))
  iterate 3 (refine st_ldC d i ?_; refine st_ldC d i ?_; refine st_stC d i clip01 t.val _ ?_ _ ?_ ?_ ?_; decide; rfl; (intro x; rfl))
  refine st_ret d i ?_
  dsimp only
  iterate 1 (refine st_ldC d i ?_; refine st_ldC d i ?_; refine st_stC d i clip01 t.val _ ?_ _ ?_ ?_ ?_; decide; rfl; (intro x; rfl))
  refine st_ret d i ?_
  iintro H
  iexact H

end Step

end Cert.Proof.Call

end
-- ==== Proof.Call.Group.lean ====
/-
  The body of the kernel's group loop: from the slab and the block held whole to the slab unchanged and the block with
  the group's scatter-adds made.
-/
module

public import proofs.«01_k».proof.Proof.Call.Loops
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (d : Dev nD) (i : grid0.Coords)

/-- A window row's checks: the scatter's rows are the block's and its columns the image's. -/
theorem chk_row (G : Grp F) (dy : Nat) {u0 u1 u2 u3 u4 u5 u6 u7 u8 y : IVec S16 32} (hy : y = G.uy dy) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8) :
    k0_chk2 u0 u1 u2 u3 u4 u5 u6 u7 u8 y := by
  subst hy h0 h1 h2 h3 h4 h5 h6 h7 h8
  have h := fun dx => G.inb dy dx
  exact ⟨h 0, h 0, h 0, h 1, h 1, h 1, h 2, h 2, h 2, h 3, h 3, h 3, h 4, h 4, h 4, h 5, h 5, h 5, h 6, h 6, h 6, h 7, h 7, h 7,
    h 8, h 8, h 8⟩

/-- A check at the head of a program, its fact given. -/
theorem wp_chk {α : Type} {Q : α → sProp 𝕄} {P : Prop} {dec : Decidable P}
    {k : PLift P → Prog (TpuEff nD τ sig (Elt F) Λ₀ (.scVector ((i 0).castLE hcore0) ((i 1).castLE hsub0))) α} (h : P) :
    wp frame (wpE (defs₀ (F := F)) 𝒱₀ (Vt d i) none) Set.univ (Prog.lift (TpuEff.assume P dec) >>= k) Q
      = (wp frame (wpE (defs₀ (F := F)) 𝒱₀ (Vt d i) none) Set.univ (k ⟨h⟩) Q : sProp 𝕄) :=
  wp_assume_of (c := Vt d i) 𝒱₀ none Set.univ h

theorem wp_chk' {α : Type} {Q : α → sProp 𝕄} {P : Prop} {dec : Decidable P}
    {k : PLift P → Prog (TpuEff nD τ sig (Elt F) Λ₀ (.scVector ((i 0).castLE hcore0) ((i 1).castLE hsub0))) α} (h : P) :
    (wp frame (wpE (defs₀ (F := F)) 𝒱₀ (Vt d i) none) Set.univ (k ⟨h⟩) Q : sProp 𝕄)
      ⊢ wp frame (wpE (defs₀ (F := F)) 𝒱₀ (Vt d i) none) Set.univ (Prog.lift (TpuEff.assume P dec) >>= k) Q := by
  rw [wp_chk d i h]

/-- The first program of two at the head. -/
theorem wp_seq {α β : Type} {Q : α → sProp 𝕄}
    {p : Prog (TpuEff nD τ sig (Elt F) Λ₀ (.scVector ((i 0).castLE hcore0) ((i 1).castLE hsub0))) β}
    {k : β → Prog (TpuEff nD τ sig (Elt F) Λ₀ (.scVector ((i 0).castLE hcore0) ((i 1).castLE hsub0))) α} :
    (wp frame (wpE (defs₀ (F := F)) 𝒱₀ (Vt d i) none) Set.univ p
        (fun b => wp frame (wpE (defs₀ (F := F)) 𝒱₀ (Vt d i) none) Set.univ (k b) Q) : sProp 𝕄)
      ⊢ wp frame (wpE (defs₀ (F := F)) 𝒱₀ (Vt d i) none) Set.univ (p >>= k) Q := by
  rw [wp_bind]

/-- The next scatter-add of an offset row. -/
theorem wp_scat_row {α : Type} {Q : α → sProp 𝕄} (G : Grp F) (dy n : Nat) (g : Vec F S3x14x224 .f32)
    {h} {u u' : IVec S16 32} {v : Vec F S16 .f32} {mask : IVec S16 1} {hi hs}
    {k : PUnit → Prog (TpuEff nD τ sig (Elt F) Λ₀ (.scVector ((i 0).castLE hcore0) ((i 1).castLE hsub0))) α}
    (e0 : u = G.uy dy) (e1 : u' = G.ux (n / 3)) (e2 : v = G.val dy (n / 3) ⟨n % 3, Nat.mod_lt _ (by decide)⟩)
    (e3 : mask = G.mask dy (n / 3)) :
    ((sO.view.loc (Vt d i) ↦[Finset.univ]{fullShare} (G.rowAcc dy g n : Buf (Elt F) (sO.view.loc (Vt d i)))) : sProp 𝕄)
      ⊢ iprop(((sO.view.loc (Vt d i) ↦[Finset.univ]{fullShare} (G.rowAcc dy g (n + 1) : Buf (Elt F) (sO.view.loc (Vt d i))))
          -∗ wp frame (wpE (defs₀ (F := F)) 𝒱₀ (Vt d i) none) Set.univ (k ⟨⟩) Q)
        -∗ wp frame (wpE (defs₀ (F := F)) 𝒱₀ (Vt d i) none) Set.univ
            (SparseCore.vectorStoreIdx (slO (n % 3) h) ![u, u'] v mask true hi hs >>= k) Q) :=
  wp_scat d i G dy (n / 3) ⟨n % 3, Nat.mod_lt _ (by decide)⟩ (G.rowAcc dy g n) e0 e1 e2 e3

theorem Grp.acc_next (G : Grp F) (g : Vec F S3x14x224 .f32) (dy : Nat) :
    G.rowAcc dy (G.acc g dy) 27 = G.rowAcc (dy + 1) (G.acc g (dy + 1)) 0 :=
  (show G.rowAcc dy (G.acc g dy) 27 = G.acc g (dy + 1) from rfl).trans
    (show G.acc g (dy + 1) = G.rowAcc (dy + 1) (G.acc g (dy + 1)) 0 from rfl)

theorem acc_start (G : Grp F) (g : Vec F S3x14x224 .f32) :
    ((sO.view.loc (Vt d i) ↦[Finset.univ]{fullShare} (g : Buf (Elt F) (sO.view.loc (Vt d i)))) : sProp 𝕄)
      ⊢ (sO.view.loc (Vt d i) ↦[Finset.univ]{fullShare} (G.rowAcc 0 (G.acc g 0) 0 : Buf (Elt F) (sO.view.loc (Vt d i)))) :=
  .rfl

/-- A window row done, the next one's check at the head of the program. -/
theorem wp_chk_row {α : Type} {Q : α → sProp 𝕄} (G : Grp F) (dy : Nat) (g : Vec F S3x14x224 .f32)
    {P : Prop} {dec : Decidable P} {u0 u1 u2 u3 u4 u5 u6 u7 u8 y : IVec S16 32}
    {k : PLift P → Prog (TpuEff nD τ sig (Elt F) Λ₀ (.scVector ((i 0).castLE hcore0) ((i 1).castLE hsub0))) α}
    (hP : P = k0_chk2 u0 u1 u2 u3 u4 u5 u6 u7 u8 y) (hy : y = G.uy (dy + 1)) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8) :
    ((sO.view.loc (Vt d i) ↦[Finset.univ]{fullShare} (G.rowAcc dy (G.acc g dy) 27 : Buf (Elt F) (sO.view.loc (Vt d i)))) : sProp 𝕄)
      ⊢ iprop(((sO.view.loc (Vt d i) ↦[Finset.univ]{fullShare} (G.rowAcc (dy + 1) (G.acc g (dy + 1)) 0 : Buf (Elt F) (sO.view.loc (Vt d i))))
          -∗ wp frame (wpE (defs₀ (F := F)) 𝒱₀ (Vt d i) none) Set.univ
              (k ⟨hP ▸ chk_row G (dy + 1) hy h0 h1 h2 h3 h4 h5 h6 h7 h8⟩) Q)
        -∗ wp frame (wpE (defs₀ (F := F)) 𝒱₀ (Vt d i) none) Set.univ (Prog.lift (TpuEff.assume P dec) >>= k) Q) := by
  rw [wp_chk d i (hP ▸ chk_row G (dy + 1) hy h0 h1 h2 h3 h4 h5 h6 h7 h8)]
  rw [← Grp.acc_next]
  iintro H Hk
  iapply Hk $$ H

/-! The same steps over a frame, as rules for a goal with the whole state on the left. -/

theorem st_chk {α : Type} {Q : α → sProp 𝕄} {A : sProp 𝕄} {P : Prop} {dec : Decidable P}
    {k : PLift P → Prog (TpuEff nD τ sig (Elt F) Λ₀ (.scVector ((i 0).castLE hcore0) ((i 1).castLE hsub0))) α} (h : P)
    (hk : A ⊢ wp frame (wpE (defs₀ (F := F)) 𝒱₀ (Vt d i) none) Set.univ (k ⟨h⟩) Q) :
    A ⊢ wp frame (wpE (defs₀ (F := F)) 𝒱₀ (Vt d i) none) Set.univ (Prog.lift (TpuEff.assume P dec) >>= k) Q := by
  rw [wp_chk d i h]; exact hk

theorem st_gat {α : Type} {Q : α → sProp 𝕄} {R : sProp 𝕄} (A : Vec F S10x24x224 .f32) (r : Fin 24) (t : Fin k0_t3_loop.trips) (ch : Fin 10)
    {off : Fin 3 → Nat} {h} {u : IVec S16 32} {hi hl}
    {k : Vec F S16 .f32 → Prog (TpuEff nD τ sig (Elt F) Λ₀ (.scVector ((i 0).castLE hcore0) ((i 1).castLE hsub0))) α}
    (ho : off = ![ch.val, r.val, 0]) (e0 : u = colIdx t)
    (hk : (iprop((sP.view.loc (Vt d i) ↦[Finset.univ]{fullShare} (A : Buf (Elt F) (sP.view.loc (Vt d i)))) ∗ R) : sProp 𝕄)
      ⊢ wp frame (wpE (defs₀ (F := F)) 𝒱₀ (Vt d i) none) Set.univ (k (gat A r t ch)) Q) :
    (iprop((sP.view.loc (Vt d i) ↦[Finset.univ]{fullShare} (A : Buf (Elt F) (sP.view.loc (Vt d i)))) ∗ R) : sProp 𝕄)
      ⊢ wp frame (wpE (defs₀ (F := F)) 𝒱₀ (Vt d i) none) Set.univ
            (SparseCore.vectorLoadIdx (slP off h) ![u] hi hl >>= k) Q := by
  iintro ⟨HA, HR⟩
  iapply (wp_gat d i A r t ch ho e0) $$ HA
  iintro HA
  iapply hk
  isplitl [HA]
  · iexact HA
  · iexact HR

theorem st_scat {α : Type} {Q : α → sProp 𝕄} {R : sProp 𝕄} (G : Grp F) (dy n : Nat) (g : Vec F S3x14x224 .f32)
    {h} {u u' : IVec S16 32} {v : Vec F S16 .f32} {mask : IVec S16 1} {hi hs}
    {k : PUnit → Prog (TpuEff nD τ sig (Elt F) Λ₀ (.scVector ((i 0).castLE hcore0) ((i 1).castLE hsub0))) α}
    (e0 : u = G.uy dy) (e1 : u' = G.ux (n / 3)) (e2 : v = G.val dy (n / 3) ⟨n % 3, Nat.mod_lt _ (by decide)⟩)
    (e3 : mask = G.mask dy (n / 3))
    (hk : (iprop(R ∗ (sO.view.loc (Vt d i) ↦[Finset.univ]{fullShare} (G.rowAcc dy g (n + 1) : Buf (Elt F) (sO.view.loc (Vt d i))))) : sProp 𝕄)
      ⊢ wp frame (wpE (defs₀ (F := F)) 𝒱₀ (Vt d i) none) Set.univ (k ⟨⟩) Q) :
    (iprop(R ∗ (sO.view.loc (Vt d i) ↦[Finset.univ]{fullShare} (G.rowAcc dy g n : Buf (Elt F) (sO.view.loc (Vt d i))))) : sProp 𝕄)
      ⊢ wp frame (wpE (defs₀ (F := F)) 𝒱₀ (Vt d i) none) Set.univ
            (SparseCore.vectorStoreIdx (slO (n % 3) h) ![u, u'] v mask true hi hs >>= k) Q := by
  iintro ⟨HR, Hg⟩
  iapply (wp_scat_row d i G dy n g e0 e1 e2 e3) $$ Hg
  iintro Hg
  iapply hk
  isplitl [HR]
  · iexact HR
  · iexact Hg

theorem st_row {α : Type} {Q : α → sProp 𝕄} {R : sProp 𝕄} (G : Grp F) (dy : Nat) (g : Vec F S3x14x224 .f32)
    {P : Prop} {dec : Decidable P} {u0 u1 u2 u3 u4 u5 u6 u7 u8 y : IVec S16 32}
    {k : PLift P → Prog (TpuEff nD τ sig (Elt F) Λ₀ (.scVector ((i 0).castLE hcore0) ((i 1).castLE hsub0))) α}
    (hP : P = k0_chk2 u0 u1 u2 u3 u4 u5 u6 u7 u8 y) (hy : y = G.uy (dy + 1)) (h0 : u0 = G.ux 0) (h1 : u1 = G.ux 1)
    (h2 : u2 = G.ux 2) (h3 : u3 = G.ux 3) (h4 : u4 = G.ux 4) (h5 : u5 = G.ux 5) (h6 : u6 = G.ux 6) (h7 : u7 = G.ux 7) (h8 : u8 = G.ux 8)
    (hk : (iprop(R ∗ (sO.view.loc (Vt d i) ↦[Finset.univ]{fullShare} (G.rowAcc (dy + 1) (G.acc g (dy + 1)) 0 : Buf (Elt F) (sO.view.loc (Vt d i))))) : sProp 𝕄)
      ⊢ wp frame (wpE (defs₀ (F := F)) 𝒱₀ (Vt d i) none) Set.univ
              (k ⟨hP ▸ chk_row G (dy + 1) hy h0 h1 h2 h3 h4 h5 h6 h7 h8⟩) Q) :
    (iprop(R ∗ (sO.view.loc (Vt d i) ↦[Finset.univ]{fullShare} (G.rowAcc dy (G.acc g dy) 27 : Buf (Elt F) (sO.view.loc (Vt d i))))) : sProp 𝕄)
      ⊢ wp frame (wpE (defs₀ (F := F)) 𝒱₀ (Vt d i) none) Set.univ (Prog.lift (TpuEff.assume P dec) >>= k) Q := by
  rw [wp_chk d i (hP ▸ chk_row G (dy + 1) hy h0 h1 h2 h3 h4 h5 h6 h7 h8), Grp.acc_next]
  exact hk

set_option maxRecDepth 65536 in
set_option maxHeartbeats 20000000 in
theorem wp_group (A : Vec F S10x24x224 .f32) (g : Vec F S3x14x224 .f32) (v4 : BitVec 32) (r : Fin k0_t2_loop.trips)
    (t : Fin k0_t3_loop.trips) (a : BitVec 32) :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))) : sProp 𝕄)
      ⊢ wp frame (wpE (defs₀ (F := F)) 𝒱₀ (Vt d i) none) Set.univ
          (k0_t3_body i aP (Memref.isWhole_whole _) aO (Memref.isWhole_whole _) sP (Memref.isWhole_whole _) sO (Memref.isWhole_whole _)
            cc0_scoped0 cc0_scoped1 v4 r (Scf.iv 0#32 1#32 r) t a)
          fun _ => iprop((sP.view.loc (Vt d i) ↦[Finset.univ]{fullShare} (A : Buf (Elt F) (sP.view.loc (Vt d i))))
            ∗ (sO.view.loc (Vt d i) ↦[Finset.univ]{fullShare} ((grp A v4 r t).acc g 9 : Buf (Elt F) (sO.view.loc (Vt d i))))) := by
  unfold k0_t3_body
  rw [k0_part52_eq_skeleton]
  refine st_seq d i ?_
  unfold k0_part52_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  refine st_seq d i ?_
  refine st_chk d i (chk0_col t) ?_
  refine st_gat d i A r t 0 (k0_off44_eq r) rfl ?_
  refine st_gat d i A r t 1 (k0_off45_eq r) rfl ?_
  refine st_gat d i A r t 2 (k0_off46_eq r) rfl ?_
  refine st_gat d i A r t 3 (k0_off47_eq r) rfl ?_
  refine st_gat d i A r t 4 (k0_off48_eq r) rfl ?_
  refine st_gat d i A r t 5 (k0_off49_eq r) rfl ?_
  refine st_gat d i A r t 6 (k0_off50_eq r) rfl ?_
  refine st_gat d i A r t 7 (k0_off51_eq r) rfl ?_
  refine st_gat d i A r t 8 (k0_off52_eq r) rfl ?_
  refine st_ret d i ?_
  dsimp only
  refine st_seq d i ?_
  refine st_gat d i A r t 9 (k0_off53_eq r) rfl ?_
  refine st_ret d i ?_
  dsimp only
  refine st_seq d i ?_
  refine st_ret d i ?_
  dsimp only
  refine st_seq d i ?_
  refine st_ret d i ?_
  dsimp only
  refine st_seq d i ?_
  refine st_chk d i (chk_row (grp A v4 r t) 0 rfl rfl rfl rfl rfl rfl rfl rfl rfl rfl) ?_
  refine (sep_mono_r (acc_start d i (grp A v4 r t) g)).trans ?_
  iterate 2 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 5 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 5 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 3 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 2 (refine st_scat d i (grp A v4 r t) _ _ _ rfl rfl rfl rfl ?_)
  refine st_row d i (grp A v4 r t) _ g rfl rfl rfl rfl rfl rfl rfl rfl rfl rfl rfl ?_
  iterate 2 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 5 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 3 (refine st_scat d i (grp A v4 r t) _ _ _ rfl rfl rfl rfl ?_)
  refine st_row d i (grp A v4 r t) _ g rfl rfl rfl rfl rfl rfl rfl rfl rfl rfl rfl ?_
  refine st_ret d i ?_
  dsimp only
  refine st_seq d i ?_
  iterate 7 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 7 (refine st_scat d i (grp A v4 r t) _ _ _ rfl rfl rfl rfl ?_)
  refine st_ret d i ?_
  dsimp only
  refine st_seq d i ?_
  iterate 1 (refine st_scat d i (grp A v4 r t) _ _ _ rfl rfl rfl rfl ?_)
  refine st_row d i (grp A v4 r t) _ g rfl rfl rfl rfl rfl rfl rfl rfl rfl rfl rfl ?_
  iterate 3 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_seq d i ?_
  iterate 6 (refine st_scat d i (grp A v4 r t) _ _ _ rfl rfl rfl rfl ?_)
  refine st_ret d i ?_
  dsimp only
  refine st_scat d i (grp A v4 r t) _ _ _ rfl rfl rfl rfl ?_
  refine st_ret d i ?_
  dsimp only
  iterate 5 (refine st_scat d i (grp A v4 r t) _ _ _ rfl rfl rfl rfl ?_)
  refine st_ret d i ?_
  iintro ⟨HA, Hg⟩
  isplitl [HA]
  · iexact HA
  · iexact Hg

end Cert.Proof.Call

end
-- ==== Proof.Call.Tile.lean ====
/-
  A tile's task: the slab of parameter rows fetched, the block zeroed, every group of every row splatted, the block
  clipped and written out.
-/
module

public import proofs.«01_k».proof.Proof.Call.Group
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

variable (d : Dev nD) (i : grid0.Coords)

/-! ## What a tile computes -/

/-- A row's first `n` groups splatted. -/
def rowGroups (A : Vec F S10x24x224 .f32) (v4 : BitVec 32) (r : Fin k0_t2_loop.trips) (g : Vec F S3x14x224 .f32) : Nat → Vec F S3x14x224 .f32
  | 0 => g
  | n + 1 => if h : n < k0_t3_loop.trips then (grp A v4 r ⟨n, h⟩).acc (rowGroups A v4 r g n) 9 else rowGroups A v4 r g n

/-- The slab's first `n` rows splatted. -/
def slabRows (A : Vec F S10x24x224 .f32) (v4 : BitVec 32) (g : Vec F S3x14x224 .f32) : Nat → Vec F S3x14x224 .f32
  | 0 => g
  | n + 1 => if h : n < k0_t2_loop.trips then rowGroups A v4 ⟨n, h⟩ (slabRows A v4 g n) k0_t3_loop.trips else slabRows A v4 g n

theorem rowGroups_succ (A : Vec F S10x24x224 .f32) (v4 : BitVec 32) (r : Fin k0_t2_loop.trips) (g : Vec F S3x14x224 .f32) (t : Fin k0_t3_loop.trips) :
    rowGroups A v4 r g (t.val + 1) = (grp A v4 r t).acc (rowGroups A v4 r g t.val) 9 := by
  rw [rowGroups, dif_pos t.isLt]

theorem slabRows_succ (A : Vec F S10x24x224 .f32) (v4 : BitVec 32) (g : Vec F S3x14x224 .f32) (r : Fin k0_t2_loop.trips) :
    slabRows A v4 g (r.val + 1) = rowGroups A v4 r (slabRows A v4 g r.val) k0_t3_loop.trips := by
  rw [slabRows, dif_pos r.isLt]

/-- A tile's first slab row relative to its block's first. -/
def offL (i : grid0.Coords) : BitVec 32 :=
  Scalar.subi (Scalar.maxsi (Scalar.minsi (Scalar.subi (Scalar.muli (BitVec.ofNat 32 (i 1).val) 14#32) 4#32) 200#32) 0#32)
    (Scalar.muli (BitVec.ofNat 32 (i 1).val) 14#32)

/-- The slab a tile fetches, as it addresses it. -/
abbrev slabK (i : grid0.Coords) : Memref sig .scVector .hbm S10x24x224 .f32 :=
  (aP.slice (Rect.unit (s := S2x10x224x224) (k0_off1 i) S1x10x24x224.size (k0_off1_inb i)) (fun _ => rfl)).squeeze S10x24x224 squeezes_S1x10x24x224_S10x24x224

/-- The block a tile writes out to, as it addresses it. -/
abbrev blkK (i : grid0.Coords) : Memref sig .scVector .hbm S3x14x224 .f32 :=
  (aO.slice (Rect.unit (s := S2x3x224x224) (k0_off96 i) S1x3x14x224.size (k0_off96_inb i)) (fun _ => rfl)).squeeze S3x14x224 squeezes_S1x3x14x224_S3x14x224

/-- The slab's contents. -/
def slab (i : grid0.Coords) (B : Vec F S2x10x224x224 .f32) : Vec F S10x24x224 .f32 := (slabK i).view.read (Elt F) B

/-- The block a tile computes from a slab. -/
def blockOf (A : Vec F S10x24x224 .f32) (v4 : BitVec 32) : Vec F S3x14x224 .f32 :=
  fun j => clip01 (slabRows A v4 (fun _ => zeroF) k0_t2_loop.trips j)

set_option maxRecDepth 65536 in
set_option maxHeartbeats 4000000 in
/-- A slab row's groups. -/
theorem wp_row (A : Vec F S10x24x224 .f32) (g : Vec F S3x14x224 .f32) (v4 : BitVec 32) (r : Fin k0_t2_loop.trips) (a : BitVec 32) :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))) : sProp 𝕄)
      ⊢ wp frame (wpE (defs₀ (F := F)) 𝒱₀ (Vt d i) none) Set.univ
          (k0_t2_body i aP (Memref.isWhole_whole _) aO (Memref.isWhole_whole _) sP (Memref.isWhole_whole _) sO (Memref.isWhole_whole _)
            cc0_scoped0 cc0_scoped1 v4 r a)
          fun _ => iprop((sP.view.loc (Vt d i) ↦[Finset.univ]{fullShare} (A : Buf (Elt F) (sP.view.loc (Vt d i))))
            ∗ (sO.view.loc (Vt d i) ↦[Finset.univ]{fullShare} (rowGroups A v4 r g k0_t3_loop.trips : Buf (Elt F) (sO.view.loc (Vt d i))))) := by
  unfold k0_t2_body
  dsimp only
  iintro ⟨HA, Hg⟩
  sl_for (fun n (_ : BitVec 32) => iprop((sP.view.loc (Vt d i) ↦[Finset.univ]{fullShare} (A : Buf (Elt F) (sP.view.loc (Vt d i))))
      ∗ (sO.view.loc (Vt d i) ↦[Finset.univ]{fullShare} (rowGroups A v4 r g n : Buf (Elt F) (sO.view.loc (Vt d i)))))) $$ [HA Hg]
  case region =>
    intro t b
    rw [rowGroups_succ]
    exact wp_group d i A (rowGroups A v4 r g t.val) v4 r t b
  · isplitl [HA]; · iexact HA
    iexact Hg
  iintro %_ HI
  icases HI with ⟨HA, Hg⟩
  sl_step
  isplitl [HA]; · iexact HA
  iexact Hg

set_option maxRecDepth 65536 in
set_option maxHeartbeats 4000000 in
/-- The three loops. -/
theorem wp_loops {α : Type} {Q : α → sProp 𝕄} (A : Vec F S10x24x224 .f32) (g : Vec F S3x14x224 .f32) (v4 : BitVec 32)
    {k : Prog (TpuEff nD τ sig (Elt F) Λ₀ (.scVector ((i 0).castLE hcore0) ((i 1).castLE hsub0))) α} :
    (iprop((sP.view.loc (Vt d i) ↦[Finset.univ]{fullShare} (A : Buf (Elt F) (sP.view.loc (Vt d i))))
      ∗ (sO.view.loc (Vt d i) ↦[Finset.univ]{fullShare} (g : Buf (Elt F) (sO.view.loc (Vt d i))))
      ∗ (((sP.view.loc (Vt d i) ↦[Finset.univ]{fullShare} (A : Buf (Elt F) (sP.view.loc (Vt d i))))
          ∗ (sO.view.loc (Vt d i) ↦[Finset.univ]{fullShare} (blockOf A v4 : Buf (Elt F) (sO.view.loc (Vt d i)))))
        -∗ wp frame (wpE (defs₀ (F := F)) 𝒱₀ (Vt d i) none) Set.univ k Q)) : sProp 𝕄)
      ⊢ wp frame (wpE (defs₀ (F := F)) 𝒱₀ (Vt d i) none) Set.univ
          (do
            let _ ← Scf.Loop.for k0_t1_loop k0_t1_ok 0#32 (k0_t1_body i aP (Memref.isWhole_whole _) aO (Memref.isWhole_whole _) sP (Memref.isWhole_whole _) sO (Memref.isWhole_whole _) cc0_scoped0 cc0_scoped1)
            let _ ← Scf.Loop.for k0_t2_loop k0_t2_ok 0#32 (k0_t2_body i aP (Memref.isWhole_whole _) aO (Memref.isWhole_whole _) sP (Memref.isWhole_whole _) sO (Memref.isWhole_whole _) cc0_scoped0 cc0_scoped1 v4)
            let _ ← Scf.Loop.for k0_t4_loop k0_t4_ok 0#32 (k0_t4_body i aP (Memref.isWhole_whole _) aO (Memref.isWhole_whole _) sP (Memref.isWhole_whole _) sO (Memref.isWhole_whole _) cc0_scoped0 cc0_scoped1)
            k) Q := by
  iintro ⟨HA, Hg, Hk⟩
  sl_for (fun n (_ : BitVec 32) => (sO.view.loc (Vt d i) ↦[Finset.univ]{fullShare} (updRows (fun _ => zeroF) n g : Buf (Elt F) (sO.view.loc (Vt d i))))) $$ [Hg]
  case region =>
    intro t b
    exact wp_zeroRow d i g t b
  · rw [updRows_zero]; iexact Hg
  iintro %_ Hg
  rw [show Scf.trips k0_t1_loop.lb k0_t1_loop.ub k0_t1_loop.st = 14 from rfl, updRows_all]
  sl_for (fun n (_ : BitVec 32) => iprop((sP.view.loc (Vt d i) ↦[Finset.univ]{fullShare} (A : Buf (Elt F) (sP.view.loc (Vt d i))))
      ∗ (sO.view.loc (Vt d i) ↦[Finset.univ]{fullShare} (slabRows A v4 (fun _ => zeroF) n : Buf (Elt F) (sO.view.loc (Vt d i)))))) $$ [HA Hg]
  case region =>
    intro t b
    rw [slabRows_succ]
    exact wp_row d i A (slabRows A v4 (fun _ => zeroF) t.val) v4 t b
  · isplitl [HA]; · iexact HA
    iexact Hg
  iintro %_ HI
  icases HI with ⟨HA, Hg⟩
  sl_for (fun n (_ : BitVec 32) => (sO.view.loc (Vt d i) ↦[Finset.univ]{fullShare} (updRows clip01 n (slabRows A v4 (fun _ => zeroF) k0_t2_loop.trips) : Buf (Elt F) (sO.view.loc (Vt d i))))) $$ [Hg]
  case region =>
    intro t b
    exact wp_clipRow d i _ t b
  · rw [updRows_zero]; iexact Hg
  iintro %_ Hg
  rw [show Scf.trips k0_t4_loop.lb k0_t4_loop.ub k0_t4_loop.st = 14 from rfl, updRows_all]
  iapply Hk
  isplitl [HA]; · iexact HA
  iexact Hg

end Cert.Proof.Call

end
-- ==== Proof.Call.Task.lean ====
/-
  A tile's whole task, from its scoped storage, a share of the parameter array and its block of the image array, and
  the parameter array's rounds among the tiles.
-/
module

public import proofs.«01_k».proof.Proof.Call.Tile
public import Idealize.ShloMosaic.Lib.ValueLayout

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-- The parameter array and the image array, as locations of a device. -/
abbrev pLoc (d : Dev nD) : Loc nD τ sig := (SparseCore.T d : Thread nD τ).loc main_arg0
abbrev oLoc (d : Dev nD) : Loc nD τ sig := (SparseCore.T d : Thread nD τ).loc main_v0

/-! ## The image as blocks -/

/-- The grid point that owns an element of the image. -/
def ownerOf (j : S2x3x224x224.Idx) : grid0.Coords :=
  fun | 0 => ⟨(j 0).val, (j 0).isLt⟩ | 1 => ⟨(j 2).val / 14, Nat.div_lt_of_lt_mul (j 2).isLt⟩
      | ⟨_ + 2, h⟩ => absurd h (Nat.not_lt.2 (Nat.le_add_left _ _))

/-- The image the tiles compute from the parameter array. -/
def imageOf (B : Vec F S2x10x224x224 .f32) : Vec F S2x3x224x224 .f32 := fun j =>
  blockOf (slab (ownerOf j) B) (offL (ownerOf j)) (ix3 (j 1) ⟨(j 2).val % 14, Nat.mod_lt _ (by decide)⟩ (j 3))

section Body

variable (d : Dev nD) (i : grid0.Coords)

/-- An index of a tile's block, a leading axis of extent one added. -/
theorem unsq3 (h) (x : S3x14x224.Idx) :
    Shape.reshapeEquiv (s := S1x3x14x224) (s' := S3x14x224) h x = ix4 (n0 := 1) (n1 := 3) (n2 := 14) (n3 := 224) 0 (x 0) (x 1) (x 2) := by
  refine Shape.reshapeEquiv_eq_of_rowMajor _ ((Shape.rowMajor_val_four (d := ![1, 3, 14, 224]) _).trans ?_)
  refine Eq.trans ?_ (Shape.rowMajor_val_three (d := ![3, 14, 224]) x).symm
  show (((0 : ℕ) * 3 + (x 0).val) * 14 + (x 1).val) * 224 + (x 2).val = ((x 0).val * 14 + (x 1).val) * 224 + (x 2).val
  omega

/-- An element of a tile's block as the image has it. -/
theorem blkK_emb (x : S3x14x224.Idx) :
    ((blkK i).view.emb x : S2x3x224x224.Idx) = ix4 ⟨(i 0).val, (i 0).isLt⟩ (x 0) ⟨14 * (i 1).val + (x 1).val, by
      have h1 := (i 1).isLt; have h2 := (x 1).isLt
      change (i 1).val < 16 at h1; change (x 1).val < 14 at h2; change _ < 224; omega⟩ (x 2) := by
  have e : ((blkK i).view.emb x : S2x3x224x224.Idx)
      = (Rect.unit (s := S2x3x224x224) (k0_off96 i) S1x3x14x224.size (k0_off96_inb i)).emb (Shape.reshapeEquiv (s := S1x3x14x224) (s' := S3x14x224) squeezes_S1x3x14x224_S3x14x224.numel_eq x) := rfl
  rw [e, unsq3]
  have h := k0_off96_eq i
  funext a
  refine Fin.ext ?_
  match a with
  | 0 => show k0_off96 i 0 + 1 * 0 = (i 0).val; rw [h]; rfl
  | 1 => show k0_off96 i 1 + 1 * (x 0).val = (x 0).val; rw [h]; show 0 + 1 * (x 0).val = _; omega
  | 2 => show k0_off96 i 2 + 1 * (x 1).val = 14 * (i 1).val + (x 1).val; rw [h]; show 14 * (i 1).val + 1 * (x 1).val = _; omega
  | 3 => show k0_off96 i 3 + 1 * (x 2).val = (x 2).val; rw [h]; show 0 + 1 * (x 2).val = _; omega

theorem ownerOf_blkK (x : S3x14x224.Idx) : ownerOf ((blkK i).view.emb x) = i := by
  rw [blkK_emb]
  funext a
  match a with
  | 0 => rfl
  | 1 =>
    refine Fin.ext ?_
    have h2 := (x 1).isLt
    change (x 1).val < 14 at h2
    show (14 * (i 1).val + (x 1).val) / 14 = (i 1).val
    omega

theorem imageOf_blkK (B : Vec F S2x10x224x224 .f32) (x : S3x14x224.Idx) :
    imageOf B ((blkK i).view.emb x) = blockOf (slab i B) (offL i) x := by
  unfold imageOf
  rw [ownerOf_blkK, blkK_emb]
  congr 1
  have h2 := (x 1).isLt
  change (x 1).val < 14 at h2
  refine (congrArg (fun y => ix3 (x 0) y (x 2)) (Fin.ext ?_)).trans (eq_ix3 x).symm
  show (14 * (i 1).val + (x 1).val) % 14 = (x 1).val
  omega

set_option maxRecDepth 65536 in
/-- The block written out is the image's. -/
theorem blk_written (B : Vec F S2x10x224x224 .f32) (f0 : Buf (Elt F) (oLoc d)) :
    ((oLoc d) ↦[(blkK i).view.set]{fullShare} ((blkK i).view.writes (Elt F) f0 [⟨Rect.whole S3x14x224, blockOf (slab i B) (offL i)⟩] : Buf (Elt F) (oLoc d)) : sProp 𝕄)
      = (oLoc d ↦[(blkK i).view.set]{fullShare} (imageOf B : Buf (Elt F) (oLoc d))) := by
  refine pointsTo_congr fun j hj => ?_
  obtain ⟨x, -, hx⟩ := Finset.mem_map.1 hj
  rw [← hx]
  have e : (blkK i).view.emb x = ((blkK i).view.slice (Rect.whole S3x14x224)).emb x :=
    congrArg (fun y : S3x14x224.Idx => (blkK i).view.emb y) (Rect.emb_whole_apply S3x14x224 x).symm
  refine Eq.trans ?_ (imageOf_blkK i B x).symm
  rw [e]
  exact View.write_emb_of_mem (v := (blkK i).view.slice (Rect.whole S3x14x224)) (Val := Elt F) _ _ (Finset.mem_univ _)

abbrev cAcell (d : Dev nD) (c : Fin τ.nSC) (j : Fin τ.nSub) : GSem nD τ sig := (V d c j, .dma cc0_scoped0.sem)
abbrev cBcell (d : Dev nD) (c : Fin τ.nSC) (j : Fin τ.nSub) : GSem nD τ sig := (V d c j, .dma cc0_scoped1.sem)

theorem ownSems_tile :
    (ownSems0 (Vt d i) : sProp 𝕄)
      = iprop(semVal (cAcell d (cL i) (jL i)) 0 ∗ semVal (cBcell d (cL i) (jL i)) 0
          ∗ bigSep (((ownCells (Vt d i)).erase (cAcell d (cL i) (jL i))).erase (cBcell d (cL i) (jL i))) fun g => semVal g 0) := by
  unfold SparseCore.Cfg.ownSems0
  rw [SparseCore.bigSep_erase' ((mem_ownCells (g := cAcell d (cL i) (jL i))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cL i) (jL i))).mpr ⟨rfl, by
      show (SemLoc.dma cc0_scoped1.sem : SemLoc sig).isScoped .scVector = true; decide⟩⟩)]

theorem ownBufs_tile :
    (ownBufs (Vt d i) : sProp 𝕄)
      = iprop((∃ f, (Vt d i).loc cc0_scratch0 ↦{fullShare} f) ∗ (∃ f, (Vt d i).loc cc0_scratch1 ↦{fullShare} f)
          ∗ bigSep (((ownRefs (τ := τ) (.scVector (cL i) (jL i))).erase ((Proc.scVector (cL i) (jL i)).devRef cc0_scratch0)).erase
              ((Proc.scVector (cL i) (jL i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cL i) (jL i))
    (b := (Proc.scVector (cL i) (jL i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cL i) (jL i)) (b := (Proc.scVector (cL i) (jL i)).devRef cc0_scratch1) rfl⟩)]

set_option maxRecDepth 65536 in
set_option maxHeartbeats 4000000 in
/-- The task on the tile of grid point `i`. -/
theorem tile_body (B : Vec F S2x10x224x224 .f32) (q : PosShare TreeShare) (f0 : Buf (Elt F) (oLoc d))
    (O : CellTallies nD τ sig (HIx 1)) (W : Waits sig (HIx 1)) (hO : ∀ g, O g none = 0) :
    (iprop(levAts (K (F := F)).L (K (F := F)).lev ∗ emp
        ∗ ((pLoc d ↦{q} (B : Buf (Elt F) (pLoc d))) ∗ (oLoc d ↦[(blkK i).view.set]{fullShare} f0))
        ∗ scopedBufs (Vt d i) ∗ scopedSems0 (Vt d i) ∗ owes (Vt d i) O W) : sProp 𝕄)
      ⊢ wp frame (wpE (defs₀ (F := F)) 𝒱₀ (Vt d i) none) Set.univ
          (cc0__sc_splat_body i aP (Memref.isWhole_whole _) aO (Memref.isWhole_whole _) sP (Memref.isWhole_whole _) sO (Memref.isWhole_whole _)
            cc0_scoped0 cc0_scoped1)
          fun _ => (iprop(((pLoc d ↦{q} (B : Buf (Elt F) (pLoc d))) ∗ (oLoc d ↦[(blkK i).view.set]{fullShare} (imageOf B : Buf (Elt F) (oLoc d))))
            ∗ scopedBufs (Vt d i) ∗ scopedSems0 (Vt d i)
            ∗ ∃ W', ⌜∀ p ∈ W', p ∈ W ∨ p.2 = none⌝ ∗ owes (Vt d i) O W') : sProp 𝕄) := by
  rw [cc0__sc_splat_body_eq_skeleton]; unfold cc0__sc_splat_body_skel
  rw [k0_part66_eq_skeleton]; unfold k0_part66_skel
  rw [(K (F := F)).scopedBufs_V facts d (cL i) (jL i), SparseCore.Cfg.scopedSems0_V (Val := Elt F) d (cL i) (jL i), ownSems_tile, ownBufs_tile]
  dsimp only
  iintro ⟨#Hlv, -, ⟨Hp, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (Vt d i) (default : HIx 1) O from
    (K (F := F)).mayWaits_none (thr := Vt d i) hO) $$ Hlv
  ihave Hp' := (Entails.of_eq (show (pLoc d ↦{q} (B : Buf (Elt F) (pLoc d)) : sProp 𝕄) = ((slabK i).view.loc (Vt d i) ↦{q} (B : Buf (Elt F) (pLoc d)) : sProp 𝕄) from rfl)) $$ Hp
  ihave Ho' := (Entails.of_eq (show (oLoc d ↦[(blkK i).view.set]{fullShare} f0 : sProp 𝕄) = ((blkK i).view.loc (Vt d i) ↦[(blkK i).view.set]{fullShare} f0 : sProp 𝕄) from rfl)) $$ Ho
  ihave Hs' := (Entails.of_eq (show ((Vt d i).loc cc0_scratch0 ↦{fullShare} fs : sProp 𝕄) = (sP.view.loc (Vt d i) ↦{fullShare} fs : sProp 𝕄) from rfl)) $$ Hs
  ihave Hr' := (Entails.of_eq (show ((Vt d i).loc cc0_scratch1 ↦{fullShare} fr : sProp 𝕄) = (sO.view.loc (Vt d i) ↦{fullShare} fr : sProp 𝕄) from rfl)) $$ Hr
  sl_exec
  ihave Hs2 := (Entails.of_eq (show (sP.view.loc (Vt d i) ↦{fullShare} View.write (Elt F) sP.view fs (tile_body.sl.dma0 i B) Finset.univ : sProp 𝕄)
      = (sP.view.loc (Vt d i) ↦[Finset.univ]{fullShare} (slab i B : Buf (Elt F) (sP.view.loc (Vt d i)))) from
    congrArg (fun f : Buf (Elt F) (sP.view.loc (Vt d i)) => (sP.view.loc (Vt d i) ↦[Finset.univ]{fullShare} f : sProp 𝕄))
      (View.write_whole_univ cc0_scratch0 fs _))) $$ Hs'
  rw [wp_bind]
  iapply (wp_loops d i (slab i B) fr (offL i))
  isplitl [Hs2]; · iexact Hs2
  isplitl [Hr']; · iexact Hr'
  iintro ⟨Hs', Hr'⟩
  iapply le_wp_ret
  sl_exec
  sl_step
  isplitl [Hp' Ho']
  · isplitl [Hp']; · iexact Hp'
    iapply (Entails.of_eq (blk_written d i B f0))
    iexact Ho'
  isplitl [Hs' Hr' Hbufs]
  · isplitl [Hs']; · iexists _; iexact Hs'
    isplitl [Hr']; · iexists _; iexact Hr'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Body

end Cert.Proof.Call

end
-- ==== Proof.Call.Share.lean ====
/-
  What the handshakes of the SparseCore call carry: the parameter array by shares, the image by blocks; each tile's
  obligation from its task's proof; the parts dealt out and joined.
-/
module

public import proofs.«01_k».proof.Proof.Call.Task

@[expose] public section

noncomputable section

namespace Cert.Proof.Call

open Cert.SplatIdeal Cert.SplatIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## Shares -/

/-- A share cut into `n + 1` pieces, half of what is left at a time. -/
def piece : (n : ℕ) → PosShare TreeShare → Fin (n + 1) → PosShare TreeShare
  | 0, q => fun _ => q
  | n + 1, q => Fin.cases q.left (piece n q.right)

omit [FloatOps F] in
/-- A whole at a share is the pieces' wholes together. -/
theorem pointsTo_pieces {ℓ : Loc nD τ sig} (I : Finset (Idx ℓ)) (f : Buf (Elt F) ℓ) (n : ℕ) :
    ∀ q : PosShare TreeShare, (ℓ ↦[I]{q} f : sProp 𝕄) = bigSep Finset.univ fun k : Fin (n + 1) => ℓ ↦[I]{piece n q k} f := by
  induction n with
  | zero => exact fun q => (bigSep_univ_of_subsingleton (0 : Fin 1) (Φ := fun k : Fin 1 => (ℓ ↦[I]{piece 0 q k} f : sProp 𝕄))).symm
  | succ n ih =>
    intro q
    have h := pointsTo_share (nD := nD) (τ := τ) (sig := sig) (Ix := HIx 1) (Val := Elt F) (Name := ℕ) (U := UU) (Lvl := ℕ) (ℓ := ℓ) (I := I) (f := f) (PosShare.mem_left_op_right q)
    rw [BI.Entails.antisymm h.1 h.2, Fin.univ_succ, Finset.cons_eq_insert,
      SparseCore.bigSep_insert' (by simp), bigSep_map, ih q.right]
    rfl

theorem nCore_eq (q : Fin 1) : (K (F := F)).nCore q = 2 := match q with | 0 => rfl
theorem nSub_eq (q : Fin 1) : (K (F := F)).nSub q = 16 := match q with | 0 => rfl

/-- The grid point of a tile of a core. -/
def coordsV (c : Fin (grid0.bound 0)) (s : Fin (grid0.bound 1)) : grid0.Coords :=
  fun | 0 => c | 1 => s | ⟨_ + 2, h⟩ => absurd h (Nat.not_lt.2 (Nat.le_add_left _ _))

/-! ## The image among the cores and tiles -/

/-- A tile's block of the image, as a set of its elements. -/
def tileSet (c : Fin 2) (s : Fin 16) : Finset S2x3x224x224.Idx := (blkK (coordsV c s)).view.set

/-- A core's part of the image. -/
def coreSet (c : Fin 2) : Finset S2x3x224x224.Idx := Finset.univ.biUnion (tileSet c)

theorem owner_of_mem {c : Fin 2} {s : Fin 16} {j : S2x3x224x224.Idx} (h : j ∈ tileSet c s) : ownerOf j = coordsV c s := by
  obtain ⟨x, -, hx⟩ := Finset.mem_map.1 h
  rw [← hx]; exact ownerOf_blkK _ x

theorem coordsV_inj {c c' : Fin 2} {s s' : Fin 16} (h : coordsV c s = coordsV c' s') : c = c' ∧ s = s' :=
  ⟨congrFun h 0, congrFun h 1⟩

theorem mem_tileSet_owner (j : S2x3x224x224.Idx) : j ∈ tileSet (ownerOf j 0) (ownerOf j 1) := by
  have h2 := (j 2).isLt
  change (j 2).val < 224 at h2
  refine Finset.mem_map.2 ⟨ix3 (n0 := 3) (n1 := 14) (n2 := 224) (j 1) ⟨(j 2).val % 14, Nat.mod_lt _ (by decide)⟩ (j 3), Finset.mem_univ _, ?_⟩
  refine (blkK_emb (coordsV (ownerOf j 0) (ownerOf j 1)) _).trans ?_
  refine Eq.trans ?_ (eq_ix4 j).symm
  funext a
  refine Fin.ext ?_
  match a with
  | 0 => rfl
  | 1 => rfl
  | 2 => show 14 * ((j 2).val / 14) + (j 2).val % 14 = (j 2).val; omega
  | 3 => rfl

theorem tiles_disjoint (c : Fin 2) : ∀ s ∈ (Finset.univ : Finset (Fin 16)), ∀ s' ∈ (Finset.univ : Finset (Fin 16)), s ≠ s' → Disjoint (tileSet c s) (tileSet c s') :=
  fun _ _ _ _ h => Finset.disjoint_left.2 fun _ h1 h2 => h (coordsV_inj ((owner_of_mem h1).symm.trans (owner_of_mem h2))).2

theorem cores_disjoint : ∀ c ∈ (Finset.univ : Finset (Fin 2)), ∀ c' ∈ (Finset.univ : Finset (Fin 2)), c ≠ c' → Disjoint (coreSet c) (coreSet c') :=
  fun _ _ _ _ h => Finset.disjoint_left.2 fun _ h1 h2 => by
    obtain ⟨_, -, h1⟩ := Finset.mem_biUnion.1 h1
    obtain ⟨_, -, h2⟩ := Finset.mem_biUnion.1 h2
    exact h (coordsV_inj ((owner_of_mem h1).symm.trans (owner_of_mem h2))).1

theorem cores_cover : (Finset.univ : Finset (Fin 2)).biUnion coreSet = Finset.univ :=
  Finset.eq_univ_of_forall fun j => Finset.mem_biUnion.2 ⟨ownerOf j 0, Finset.mem_univ _, Finset.mem_biUnion.2 ⟨ownerOf j 1, Finset.mem_univ _, mem_tileSet_owner j⟩⟩

/-- A core's and a tile's share of the parameter array. -/
abbrev coreQ (c : Fin 2) : PosShare TreeShare := piece 1 fullShare c
abbrev tileQ (c : Fin 2) (s : Fin 16) : PosShare TreeShare := piece 15 (coreQ c) s

/-! ## What the handshakes carry -/

variable (B : Dev nD → Vec F S2x10x224x224 .f32) (f0 : (d : Dev nD) → Buf (Elt F) (oLoc d))

abbrev corePts (d : Dev nD) (c : Fin 2) (f : Buf (Elt F) (oLoc d)) : sProp 𝕄 :=
  iprop((pLoc d ↦{coreQ c} (B d : Buf (Elt F) (pLoc d))) ∗ (oLoc d ↦[(coreSet c : Finset (Idx (oLoc d)))]{fullShare} f))
abbrev tilePts (d : Dev nD) (c : Fin 2) (s : Fin 16) (f : Buf (Elt F) (oLoc d)) : sProp 𝕄 :=
  iprop((pLoc d ↦{tileQ c s} (B d : Buf (Elt F) (pLoc d))) ∗ (oLoc d ↦[(tileSet c s : Finset (Idx (oLoc d)))]{fullShare} f))

/-- Each core takes its share of the parameters and its part of the image, each tile its share of the core's and its
    block; they come back with the image computed. -/
def P : (K (F := F)).Pay (nD := nD) (Val := Elt F) (Name := ℕ) (U := UU) where
  st := fun q d c => corePts B d (Fin.cast (nCore_eq q) c) (f0 d)
  dn := fun q d c => corePts B d (Fin.cast (nCore_eq q) c) (imageOf (B d))
  go := fun q d c i => tilePts B d (Fin.cast (nCore_eq q) c) (Fin.cast (nSub_eq q) i) (f0 d)
  td := fun q d c i => tilePts B d (Fin.cast (nCore_eq q) c) (Fin.cast (nSub_eq q) i) (imageOf (B d))
  x := fun _ _ => iprop(emp)

instance P_storable : (P (F := F) B f0).IsStorable where
  st q d c := (inferInstance : BI.Storable (upEmb : UEmb _ 𝕄) (corePts B d (Fin.cast (nCore_eq q) c) (f0 d)))
  dn q d c := (inferInstance : BI.Storable (upEmb : UEmb _ 𝕄) (corePts B d (Fin.cast (nCore_eq q) c) (imageOf (B d))))
  go q d c i := (inferInstance : BI.Storable (upEmb : UEmb _ 𝕄) (tilePts B d (Fin.cast (nCore_eq q) c) (Fin.cast (nSub_eq q) i) (f0 d)))
  td q d c i := (inferInstance : BI.Storable (upEmb : UEmb _ 𝕄) (tilePts B d (Fin.cast (nCore_eq q) c) (Fin.cast (nSub_eq q) i) (imageOf (B d))))

/-! ## A tile's obligation -/

theorem defs₀_vector (c : Fin τ.nSC) (s : Fin τ.nSub) :
    defs₀ (F := F) (.scVector c s) 0 ()
      = SparseCore.onTile hcore0 hsub0 (fun c s => cc0__sc_splat_body (coordsV c s)
          aP (Memref.isWhole_whole _) aO (Memref.isWhole_whole _)
          sP (Memref.isWhole_whole _) sO (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl : (K (F := F)).TileObl (D (F := F)) 𝒱 (P B f0) v₀ 0 := by
  intro d c i O W hO _ _
  simp only [show (P B f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (B d) _ (f0 d) O W hO).trans (wp_mono frame _ _ fun _ => obl_post)

/-! ## A core's part among its tiles, the arrays among the cores -/

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

theorem corePts_tiles (d : Dev nD) (c : Fin 2) (f : Buf (Elt F) (oLoc d)) :
    corePts B d c f = bigSep Finset.univ fun s => tilePts B d c s f := by
  unfold corePts tilePts
  rw [bigSep_sep', pointsTo_pieces Finset.univ _ 15, ← pointsTo_biUnion Finset.univ (ℓ := oLoc d) (tileSet c) (tiles_disjoint c)]
  rfl

theorem whole_cores (d : Dev nD) (f : Buf (Elt F) (oLoc d)) :
    (bigSep Finset.univ fun c => corePts B d c f) = (iprop((pLoc d ↦{fullShare} (B d : Buf (Elt F) (pLoc d))) ∗ (oLoc d ↦{fullShare} f)) : sProp 𝕄) := by
  unfold corePts
  rw [bigSep_sep', ← pointsTo_pieces Finset.univ _ 1, ← pointsTo_biUnion Finset.univ (ℓ := oLoc d) coreSet cores_disjoint, cores_cover]

theorem vecSplit : (K (F := F)).VecSplit' (P B f0) 0 := by
  intro d c
  show corePts B d (Fin.cast (nCore_eq 0) c) (f0 d) ⊢ |={Set.univ}=> iprop(
      (bigSep Finset.univ fun i : Fin ((K (F := F)).nSub 0) => tilePts B d (Fin.cast (nCore_eq 0) c) (Fin.cast (nSub_eq 0) i) (f0 d))
      ∗ ((bigSep Finset.univ fun i : Fin ((K (F := F)).nSub 0) => tilePts B d (Fin.cast (nCore_eq 0) c) (Fin.cast (nSub_eq 0) i) (imageOf (B d)))
          -∗ corePts B d (Fin.cast (nCore_eq 0) c) (imageOf (B d))))
  rw [bigSep_tasks (F := F) (fun s => tilePts B d (Fin.cast (nCore_eq 0) c) s (f0 d)),
    bigSep_tasks (F := F) (fun s => tilePts B d (Fin.cast (nCore_eq 0) c) s (imageOf (B d))), ← corePts_tiles, ← corePts_tiles]
  iintro H; imodintro
  isplitl [H]; · iexact H
  iintro H; iexact H

theorem st0_eq (d : Dev nD) : (bigSep Finset.univ fun c : Fin ((K (F := F)).nCore 0) => (P B f0).st 0 d c)
    = (iprop((pLoc d ↦{fullShare} (B d : Buf (Elt F) (pLoc d))) ∗ (oLoc d ↦{fullShare} f0 d)) : sProp 𝕄) :=
  (bigSep_congr fun _ _ => rfl).trans (whole_cores B d (f0 d))
theorem dn0_eq (d : Dev nD) : (bigSep Finset.univ fun c : Fin ((K (F := F)).nCore 0) => (P B f0).dn 0 d c)
    = (iprop((pLoc d ↦{fullShare} (B d : Buf (Elt F) (pLoc d))) ∗ (oLoc d ↦{fullShare} (imageOf (B d) : Buf (Elt F) (oLoc d)))) : sProp 𝕄) :=
  (bigSep_congr fun _ _ => rfl).trans (whole_cores B d (imageOf (B d)))

end Cert.Proof.Call

end
-- ==== Proof.Call.Run.lean ====
/-
  The run of the call alone: `@main` on the TensorCore makes the SparseCore call, and every execution ends with the
  planes as launched and the result at the splatted image.
-/
module

public import proofs.«01_k».proof.Proof.Call.Share

@[expose] public section

noncomputable section

namespace Cert.Proof.Call

open Cert.SplatIdeal Cert.SplatIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The planes as launched. -/
def Bm (d : Dev nD) : Vec F S2x10x224x224 .f32 := m (pLoc d)
/-- The result's buffer as launched. -/
def fm (d : Dev nD) : Buf (Elt F) (oLoc d) := m (oLoc d)

/-- The ghost cells the launch starts from: the handshakes' ledger. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (Bm m) (fm m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) (Bm m) (fm m)).x q thr)
    = bigSep Finset.univ fun _ => (iprop(emp) : sProp 𝕄) from bigSep_congr fun _ _ => bigSep_univ_of_subsingleton (0 : Fin 1)]
  rw [show (bigSep Finset.univ fun _ : Thread nD τ => (iprop(emp) : sProp 𝕄)) = iprop(emp) from bigSep_emp_const _]
  iempintro

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the end keeps: the planes, and the result's buffer at the image. -/
abbrev FIN (d : Dev nD) : sProp 𝕄 :=
  iprop((pLoc d ↦{fullShare} (Bm m d : Buf (Elt F) (pLoc d))) ∗ (oLoc d ↦{fullShare} (imageOf (Bm m d) : Buf (Elt F) (oLoc d))))

/-- `@main` on device `d`'s TensorCore: the one call. -/
theorem hmain (κ : GSem nD τ sig → ℕ) (d : Dev nD) :
    iprop((K (F := F)).ctx EH (P (Bm m) (fm m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ho⟩, Hts, -⟩, -⟩
  iapply ((K (F := F)).wp_run (D (F := F)) 𝒱 (EH := EH) (P := P (Bm m) (fm m)) κ d 0) $$ [Hst Hi Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (Bm m) (fm m) d)) $$ Hdn
  icases Hdn' with ⟨Hi, Ho⟩
  imodintro
  isplitl [Hst]; · iexact Hst
  isplitl [Hi Ho]
  · isplitl [Hi]; · iexact Hi
    iexact Ho
  isplitl [Hb] <;> iassumption

/-- A whole buffer owned is what the memory holds there. -/
theorem mem_agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro ⟨HSI, Hi⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr [HSI]
  · ipureintro; exact funext fun i => h1 i (Finset.mem_univ i)
  · iexact HSI

/-- What the end is read for. -/
def fq (c : Dev nD) (s' : Phys nD τ sig (Elt F)) : Prop :=
  s'.mem.mem (pLoc c) = m (pLoc c) ∧ s'.mem.mem (oLoc c) = (imageOf (Bm m c) : Buf (Elt F) (oLoc c))

theorem hfin (c : Dev nD) (s' : Phys nD τ sig (Elt F)) : iprop(FIN m c ∗ SI s') ⊢ (⌜fq m c s'⌝ : sProp 𝕄) := by
  iintro ⟨⟨H0, HQ⟩, HSI⟩
  ihave H := (mem_agree s' _ _) $$ [HSI H0]
  · isplitl [HSI] <;> iassumption
  icases H with ⟨%h0, HSI⟩
  ihave H := (mem_agree s' _ _) $$ [HSI HQ]
  · isplitl [HSI] <;> iassumption
  icases H with ⟨%h5, HSI⟩
  ipureintro
  exact ⟨h0, h5⟩

def QC : PUnit × MemSt nD τ sig (Elt F) → Prop := fun r =>
  (∀ c : Dev nD, r.2.mem (pLoc c) = m (pLoc c) ∧ r.2.mem (oLoc c) = (imageOf (Bm m c) : Buf (Elt F) (oLoc c))) ∧ r.2.sem = fun _ => 0

theorem run_main [∀ e, Nonempty (Elt F e)] : θ_run (Cert.SplatIdeal.defs (F := F)) (Cert.SplatIdeal.threads (F := F)) ⟨m, fun _ => 0, ρ⟩ (QC m) :=
  SparseCore.Cfg.θ_run_sc_quiescent (K := K (F := F)) (D := D (F := F)) (𝒱 := 𝒱) (EH := EH) (P := P (Bm m) (fm m)) (A := ∅) facts v₀
    (fun q hq => match q with | 0 => nomatch hq)
    (fun q _ => match q with | 0 => tileObl (Bm m) (fm m))
    (fun q _ => match q with | 0 => SparseCore.Cfg.VecSplit.of_plain (vecSplit (Bm m) (fm m)))
    m ρ main (fun _ => iprop(emp)) (FIN m) (u₀ (F := F)) (sep_elim_left.trans (hu₀ m)) (hmain m ρ) (fq m) (hfin m) (QC m) (fun _ h hz => ⟨h, hz⟩)

end Cert.Proof.Call

end
-- ==== Proof.Call.Sum.lean ====
/-
  What the tiles' scatter-adds come to at exact numbers: an element of a tile's block is the sum, over the pixels of
  the tile's slab and the window's offsets, of what the pixel adds there.
-/
module

public import proofs.«01_k».proof.Proof.Call.Task

@[expose] public section

noncomputable section

namespace Cert.Proof.Call

open Cert.SplatIdeal Cert.SplatIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix1 eq_ix2 eq_ix3 eq_ix4)

/-! ## Sums -/

/-- A sum over `m * n` numbers as a sum over pairs. -/
theorem sum_pairs (m n : Nat) (f : Nat → EReal) :
    ∑ k ∈ Finset.range (m * n), f k = ∑ x : Fin m, ∑ y : Fin n, f (y.val + n * x.val) := by
  rw [Finset.sum_range, ← finProdFinEquiv.sum_comp, Fintype.sum_prod_type]
  rfl

/-- A masked scatter that adds, at one element. -/
theorem storeIdx_add {s : Shape} {d : Fin 1 → Nat} (f : Vec Ideal s .f32) (idxs : Fin s.rank → IVec ⟨1, d⟩ 32) (v : Vec Ideal ⟨1, d⟩ .f32)
    (mask : IVec ⟨1, d⟩ 1) (h : ∀ a x, (idxs a x).toNat < s.size a) (j : s.Idx) :
    (storeIdx f idxs v mask true h j : EReal)
      = (f j : EReal) + ∑ k : Fin (d 0), if mask (Shape.ofLane k) = 1 ∧ (∀ a, (j a).val = (idxs a (Shape.ofLane k)).toNat)
          then (v (Shape.ofLane k) : EReal) else 0 := by
  rw [Fin.sum_univ_def]
  unfold storeIdx
  generalize List.finRange (d 0) = l
  induction l generalizing f with
  | nil => rw [List.map_nil, List.sum_nil, add_zero]; rfl
  | cons k l ih =>
    rw [List.foldl_cons, List.map_cons, List.sum_cons, ih, ← add_assoc]
    congr 1
    by_cases hm : mask (Shape.ofLane k) = 1
    · rw [if_pos hm]
      by_cases hj : ∀ a, (j a).val = (idxs a (Shape.ofLane k)).toNat
      · refine (if_pos hj).trans ?_
        rw [show (idxAt idxs h (Shape.ofLane k)) = j from funext fun a => Fin.ext (hj a).symm]
        exact congrArg (fun z : EReal => (f j : EReal) + z) (if_pos (⟨hm, hj⟩ : mask (Shape.ofLane k) = 1 ∧ ∀ a, (j a).val = (idxs a (Shape.ofLane k)).toNat)).symm
      · refine (if_neg hj).trans ?_
        rw [if_neg (show ¬ (mask (Shape.ofLane k) = 1 ∧ ∀ a, (j a).val = (idxs a (Shape.ofLane k)).toNat) from fun q => hj q.2), add_zero]
    · rw [if_neg hm, if_neg fun q => hm q.1, add_zero]

namespace Grp

variable (G : Grp Ideal)

theorem word_small {n : Nat} {x : BitVec 32} {m : Nat} (hn : n < m) (hm : m < 2 ^ 31) (h0 : x.toInt ≥ 0) (h1 : x.toInt < m) :
    (n = (IntOp.minsi (BitVec.ofNat 32 (m - 1)) (IntOp.maxsi 0#32 x)).toNat) ↔ x = BitVec.ofNat 32 n := by
  have hc := clip_toNat (m - 1) (by omega) x
  have ht := BitVec.toInt_eq_toNat_cond x
  have hx := x.isLt
  constructor
  · intro e
    apply BitVec.eq_of_toNat_eq
    rw [BitVec.toNat_ofNat]
    split at ht <;> omega
  · intro e
    subst e
    rw [BitVec.toNat_ofNat] at ht
    split at ht <;> omega

/-- A lane adds to an element exactly when its hit is that element. -/
theorem hit_iff (dy dx : Nat) (y : Fin 14) (x : Fin 224) (k : S16.Idx) :
    (G.mask dy dx k = 1 ∧ y.val = (G.uy dy k).toNat ∧ x.val = (G.ux dx k).toNat)
      ↔ (G.cm k = 1 ∧ G.xs dx k = BitVec.ofNat 32 x.val ∧ G.ys dy k = BitVec.ofNat 32 y.val) := by
  have hmask : G.mask dy dx k = 1 ↔ (0 ≤ (G.ys dy k).toInt ∧ (G.ys dy k).toInt < 14) ∧ (0 ≤ (G.xs dx k).toInt ∧ (G.xs dx k).toInt < 224) ∧ G.cm k = 1 := by
    have e : G.mask dy dx k = IntOp.andi (IntOp.andi (IntOp.cmpi .sge (G.ys dy k) 0#32) (IntOp.cmpi .slt (G.ys dy k) 14#32))
      (IntOp.andi (IntOp.andi (IntOp.cmpi .sge (G.xs dx k) 0#32) (IntOp.cmpi .slt (G.xs dx k) 224#32)) (G.cm k)) := rfl
    have hand (p q : BitVec 1) : IntOp.andi p q = 1 ↔ p = 1 ∧ q = 1 := by revert p q; decide
    have hge (a : BitVec 32) : IntOp.cmpi .sge a 0#32 = 1 ↔ 0 ≤ a.toInt := by
      have h3 : (0#32 : BitVec 32).toInt = 0 := by decide
      simp only [IntOp.cmpi, BitVec.sle_eq_decide, h3]
      by_cases h : 0 ≤ a.toInt <;> simp [h]
    have hlt (a b : BitVec 32) : IntOp.cmpi .slt a b = 1 ↔ a.toInt < b.toInt := by
      simp only [IntOp.cmpi, BitVec.slt_eq_decide]
      by_cases h : a.toInt < b.toInt <;> simp [h]
    have h14 : (14#32 : BitVec 32).toInt = 14 := by decide
    have h224 : (224#32 : BitVec 32).toInt = 224 := by decide
    rw [e, hand, hand, hand, hand, hge, hge, hlt, hlt, h14, h224]
  have hxi : (BitVec.ofNat 32 x.val).toInt = x.val := by
    rw [BitVec.toInt_eq_toNat_cond, BitVec.toNat_ofNat]; have := x.isLt; split <;> omega
  have hyi : (BitVec.ofNat 32 y.val).toInt = y.val := by
    rw [BitVec.toInt_eq_toNat_cond, BitVec.toNat_ofNat]; have := y.isLt; split <;> omega
  rw [hmask, ux_apply, uy_apply]
  constructor
  · rintro ⟨⟨⟨a, b⟩, ⟨c, d⟩, e⟩, f, g⟩
    exact ⟨e, (word_small (m := 224) x.isLt (by norm_num) c d).1 g, (word_small (m := 14) y.isLt (by norm_num) a b).1 f⟩
  · rintro ⟨e, f, g⟩
    have hx := x.isLt
    have hy := y.isLt
    have c : 0 ≤ (G.xs dx k).toInt ∧ (G.xs dx k).toInt < 224 := by rw [f, hxi]; omega
    have a : 0 ≤ (G.ys dy k).toInt ∧ (G.ys dy k).toInt < 14 := by rw [g, hyi]; omega
    exact ⟨⟨a, c, e⟩, (word_small (m := 14) y.isLt (by norm_num) a.1 a.2).2 g, (word_small (m := 224) x.isLt (by norm_num) c.1 c.2).2 f⟩

/-- What lane `k` adds to element `j` at offset `(dy, dx)`. -/
def term (dy dx : Nat) (j : S3x14x224.Idx) (k : Fin 16) : EReal :=
  if G.cm (ix1 k) = 1 ∧ G.xs dx (ix1 k) = BitVec.ofNat 32 (j 2).val ∧ G.ys dy (ix1 k) = BitVec.ofNat 32 (j 1).val
  then G.val dy dx (j 0) (ix1 k) else 0

theorem put_apply (dy dx : Nat) (ch : Fin 3) (g : Vec Ideal S3x14x224 .f32) (j : S3x14x224.Idx) :
    (G.put dy dx ch g j : EReal) = (g j : EReal) + if (j 0).val = ch.val then ∑ k : Fin 16, G.term dy dx j k else 0 := by
  unfold put
  by_cases h : (j 0).val = ch.val
  · rw [if_pos h, if_pos h, storeIdx_add]
    have hch : ch = j 0 := Fin.ext h.symm
    congr 1
    · subst hch
      exact congrArg g (eq_ix3 j).symm
    · refine Finset.sum_congr rfl fun k _ => ?_
      have hk : (Shape.ofLane k : S16.Idx) = ix1 k := eq_ix1 _
      rw [hk, hch]
      unfold term
      refine if_congr ?_ rfl rfl
      rw [← G.hit_iff dy dx (j 1) (j 2) (ix1 k)]
      refine and_congr_right fun _ => ?_
      exact Fin.forall_fin_two
  · rw [if_neg h, if_neg h, add_zero]

theorem rowAcc_apply (dy : Nat) (g : Vec Ideal S3x14x224 .f32) (j : S3x14x224.Idx) :
    (G.rowAcc dy g 27 j : EReal) = (g j : EReal) + ∑ dx : Fin 9, ∑ k : Fin 16, G.term dy dx.val j k := by
  have h : ∀ n, (G.rowAcc dy g n j : EReal)
      = (g j : EReal) + ∑ a ∈ Finset.range n, if (j 0).val = a % 3 then ∑ k : Fin 16, G.term dy (a / 3) j k else 0 := by
    intro n
    induction n with
    | zero => rw [Finset.range_zero, Finset.sum_empty, add_zero]; rfl
    | succ n ih => rw [Finset.sum_range_succ, ← add_assoc, ← ih]; exact G.put_apply dy (n / 3) _ _ j
  rw [h 27, show 27 = 9 * 3 from rfl, sum_pairs]
  congr 1
  refine Finset.sum_congr rfl fun dx _ => ?_
  rw [Finset.sum_eq_single (⟨(j 0).val, (j 0).isLt⟩ : Fin 3)]
  · have h0 : (j 0).val < 3 := (j 0).isLt
    show (if (j 0).val = ((j 0).val + 3 * dx.val) % 3 then ∑ k : Fin 16, G.term dy (((j 0).val + 3 * dx.val) / 3) j k else 0) = _
    rw [if_pos (by omega), show ((j 0).val + 3 * dx.val) / 3 = dx.val by omega]
  · intro b _ hb
    have h0 : (j 0).val < 3 := (j 0).isLt
    have hb' := b.isLt
    refine if_neg fun e => hb (Fin.ext ?_)
    change (j 0).val = (b.val + 3 * dx.val) % 3 at e
    show b.val = (j 0).val
    omega
  · intro h; exact absurd (Finset.mem_univ _) h

theorem acc_apply (g : Vec Ideal S3x14x224 .f32) (j : S3x14x224.Idx) :
    (G.acc g 9 j : EReal) = (g j : EReal) + ∑ dy : Fin 9, ∑ dx : Fin 9, ∑ k : Fin 16, G.term dy.val dx.val j k := by
  have h : ∀ n, (G.acc g n j : EReal) = (g j : EReal) + ∑ dy ∈ Finset.range n, ∑ dx : Fin 9, ∑ k : Fin 16, G.term dy dx.val j k := by
    intro n
    induction n with
    | zero => rw [Finset.range_zero, Finset.sum_empty, add_zero]; rfl
    | succ n ih => rw [Finset.sum_range_succ, ← add_assoc, ← ih]; exact G.rowAcc_apply n _ j
  rw [h 9, Finset.sum_range]

end Grp

/-! ## The slab's pixels -/

/-- The weight of a pixel's window at offset `(dy, dx)`, from its parameters. -/
def wgt (gx gy hA cB hC : EReal) (dy dx : Nat) : EReal :=
  min (Ideal.exp ((hA * (gx + (dF dx : Ideal .f32)) + cB * (gy + (dF dy : Ideal .f32))) * (gx + (dF dx : Ideal .f32))
    + hC * (gy + (dF dy : Ideal .f32)) * (gy + (dF dy : Ideal .f32)))) (Scalar.ofBits .f32 0x3F800000#32 : Ideal .f32)

theorem Grp.val_apply (G : Grp Ideal) (dy dx : Nat) (ch : Fin 3) (x : S16.Idx) :
    (G.val dy dx ch x : EReal) = wgt (G.gx x) (G.gy x) (G.hA x) (G.cB x) (G.hC x) dy dx * (G.col ch x : EReal) := rfl

/-- What the slab's pixel `(r, c)` adds to element `j` at offset `(dy, dx)`. -/
def pix (A : Vec Ideal S10x24x224 .f32) (v4 : BitVec 32) (j : S3x14x224.Idx) (r : Fin 24) (c : Fin 224) (dy dx : Nat) : EReal :=
  if BitVec.ofNat 32 c.val - Ideal.fptosi 32 (A (ix3 2 r c)) + dI dx = BitVec.ofNat 32 (j 2).val
    ∧ (BitVec.ofNat 32 r.val + v4) - Ideal.fptosi 32 (A (ix3 3 r c)) + dI dy = BitVec.ofNat 32 (j 1).val
  then wgt (A (ix3 0 r c)) (A (ix3 1 r c)) (A (ix3 4 r c)) (A (ix3 5 r c)) (A (ix3 6 r c)) dy dx * A (ix3 (⟨7 + (j 0).val, Nat.add_lt_add_left (j 0).isLt 7⟩ : Fin 10) r c)
  else 0

theorem lane_col (t : Fin k0_t3_loop.trips) (k : Fin 16) : k0_pay1 k0_pay567 0#32 1#32 t (ix1 k) = BitVec.ofNat 32 (t.val + 15 * k.val) := by
  revert t k; decide +kernel
theorem lane_mask (t : Fin k0_t3_loop.trips) (k : Fin 16) : k0_pay2 k0_pay567 0#32 1#32 t (ix1 k) = 1 ↔ t.val + 15 * k.val < 224 := by
  revert t k; decide +kernel
theorem lane_idx (t : Fin k0_t3_loop.trips) (k : Fin 16) (h : t.val + 15 * k.val < 224) : (colIdx t (ix1 k)).toNat = t.val + 15 * k.val := by
  revert t k; decide +kernel

theorem gat_apply (A : Vec Ideal S10x24x224 .f32) (r : Fin 24) (t : Fin k0_t3_loop.trips) (ch : Fin 10) (k : Fin 16) (h : t.val + 15 * k.val < 224) :
    gat A r t ch (ix1 k) = A (ix3 ch r ⟨t.val + 15 * k.val, h⟩) := by
  refine congrArg (fun q : Fin 224 => A (ix3 ch r q)) (Fin.ext ?_)
  exact lane_idx t k h

theorem row_word (r : Fin k0_t2_loop.trips) : Scf.iv 0#32 1#32 r = BitVec.ofNat 32 r.val := by
  revert r; decide +kernel

theorem grp_col (A : Vec Ideal S10x24x224 .f32) (v4 : BitVec 32) (r : Fin k0_t2_loop.trips) (t : Fin k0_t3_loop.trips) (ch : Fin 3) :
    (grp A v4 r t).col ch = gat A r t ⟨7 + ch.val, Nat.add_lt_add_left ch.isLt 7⟩ := by
  fin_cases ch <;> rfl

theorem grp_term (A : Vec Ideal S10x24x224 .f32) (v4 : BitVec 32) (r : Fin k0_t2_loop.trips) (t : Fin k0_t3_loop.trips) (dy dx : Nat) (j : S3x14x224.Idx) (k : Fin 16) :
    (grp A v4 r t).term dy dx j k = if h : t.val + 15 * k.val < 224 then pix A v4 j r ⟨t.val + 15 * k.val, h⟩ dy dx else 0 := by
  unfold Grp.term
  by_cases h : t.val + 15 * k.val < 224
  · rw [dif_pos h]
    unfold pix
    refine if_congr ?_ ?_ rfl
    · have e1 : (grp A v4 r t).cm (ix1 k) = 1 := (lane_mask t k).2 h
      have e2 : (grp A v4 r t).xs dx (ix1 k) = k0_pay1 k0_pay567 0#32 1#32 t (ix1 k) - Ideal.fptosi 32 (gat A r t 2 (ix1 k)) + dI dx := rfl
      have e3 : (grp A v4 r t).ys dy (ix1 k) = (Scf.iv 0#32 1#32 r + v4) - Ideal.fptosi 32 (gat A r t 3 (ix1 k)) + dI dy := rfl
      rw [e2, e3, lane_col, row_word, gat_apply A r t 2 k h, gat_apply A r t 3 k h]
      exact ⟨fun q => q.2, fun q => ⟨e1, q⟩⟩
    · refine (Grp.val_apply (grp A v4 r t) dy dx (j 0 : Fin 3) (ix1 k)).trans ?_
      rw [show (grp A v4 r t).col (j 0 : Fin 3) = _ from grp_col A v4 r t (j 0 : Fin 3), ← gat_apply A r t 0 k h, ← gat_apply A r t 1 k h, ← gat_apply A r t 4 k h, ← gat_apply A r t 5 k h, ← gat_apply A r t 6 k h,
        ← gat_apply A r t ⟨7 + (j 0).val, Nat.add_lt_add_left (j 0).isLt 7⟩ k h]
      rfl
  · rw [dif_neg h, if_neg]
    exact fun q => h ((lane_mask t k).1 q.1)

/-- The sum over a row's groups and lanes is the sum over its columns. -/
theorem sum_lanes (f : Fin 224 → EReal) :
    (∑ t : Fin 15, ∑ k : Fin 16, if h : t.val + 15 * k.val < 224 then f ⟨t.val + 15 * k.val, h⟩ else 0) = ∑ c : Fin 224, f c := by
  rw [Finset.sum_comm, ← sum_pairs 16 15 fun n => if h : n < 224 then f ⟨n, h⟩ else 0, show 16 * 15 = 224 + 16 from rfl, Finset.sum_range_add]
  rw [Finset.sum_eq_zero (s := Finset.range 16) fun n _ => dif_neg (by omega), add_zero, Finset.sum_range]
  exact Finset.sum_congr rfl fun c _ => dif_pos c.isLt

theorem rowGroups_apply (A : Vec Ideal S10x24x224 .f32) (v4 : BitVec 32) (r : Fin k0_t2_loop.trips) (g : Vec Ideal S3x14x224 .f32) (j : S3x14x224.Idx) :
    (rowGroups A v4 r g k0_t3_loop.trips j : EReal) = (g j : EReal) + ∑ c : Fin 224, ∑ dy : Fin 9, ∑ dx : Fin 9, pix A v4 j r c dy.val dx.val := by
  have h : ∀ n, (rowGroups A v4 r g n j : EReal)
      = (g j : EReal) + ∑ a ∈ Finset.range n, if q : a < k0_t3_loop.trips then ∑ dy : Fin 9, ∑ dx : Fin 9, ∑ k : Fin 16, (grp A v4 r ⟨a, q⟩).term dy.val dx.val j k else 0 := by
    intro n
    induction n with
    | zero => rw [Finset.range_zero, Finset.sum_empty, add_zero]; rfl
    | succ n ih =>
      rw [Finset.sum_range_succ, ← add_assoc, ← ih, rowGroups]
      by_cases q : n < k0_t3_loop.trips
      · rw [dif_pos q, dif_pos q]; exact Grp.acc_apply _ _ j
      · rw [dif_neg q, dif_neg q, add_zero]
  rw [h, Finset.sum_range, ← sum_lanes]
  refine congrArg (fun z : EReal => (g j : EReal) + z) ?_
  refine Finset.sum_congr rfl fun t _ => ?_
  rw [dif_pos t.isLt]
  rw [Finset.sum_congr rfl fun dy _ => Finset.sum_comm, Finset.sum_comm]
  refine Finset.sum_congr rfl fun k _ => ?_
  by_cases q : t.val + 15 * k.val < 224
  · rw [dif_pos q]
    refine Finset.sum_congr rfl fun dy _ => Finset.sum_congr rfl fun dx _ => ?_
    exact (grp_term A v4 r t dy.val dx.val j k).trans (dif_pos q)
  · rw [dif_neg q]
    refine Finset.sum_eq_zero fun dy _ => Finset.sum_eq_zero fun dx _ => ?_
    exact (grp_term A v4 r t dy.val dx.val j k).trans (dif_neg q)

theorem slabRows_apply (A : Vec Ideal S10x24x224 .f32) (v4 : BitVec 32) (g : Vec Ideal S3x14x224 .f32) (j : S3x14x224.Idx) :
    (slabRows A v4 g k0_t2_loop.trips j : EReal)
      = (g j : EReal) + ∑ r : Fin 24, ∑ c : Fin 224, ∑ dy : Fin 9, ∑ dx : Fin 9, pix A v4 j r c dy.val dx.val := by
  have h : ∀ n, (slabRows A v4 g n j : EReal)
      = (g j : EReal) + ∑ a ∈ Finset.range n, if q : a < k0_t2_loop.trips then ∑ c : Fin 224, ∑ dy : Fin 9, ∑ dx : Fin 9, pix A v4 j ⟨a, q⟩ c dy.val dx.val else 0 := by
    intro n
    induction n with
    | zero => rw [Finset.range_zero, Finset.sum_empty, add_zero]; rfl
    | succ n ih =>
      rw [Finset.sum_range_succ, ← add_assoc, ← ih, slabRows]
      by_cases q : n < k0_t2_loop.trips
      · rw [dif_pos q, dif_pos q]; exact rowGroups_apply A v4 ⟨n, q⟩ _ j
      · rw [dif_neg q, dif_neg q, add_zero]
  rw [h, Finset.sum_range]
  refine congrArg (fun z : EReal => (g j : EReal) + z) ?_
  exact Finset.sum_congr rfl fun r _ => dif_pos r.isLt

end Cert.Proof.Call

end
-- ==== Proof.Call.Ref.lean ====
/-
  The reference of the call, read at an element: what its scatter-add puts at a pixel is the sum, over the pixels of
  the image and the window's offsets, of what lands there.
-/
module

public import proofs.«01_k».proof.Proof.Gen.SplatReferenceIdeal.Run
public import Idealize.ShloMosaic.Lib.Pointwise
public import Idealize.ShloMosaic.Lib.Routing.OpsPair

@[expose] public section

noncomputable section

namespace Cert.Proof.Ref

open Idealize.ShloMosaic.WordCmp Idealize.ShloMosaic.Routing
open Cert.SplatReferenceIdeal Cert.SplatReferenceIdeal.Gen Idealize.ShloMosaic Idealize.ShloMosaic.TcCoe

/-! ## The image as a sum -/

/-- The planes' shape, spelt out. -/
abbrev Planes : Type := (⟨4, ![2, 10, 224, 224]⟩ : Shape).Idx → EReal

/-- The window's offset `d - 4` as a word. -/
def off (d : Fin 9) : BitVec 32 := BitVec.ofNat 32 d.val - 4#32
/-- The same as a number. -/
def offF (d : Fin 9) : EReal := (((off d).toInt : ℝ) : EReal)

/-- The weight a pixel gives the offset `(dy, dx)`. -/
def weight (gx gy ha cb hc : EReal) (dy dx : Fin 9) : EReal :=
  Ideal.exp (min ((gx + offF dx) * (ha * (gx + offF dx) + cb * (gy + offF dy)) + hc * ((gy + offF dy) * (gy + offF dy))) 0)

/-- The column a pixel's offset lands on. -/
def col (B : Planes) (b : Fin 2) (i c : Fin 224) (dx : Fin 9) : BitVec 32 :=
  BitVec.ofNat 32 c.val - Ideal.fptosi 32 (B (ix4 b 2 i c)) + off dx
/-- The row a pixel's offset lands on. -/
def row (B : Planes) (b : Fin 2) (i c : Fin 224) (dy : Fin 9) : BitVec 32 :=
  BitVec.ofNat 32 i.val - Ideal.fptosi 32 (B (ix4 b 3 i c)) + off dy
/-- A pixel's weight for an offset, from the planes. -/
def wgtAt (B : Planes) (b : Fin 2) (i c : Fin 224) (dy dx : Fin 9) : EReal :=
  weight (B (ix4 b 0 i c)) (B (ix4 b 1 i c)) (B (ix4 b 4 i c)) (B (ix4 b 5 i c)) (B (ix4 b 6 i c)) dy dx
/-- A pixel's colour, from the planes. -/
def rgbAt (B : Planes) (b : Fin 2) (ch : Fin 3) (i c : Fin 224) : EReal :=
  B (ix4 b ⟨7 + ch.val, by omega⟩ i c)

/-- What the pixel `(i, c)` of image `b` adds at `(ch, Y, X)` by the offset `(dy, dx)`. -/
def term (B : Planes) (b : Fin 2) (ch : Fin 3) (Y X i c : Fin 224) (dy dx : Fin 9) : EReal :=
  if col B b i c dx = BitVec.ofNat 32 X.val ∧ row B b i c dy = BitVec.ofNat 32 Y.val then
    wgtAt B b i c dy dx * rgbAt B b ch i c
  else 0

/-- All that lands at `(ch, Y, X)` of image `b`. -/
def total (B : Planes) (b : Fin 2) (ch : Fin 3) (Y X : Fin 224) : EReal :=
  ∑ i : Fin 224, ∑ c : Fin 224, ∑ dy : Fin 9, ∑ dx : Fin 9, term B b ch Y X i c dy dx

/-! ## The reference's operations, by name -/

variable (A : FVec Ideal S2x10x224x224 .f32)

/-- A number spread over the window's five axes. -/
def word (v : BitVec 32) : IVec S2x224x224x9x9 32 := broadcastInDim S2x224x224x9x9 ![] bcast_S_S2x224x224x9x9 (constantI S_ 32 v)

/-- A plane spread over the window's five axes. -/
def plane (k : Nat) (h : S2x10x224x224.Slices ![0, k, 0, 0] S2x1x224x224) : FVec Ideal S2x224x224x9x9 .f32 :=
  broadcastInDim S2x224x224x9x9 ![0, 1, 2, 3, 4] bcast_S2x224x224x1x1_S2x224x224x9x9_0_1_2_3_4
    (broadcastInDim S2x224x224x1x1 ![0, 1, 2] bcast_S2x224x224_S2x224x224x1x1_0_1_2
      (shapeCast S2x224x224 (extractStridedSlice S2x1x224x224 ![0, k, 0, 0] A h) shapeCasts_S2x1x224x224_S2x224x224))

def dxs : IVec S2x224x224x9x9 32 := subi (iotaInDim S2x224x224x9x9 32 4) (word 4#32)
def dys : IVec S2x224x224x9x9 32 := subi (iotaInDim S2x224x224x9x9 32 3) (word 4#32)
def uxs : IVec S2x224x224x9x9 32 :=
  addi (subi (iotaInDim S2x224x224x9x9 32 2) (fptosi 32 (plane A 2 slices_S2x10x224x224_S2x1x224x224_0_2_0_0))) dxs
def uys : IVec S2x224x224x9x9 32 :=
  addi (subi (iotaInDim S2x224x224x9x9 32 1) (fptosi 32 (plane A 3 slices_S2x10x224x224_S2x1x224x224_0_3_0_0))) dys
def fxs : FVec Ideal S2x224x224x9x9 .f32 := addf (plane A 0 slices_S2x10x224x224_S2x1x224x224_0_0_0_0) (sitofp .f32 dxs)
def fys : FVec Ideal S2x224x224x9x9 .f32 := addf (plane A 1 slices_S2x10x224x224_S2x1x224x224_0_1_0_0) (sitofp .f32 dys)
def power : FVec Ideal S2x224x224x9x9 .f32 :=
  addf (mulf (fxs A) (addf (mulf (plane A 4 slices_S2x10x224x224_S2x1x224x224_0_4_0_0) (fxs A))
      (mulf (plane A 5 slices_S2x10x224x224_S2x1x224x224_0_5_0_0) (fys A))))
    (mulf (plane A 6 slices_S2x10x224x224_S2x1x224x224_0_6_0_0) (mulf (fys A) (fys A)))
/-- The weights before those off the image are dropped. -/
def alpha : FVec Ideal S2x224x224x9x9 .f32 :=
  Host.exp (minimumf (power A) (broadcastInDim S2x224x224x9x9 ![] bcast_S_S2x224x224x9x9 (constant S_ .f32 0x00000000#32)))
/-- The colours. -/
def colour : FVec Ideal S2x3x224x224 .f32 := extractStridedSlice S2x3x224x224 ![0, 7, 0, 0] A slices_S2x10x224x224_S2x3x224x224_0_7_0_0

/-! ## Weighted colours dropped into the image, by name

  The columns `U` and rows `V` a window's places are at, their weights `α`, the pixels' colours `C`. -/

section

variable (U V : IVec S2x224x224x9x9 32) (α : FVec Ideal S2x224x224x9x9 .f32) (C : FVec Ideal S2x3x224x224 .f32)

def valid : IVec S2x224x224x9x9 1 :=
  andi (andi (andi (cmpi .sge U (word 0#32)) (cmpi .slt U (word 224#32))) (cmpi .sge V (word 0#32))) (cmpi .slt V (word 224#32))
def idx0 : IVec S2x224x224x9x9 32 :=
  select (valid U V) (addi (muli (addi (muli (iotaInDim S2x224x224x9x9 32 0) (word 224#32)) V) (word 224#32)) U)
    (broadcastInDim S2x224x224x9x9 ![] bcast_S_S2x224x224x9x9 (id (constantI S_ 32 0#32)))
def idx : IVec S2x224x224x9x9 32 := select (cmpi .slt (idx0 U V) (word 0#32)) (addi (idx0 U V) (word 100352#32)) (idx0 U V)
def wts : FVec Ideal S2x224x224x9x9 .f32 :=
  select (valid U V) α (broadcastInDim S2x224x224x9x9 ![] bcast_S_S2x224x224x9x9 (id (constant S_ .f32 0x00000000#32)))
def contrib : FVec Ideal S2x224x224x9x9x3 .f32 :=
  mulf (broadcastInDim S2x224x224x9x9x3 ![0, 1, 2, 3, 4, 5] bcast_S2x224x224x9x9x1_S2x224x224x9x9x3_0_1_2_3_4_5
      (broadcastInDim S2x224x224x9x9x1 ![0, 1, 2, 3, 4] bcast_S2x224x224x9x9_S2x224x224x9x9x1_0_1_2_3_4 (wts U V α)))
    (broadcastInDim S2x224x224x9x9x3 ![0, 1, 2, 3, 4, 5] bcast_S2x224x224x1x1x3_S2x224x224x9x9x3_0_1_2_3_4_5
      (broadcastInDim S2x224x224x1x1x3 ![0, 1, 2, 5] bcast_S2x224x224x3_S2x224x224x1x1x3_0_1_2_5
        (transpose S2x224x224x3 [0, 2, 3, 1] C transposes_S2x3x224x224_S2x224x224x3_0_2_3_1)))
def ids : IVec S2x224x224x9x9x1 32 :=
  broadcastInDim S2x224x224x9x9x1 ![0, 1, 2, 3, 4] bcast_S2x224x224x9x9_S2x224x224x9x9x1_0_1_2_3_4 (idx U V)
def img : FVec Ideal S100352x3 .f32 :=
  Host.scatterAdd scatter_S100352x3_S2x224x224x9x9x1_S2x224x224x9x9x3_5_0_0_5
    (broadcastInDim S100352x3 ![] bcast_S_S100352x3 (constant S_ .f32 0x00000000#32)) (ids U V) (contrib U V α C)
def out : FVec Ideal S2x3x224x224 .f32 :=
  minimumf (broadcastInDim S2x3x224x224 ![] bcast_S_S2x3x224x224 (id (constant S_ .f32 0x3F800000#32)))
    (maximumf (broadcastInDim S2x3x224x224 ![] bcast_S_S2x3x224x224 (id (constant S_ .f32 0x00000000#32)))
      (transpose S2x3x224x224 [0, 3, 1, 2] (shapeCast S2x224x224x3 (img U V α C) shapeCasts_S100352x3_S2x224x224x3)
        transposes_S2x224x224x3_S2x3x224x224_0_3_1_2))

/-- What a place of a window adds at `(ch, Y, X)` of its image. -/
def drop (b : Fin 2) (ch : Fin 3) (Y X i c : Fin 224) (dy dx : Fin 9) : EReal :=
  if U (ix5 b i c dy dx) = BitVec.ofNat 32 X.val ∧ V (ix5 b i c dy dx) = BitVec.ofNat 32 Y.val then
    (α (ix5 b i c dy dx) : EReal) * C (ix4 b ch i c)
  else 0

end

theorem res_eq (m : (ℓ : Loc nD τ sig) → Buf (Elt Ideal) ℓ) (c : Dev nD) :
    Value.res_main_v93 m c
      = out (uxs (m ((c.tc : Thread nD τ).loc main_arg0))) (uys (m ((c.tc : Thread nD τ).loc main_arg0)))
          (alpha (m ((c.tc : Thread nD τ).loc main_arg0))) (colour (m ((c.tc : Thread nD τ).loc main_arg0))) := rfl

/-! ## Words -/

theorem inside (u v : BitVec 32) :
    IntOp.andi (IntOp.andi (IntOp.andi (IntOp.cmpi .sge u 0#32) (IntOp.cmpi .slt u 224#32)) (IntOp.cmpi .sge v 0#32)) (IntOp.cmpi .slt v 224#32) = 1#1
      ↔ u.toNat < 224 ∧ v.toNat < 224 := by
  simp only [cmpi_slt_eq, cmpi_sge_eq, andi_ofBool, ofBool_eq_one_iff, Bool.and_eq_true, decide_eq_true_eq, BitVec.toInt_eq_toNat_cond, BitVec.toNat_ofNat, Nat.reducePow, Nat.reduceMod]
  omega
/-- A number's word is not negative, so it is not wrapped round. -/
theorem wrap_word (z : BitVec 32) (hz : z.toNat < 100352) :
    Scalar.select (IntOp.cmpi .slt z 0#32) (IntOp.addi z 100352#32) z = z := by
  refine if_neg ?_
  rw [cmpi_slt_eq, ofBool_eq_one_iff', decide_eq_true_eq, BitVec.toInt_eq_toNat_of_lt (by omega)]
  show ¬ ((z.toNat : Int) < 0)
  omega
theorem flat_word (b : Fin 2) (u v : BitVec 32) (hu : u.toNat < 224) (hv : v.toNat < 224) :
    (IntOp.addi (IntOp.muli (IntOp.addi (IntOp.muli (BitVec.ofNat 32 b.val) 224#32) v) 224#32) u).toNat
      = (b.val * 224 + v.toNat) * 224 + u.toNat := by
  show ((BitVec.ofNat 32 b.val * 224#32 + v) * 224#32 + u).toNat = _
  simp only [BitVec.toNat_add, BitVec.toNat_mul, BitVec.toNat_ofNat, Nat.reducePow, Nat.reduceMod]
  omega

/-! ## The operations at an element -/

section

variable (b : Fin 2) (i c : Fin 224) (dy dx : Fin 9)

theorem dxs_apply : dxs (ix5 b i c dy dx) = off dx := by
  unfold dxs word off; pointwise; rfl
theorem dys_apply : dys (ix5 b i c dy dx) = off dy := by
  unfold dys word off; pointwise; rfl
theorem plane_apply (k : Nat) (h : S2x10x224x224.Slices ![0, k, 0, 0] S2x1x224x224) (hk : k < 10) :
    plane A k h (ix5 b i c dy dx) = A (ix4 b ⟨k, hk⟩ i c) := by
  unfold plane; pointwise
theorem uxs_apply : uxs A (ix5 b i c dy dx) = col A b i c dx := by
  unfold uxs col; pointwise; rw [dxs_apply, plane_apply (hk := by decide)]; rfl
theorem uys_apply : uys A (ix5 b i c dy dx) = row A b i c dy := by
  unfold uys row; pointwise; rw [dys_apply, plane_apply (hk := by decide)]; rfl
theorem alpha_apply : alpha A (ix5 b i c dy dx) = wgtAt A b i c dy dx := by
  unfold alpha power fxs fys; pointwise
  rw [dxs_apply, dys_apply, plane_apply A b i c dy dx 0 _ (by decide), plane_apply A b i c dy dx 1 _ (by decide),
    plane_apply A b i c dy dx 4 _ (by decide), plane_apply A b i c dy dx 5 _ (by decide), plane_apply A b i c dy dx 6 _ (by decide)]
  unfold wgtAt weight offF
  rw [← Ideal.ofBits_zero_f32]
  rfl

theorem colour_apply (ch : Fin 3) : colour A (ix4 b ch i c) = rgbAt A b ch i c := by
  unfold colour rgbAt; pointwise; try rfl

variable (U V : IVec S2x224x224x9x9 32) (α : FVec Ideal S2x224x224x9x9 .f32) (C : FVec Ideal S2x3x224x224 .f32)

theorem wts_apply (j : S2x224x224x9x9.Idx) : wts U V α j = if valid U V j = 1#1 then α j else (0 : EReal) := by
  rw [← Ideal.ofBits_zero_f32]; rfl
theorem valid_apply (j : S2x224x224x9x9.Idx) : valid U V j = 1#1 ↔ (U j).toNat < 224 ∧ (V j).toNat < 224 := by
  rw [← inside]
  exact Iff.rfl
theorem idx_apply (hv : valid U V (ix5 b i c dy dx) = 1#1) :
    (idx U V (ix5 b i c dy dx)).toInt
      = (((b.val * 224 + (V (ix5 b i c dy dx)).toNat) * 224 + (U (ix5 b i c dy dx)).toNat : Nat) : Int) := by
  obtain ⟨hu, hw⟩ := (valid_apply U V _).1 hv
  have e := flat_word b _ _ hu hw
  have h0 : idx0 U V (ix5 b i c dy dx) = IntOp.addi (IntOp.muli (IntOp.addi (IntOp.muli (BitVec.ofNat 32 b.val) 224#32) (V (ix5 b i c dy dx))) 224#32) (U (ix5 b i c dy dx)) :=
    if_pos hv
  have h1 : idx U V (ix5 b i c dy dx) = idx0 U V (ix5 b i c dy dx) := by
    refine wrap_word _ ?_
    rw [h0, e]; omega
  rw [h1, h0, BitVec.toInt_eq_toNat_of_lt (by rw [e]; omega), e]

theorem contrib_apply (ch : Fin 3) : contrib U V α C (ix6 b i c dy dx ch) = (wts U V α (ix5 b i c dy dx) : EReal) * C (ix4 b ch i c) := by
  unfold contrib; pointwise; try rfl
theorem ids_apply : ids U V (ix6 b i c dy dx 0) = idx U V (ix5 b i c dy dx) := by
  unfold ids; pointwise
/-- The scatter's dimension numbers. -/
abbrev D : ScatterDims S100352x3 S2x224x224x9x9x1 S2x224x224x9x9x3 := scatter_S100352x3_S2x224x224x9x9x1_S2x224x224x9x9x3_5_0_0_5
theorem D_start0 (I : IVec S2x224x224x9x9x1 32) (ch : Fin 3) : D.start (ix6 b i c dy dx ch) I 0 = (I (ix6 b i c dy dx 0)).toInt := by
  refine (dif_pos (show (0 : Fin 2) ∈ ([0] : List (Fin 2)) by decide)).trans ?_
  refine congrArg (fun k => (I k).toInt) (funext fun a => ?_)
  match a with
  | 0 => rfl
  | 1 => rfl
  | 2 => rfl
  | 3 => rfl
  | 4 => rfl
  | 5 => rfl
theorem D_start1 (I : IVec S2x224x224x9x9x1 32) (ch : Fin 3) : D.start (ix6 b i c dy dx ch) I 1 = 0 :=
  dif_neg (show ¬ (1 : Fin 2) ∈ ([0] : List (Fin 2)) by decide)
theorem D_window0 (ch : Fin 3) : D.window (ix6 b i c dy dx ch) 0 = 0 := rfl
theorem D_window1 (ch : Fin 3) : D.window (ix6 b i c dy dx ch) 1 = ch.val := rfl
theorem lands_iff (I : IVec S2x224x224x9x9x1 32) (ch ch' : Fin 3) (n : Fin 100352) :
    D.resultIdx? (ix6 b i c dy dx ch') I = some (ix2 n ch) ↔ (I (ix6 b i c dy dx 0)).toInt = (n.val : Int) ∧ ch' = ch := by
  rw [resultIdx?_eq_some]
  constructor
  · intro h
    have h0 := h 0
    have h1 := h 1
    rw [D_start0, D_window0] at h0
    rw [D_start1, D_window1] at h1
    change _ = (n.val : Int) at h0
    change _ = (ch.val : Int) at h1
    exact ⟨by omega, Fin.ext (by omega)⟩
  · rintro ⟨h0, rfl⟩ a
    match a with
    | 0 => rw [D_start0, D_window0]; show _ = (n.val : Int); omega
    | 1 => rw [D_start1, D_window1]; show _ = (ch'.val : Int); omega

end

theorem clip_apply (G : FVec Ideal S2x3x224x224 .f32) (j : S2x3x224x224.Idx) :
    minimumf (broadcastInDim S2x3x224x224 ![] bcast_S_S2x3x224x224 (id (constant S_ .f32 0x3F800000#32)))
    (maximumf (broadcastInDim S2x3x224x224 ![] bcast_S_S2x3x224x224 (id (constant S_ .f32 0x00000000#32))) G) j
    = min (1 : EReal) (max 0 (G j)) := by
  rw [← Ideal.ofBits_zero_f32, ← Ideal.ofBits_one_f32]; rfl
theorem chan_apply (G : FVec Ideal S2x224x224x3 .f32) (b : Fin 2) (ch : Fin 3) (Y X : Fin 224) :
   (transpose S2x3x224x224 [0, 3, 1, 2] G transposes_S2x224x224x3_S2x3x224x224_0_3_1_2) (ix4 b ch Y X) = G (ix4 b Y X ch) := by
  pointwise
/-- The pixel's place in the flat image. -/
def flat (b : Fin 2) (Y X : Fin 224) : Fin 100352 := ⟨(b.val * 224 + Y.val) * 224 + X.val, by omega⟩
theorem flat_apply (G : FVec Ideal S100352x3 .f32) (b : Fin 2) (ch : Fin 3) (Y X : Fin 224) :
    shapeCast S2x224x224x3 G shapeCasts_S100352x3_S2x224x224x3 (ix4 b Y X ch) = G (ix2 (flat b Y X) ch) := by
  refine congrArg G (Shape.reshapeEquiv_eq_of_rowMajor _ ((Shape.rowMajor_val_two (d := ![100352, 3]) _).trans ?_))
  refine Eq.trans ?_ (Shape.rowMajor_val_four (d := ![2, 224, 224, 3]) _).symm
  show ((b.val * 224 + Y.val) * 224 + X.val) * 3 + ch.val = ((b.val * 224 + Y.val) * 224 + X.val) * 3 + ch.val
  rfl

section

variable (U V : IVec S2x224x224x9x9 32) (α : FVec Ideal S2x224x224x9x9 .f32) (C : FVec Ideal S2x3x224x224 .f32)

theorem out_apply (b : Fin 2) (ch : Fin 3) (Y X : Fin 224) :
    out U V α C (ix4 b ch Y X) = min (1 : EReal) (max 0 (img U V α C (ix2 (flat b Y X) ch))) := by
  unfold out
  rw [clip_apply, chan_apply, flat_apply]

/-- What an element of the contributions adds at `(ch, Y, X)` of image `b`. -/
theorem lands_drop (b b' : Fin 2) (ch ch' : Fin 3) (Y X i c : Fin 224) (dy dx : Fin 9) :
    (if D.resultIdx? (ix6 b' i c dy dx ch') (ids U V) = some (ix2 (flat b Y X) ch) then (contrib U V α C (ix6 b' i c dy dx ch') : EReal) else 0)
      = if b' = b then if ch' = ch then drop U V α C b' ch' Y X i c dy dx else 0 else 0 := by
  rw [contrib_apply, wts_apply]
  simp only [lands_iff, ids_apply]
  by_cases hv : valid U V (ix5 b' i c dy dx) = 1#1
  · rw [idx_apply b' i c dy dx U V hv, if_pos hv]
    obtain ⟨hu, hw⟩ := (valid_apply U V _).1 hv
    unfold drop
    have hx : U (ix5 b' i c dy dx) = BitVec.ofNat 32 X.val ↔ (U (ix5 b' i c dy dx)).toNat = X.val := by
      rw [← BitVec.toNat_inj, BitVec.toNat_ofNat, Nat.mod_eq_of_lt (by omega)]
    have hy : V (ix5 b' i c dy dx) = BitVec.ofNat 32 Y.val ↔ (V (ix5 b' i c dy dx)).toNat = Y.val := by
      rw [← BitVec.toNat_inj, BitVec.toNat_ofNat, Nat.mod_eq_of_lt (by omega)]
    rw [← ite_and, ← ite_and]
    refine if_congr ?_ rfl rfl
    rw [hx, hy]
    generalize (U (ix5 b' i c dy dx)).toNat = p at *
    generalize (V (ix5 b' i c dy dx)).toNat = q at *
    show ((((b'.val * 224 + q) * 224 + p : Nat) : Int) = (((b.val * 224 + Y.val) * 224 + X.val : Nat) : Int) ∧ ch' = ch) ↔ _
    constructor
    · rintro ⟨h, h'⟩
      exact ⟨⟨Fin.ext (by omega), h'⟩, by omega, by omega⟩
    · rintro ⟨⟨rfl, h'⟩, h1, h2⟩
      exact ⟨by rw [h1, h2], h'⟩
  · rw [if_neg hv, zero_mul, ite_self]
    have ht : drop U V α C b' ch' Y X i c dy dx = 0 := by
      refine if_neg fun h => hv ((valid_apply U V _).2 ?_)
      rw [h.1, h.2]
      simp only [BitVec.toNat_ofNat]
      omega
    rw [ht, ite_self, ite_self]

theorem scatter_apply (Z : FVec Ideal S100352x3 .f32) (I : IVec S2x224x224x9x9x1 32) (W : FVec Ideal S2x224x224x9x9x3 .f32) (n : S100352x3.Idx) :
    (Host.scatterAdd D Z I W n : EReal) = Z n + ∑ j ∈ Finset.univ.filter (fun j => D.resultIdx? j I = some n), (W j : EReal) := rfl

theorem img_apply (b : Fin 2) (ch : Fin 3) (Y X : Fin 224) :
    (img U V α C (ix2 (flat b Y X) ch) : EReal)
      = ∑ i : Fin 224, ∑ c : Fin 224, ∑ dy : Fin 9, ∑ dx : Fin 9, drop U V α C b ch Y X i c dy dx := by
  unfold img
  rw [scatter_apply]
  have z : (broadcastInDim S100352x3 ![] bcast_S_S100352x3 (constant (F := Ideal) S_ .f32 0x00000000#32) (ix2 (flat b Y X) ch) : EReal) = 0 := by
    rw [← Ideal.ofBits_zero_f32]; rfl
  rw [z, zero_add, Finset.sum_filter, sum_idx6]
  simp only [lands_drop]
  rw [Finset.sum_eq_single b (fun b' _ hb => by simp only [if_neg hb, Finset.sum_const_zero]) (fun h => absurd (Finset.mem_univ _) h)]
  refine Finset.sum_congr rfl fun i _ => Finset.sum_congr rfl fun c _ => Finset.sum_congr rfl fun dy _ => Finset.sum_congr rfl fun dx _ => ?_
  simp only [↓reduceIte]
  exact (Finset.sum_eq_single ch (fun c' _ hc => if_neg hc) (fun h => absurd (Finset.mem_univ _) h)).trans (if_pos rfl)

/-- The image at an element: what is dropped there, clipped; the columns, rows, weights and colours those that planes `B` give. -/
theorem out_total (B : Planes) (b : Fin 2) (ch : Fin 3) (Y X : Fin 224)
    (hU : ∀ i c dy dx, U (ix5 b i c dy dx) = col B b i c dx) (hV : ∀ i c dy dx, V (ix5 b i c dy dx) = row B b i c dy)
    (hα : ∀ i c dy dx, (α (ix5 b i c dy dx) : EReal) = wgtAt B b i c dy dx) (hC : ∀ i c, (C (ix4 b ch i c) : EReal) = rgbAt B b ch i c) :
    (out U V α C (ix4 b ch Y X) : EReal) = min 1 (max 0 (total B b ch Y X)) := by
  rw [out_apply, img_apply]
  simp only [drop, hU, hV, hα, hC]
  rfl

end

/-- The reference's result at an element: what lands there, clipped. -/
theorem res_apply (m : (ℓ : Loc nD τ sig) → Buf (Elt Ideal) ℓ) (d : Dev nD) (b : Fin 2) (ch : Fin 3) (Y X : Fin 224) :
    (Value.res_main_v93 m d (ix4 b ch Y X) : EReal) = min 1 (max 0 (total (m ((d.tc : Thread nD τ).loc main_arg0)) b ch Y X)) := by
  rw [res_eq]
  exact out_total _ _ _ _ _ b ch Y X (fun i c dy dx => uxs_apply _ b i c dy dx) (fun i c dy dx => uys_apply _ b i c dy dx)
    (fun i c dy dx => alpha_apply _ b i c dy dx) fun i c => colour_apply _ b i c ch

end Cert.Proof.Ref
-- ==== Proof.Call.Image.lean ====
/-
  The image the tiles compute, at exact numbers, as the sum of what lands on each pixel.
-/
module

public import proofs.«01_k».proof.Proof.Call.Sum
public import proofs.«01_k».proof.Proof.Call.Ref
public import proofs.«01_k».proof.Pre_rows_near

@[expose] public section

noncomputable section

namespace Cert.Proof.Call

open Cert.SplatIdeal Cert.SplatIdeal.Gen

open Idealize.ShloMosaic

/-! ## Numbers -/

theorem exp_zero : Ideal.exp 0 = 1 := by
  rw [← EReal.coe_zero, Ideal.exp_coe, Real.exp_zero]; rfl

/-- Bounding the exponential above by one bounds the exponent above by zero. -/
theorem exp_min (p : EReal) : min (Ideal.exp p) 1 = Ideal.exp (min p 0) := by
  induction p with
  | bot => simp
  | top => rw [min_eq_right le_top, exp_zero]; simp
  | coe r =>
    rcases le_total r 0 with h | h
    · rw [min_eq_left (by exact_mod_cast h : (r : EReal) ≤ 0), min_eq_left]
      rw [Ideal.exp_coe]
      exact_mod_cast Real.exp_le_one_iff.2 h
    · rw [min_eq_right (by exact_mod_cast h : (0 : EReal) ≤ r), min_eq_right]
      · exact exp_zero.symm
      · rw [Ideal.exp_coe]
        exact_mod_cast Real.one_le_exp h

theorem dI_eq (d : Fin 9) : dI d.val = Ref.off d := by revert d; decide

theorem dF_eq (d : Fin 9) : (dF d.val : Ideal .f32) = Ref.offF d := by
  unfold Ref.offF
  rw [← dI_eq]
  fin_cases d <;> simp [dF, dW, dI, Scalar.ofBits, Ideal.ofBits, Ideal.ieee, BitVec.toInt] <;> norm_num <;> rw [← EReal.coe_mul] <;> norm_num

theorem wgt_eq (gx gy ha cb hc : EReal) (dy dx : Fin 9) : wgt gx gy ha cb hc dy.val dx.val = Ref.weight gx gy ha cb hc dy dx := by
  unfold wgt Ref.weight
  rw [dF_eq, dF_eq, show (Scalar.ofBits .f32 0x3F800000#32 : Ideal .f32) = (1 : EReal) from Ideal.ofBits_one_f32, exp_min, mul_comm (_ + _ : EReal) (gx + Ref.offF dx), mul_assoc hc]

theorem clip_eq (x : EReal) : (clip01 (F := Ideal) x : EReal) = min 1 (max 0 x) := by
  rw [min_comm, max_comm, ← Ideal.ofBits_one_f32, ← Ideal.ofBits_zero_f32]
  rfl

/-- A number between zero and two is cut to nought, one or two. -/
theorem fptosi_small (x : EReal) (h0 : 0 ≤ x) (h2 : x ≤ ((2 : ℝ) : EReal)) : ∃ k : ℕ, k ≤ 2 ∧ Ideal.fptosi 32 x = BitVec.ofNat 32 k := by
  induction x with
  | bot => simp at h0
  | top => exact absurd h2 (not_le.2 (EReal.coe_lt_top 2))
  | coe r =>
    have h0' : 0 ≤ r := by exact_mod_cast h0
    have h2' : r ≤ 2 := by exact_mod_cast h2
    have f0 : 0 ≤ ⌊r⌋ := Int.floor_nonneg.2 h0'
    have f2 : ⌊r⌋ ≤ 2 := by
      have := (Int.floor_le r).trans h2'
      exact_mod_cast this
    refine ⟨⌊r⌋.toNat, by omega, ?_⟩
    show BitVec.ofInt 32 (max (-(2 ^ 31 : Nat)) (min ((2 ^ 31 : Nat) - 1) (if 0 ≤ r then ⌊r⌋ else ⌈r⌉))) = _
    rw [if_pos h0', min_eq_right (by norm_num; omega), max_eq_right (by norm_num; omega)]
    obtain ⟨n, hn⟩ := Int.eq_ofNat_of_zero_le f0
    rw [hn]
    simp

/-! ## A tile's slab -/

/-- The first row of tile `s`'s slab. -/
def lo (s : Nat) : Nat := min (14 * s - 4) 200

theorem lo_le (s : Nat) : lo s ≤ 200 := Nat.min_le_right _ _

theorem off1_eq : ∀ i : grid0.Coords, k0_off1 i = ![(i 0).val, 0, lo (i 1).val, 0] := by decide +kernel

theorem offL_eq : ∀ i : grid0.Coords, offL i = BitVec.ofNat 32 (lo (i 1).val) - BitVec.ofNat 32 (14 * (i 1).val) := by decide +kernel

theorem unsq3' (h) (x : S10x24x224.Idx) :
    Shape.reshapeEquiv (s := S1x10x24x224) (s' := S10x24x224) h x = ix4 (n0 := 1) (n1 := 10) (n2 := 24) (n3 := 224) 0 (x 0) (x 1) (x 2) := by
  refine Shape.reshapeEquiv_eq_of_rowMajor _ ((Shape.rowMajor_val_four (d := ![1, 10, 24, 224]) _).trans ?_)
  refine Eq.trans ?_ (Shape.rowMajor_val_three (d := ![10, 24, 224]) x).symm
  show (((0 : ℕ) * 10 + (x 0).val) * 24 + (x 1).val) * 224 + (x 2).val = ((x 0).val * 24 + (x 1).val) * 224 + (x 2).val
  omega

theorem slab_apply (i : grid0.Coords) (B : Vec Ideal S2x10x224x224 .f32) (k : Fin 10) (r : Fin 24) (c : Fin 224) :
    slab i B (ValueIdx.ix3 k r c)
      = B (ix4 (⟨(i 0).val, (i 0).isLt⟩ : Fin 2) k (⟨lo (i 1).val + r.val, by have := lo_le (i 1).val; omega⟩ : Fin 224) c) := by
  refine congrArg B (?_ : (Rect.unit (s := S2x10x224x224) (k0_off1 i) S1x10x24x224.size (k0_off1_inb i)).emb
    (Shape.reshapeEquiv (s := S1x10x24x224) (s' := S10x24x224) squeezes_S1x10x24x224_S10x24x224.numel_eq (ValueIdx.ix3 k r c)) = _)
  rw [unsq3']
  have h := off1_eq i
  funext a
  refine Fin.ext ?_
  match a with
  | 0 => show k0_off1 i 0 + 1 * 0 = (i 0).val; rw [h]; rfl
  | 1 => show k0_off1 i 1 + 1 * k.val = k.val; rw [h]; show 0 + 1 * k.val = _; omega
  | 2 => show k0_off1 i 2 + 1 * r.val = lo (i 1).val + r.val; rw [h]; show lo (i 1).val + 1 * r.val = _; omega
  | 3 => show k0_off1 i 3 + 1 * c.val = c.val; rw [h]; show 0 + 1 * c.val = _; omega

/-! ## Rows -/
/-- A row counted from the block's first is a row counted from the image's first. -/
theorem row_shift (r l s y k d : BitVec 32) : (r + (l - s)) - k + d = y ↔ (l + r) - k + d = s + y := by
  have e : (l + r) - k + d = s + ((r + (l - s)) - k + d) := by grind
  rw [e]
  exact (BitVec.add_right_inj s).symm

/-- A row from which tile `s`'s rows are reached lies in its slab. -/
theorem row_near (s y i k : Nat) (dy : Fin 9) (hs : s < 16) (hy : y < 14) (hi : i < 224) (hk : k ≤ 2)
    (h : BitVec.ofNat 32 i - BitVec.ofNat 32 k + Ref.off dy = BitVec.ofNat 32 (14 * s + y)) : lo s ≤ i ∧ i < lo s + 24 := by
  have e : BitVec.ofNat 32 (i + dy.val) = BitVec.ofNat 32 (14 * s + y + k + 4) := by
    rw [BitVec.ofNat_add (14 * s + y + k), BitVec.ofNat_add (14 * s + y), ← h, BitVec.ofNat_add i]
    unfold Ref.off
    grind
  have e' := congrArg BitVec.toNat e
  rw [BitVec.toNat_ofNat, BitVec.toNat_ofNat, Nat.mod_eq_of_lt (by omega), Nat.mod_eq_of_lt (by omega)] at e'
  unfold lo
  omega

/-- A sum over the slab's rows of what vanishes off the slab is a sum over the image's rows. -/
theorem sum_rows (l : Nat) (hl : l ≤ 200) (f : Fin 224 → EReal) (hf : ∀ i : Fin 224, ¬ (l ≤ i.val ∧ i.val < l + 24) → f i = 0) :
    ∑ r : Fin 24, f ⟨l + r.val, by omega⟩ = ∑ i : Fin 224, f i := by
  refine Fintype.sum_of_injective (fun r : Fin 24 => (⟨l + r.val, by omega⟩ : Fin 224)) (fun r r' h => ?_) _ _ (fun i hi => ?_) (fun _ => rfl)
  · have := congrArg Fin.val h
    exact Fin.ext (by simpa using this)
  · refine hf i fun h => hi ⟨⟨i.val - l, by omega⟩, Fin.ext ?_⟩
    show l + (i.val - l) = i.val
    omega

/-! ## The image -/

section

variable (B : Vec Ideal S2x10x224x224 .f32)

/-- What a slab's pixel adds to a tile's block is what it adds to the image. -/
theorem pix_eq (i : grid0.Coords) (b : Fin 2) (hb : (i 0).val = b.val) (ch : Fin 3) (y : Fin 14) (Y X : Fin 224)
    (hY : Y.val = 14 * (i 1).val + y.val) (r : Fin 24) (c : Fin 224) (dy dx : Fin 9) :
    pix (slab i B) (offL i) (ValueIdx.ix3 ch y X) r c dy.val dx.val
      = Ref.term B b ch Y X ⟨lo (i 1).val + r.val, by have := lo_le (i 1).val; omega⟩ c dy dx := by
  have e : (⟨(i 0).val, (i 0).isLt⟩ : Fin 2) = b := Fin.ext hb
  unfold pix Ref.term
  simp only [slab_apply, e]
  refine if_congr (and_congr ?_ ?_) ?_ rfl
  · rw [dI_eq]; exact Iff.rfl
  · rw [dI_eq, offL_eq, row_shift, ← BitVec.ofNat_add]
    unfold Ref.row
    rw [hY, BitVec.ofNat_add (14 * (i 1).val)]
  · rw [wgt_eq]; rfl

/-- An element of the image: what lands there, clipped, when every row number is between zero and two. -/
theorem image_apply (hB : ∀ (b : Fin 2) (i c : Fin 224), (0 : EReal) ≤ B (ix4 b 3 i c) ∧ (B (ix4 b 3 i c) : EReal) ≤ ((2 : ℝ) : EReal))
    (b : Fin 2) (ch : Fin 3) (Y X : Fin 224) :
    (imageOf B (ix4 b ch Y X) : EReal) = min 1 (max 0 (Ref.total B b ch Y X)) := by
  unfold imageOf blockOf
  rw [clip_eq, slabRows_apply]
  have z : ((zeroF : Ideal .f32) : EReal) = 0 := Ideal.ofBits_zero_f32
  rw [z, zero_add]
  refine congrArg (fun x : EReal => min 1 (max 0 x)) ?_
  have hs : ((ownerOf (ix4 b ch Y X)) 1).val = Y.val / 14 := rfl
  have hY := Y.isLt
  have hp := fun r c dy dx => pix_eq B (ownerOf (ix4 b ch Y X)) b rfl ch ⟨Y.val % 14, Nat.mod_lt _ (by decide)⟩ Y X
    (by rw [hs]; exact (Nat.div_add_mod Y.val 14).symm) r c dy dx
  unfold Ref.total
  refine Eq.trans (Finset.sum_congr rfl fun r _ => Finset.sum_congr rfl fun c _ => Finset.sum_congr rfl fun dy _ =>
    Finset.sum_congr rfl fun dx _ => hp r c dy dx) ?_
  refine sum_rows (lo (Y.val / 14)) (lo_le _) (fun i => ∑ c : Fin 224, ∑ dy : Fin 9, ∑ dx : Fin 9, Ref.term B b ch Y X i c dy dx) fun i hi => ?_
  refine Finset.sum_eq_zero fun c _ => Finset.sum_eq_zero fun dy _ => Finset.sum_eq_zero fun dx _ => if_neg fun h => hi ?_
  obtain ⟨k, hk, ek⟩ := fptosi_small _ (hB b i c).1 (hB b i c).2
  have h2 := h.2
  unfold Ref.row at h2
  rw [ek] at h2
  refine row_near (Y.val / 14) (Y.val % 14) i.val k dy (by omega) (Nat.mod_lt _ (by decide)) i.isLt hk ?_
  rw [Nat.div_add_mod]
  exact h2

end

/-! ## The precondition -/

instance preFacts : Cert.Pre_rows_near.Facts where
  slices_S2x10x224x224_S2x1x224x224_0_3_0_0 := by decide
  shapeCasts_S2x1x224x224_S2x224x224 := by decide
  bcast_S_S2x224x224 := by decide

theorem two_eq : Ideal.ofBits .f32 0x40000000#32 = ((2 : ℝ) : EReal) := by
  simp [Ideal.ofBits, Ideal.ieee]
  norm_num
  rw [← EReal.coe_mul]
  norm_num

/-- The precondition at a pixel. -/
theorem rows_of_pre (B : Vec Ideal S2x10x224x224 .f32) (h : Cert.Pre_rows_near.fn (F := Ideal) B = fun _ => 1#1)
    (b : Fin 2) (i c : Fin 224) : (0 : EReal) ≤ B (ix4 b 3 i c) ∧ (B (ix4 b 3 i c) : EReal) ≤ ((2 : ℝ) : EReal) := by
  have e := congrFun h (ix3 b i c)
  unfold Cert.Pre_rows_near.fn at e
  revert e
  pointwise
  intro e
  rw [two_eq, WordCmp.andi_ofBool, WordCmp.ofBool_eq_one_iff, Bool.and_eq_true, decide_eq_true_eq, decide_eq_true_eq] at e
  exact e

end Cert.Proof.Call
-- ==== Proof.Whole.Real.lean ====
/-
  One pixel's parameters as numbers: the kernel's form of them and the reference's say the same window and the same
  weights.
-/
module

public import proofs.«01_k».proof.Proof.Call.Image

@[expose] public section

noncomputable section

namespace Cert.Proof.Whole

open Idealize.ShloMosaic

/-- A constant of the program. -/
abbrev cst (w : BitVec 32) : EReal := Ideal.ofBits .f32 w

theorem cst_zero : cst 0x00000000#32 = 0 := Ideal.ofBits_zero_f32
theorem cst_one : cst 0x3F800000#32 = ((1 : ℝ) : EReal) := Ideal.ofBits_one_f32
theorem cst_two : cst 0x40000000#32 = ((2 : ℝ) : EReal) := by
  simp [cst, Ideal.ofBits, Ideal.ieee]; norm_num; rw [← EReal.coe_mul]; norm_num
theorem cst_half : cst 0x3F000000#32 = ((1 / 2 : ℝ) : EReal) := by
  simp [cst, Ideal.ofBits, Ideal.ieee]; norm_num; rw [← EReal.coe_mul]; norm_num
theorem cst_neg_half : cst 0xBF000000#32 = ((-(1 / 2) : ℝ) : EReal) := by
  simp [cst, Ideal.ofBits, Ideal.ieee]; norm_num; rw [← EReal.coe_mul]; norm_num
theorem cst_224 : cst 0x43600000#32 = ((224 : ℝ) : EReal) := by
  simp [cst, Ideal.ofBits, Ideal.ieee]; norm_num; rw [← EReal.coe_mul]; norm_num
theorem cst_112 : cst 0x42E00000#32 = ((112 : ℝ) : EReal) := by
  simp [cst, Ideal.ofBits, Ideal.ieee]; norm_num; rw [← EReal.coe_mul]; norm_num
theorem cst_pi : cst 0x40490FDB#32 = ((13176795 / 4194304 : ℝ) : EReal) := by
  simp [cst, Ideal.ofBits, Ideal.ieee]; norm_num; rw [← EReal.coe_mul]; norm_num
theorem cst_twoPi : cst 0x40C90FDB#32 = ((13176795 / 2097152 : ℝ) : EReal) := by
  simp [cst, Ideal.ofBits, Ideal.ieee]; norm_num; rw [← EReal.coe_mul]; norm_num
theorem cst_eps : cst 0x358637BD#32 = ((8796093 / 2 ^ 43 : ℝ) : EReal) := by
  simp [cst, Ideal.ofBits, Ideal.ieee]; norm_num; rw [← EReal.coe_mul]; norm_num
theorem cst_tiny : cst 0x2B8CBCCC#32 = ((9223372 / 2 ^ 63 : ℝ) : EReal) := by
  simp [cst, Ideal.ofBits, Ideal.ieee]; norm_num; rw [← EReal.coe_mul]; norm_num

/-! ## The kernel's numbers -/

def sg (x : EReal) : EReal := Ideal.div (cst 0x3F800000#32) (cst 0x3F800000#32 + Ideal.exp (-x))
def theta (x : EReal) : EReal := sg x * cst 0x40C90FDB#32
def scale (x : EReal) : EReal := (sg x * cst 0x3F000000#32 + cst 0x358637BD#32) * cst 0x42E00000#32
def covA (ct st sx sy : EReal) : EReal := ct * ct * (sx * sx) + st * st * (sy * sy)
def covB (ct st sx sy : EReal) : EReal := ct * st * (sx * sx - sy * sy)
def covC (ct st sx sy : EReal) : EReal := st * st * (sx * sx) + ct * ct * (sy * sy)
def det (ct st sx sy : EReal) : EReal :=
  covA ct st sx sy * covC ct st sx sy - covB ct st sx sy * covB ct st sx sy + cst 0x2B8CBCCC#32
def inv (ct st sx sy : EReal) : EReal := Ideal.div (cst 0x3F800000#32) (det ct st sx sy)
/-- The floor the window is placed by. -/
def low (x : EReal) : EReal := Ideal.liftRound Int.floor (Ideal.tanh x - cst 0x3F000000#32)
def shift (x : EReal) : EReal := low x + cst 0x3F800000#32 - Ideal.tanh x
def back (x : EReal) : EReal := cst 0x00000000#32 - low x

/-- The ten planes at a pixel, from its eight predictions. -/
def plane (p : Fin 8 → EReal) : Fin 10 → EReal
  | 0 => shift (p 6)
  | 1 => shift (p 7)
  | 2 => back (p 6)
  | 3 => back (p 7)
  | 4 => cst 0xBF000000#32 * covC (Ideal.cos (theta (p 3))) (Ideal.sin (theta (p 3))) (scale (p 4)) (scale (p 5))
      * inv (Ideal.cos (theta (p 3))) (Ideal.sin (theta (p 3))) (scale (p 4)) (scale (p 5))
  | 5 => covB (Ideal.cos (theta (p 3))) (Ideal.sin (theta (p 3))) (scale (p 4)) (scale (p 5))
      * inv (Ideal.cos (theta (p 3))) (Ideal.sin (theta (p 3))) (scale (p 4)) (scale (p 5))
  | 6 => cst 0xBF000000#32 * covA (Ideal.cos (theta (p 3))) (Ideal.sin (theta (p 3))) (scale (p 4)) (scale (p 5))
      * inv (Ideal.cos (theta (p 3))) (Ideal.sin (theta (p 3))) (scale (p 4)) (scale (p 5))
  | 7 => p 0
  | 8 => p 1
  | 9 => p 2

/-! ## The reference's numbers -/

/-- The centre's place along an axis, the pixel's being `c`. -/
def place (x : EReal) (c : Fin 224) : EReal :=
  cst 0x3F000000#32 * (cst 0x40000000#32 * Ideal.div (((BitVec.ofNat 32 c.val).toInt : ℝ) : EReal) (cst 0x43600000#32) - cst 0x3F800000#32
      + Ideal.div (cst 0x40000000#32 * Ideal.tanh x) (cst 0x43600000#32)
      - Ideal.div (cst 0x3F800000#32) (cst 0x43600000#32) + cst 0x3F800000#32) * cst 0x43600000#32
/-- The place an offset of the window lands at. -/
def hit (x : EReal) (c : Fin 224) (d : Fin 9) : BitVec 32 :=
  Ideal.fptosi 32 (Ideal.liftRound Int.floor (place x c)) + Ref.off d
/-- How far that is from the centre. -/
def dist (x : EReal) (c : Fin 224) (d : Fin 9) : EReal :=
  (((hit x c d).toInt : ℝ) : EReal) + cst 0x3F000000#32 - place x c
def rtheta (x : EReal) : EReal := sg x * cst 0x40000000#32 * cst 0x40490FDB#32
def rcovA (ct st sx sy : EReal) : EReal := ct * ct * sx * sx + st * st * sy * sy
def rcovC (ct st sx sy : EReal) : EReal := st * st * sx * sx + ct * ct * sy * sy
def rdet (ct st sx sy : EReal) : EReal :=
  rcovA ct st sx sy * rcovC ct st sx sy - covB ct st sx sy * covB ct st sx sy + cst 0x2B8CBCCC#32
/-- The exponent at distances `(fx, fy)`. -/
def rpower (ct st sx sy fx fy : EReal) : EReal :=
  cst 0xBF000000#32 * (Ideal.div (rcovC ct st sx sy) (rdet ct st sx sy) * fx * fx + Ideal.div (rcovA ct st sx sy) (rdet ct st sx sy) * fy * fy)
    - Ideal.div (-covB ct st sx sy) (rdet ct st sx sy) * fx * fy
def rweight (p : Fin 8 → EReal) (i c : Fin 224) (dy dx : Fin 9) : EReal :=
  Ideal.exp (min (rpower (Ideal.cos (rtheta (p 3))) (Ideal.sin (rtheta (p 3))) (scale (p 4)) (scale (p 5)) (dist (p 6) c dx) (dist (p 7) i dy))
    (cst 0x00000000#32))

/-! ## They agree -/

theorem sg_real (x : EReal) : ∃ r : ℝ, sg x = (r : EReal) := by
  have h : sg x = Ideal.logistic x := by unfold sg Ideal.logistic; rw [cst_one]; rfl
  rw [h]
  induction x with
  | bot => exact ⟨0, by simp⟩
  | top => exact ⟨1, by simp⟩
  | coe r => exact ⟨_, Ideal.logistic_coe r⟩

theorem theta_real (x : EReal) : ∃ r : ℝ, theta x = (r : EReal) := by
  obtain ⟨r, h⟩ := sg_real x
  exact ⟨r * (13176795 / 2097152), by unfold theta; rw [h, cst_twoPi, EReal.coe_mul]⟩
theorem scale_real (x : EReal) : ∃ r : ℝ, scale x = (r : EReal) := by
  obtain ⟨r, h⟩ := sg_real x
  exact ⟨(r * (1 / 2) + 8796093 / 2 ^ 43) * 112, by unfold scale; rw [h, cst_half, cst_eps, cst_112, EReal.coe_mul, EReal.coe_add, EReal.coe_mul]⟩
theorem rtheta_eq (x : EReal) : rtheta x = theta x := by
  unfold rtheta theta
  rw [mul_assoc, cst_two, cst_pi, cst_twoPi, ← EReal.coe_mul]
  norm_num

theorem tanh_real (x : EReal) : ∃ t : ℝ, Ideal.tanh x = (t : EReal) ∧ -1 ≤ t ∧ t ≤ 1 := by
  induction x with
  | bot => exact ⟨-1, by simp, le_refl _, by norm_num⟩
  | top => exact ⟨1, by simp, by norm_num, le_refl _⟩
  | coe r => exact ⟨Real.tanh r, rfl, (Real.neg_one_lt_tanh r).le, (Real.tanh_lt_one r).le⟩

theorem floor_near (t : ℝ) (h0 : -1 ≤ t) (h1 : t ≤ 1) : -2 ≤ ⌊t - 1 / 2⌋ ∧ ⌊t - 1 / 2⌋ ≤ 0 := by
  refine ⟨Int.le_floor.2 (by push_cast; linarith), ?_⟩
  have : ⌊t - 1 / 2⌋ < 1 := Int.floor_lt.2 (by push_cast; linarith)
  omega

theorem low_eq {x : EReal} {t : ℝ} (h : Ideal.tanh x = (t : EReal)) : low x = ((⌊t - 1 / 2⌋ : ℝ) : EReal) := by
  unfold low
  rw [h, cst_half, ← EReal.coe_sub, Ideal.liftRound_coe]

theorem place_eq {x : EReal} {t : ℝ} (h : Ideal.tanh x = (t : EReal)) (c : Fin 224) : place x c = ((c.val + (t - 1 / 2) : ℝ) : EReal) := by
  have hc : (BitVec.ofNat 32 c.val).toInt = (c.val : Int) := by
    rw [BitVec.toInt_eq_toNat_of_lt] <;> rw [BitVec.toNat_ofNat] <;> omega
  unfold place
  rw [h, hc, cst_half, cst_two, cst_224, cst_one, Ideal.div_coe (by norm_num), ← EReal.coe_mul 2 t, Ideal.div_coe (by norm_num), Ideal.div_coe (by norm_num)]
  norm_cast
  push_cast
  ring

/-- A number that is a small whole one is cut to it. -/
theorem fptosi_int (k : ℤ) (h0 : -1000 ≤ k) (h1 : k ≤ 1000) : Ideal.fptosi 32 (((k : ℝ)) : EReal) = BitVec.ofInt 32 k := by
  show BitVec.ofInt 32 (max (-(2 ^ 31 : Nat)) (min ((2 ^ 31 : Nat) - 1) (if 0 ≤ (k : ℝ) then ⌊(k : ℝ)⌋ else ⌈(k : ℝ)⌉))) = _
  rw [Int.floor_intCast, Int.ceil_intCast, ite_self, min_eq_right (by norm_num; omega), max_eq_right (by norm_num; omega)]

theorem back_eq {x : EReal} {t : ℝ} (h : Ideal.tanh x = (t : EReal)) : back x = (((-⌊t - 1 / 2⌋ : ℤ) : ℝ) : EReal) := by
  unfold back
  rw [low_eq h, cst_zero, zero_sub, ← EReal.coe_neg]
  norm_cast

theorem back_near (x : EReal) : 0 ≤ back x ∧ back x ≤ ((2 : ℝ) : EReal) := by
  obtain ⟨t, h, h0, h1⟩ := tanh_real x
  obtain ⟨f0, f1⟩ := floor_near t h0 h1
  rw [back_eq h]
  generalize ⌊t - 1 / 2⌋ = e at *
  constructor
  · exact_mod_cast (by omega : (0 : ℤ) ≤ -e)
  · exact_mod_cast (by omega : -e ≤ (2 : ℤ))

theorem off_int : ∀ d : Fin 9, Ref.off d = BitVec.ofInt 32 ((d.val : Int) - 4) ∧ (Ref.off d).toInt = (d.val : Int) - 4 := by decide

theorem hit_int {x : EReal} {t : ℝ} (h : Ideal.tanh x = (t : EReal)) (h0 : -1 ≤ t) (h1 : t ≤ 1) (c : Fin 224) (d : Fin 9) :
    hit x c d = BitVec.ofInt 32 (c.val + ⌊t - 1 / 2⌋ + (d.val - 4)) := by
  obtain ⟨f0, f1⟩ := floor_near t h0 h1
  unfold hit
  rw [place_eq h, Ideal.liftRound_coe, show ((c.val : ℝ) + (t - 1 / 2)) = ((c.val : ℤ) : ℝ) + (t - 1 / 2) by push_cast; rfl,
    Int.floor_intCast_add, fptosi_int _ (by omega) (by omega), (off_int d).1, ← BitVec.ofInt_add]

theorem hit_eq (x : EReal) (c : Fin 224) (d : Fin 9) : hit x c d = BitVec.ofNat 32 c.val - Ideal.fptosi 32 (back x) + Ref.off d := by
  obtain ⟨t, h, h0, h1⟩ := tanh_real x
  obtain ⟨f0, f1⟩ := floor_near t h0 h1
  rw [hit_int h h0 h1, back_eq h, fptosi_int _ (by omega) (by omega), (off_int d).1, BitVec.ofInt_add, BitVec.ofInt_add, BitVec.ofInt_neg]
  rw [BitVec.sub_eq_add_neg, BitVec.neg_neg, BitVec.ofInt_natCast]

theorem dist_eq (x : EReal) (c : Fin 224) (d : Fin 9) : dist x c d = shift x + Ref.offF d ∧ ∃ r : ℝ, dist x c d = (r : EReal) := by
  obtain ⟨t, h, h0, h1⟩ := tanh_real x
  obtain ⟨f0, f1⟩ := floor_near t h0 h1
  have hi : (hit x c d).toInt = c.val + ⌊t - 1 / 2⌋ + (d.val - 4) := by
    rw [hit_int h h0 h1, BitVec.toInt_ofInt]
    exact Int.bmod_eq_of_le (by norm_num; omega) (by norm_num; omega)
  have hd : dist x c d = (((c.val + ⌊t - 1 / 2⌋ + (d.val - 4) : ℤ) : ℝ) + 1 / 2 - (c.val + (t - 1 / 2)) : ℝ) := by
    unfold dist
    rw [hi, place_eq h, cst_half, ← EReal.coe_add, ← EReal.coe_sub]
  refine ⟨?_, _, hd⟩
  rw [hd]
  unfold shift Ref.offF
  rw [low_eq h, h, (off_int d).2, cst_one, ← EReal.coe_add, ← EReal.coe_sub, ← EReal.coe_add]
  refine congrArg _ ?_
  push_cast
  ring

theorem rcovA_eq (ct st sx sy : EReal) : rcovA ct st sx sy = covA ct st sx sy := by unfold rcovA covA; rw [mul_assoc _ sx, mul_assoc _ sy]
theorem rcovC_eq (ct st sx sy : EReal) : rcovC ct st sx sy = covC ct st sx sy := by unfold rcovC covC; rw [mul_assoc _ sx, mul_assoc _ sy]
theorem rdet_eq (ct st sx sy : EReal) : rdet ct st sx sy = det ct st sx sy := by unfold rdet det; rw [rcovA_eq, rcovC_eq]

/-- The two ways to write the exponent. -/
theorem power_eq (ct st sx sy fx fy : ℝ) :
    rpower ct st sx sy fx fy
      = (fx : EReal) * (cst 0xBF000000#32 * covC ct st sx sy * inv ct st sx sy * fx + covB ct st sx sy * inv ct st sx sy * fy)
        + cst 0xBF000000#32 * covA ct st sx sy * inv ct st sx sy * (fy * fy) := by
  unfold rpower inv
  rw [rcovA_eq, rcovC_eq, rdet_eq]
  have hA : covA ct st sx sy = ((ct * ct * (sx * sx) + st * st * (sy * sy) : ℝ) : EReal) := by unfold covA; norm_cast
  have hB : covB ct st sx sy = ((ct * st * (sx * sx - sy * sy) : ℝ) : EReal) := by unfold covB; norm_cast
  have hC : covC ct st sx sy = ((st * st * (sx * sx) + ct * ct * (sy * sy) : ℝ) : EReal) := by unfold covC; norm_cast
  have hD : det ct st sx sy = ((sx * sx * (sy * sy) * ((ct * ct + st * st) * (ct * ct + st * st)) + 9223372 / 2 ^ 63 : ℝ) : EReal) := by
    unfold det
    rw [hA, hB, hC, cst_tiny, ← EReal.coe_mul, ← EReal.coe_mul, ← EReal.coe_sub, ← EReal.coe_add]
    refine congrArg _ ?_
    ring
  have pos : (0 : ℝ) < sx * sx * (sy * sy) * ((ct * ct + st * st) * (ct * ct + st * st)) + 9223372 / 2 ^ 63 :=
    add_pos_of_nonneg_of_pos (mul_nonneg (mul_nonneg (mul_self_nonneg _) (mul_self_nonneg _)) (mul_self_nonneg _)) (by norm_num)
  rw [hA, hB, hC, hD]
  generalize sx * sx * (sy * sy) * ((ct * ct + st * st) * (ct * ct + st * st)) + 9223372 / 2 ^ 63 = D at *
  generalize ct * ct * (sx * sx) + st * st * (sy * sy) = a
  generalize ct * st * (sx * sx - sy * sy) = b
  generalize st * st * (sx * sx) + ct * ct * (sy * sy) = e
  rw [cst_one, cst_neg_half, Ideal.div_coe pos.ne', Ideal.div_coe pos.ne', Ideal.div_coe pos.ne', Ideal.div_coe pos.ne']
  norm_cast
  push_cast
  ring

/-- The reference's weight at an offset is the one the kernel's planes give. -/
theorem rweight_eq (p : Fin 8 → EReal) (i c : Fin 224) (dy dx : Fin 9) :
    rweight p i c dy dx = Ref.weight (plane p 0) (plane p 1) (plane p 4) (plane p 5) (plane p 6) dy dx := by
  unfold rweight Ref.weight
  obtain ⟨ex, fx, hx⟩ := dist_eq (p 6) c dx
  obtain ⟨ey, fy, hy⟩ := dist_eq (p 7) i dy
  obtain ⟨th, ht⟩ := theta_real (p 3)
  obtain ⟨sx, hsx⟩ := scale_real (p 4)
  obtain ⟨sy, hsy⟩ := scale_real (p 5)
  show _ = Ideal.exp (min ((shift (p 6) + Ref.offF dx) * (plane p 4 * (shift (p 6) + Ref.offF dx) + plane p 5 * (shift (p 7) + Ref.offF dy))
    + plane p 6 * ((shift (p 7) + Ref.offF dy) * (shift (p 7) + Ref.offF dy))) 0)
  rw [← ex, ← ey, hx, hy, rtheta_eq, cst_zero]
  unfold plane
  dsimp only
  rw [ht, hsx, hsy, Ideal.cos_coe, Ideal.sin_coe, power_eq]

end Cert.Proof.Whole

end
-- ==== Proof.Whole.Ref.lean ====
/-
  The reference of the whole program, read at an element.
-/
module

public import proofs.«01_k».proof.Proof.Gen.ReferenceIdeal.Run
public import proofs.«01_k».proof.Proof.Whole.Real
public import Idealize.ShloMosaic.Lib.Pointwise

@[expose] public section

noncomputable section

namespace Cert.Proof.Whole

open Cert.ReferenceIdeal Cert.ReferenceIdeal.Gen Cert.ReferenceIdeal.Value Idealize.ShloMosaic Idealize.ShloMosaic.TcCoe Idealize.SL.Sem Idealize.ShloMosaic.StableHlo

/-- The padded images. -/
abbrev Padded : Type := (⟨4, ![2, 3, 226, 226]⟩ : Shape).Idx → EReal

/-- One tap of the convolution. -/
def tap (xp : Padded) (ew : (⟨4, ![64, 3, 3, 3]⟩ : Shape).Idx → EReal) (b : Fin 2) (o : Fin 64) (i c : Fin 224) (ky kx : Fin 3) : EReal :=
  ∑ ch : Fin 3, xp (ix4 b ch (⟨ky.val + i.val, by omega⟩ : Fin 226) (⟨kx.val + c.val, by omega⟩ : Fin 226)) * ew (ix4 o ch ky kx)
/-- The convolution. -/
def conv (xp : Padded) (ew : (⟨4, ![64, 3, 3, 3]⟩ : Shape).Idx → EReal) (b : Fin 2) (o : Fin 64) (i c : Fin 224) : EReal :=
  ∑ ky : Fin 3, ∑ kx : Fin 3, tap xp ew b o i c ky kx
/-- A pixel's predictions. -/
def pred (xp : Padded) (ew : (⟨4, ![64, 3, 3, 3]⟩ : Shape).Idx → EReal) (eb : (⟨1, ![64]⟩ : Shape).Idx → EReal)
    (hw : (⟨4, ![8, 64, 1, 1]⟩ : Shape).Idx → EReal) (hb : (⟨1, ![8]⟩ : Shape).Idx → EReal) (b : Fin 2) (i c : Fin 224) (q : Fin 8) : EReal :=
  (∑ o : Fin 64, max (conv xp ew b o i c + eb (ix1 o)) 0 * hw (ix4 q o 0 0)) + hb (ix1 q)

/-- A map spread over the windows. -/
def spread {α : Type} (G : S2x224x224.Idx → α) : S2x224x224x9x9.Idx → α :=
  broadcastInDim S2x224x224x9x9 ![0, 1, 2, 3, 4] bcast_S2x224x224x1x1_S2x224x224x9x9_0_1_2_3_4
    (broadcastInDim S2x224x224x1x1 ![0, 1, 2] bcast_S2x224x224_S2x224x224x1x1_0_1_2 G)

variable (L : Valuation τ sig (Elt Ideal))

section

variable (b : Fin 2) (i c : Fin 224)

/-- The predictions' map at a pixel. -/
abbrev at66 (b : Fin 2) (i c : Fin 224) (q : Fin 8) : EReal := res_main_v66 L (ix4 b q i c)

theorem tap_apply (X : FVec Ideal S2x3x226x226 .f32) (E : FVec Ideal S64x3x3x3 .f32) (o : Fin 64) (ky kx : Fin 3) (h1) (h2) (h3) (h4) :
    (transpose S2x64x224x224 [0, 3, 1, 2] (Host.dotGeneral dot_S2x3x224x224_S64x3_S2x224x224x64_1_1_023_0_n_n none
      (extractStridedSlice S2x3x224x224 ![0, 0, ky.val, kx.val] X h1)
      (shapeCast S64x3 (extractStridedSlice S64x3x1x1 ![0, 0, ky.val, kx.val] E h2) h3)) h4 (ix4 b o i c) : EReal)
    = tap X E b o i c ky kx := by
  unfold tap
  pointwise

/-- A bias spread over the maps. -/
theorem bias_apply (E : FVec Ideal S64 .f32) (o : Fin 64) (h) (h') :
    (broadcastInDim S2x64x224x224 ![0, 1, 2, 3] h (broadcastInDim S1x64x1x1 ![1] h' E) (ix4 b o i c) : EReal) = E (ix1 o) := by
  pointwise

theorem v58_apply (o : Fin 64) :
    (res_main_v58 L (ix4 b o i c) : EReal)
      = conv (res_main_v0 L) (L (Proc.devRef .tc main_arg1)) b o i c + (L (Proc.devRef .tc main_arg2) : S64.Idx → EReal) (ix1 o) := by
  unfold conv
  simp only [Fin.sum_univ_three]
  rw [← bias_apply b i c (L (Proc.devRef .tc main_arg2)) o bcast_S1x64x1x1_S2x64x224x224_0_1_2_3 bcast_S64_S1x64x1x1_1]
  simp only [← add_assoc]
  rw [← zero_add (tap (res_main_v0 L) _ b o i c 0 0), ← Ideal.ofBits_zero_f32,
    ← tap_apply b i c (res_main_v0 L) (L (Proc.devRef .tc main_arg1)) o 0 0 slices_S2x3x226x226_S2x3x224x224_0_0_0_0 slices_S64x3x3x3_S64x3x1x1_0_0_0_0 shapeCasts_S64x3x1x1_S64x3 transposes_S2x224x224x64_S2x64x224x224_0_3_1_2,
    ← tap_apply b i c (res_main_v0 L) (L (Proc.devRef .tc main_arg1)) o 0 1 slices_S2x3x226x226_S2x3x224x224_0_0_0_1 slices_S64x3x3x3_S64x3x1x1_0_0_0_1 shapeCasts_S64x3x1x1_S64x3 transposes_S2x224x224x64_S2x64x224x224_0_3_1_2,
    ← tap_apply b i c (res_main_v0 L) (L (Proc.devRef .tc main_arg1)) o 0 2 slices_S2x3x226x226_S2x3x224x224_0_0_0_2 slices_S64x3x3x3_S64x3x1x1_0_0_0_2 shapeCasts_S64x3x1x1_S64x3 transposes_S2x224x224x64_S2x64x224x224_0_3_1_2,
    ← tap_apply b i c (res_main_v0 L) (L (Proc.devRef .tc main_arg1)) o 1 0 slices_S2x3x226x226_S2x3x224x224_0_0_1_0 slices_S64x3x3x3_S64x3x1x1_0_0_1_0 shapeCasts_S64x3x1x1_S64x3 transposes_S2x224x224x64_S2x64x224x224_0_3_1_2,
    ← tap_apply b i c (res_main_v0 L) (L (Proc.devRef .tc main_arg1)) o 1 1 slices_S2x3x226x226_S2x3x224x224_0_0_1_1 slices_S64x3x3x3_S64x3x1x1_0_0_1_1 shapeCasts_S64x3x1x1_S64x3 transposes_S2x224x224x64_S2x64x224x224_0_3_1_2,
    ← tap_apply b i c (res_main_v0 L) (L (Proc.devRef .tc main_arg1)) o 1 2 slices_S2x3x226x226_S2x3x224x224_0_0_1_2 slices_S64x3x3x3_S64x3x1x1_0_0_1_2 shapeCasts_S64x3x1x1_S64x3 transposes_S2x224x224x64_S2x64x224x224_0_3_1_2,
    ← tap_apply b i c (res_main_v0 L) (L (Proc.devRef .tc main_arg1)) o 2 0 slices_S2x3x226x226_S2x3x224x224_0_0_2_0 slices_S64x3x3x3_S64x3x1x1_0_0_2_0 shapeCasts_S64x3x1x1_S64x3 transposes_S2x224x224x64_S2x64x224x224_0_3_1_2,
    ← tap_apply b i c (res_main_v0 L) (L (Proc.devRef .tc main_arg1)) o 2 1 slices_S2x3x226x226_S2x3x224x224_0_0_2_1 slices_S64x3x3x3_S64x3x1x1_0_0_2_1 shapeCasts_S64x3x1x1_S64x3 transposes_S2x224x224x64_S2x64x224x224_0_3_1_2,
    ← tap_apply b i c (res_main_v0 L) (L (Proc.devRef .tc main_arg1)) o 2 2 slices_S2x3x226x226_S2x3x224x224_0_0_2_2 slices_S64x3x3x3_S64x3x1x1_0_0_2_2 shapeCasts_S64x3x1x1_S64x3 transposes_S2x224x224x64_S2x64x224x224_0_3_1_2]
  rfl

theorem v66_apply (q : Fin 8) :
    at66 L b i c q = pred (res_main_v0 L) (L (Proc.devRef .tc main_arg1)) (L (Proc.devRef .tc main_arg2)) (L (Proc.devRef .tc main_arg3))
      (L (Proc.devRef .tc main_arg4)) b i c q := by
  unfold at66 res_main_v66 pred
  pointwise
  simp only [v58_apply, Ideal.ofBits_zero_f32]

theorem chan_apply (G : FVec Ideal S2x8x224x224 .f32) (k : Nat) (hk : k < 8) (h) (h') :
    (shapeCast S2x224x224 (extractStridedSlice S2x1x224x224 ![0, k, 0, 0] G h) h' (ix3 b i c) : EReal) = G (ix4 b ⟨k, hk⟩ i c) := by
  pointwise

theorem v78_apply : (res_main_v78 L (ix3 b i c) : EReal) = rtheta (at66 L b i c 3) := by
  rw [show at66 L b i c 3 = _ from (chan_apply b i c (res_main_v66 L) 3 (by decide) slices_S2x8x224x224_S2x1x224x224_0_3_0_0 shapeCasts_S2x1x224x224_S2x224x224).symm]
  rfl
theorem v92_apply : (res_main_v92 L (ix3 b i c) : EReal) = scale (at66 L b i c 4) := by
  rw [show at66 L b i c 4 = _ from (chan_apply b i c (res_main_v66 L) 4 (by decide) slices_S2x8x224x224_S2x1x224x224_0_4_0_0 shapeCasts_S2x1x224x224_S2x224x224).symm]
  rfl
theorem v106_apply : (res_main_v106 L (ix3 b i c) : EReal) = scale (at66 L b i c 5) := by
  rw [show at66 L b i c 5 = _ from (chan_apply b i c (res_main_v66 L) 5 (by decide) slices_S2x8x224x224_S2x1x224x224_0_5_0_0 shapeCasts_S2x1x224x224_S2x224x224).symm]
  rfl
theorem v151_apply : (res_main_v151 L (ix3 b i c) : EReal) = place (at66 L b i c 6) c := by
  rw [show at66 L b i c 6 = _ from (chan_apply b i c (res_main_v66 L) 6 (by decide) slices_S2x8x224x224_S2x1x224x224_0_6_0_0 shapeCasts_S2x1x224x224_S2x224x224).symm]
  rfl
theorem v157_apply : (res_main_v157 L (ix3 b i c) : EReal) = place (at66 L b i c 7) i := by
  rw [show at66 L b i c 7 = _ from (chan_apply b i c (res_main_v66 L) 7 (by decide) slices_S2x8x224x224_S2x1x224x224_0_7_0_0 shapeCasts_S2x1x224x224_S2x224x224).symm]
  rfl

/-- The pixel's covariance entries and determinant. -/
theorem v166_apply : (res_main_v166 L (ix3 b i c) : EReal)
    = rcovA (Ideal.cos (rtheta (at66 L b i c 3))) (Ideal.sin (rtheta (at66 L b i c 3))) (scale (at66 L b i c 4)) (scale (at66 L b i c 5)) := by
  rw [← v78_apply, ← v92_apply, ← v106_apply]; rfl
theorem v171_apply : (res_main_v171 L (ix3 b i c) : EReal)
    = covB (Ideal.cos (rtheta (at66 L b i c 3))) (Ideal.sin (rtheta (at66 L b i c 3))) (scale (at66 L b i c 4)) (scale (at66 L b i c 5)) := by
  rw [← v78_apply, ← v92_apply, ← v106_apply]; rfl
theorem v178_apply : (res_main_v178 L (ix3 b i c) : EReal)
    = rcovC (Ideal.cos (rtheta (at66 L b i c 3))) (Ideal.sin (rtheta (at66 L b i c 3))) (scale (at66 L b i c 4)) (scale (at66 L b i c 5)) := by
  rw [← v78_apply, ← v92_apply, ← v106_apply]; rfl
theorem v183_apply : (res_main_v183 L (ix3 b i c) : EReal)
    = rdet (Ideal.cos (rtheta (at66 L b i c 3))) (Ideal.sin (rtheta (at66 L b i c 3))) (scale (at66 L b i c 4)) (scale (at66 L b i c 5)) := by
  unfold rdet
  rw [← v166_apply, ← v171_apply, ← v178_apply]; rfl

variable (dy dx : Fin 9)

theorem spread_apply {α : Type} (G : S2x224x224.Idx → α) : spread G (ix5 b i c dy dx) = G (ix3 b i c) := by
  unfold spread; pointwise

theorem v209_apply : res_main_v209 L (ix5 b i c dy dx) = hit (at66 L b i c 6) c dx := by
  unfold res_main_v209 hit
  rw [← v151_apply]
  exact congrArg (IntOp.addi · (Ref.off dx)) (spread_apply b i c dy dx (fptosi 32 (Host.floor (res_main_v151 L))))
theorem v213_apply : res_main_v213 L (ix5 b i c dy dx) = hit (at66 L b i c 7) i dy := by
  unfold res_main_v213 hit
  rw [← v157_apply]
  exact congrArg (IntOp.addi · (Ref.off dy)) (spread_apply b i c dy dx (fptosi 32 (Host.floor (res_main_v157 L))))
theorem v217_apply : (res_main_v217 L (ix5 b i c dy dx) : EReal) = dist (at66 L b i c 6) c dx := by
  unfold res_main_v217 dist
  rw [← v151_apply, ← v209_apply (dy := dy)]
  exact congrArg ((((res_main_v209 L (ix5 b i c dy dx)).toInt : ℝ) : EReal) + cst 0x3F000000#32 - ·) (spread_apply b i c dy dx (res_main_v151 L))
theorem v221_apply : (res_main_v221 L (ix5 b i c dy dx) : EReal) = dist (at66 L b i c 7) i dy := by
  unfold res_main_v221 dist
  rw [← v157_apply, ← v213_apply (dx := dx)]
  exact congrArg ((((res_main_v213 L (ix5 b i c dy dx)).toInt : ℝ) : EReal) + cst 0x3F000000#32 - ·) (spread_apply b i c dy dx (res_main_v157 L))

end

/-- The weights before those off the image are dropped. -/
def alphas : FVec Ideal S2x224x224x9x9 .f32 :=
  Host.exp (minimumf (subf (mulf (broadcastInDim S2x224x224x9x9 ![] bcast_S_S2x224x224x9x9 (constant S_ .f32 0xBF000000#32))
      (addf (mulf (mulf (spread (Host.divf (res_main_v178 L) (res_main_v183 L))) (res_main_v217 L)) (res_main_v217 L))
        (mulf (mulf (spread (Host.divf (res_main_v166 L) (res_main_v183 L))) (res_main_v221 L)) (res_main_v221 L))))
    (mulf (mulf (spread (Host.divf (Host.negf (res_main_v171 L)) (res_main_v183 L))) (res_main_v217 L)) (res_main_v221 L)))
    (broadcastInDim S2x224x224x9x9 ![] bcast_S_S2x224x224x9x9 (constant S_ .f32 0x00000000#32)))

/-- The colours. -/
def colours : FVec Ideal S2x3x224x224 .f32 := extractStridedSlice S2x3x224x224 ![0, 0, 0, 0] (res_main_v66 L) slices_S2x8x224x224_S2x3x224x224_0_0_0_0

theorem colours_apply (b : Fin 2) (ch : Fin 3) (i c : Fin 224) :
    (colours L (ix4 b ch i c) : EReal) = at66 L b i c ⟨ch.val, by omega⟩ := by
  unfold colours; pointwise; try rfl

theorem alphas_apply (b : Fin 2) (i c : Fin 224) (dy dx : Fin 9) :
    (alphas L (ix5 b i c dy dx) : EReal) = rweight (at66 L b i c) i c dy dx := by
  unfold rweight rpower
  rw [← v217_apply L b i c dy dx, ← v221_apply L b i c dy dx, ← v166_apply, ← v171_apply, ← v178_apply, ← v183_apply]
  rw [show Ideal.div (res_main_v178 L (ix3 b i c)) (res_main_v183 L (ix3 b i c)) = _ from
      (spread_apply b i c dy dx (Host.divf (res_main_v178 L) (res_main_v183 L))).symm,
    show Ideal.div (res_main_v166 L (ix3 b i c)) (res_main_v183 L (ix3 b i c)) = _ from
      (spread_apply b i c dy dx (Host.divf (res_main_v166 L) (res_main_v183 L))).symm,
    show Ideal.div (- (show EReal from res_main_v171 L (ix3 b i c))) (res_main_v183 L (ix3 b i c)) = _ from
      (spread_apply b i c dy dx (Host.divf (Host.negf (res_main_v171 L)) (res_main_v183 L))).symm]
  rfl

/-- The reference's result. -/
def result : FVec Ideal S2x3x224x224 .f32 := Ref.out (res_main_v209 L) (res_main_v213 L) (alphas L) (colours L)

/-- The reference's run, its result by name. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v272) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

/-- A pixel's planes, from the predictions' map. -/
def planes : Ref.Planes := fun j => plane (at66 L (j 0) (j 2) (j 3)) (j 1)

/-- The reference's result at an element: what lands there by the planes of the predictions, clipped. -/
theorem result_apply (b : Fin 2) (ch : Fin 3) (Y X : Fin 224) :
    (result L (ix4 b ch Y X) : EReal) = min 1 (max 0 (Ref.total (planes L) b ch Y X)) := by
  refine Ref.out_total _ _ _ _ (planes L) b ch Y X (fun i c dy dx => ?_) (fun i c dy dx => ?_) (fun i c dy dx => ?_) fun i c => ?_
  · exact (v209_apply L b i c dy dx).trans (hit_eq _ _ _)
  · exact (v213_apply L b i c dy dx).trans (hit_eq _ _ _)
  · exact (alphas_apply L b i c dy dx).trans (rweight_eq _ _ _ _ _)
  · refine (colours_apply L b ch i c).trans ?_
    match ch with
    | 0 => rfl
    | 1 => rfl
    | 2 => rfl

end Cert.Proof.Whole

end
-- ==== Proof.Whole.Cols.lean ====
/-
  What `@main` hands the parameter kernel, at an element: the nine shifted copies of the padded image as columns, the weights
  as matrices, and the product over the thirty-two columns as the convolution.
-/
module

public import proofs.«01_k».proof.Proof.Host
public import proofs.«01_k».proof.Proof.Whole.Ref
public import Idealize.ShloMosaic.Lib.Pointwise

@[expose] public section

noncomputable section

namespace Cert.Proof.Whole

open Cert.KernelIdeal Cert.KernelIdeal.Gen Idealize.ShloMosaic Idealize.ShloMosaic.TcCoe Idealize.ShloMosaic.StableHlo

/-- One shifted copy of the padded image. -/
def slab (X : FVec Ideal S2x3x226x226 .f32) (ky kx : Nat) (h : S2x3x226x226.Slices ![0, 0, ky, kx] S2x3x224x224) : FVec Ideal S2x3x1x224x224 .f32 :=
  broadcastInDim S2x3x1x224x224 ![0, 1, 3, 4] bcast_S2x3x224x224_S2x3x1x224x224_0_1_3_4 (extractStridedSlice S2x3x224x224 ![0, 0, ky, kx] X h)

theorem slab_apply (X : FVec Ideal S2x3x226x226 .f32) (ky kx : Fin 3) (h) (b : Fin 2) (ch : Fin 3) (z : Fin 1) (i c : Fin 224) :
    (slab X ky.val kx.val h (ix5 b ch z i c) : EReal) = X (ix4 b ch ⟨ky.val + i.val, by omega⟩ ⟨kx.val + c.val, by omega⟩) := by
  unfold slab
  pointwise

/-- Each shifted copy lies in the padded image. -/
theorem slab_in (ky kx : Fin 3) : S2x3x226x226.Slices ![0, 0, ky.val, kx.val] S2x3x224x224 :=
  match ky, kx with
  | 0, 0 => slices_S2x3x226x226_S2x3x224x224_0_0_0_0
  | 0, 1 => slices_S2x3x226x226_S2x3x224x224_0_0_0_1
  | 0, 2 => slices_S2x3x226x226_S2x3x224x224_0_0_0_2
  | 1, 0 => slices_S2x3x226x226_S2x3x224x224_0_0_1_0
  | 1, 1 => slices_S2x3x226x226_S2x3x224x224_0_0_1_1
  | 1, 2 => slices_S2x3x226x226_S2x3x224x224_0_0_1_2
  | 2, 0 => slices_S2x3x226x226_S2x3x224x224_0_0_2_0
  | 2, 1 => slices_S2x3x226x226_S2x3x224x224_0_0_2_1
  | 2, 2 => slices_S2x3x226x226_S2x3x224x224_0_0_2_2

/-- Two flat coordinates for four. -/
def tapIx (ch ky kx : Fin 3) : Fin 27 := ⟨ch.val * 9 + ky.val * 3 + kx.val, by omega⟩
def pix (i c : Fin 224) : Fin 50176 := ⟨i.val * 224 + c.val, by omega⟩

theorem flat_apply (G : FVec Ideal S2x3x9x224x224 .f32) (h) (b : Fin 2) (ch ky kx : Fin 3) (i c : Fin 224) :
    (shapeCast S2x27x50176 G h (ix3 b (tapIx ch ky kx) (pix i c)) : EReal) = G (ix5 b ch ⟨ky.val * 3 + kx.val, by omega⟩ i c) := by
  unfold shapeCast
  refine congrArg G (Shape.reshapeEquiv_eq_of_rowMajor _ ?_)
  rw [Shape.rowMajor_val_three, Shape.rowMajor_val_five]
  simp [tapIx, pix, ix3, ix5]
  omega

theorem flatw_apply (G : FVec Ideal S64x3x3x3 .f32) (h) (o : Fin 64) (ch ky kx : Fin 3) :
    (shapeCast S64x27 G h (ix2 o (tapIx ch ky kx)) : EReal) = G (ix4 o ch ky kx) := by
  unfold shapeCast
  refine congrArg G (Shape.reshapeEquiv_eq_of_rowMajor _ ?_)
  rw [Shape.rowMajor_val_two, Shape.rowMajor_val_four]
  simp [tapIx, ix2, ix4]
  omega

/-- The columns: the nine copies stacked, flattened, and padded to thirty-two. -/
def cols (X : FVec Ideal S2x3x226x226 .f32) : FVec Ideal S2x32x50176 .f32 :=
  pad S2x32x50176 ![0, 0, 0] ![0, 5, 0] ![0, 0, 0]
    (shapeCast S2x27x50176 (concatenate S2x3x9x224x224 2 [
      ⟨S2x3x1x224x224, slab X 0 0 slices_S2x3x226x226_S2x3x224x224_0_0_0_0⟩, ⟨S2x3x1x224x224, slab X 0 1 slices_S2x3x226x226_S2x3x224x224_0_0_0_1⟩,
      ⟨S2x3x1x224x224, slab X 0 2 slices_S2x3x226x226_S2x3x224x224_0_0_0_2⟩, ⟨S2x3x1x224x224, slab X 1 0 slices_S2x3x226x226_S2x3x224x224_0_0_1_0⟩,
      ⟨S2x3x1x224x224, slab X 1 1 slices_S2x3x226x226_S2x3x224x224_0_0_1_1⟩, ⟨S2x3x1x224x224, slab X 1 2 slices_S2x3x226x226_S2x3x224x224_0_0_1_2⟩,
      ⟨S2x3x1x224x224, slab X 2 0 slices_S2x3x226x226_S2x3x224x224_0_0_2_0⟩, ⟨S2x3x1x224x224, slab X 2 1 slices_S2x3x226x226_S2x3x224x224_0_0_2_1⟩,
      ⟨S2x3x1x224x224, slab X 2 2 slices_S2x3x226x226_S2x3x224x224_0_0_2_2⟩]
      concatenates_S2x3x1x224x224_S2x3x1x224x224_S2x3x1x224x224_S2x3x1x224x224_S2x3x1x224x224_S2x3x1x224x224_S2x3x1x224x224_S2x3x1x224x224_S2x3x1x224x224_S2x3x9x224x224_d2)
      shapeCasts_S2x3x9x224x224_S2x27x50176)
    (sitofp .f32 (constantI S_ 32 0#32)) pads_S2x27x50176_S2x32x50176_000_050_000 h_S_

theorem pad3_apply (G : FVec Ideal S2x27x50176 .f32) (v : FVec Ideal S_ .f32) (h) (h') (b : Fin 2) (k : Fin 27) (n : Fin 50176) :
    (pad S2x32x50176 ![0, 0, 0] ![0, 5, 0] ![0, 0, 0] G v h h' (ix3 b (Fin.castAdd 5 k) n) : EReal) = G (ix3 b k n) := by
  pointwise
  exact dif_pos k.isLt

theorem padw_apply (G : FVec Ideal S64x27 .f32) (v : FVec Ideal S_ .f32) (h) (h') (o : Fin 64) (k : Fin 27) :
    (pad S64x32 ![0, 0] ![0, 5] ![0, 0] G v h h' (ix2 o (Fin.castAdd 5 k)) : EReal) = G (ix2 o k) := by
  pointwise
  exact dif_pos k.isLt

theorem padw_zero (G : FVec Ideal S64x27 .f32) (h) (h') (o : Fin 64) (k : Fin 5) :
    (pad S64x32 ![0, 0] ![0, 5] ![0, 0] G (sitofp (F := Ideal) .f32 (constantI S_ 32 0#32)) h h' (ix2 o (Fin.natAdd 27 k)) : EReal) = 0 := by
  pointwise
  refine (dif_neg ?_).trans ?_
  · show ¬ 27 + k.val < 27
    omega
  · show (((0#32 : BitVec 32).toInt : ℝ) : EReal) = 0
    simp

theorem cols_apply (X : FVec Ideal S2x3x226x226 .f32) (b : Fin 2) (ch ky kx : Fin 3) (i c : Fin 224) :
    (cols X (ix3 b (Fin.castAdd 5 (tapIx ch ky kx)) (pix i c)) : EReal) = X (ix4 b ch ⟨ky.val + i.val, by omega⟩ ⟨kx.val + c.val, by omega⟩) := by
  unfold cols
  rw [pad3_apply, flat_apply]
  match ky, kx with
  | 0, 0 | 0, 1 | 0, 2 | 1, 0 | 1, 1 | 1, 2 | 2, 0 | 2, 1 | 2, 2 => rw [← slab_apply X _ _ (slab_in _ _) b ch 0 i c]; pointwise

/-- The first weights as a matrix padded to thirty-two columns. -/
def wcol (E : FVec Ideal S64x3x3x3 .f32) : FVec Ideal S64x32 .f32 :=
  pad S64x32 ![0, 0] ![0, 5] ![0, 0] (shapeCast S64x27 E shapeCasts_S64x3x3x3_S64x27) (sitofp .f32 (constantI S_ 32 0#32))
    pads_S64x27_S64x32_000_050 h_S_

/-- A sum of thirty-two terms whose last five vanish, by channel and tap. -/
theorem sum_cols (f : Fin 32 → EReal) (g : Fin 3 → Fin 3 → Fin 3 → EReal) (h1 : ∀ ch ky kx, f (Fin.castAdd 5 (tapIx ch ky kx)) = g ky kx ch)
    (h2 : ∀ j : Fin 5, f (Fin.natAdd 27 j) = 0) : ∑ k, f k = ∑ ky, ∑ kx, ∑ ch, g ky kx ch := by
  have e1 : ∑ k : Fin 32, f k = ∑ k : Fin 27, f (Fin.castAdd 5 k) + ∑ j : Fin 5, f (Fin.natAdd 27 j) := Fin.sum_univ_add (a := 27) (b := 5) f
  have e2 : ∑ k : Fin 27, f (Fin.castAdd 5 k) = ∑ ch : Fin 3, ∑ ky : Fin 3, ∑ kx : Fin 3, f (Fin.castAdd 5 (tapIx ch ky kx)) := by
    rw [← (finProdFinEquiv (m := 3) (n := 9)).sum_comp (fun k : Fin 27 => f (Fin.castAdd 5 k)), Fintype.sum_prod_type]
    refine Finset.sum_congr rfl fun ch _ => ?_
    rw [← (finProdFinEquiv (m := 3) (n := 3)).sum_comp (fun t : Fin 9 => f (Fin.castAdd 5 (finProdFinEquiv (m := 3) (n := 9) (ch, t)))), Fintype.sum_prod_type]
    refine Finset.sum_congr rfl fun ky _ => Finset.sum_congr rfl fun kx _ => congrArg f (congrArg _ (Fin.ext ?_))
    simp [tapIx, finProdFinEquiv]
    omega
  rw [e1, e2, Finset.sum_eq_zero fun j _ => h2 j, add_zero]
  simp only [h1]
  rw [Finset.sum_comm]
  exact Finset.sum_congr rfl fun ky _ => Finset.sum_comm

theorem sum_cols_eq (X : FVec Ideal S2x3x226x226 .f32) (E : FVec Ideal S64x3x3x3 .f32) (o : Fin 64) (b : Fin 2) (i c : Fin 224) :
    (∑ k : Fin 32, (wcol E (ix2 o k) : EReal) * cols X (ix3 b k (pix i c))) = conv X E b o i c := by
  refine sum_cols _ (fun ky kx ch => _) (fun ch ky kx => ?_) fun j => ?_
  · rw [cols_apply]
    unfold wcol
    rw [padw_apply, flatw_apply, mul_comm]
  · unfold wcol
    rw [padw_zero, zero_mul]

theorem w2_apply (E : FVec Ideal S8x64x1x1 .f32) (h) (q : Fin 8) (o : Fin 64) : (shapeCast S8x64 E h (ix2 q o) : EReal) = E (ix4 q o 0 0) := by
  pointwise
theorem b1_apply (E : FVec Ideal S64 .f32) (h) (o : Fin 64) : (shapeCast S64x1 E h (ix2 o 0) : EReal) = E (ix1 o) := by
  pointwise
theorem b2_apply (E : FVec Ideal S8 .f32) (h) (q : Fin 8) : (shapeCast S8x1 E h (ix2 q 0) : EReal) = E (ix1 q) := by
  pointwise

end Cert.Proof.Whole

end
-- ==== Proof.Whole.Params.lean ====
/-
  What the parameter kernel stores, at an element: the ten planes of the pixel's eight predictions.
-/
module

public import proofs.«01_k».proof.Proof.Params
public import proofs.«01_k».proof.Proof.Whole.Real
public import Idealize.ShloMosaic.Lib.Pointwise

@[expose] public section

noncomputable section

namespace Cert.Proof.Whole

open Cert.KernelIdeal Cert.KernelIdeal.Gen Idealize.ShloMosaic Idealize.ShloMosaic.TcCoe

variable (x : Vec Ideal S1x32x6272 .f32) (w : Vec Ideal S64x32 .f32) (b : Vec Ideal S64x1 .f32) (hw : Vec Ideal S8x64 .f32) (hb : Vec Ideal S8x1 .f32)

/-- A pixel's predictions, from the blocks staged. -/
def predBlk (n : Fin 6272) (q : Fin 8) : EReal :=
  (∑ o : Fin 64, (hw (ix2 q o) : EReal) * max ((∑ k : Fin 32, (w (ix2 o k) : EReal) * x (ix3 0 k n)) + b (ix2 o 0)) 0) + hb (ix2 q 0)

theorem pay2_apply (q : Fin 8) (n : Fin 6272) : (k0_pay2 x w hw b hb (ix2 q n) : EReal) = predBlk x w b hw hb n q := by
  unfold k0_pay2 predBlk
  pointwise

/-- A row of a three-row array, as a vector. -/
theorem row3_apply (G : FVec Ideal S3x6272 .f32) (j : Fin 3) (h) (h') (n : Fin 6272) :
    (shapeCast S6272 (extractStridedSlice S1x6272 ![j.val, 0] G h) h' (ix1 n) : EReal) = G (ix2 j n) := by
  pointwise
/-- A row of a two-row array, as a vector. -/
theorem row2_apply (G : FVec Ideal S2x6272 .f32) (j : Fin 2) (h) (h') (n : Fin 6272) :
    (shapeCast S6272 (extractStridedSlice S1x6272 ![j.val, 0] G h) h' (ix1 n) : EReal) = G (ix2 j n) := by
  pointwise

variable (n : Fin 6272)

theorem pay3_apply (j : Fin 3) : (k0_pay3 x w hw b hb (ix2 j n) : EReal) = predBlk x w b hw hb n ⟨j.val, by omega⟩ := by
  rw [← pay2_apply]; unfold k0_pay3; pointwise; try rfl
theorem pay4_apply (j : Fin 3) : (k0_pay4 x w hw b hb (ix2 j n) : EReal) = sg (predBlk x w b hw hb n ⟨3 + j.val, by omega⟩) := by
  unfold sg
  rw [← pay2_apply, ← zero_sub (k0_pay2 x w hw b hb _ : EReal), ← Ideal.ofBits_zero_f32]
  unfold k0_pay4
  pointwise
  try rfl
theorem pay5_apply : (k0_pay5 x w hw b hb (ix1 n) : EReal) = theta (predBlk x w b hw hb n 3) := by
  unfold theta
  rw [show sg (predBlk x w b hw hb n 3) = _ from (pay4_apply x w b hw hb n 0).symm,
    ← row3_apply (k0_pay4 x w hw b hb) 0 slices_S3x6272_o0_0_S1x6272 shapeCasts_S1x6272_S6272]
  rfl
/-- A vertical or horizontal scale before the image's size. -/
theorem pay6_apply : (k0_pay6 x w hw b hb (ix1 n) : EReal) = sg (predBlk x w b hw hb n 4) * cst 0x3F000000#32 + cst 0x358637BD#32 := by
  rw [show sg (predBlk x w b hw hb n 4) = _ from (pay4_apply x w b hw hb n 1).symm,
    ← row3_apply (k0_pay4 x w hw b hb) 1 slices_S3x6272_o1_0_S1x6272 shapeCasts_S1x6272_S6272]
  rfl
theorem pay7_apply (j : Fin 2) : (k0_pay7 (k0_pay2 x w hw b hb) (ix2 j n) : EReal) = Ideal.tanh (predBlk x w b hw hb n ⟨6 + j.val, by omega⟩) := by
  rw [← pay2_apply]; unfold k0_pay7; pointwise; try rfl
theorem pay11_apply : (k0_pay11 (k0_pay4 x w hw b hb) (ix1 n) : EReal) = scale (predBlk x w b hw hb n 5) * scale (predBlk x w b hw hb n 5) := by
  unfold scale
  rw [show sg (predBlk x w b hw hb n 5) = _ from (pay4_apply x w b hw hb n 2).symm,
    ← row3_apply (k0_pay4 x w hw b hb) 2 slices_S3x6272_o2_0_S1x6272 shapeCasts_S1x6272_S6272]
  rfl
theorem pay10_apply : (k0_pay10 (k0_pay6 x w hw b hb) (FloatOps.ofBits .f32 1121976320#32) (ix1 n) : EReal)
    = scale (predBlk x w b hw hb n 4) * scale (predBlk x w b hw hb n 4) := by
  unfold scale
  rw [← pay6_apply]
  rfl

/-! ## The covariance -/

theorem pay14_apply : (k0_pay14 (k0_pay4 x w hw b hb) (k0_pay5 x w hw b hb) (k0_pay6 x w hw b hb) (FloatOps.ofBits .f32 1121976320#32) (ix1 n) : EReal) = covA (Ideal.cos (theta (predBlk x w b hw hb n 3))) (Ideal.sin (theta (predBlk x w b hw hb n 3)))
        (scale (predBlk x w b hw hb n 4)) (scale (predBlk x w b hw hb n 5)) := by
  unfold covA
  rw [← pay5_apply, ← pay10_apply, ← pay11_apply]
  rfl
theorem pay15_apply : (k0_pay15 (k0_pay4 x w hw b hb) (k0_pay5 x w hw b hb) (k0_pay6 x w hw b hb) (FloatOps.ofBits .f32 1121976320#32) (ix1 n) : EReal) = covB (Ideal.cos (theta (predBlk x w b hw hb n 3))) (Ideal.sin (theta (predBlk x w b hw hb n 3)))
        (scale (predBlk x w b hw hb n 4)) (scale (predBlk x w b hw hb n 5)) := by
  unfold covB
  rw [← pay5_apply, ← pay10_apply, ← pay11_apply]
  rfl
theorem pay16_apply : (k0_pay16 (k0_pay4 x w hw b hb) (k0_pay5 x w hw b hb) (k0_pay6 x w hw b hb) (FloatOps.ofBits .f32 1121976320#32) (ix1 n) : EReal) = covC (Ideal.cos (theta (predBlk x w b hw hb n 3))) (Ideal.sin (theta (predBlk x w b hw hb n 3)))
        (scale (predBlk x w b hw hb n 4)) (scale (predBlk x w b hw hb n 5)) := by
  unfold covC
  rw [← pay5_apply, ← pay10_apply, ← pay11_apply]
  rfl
theorem pay17_apply : (k0_pay17 (k0_pay4 x w hw b hb) (k0_pay5 x w hw b hb) (k0_pay6 x w hw b hb) (FloatOps.ofBits .f32 1121976320#32) (ix1 n) : EReal) = inv (Ideal.cos (theta (predBlk x w b hw hb n 3))) (Ideal.sin (theta (predBlk x w b hw hb n 3)))
        (scale (predBlk x w b hw hb n 4)) (scale (predBlk x w b hw hb n 5)) := by
  unfold inv det
  rw [← pay14_apply, ← pay15_apply, ← pay16_apply]
  rfl

/-! ## The window's place -/

theorem pay18_apply : (k0_pay18 (k0_pay2 x w hw b hb) (ix1 n) : EReal) = low (predBlk x w b hw hb n 6) := by
  unfold low
  rw [show Ideal.tanh (predBlk x w b hw hb n 6) = _ from (pay7_apply x w b hw hb n 0).symm,
    ← row2_apply (k0_pay7 (k0_pay2 x w hw b hb)) 0 slices_S2x6272_o0_0_S1x6272 shapeCasts_S1x6272_S6272]
  rfl
theorem pay19_apply : (k0_pay19 (k0_pay2 x w hw b hb) (ix1 n) : EReal) = low (predBlk x w b hw hb n 7) := by
  unfold low
  rw [show Ideal.tanh (predBlk x w b hw hb n 7) = _ from (pay7_apply x w b hw hb n 1).symm,
    ← row2_apply (k0_pay7 (k0_pay2 x w hw b hb)) 1 slices_S2x6272_o1_0_S1x6272 shapeCasts_S1x6272_S6272]
  rfl
theorem pay20_apply : (k0_pay20 (k0_pay2 x w hw b hb) (ix1 n) : EReal) = shift (predBlk x w b hw hb n 6) := by
  unfold shift
  rw [← pay18_apply, show Ideal.tanh (predBlk x w b hw hb n 6) = _ from (pay7_apply x w b hw hb n 0).symm,
    ← row2_apply (k0_pay7 (k0_pay2 x w hw b hb)) 0 slices_S2x6272_o0_0_S1x6272 shapeCasts_S1x6272_S6272]
  rfl
theorem pay21_apply : (k0_pay21 (k0_pay2 x w hw b hb) (ix1 n) : EReal) = low (predBlk x w b hw hb n 7) + cst 0x3F800000#32 := by
  rw [← pay19_apply]
  rfl

/-! ## The ten planes -/

/-- The stack of the planes, by its rows. -/
def stacked (v18 : FVec Ideal S3x6272 .f32) (v48 : FVec Ideal S2x6272 .f32) (v57 v60 v63 v70 v75 v80 v85 v87 : FVec Ideal S6272 .f32) (n : Fin 6272) :
    Fin 10 → EReal
  | 0 => v85 (ix1 n)
  | 1 => v87 (ix1 n) - v48 (ix2 1 n)
  | 2 => cst 0x00000000#32 - v75 (ix1 n)
  | 3 => cst 0x00000000#32 - v80 (ix1 n)
  | 4 => cst 0xBF000000#32 * v63 (ix1 n) * v70 (ix1 n)
  | 5 => v60 (ix1 n) * v70 (ix1 n)
  | 6 => cst 0xBF000000#32 * v57 (ix1 n) * v70 (ix1 n)
  | 7 => v18 (ix2 0 n)
  | 8 => v18 (ix2 1 n)
  | 9 => v18 (ix2 2 n)

theorem pay1_apply (v18 : FVec Ideal S3x6272 .f32) (v48 : FVec Ideal S2x6272 .f32) (v57 v60 v63 v70 v75 v80 v85 v87 : FVec Ideal S6272 .f32) (k : Fin 10) :
    (k0_pay1 v18 v48 v57 v60 v63 v70 v75 v80 v85 v87 (ix3 0 k n) : EReal) = stacked v18 v48 v57 v60 v63 v70 v75 v80 v85 v87 n k := by
  unfold k0_pay1
  match k with
  | 0 | 1 | 2 | 3 | 4 | 5 | 6 | 7 | 8 | 9 => unfold stacked; pointwise; try rfl

theorem paramsBlk_apply (k : Fin 10) : (paramsBlk x w b hw hb (ix3 0 k n) : EReal) = plane (predBlk x w b hw hb n) k := by
  unfold paramsBlk
  rw [pay1_apply]
  match k with
  | 0 => exact pay20_apply x w b hw hb n
  | 1 => unfold stacked plane shift; rw [pay21_apply, show Ideal.tanh (predBlk x w b hw hb n 7) = _ from (pay7_apply x w b hw hb n 1).symm]
  | 2 => unfold stacked plane back; rw [pay18_apply]
  | 3 => unfold stacked plane back; rw [pay19_apply]
  | 4 => unfold stacked plane; rw [pay16_apply, pay17_apply]
  | 5 => unfold stacked plane; rw [pay15_apply, pay17_apply]
  | 6 => unfold stacked plane; rw [pay14_apply, pay17_apply]
  | 7 => exact pay3_apply x w b hw hb n 0
  | 8 => exact pay3_apply x w b hw hb n 1
  | 9 => exact pay3_apply x w b hw hb n 2

end Cert.Proof.Whole

end
-- ==== Proof.Whole.Arr.lean ====
/-
  The array the parameter kernel leaves, at an element, from what `@main` was launched on.
-/
module

public import proofs.«01_k».proof.Proof.Run
public import proofs.«01_k».proof.Proof.Whole.Cols
public import proofs.«01_k».proof.Proof.Whole.Params
public import Idealize.ShloMosaic.Lib.Pipeline.ValueKit.Geometry

@[expose] public section

noncomputable section

namespace Cert.Proof.Whole

open Cert.KernelIdeal Cert.KernelIdeal.Gen Idealize.ShloMosaic Idealize.ShloMosaic.TcCoe Idealize.ShloMosaic.StableHlo

/-! ## The array from the windows' arrays -/

/-- A pixel's predictions, from the arrays handed over. -/
def predCols (x : FVec Ideal S2x32x50176 .f32) (w : FVec Ideal S64x32 .f32) (b : FVec Ideal S64x1 .f32) (hw : FVec Ideal S8x64 .f32) (hb : FVec Ideal S8x1 .f32)
    (g : Fin 2) (n : Fin 50176) (q : Fin 8) : EReal :=
  (∑ o : Fin 64, (hw (ix2 q o) : EReal) * max ((∑ k : Fin 32, (w (ix2 o k) : EReal) * x (ix3 g k n)) + b (ix2 o 0)) 0) + hb (ix2 q 0)

/-- The planes of all pixels. -/
def planeArr (x : FVec Ideal S2x32x50176 .f32) (w : FVec Ideal S64x32 .f32) (b : FVec Ideal S64x1 .f32) (hw : FVec Ideal S8x64 .f32) (hb : FVec Ideal S8x1 .f32) :
    FVec Ideal S2x10x50176 .f32 := fun j => plane (predCols x w b hw hb (j 0) (j 2)) (j 1)

section

variable (V : (c : Dev nD) → Valuation τ sig (Elt Ideal)) (c : Dev nD)

theorem ix_0 : ∀ t : Fin cfg0.N, win0_0.index t = ![(grid0.coords t 0).val, 0, (grid0.coords t 1).val] := by decide +kernel
theorem ix_5 : ∀ t : Fin cfg0.N, win0_5.index t = ![(grid0.coords t 0).val, 0, (grid0.coords t 1).val] := by decide +kernel
theorem ix_1 : win0_1.index t0_0 = ![0, 0] := by decide +kernel
theorem ix_2 : win0_2.index t0_0 = ![0, 0] := by decide +kernel
theorem ix_3 : win0_3.index t0_0 = ![0, 0] := by decide +kernel
theorem ix_4 : win0_4.index t0_0 = ![0, 0] := by decide +kernel

theorem blk_1 (y : S64x32.Idx) : iblk V c 1 t0_0 y = V c (Proc.devRef .tc main_v23) y := by
  blk_simp [iblk]
  refine congrArg (V c (Proc.devRef .tc main_v23)) ?_
  blk_ext [ix_1]
theorem blk_2 (y : S64x1.Idx) : iblk V c 2 t0_0 y = V c (Proc.devRef .tc main_v25) y := by
  blk_simp [iblk]
  refine congrArg (V c (Proc.devRef .tc main_v25)) ?_
  blk_ext [ix_2]
theorem blk_3 (y : S8x64.Idx) : iblk V c 3 t0_0 y = V c (Proc.devRef .tc main_v24) y := by
  blk_simp [iblk]
  refine congrArg (V c (Proc.devRef .tc main_v24)) ?_
  blk_ext [ix_3]
theorem blk_4 (y : S8x1.Idx) : iblk V c 4 t0_0 y = V c (Proc.devRef .tc main_v26) y := by
  blk_simp [iblk]
  refine congrArg (V c (Proc.devRef .tc main_v26)) ?_
  blk_ext [ix_4]
theorem col_lt : ∀ t : Fin cfg0.N, (grid0.coords t 1).val < 8 := by decide +kernel
/-- A column of a block, as one of the array. -/
def colOf (t : Fin cfg0.N) (n : Fin 6272) : Fin 50176 := ⟨(grid0.coords t 1).val * 6272 + n.val, by have := col_lt t; omega⟩
theorem colOf_val (t : Fin cfg0.N) (n : Fin 6272) : (colOf t n).val = (grid0.coords t 1).val * 6272 + n.val := rfl
theorem blk_0 (t : Fin cfg0.N) (k : Fin 32) (n : Fin 6272) :
    iblk V c 0 t (ix3 (0 : Fin 1) k n) = V c (Proc.devRef .tc main_v21) (ix3 (grid0.coords t 0 : Fin 2) k (colOf t n)) := by
  blk_simp [iblk]
  refine congrArg (V c (Proc.devRef .tc main_v21)) ?_
  blk_ext [ix_0, colOf_val]

/-- A block of pixels' planes. -/
theorem outBlk_apply (t : Fin cfg0.N) (k : Fin 10) (n : Fin 6272) : (outBlk V c t (ix3 0 k n) : EReal)
    = planeArr (V c (Proc.devRef .tc main_v21)) (V c (Proc.devRef .tc main_v23)) (V c (Proc.devRef .tc main_v25))
      (V c (Proc.devRef .tc main_v24)) (V c (Proc.devRef .tc main_v26)) (ix3 (grid0.coords t 0 : Fin 2) k (colOf t n)) := by
  unfold outBlk
  rw [paramsBlk_apply]
  show plane _ k = plane _ k
  refine congrArg (plane · k) (funext fun q => ?_)
  unfold predBlk predCols
  simp only [blk_0, blk_1, blk_2, blk_3, blk_4]
  rfl

theorem outArr_eq : outArr V c = planeArr (V c (Proc.devRef .tc main_v21)) (V c (Proc.devRef .tc main_v23)) (V c (Proc.devRef .tc main_v25))
    (V c (Proc.devRef .tc main_v24)) (V c (Proc.devRef .tc main_v26)) := by
  unfold outArr
  refine (dats V 0 c).arrAt_eq_of_covers 5 _ (by decide +kernel) fun t hf y => ?_
  rw [after_5]
  blk_simp
  have e : y = ix3 (0 : Fin 1) (y 1 : Fin 10) (y 2 : Fin 6272) := by
    funext a
    match a with
    | 0 => exact Subsingleton.elim (α := Fin 1) _ _
    | 1 => rfl
    | 2 => rfl
  refine ((congrArg (outBlk V c t) e).trans (outBlk_apply V c t (y 1) (y 2))).trans (congrArg _ ?_)
  blk_ext [ix_5, colOf_val]
  exact colOf_val t (y 2)

end

/-! ## What the windows' arrays hold -/

variable (m : (ℓ : Loc nD τ sig) → Buf (Elt Ideal) ℓ) (d : Dev nD)

/-- The padded images. -/
def padded (A : FVec Ideal S2x3x224x224 .f32) : FVec Ideal S2x3x226x226 .f32 :=
  pad S2x3x226x226 ![0, 0, 1, 1] ![0, 0, 1, 1] ![0, 0, 0, 0] A (sitofp .f32 (constantI S_ 32 0#32)) pads_S2x3x224x224_S2x3x226x226_000_000_110_110 h_S_

theorem V0_x : V0 m d (Proc.devRef .tc main_v21) = cols (padded (Vm m d (Proc.devRef .tc main_arg0))) := by
  unfold V0 hostOps
  simp only [TRef.binary, TRef.unary, TRef.toBuf, TRef.ofBuf, cast_eq]
  after_results_simp
  rfl
theorem V0_w1 : V0 m d (Proc.devRef .tc main_v23) = wcol (Vm m d (Proc.devRef .tc main_arg1)) := by
  unfold V0 hostOps
  simp only [TRef.binary, TRef.unary, TRef.toBuf, TRef.ofBuf, cast_eq]
  after_results_simp
  rfl
theorem V0_w2 : V0 m d (Proc.devRef .tc main_v24) = shapeCast S8x64 (Vm m d (Proc.devRef .tc main_arg3)) shapeCasts_S8x64x1x1_S8x64 := by
  unfold V0 hostOps
  simp only [TRef.binary, TRef.unary, TRef.toBuf, TRef.ofBuf, cast_eq]
  after_results_simp
  rfl
theorem V0_b1 : V0 m d (Proc.devRef .tc main_v25) = shapeCast S64x1 (Vm m d (Proc.devRef .tc main_arg2)) shapeCasts_S64_S64x1 := by
  unfold V0 hostOps
  simp only [TRef.binary, TRef.unary, TRef.toBuf, TRef.ofBuf, cast_eq]
  after_results_simp
  rfl
theorem V0_b2 : V0 m d (Proc.devRef .tc main_v26) = shapeCast S8x1 (Vm m d (Proc.devRef .tc main_arg4)) shapeCasts_S8_S8x1 := by
  unfold V0 hostOps
  simp only [TRef.binary, TRef.unary, TRef.toBuf, TRef.ofBuf, cast_eq]
  after_results_simp
  rfl

theorem V1_out : V1 m d (Proc.devRef .tc main_v27) = outArr (V0 m) d := by
  unfold V1 VR outArr
  exact Pipeline.withArrays_arr spec0 winFacts0.arr_inj d (V0 m d) (fun w => (dats (V0 m) 0 d).arrAt w cfg0.N) 5

theorem flatp_apply (G : FVec Ideal S2x10x50176 .f32) (h) (b : Fin 2) (k : Fin 10) (i c : Fin 224) :
    (shapeCast S2x10x224x224 G h (ix4 b k i c) : EReal) = G (ix3 b k (pix i c)) := by
  unfold shapeCast
  refine congrArg G (Shape.reshapeEquiv_eq_of_rowMajor _ ?_)
  rw [Shape.rowMajor_val_three, Shape.rowMajor_val_four]
  simp [pix, ix3, ix4]
  omega

/-- What the SparseCore call reads, at an element. -/
theorem Bm_apply (b : Fin 2) (k : Fin 10) (i c : Fin 224) : (Bm m d (ix4 b k i c) : EReal)
    = plane (pred (padded (Vm m d (Proc.devRef .tc main_arg0))) (Vm m d (Proc.devRef .tc main_arg1)) (Vm m d (Proc.devRef .tc main_arg2))
        (Vm m d (Proc.devRef .tc main_arg3)) (Vm m d (Proc.devRef .tc main_arg4)) b i c) k := by
  have e : Bm m d = shapeCast S2x10x224x224 (V1 m d (Proc.devRef .tc main_v27)) shapeCasts_S2x10x50176_S2x10x224x224 := by
    unfold Bm V2 midOp
    after_results_simp
    rfl
  rw [e, flatp_apply, V1_out, outArr_eq, V0_x, V0_w1, V0_w2, V0_b1, V0_b2]
  show plane _ k = plane _ k
  refine congrArg (plane · k) (funext fun q => ?_)
  show predCols _ _ _ _ _ b (pix i c) q = _
  unfold predCols pred
  simp only [sum_cols_eq, w2_apply, b1_apply, b2_apply]
  exact congrArg₂ (fun u v : EReal => u + v) (Finset.sum_congr rfl fun o _ =>
    (congrArg₂ (fun u v : EReal => u * max (conv _ _ b o i c + v) 0) (w2_apply _ _ q o) (b1_apply _ _ o)).trans (mul_comm _ _)) (b2_apply _ _ q)

end Cert.Proof.Whole

end
-- ==== Proof.Whole.Bridge.lean ====
/-
  The whole program's splat and the call's alone are two printings of one function: the image the first computes from
  its planes is the image the second does.
-/
module

public import proofs.«01_k».proof.Proof.Run
public import proofs.«01_k».proof.Proof.Call.Run

@[expose] public section

noncomputable section

namespace Cert.Proof.Whole

open Cert.KernelIdeal Cert.KernelIdeal.Gen Idealize.ShloMosaic Idealize.ShloMosaic.TcCoe

variable {F : FTy → Type} [FloatOps F]

/-- A group of the one read as a group of the other. -/
def grpOf (G : Grp F) : Call.Grp F := ⟨G.cx, G.cm, G.cy, G.gx, G.gy, G.hA, G.cB, G.hC, G.col⟩

theorem put_eq (G : Grp F) (dy dx : Nat) (ch : Fin 3) (g : Vec F S3x14x224 .f32) :
    G.put dy dx ch g = (grpOf G).put dy dx ch g := rfl

theorem rowAcc_eq (G : Grp F) (dy : Nat) (g : Vec F S3x14x224 .f32) (n : Nat) : G.rowAcc dy g n = (grpOf G).rowAcc dy g n := by
  induction n with
  | zero => rfl
  | succ n ih => rw [Grp.rowAcc, Call.Grp.rowAcc, ih, put_eq]

theorem acc_eq (G : Grp F) (g : Vec F S3x14x224 .f32) (n : Nat) : G.acc g n = (grpOf G).acc g n := by
  induction n with
  | zero => rfl
  | succ n ih => rw [Grp.acc, Call.Grp.acc, ih, rowAcc_eq]

theorem grp_eq (A : Vec F S10x24x224 .f32) (v4 : BitVec 32) (r : Fin k1_t2_loop.trips) (t : Fin k1_t3_loop.trips) :
    grpOf (grp A v4 r t) = Call.grp A v4 r t := by
  unfold grpOf grp Call.grp
  congr 1

theorem rowGroups_eq (A : Vec F S10x24x224 .f32) (v4 : BitVec 32) (r : Fin k1_t2_loop.trips) (g : Vec F S3x14x224 .f32) (n : Nat) :
    rowGroups A v4 r g n = Call.rowGroups A v4 r g n := by
  induction n with
  | zero => rfl
  | succ n ih =>
    rw [rowGroups, Call.rowGroups, ih]
    refine dite_congr rfl (fun h => ?_) fun _ => rfl
    rw [acc_eq, grp_eq]

theorem slabRows_eq (A : Vec F S10x24x224 .f32) (v4 : BitVec 32) (g : Vec F S3x14x224 .f32) (n : Nat) :
    slabRows A v4 g n = Call.slabRows A v4 g n := by
  induction n with
  | zero => rfl
  | succ n ih =>
    rw [slabRows, Call.slabRows, ih]
    refine dite_congr rfl (fun h => ?_) fun _ => rfl
    exact rowGroups_eq A v4 _ _ _

theorem imageOf_eq (B : Vec F S2x10x224x224 .f32) : imageOf B = Call.imageOf B := by
  funext j
  unfold imageOf Call.imageOf blockOf Call.blockOf
  dsimp only
  rw [slabRows_eq]
  rfl

end Cert.Proof.Whole

end
-- ==== Proof.Whole.Value.lean ====
/-
  The program and its reference end with one result: the planes the SparseCore call reads are those of the reference's predictions.
-/
module

public import proofs.«01_k».proof.Proof.Whole.Arr
public import proofs.«01_k».proof.Proof.Whole.Bridge
public import proofs.«01_k».proof.Proof.Call.Image

@[expose] public section

noncomputable section

namespace Cert.Proof.Whole

open Idealize.ShloMosaic Idealize.ShloMosaic.TcCoe

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The planes the SparseCore call reads are those of the reference's predictions. -/
theorem Bm_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Bm m c : Ref.Planes) = planes (StableHlo.launchContents m' c) := by
  have key : ∀ (b : Fin 2) (k : Fin 10) (i q : Fin 224),
      (Bm m c : Ref.Planes) (ix4 b k i q) = planes (StableHlo.launchContents m' c) (ix4 b k i q) := fun b k i q => by
    refine (Bm_apply m c b k i q).trans ?_
    show _ = plane (at66 (StableHlo.launchContents m' c) b i q) k
    refine congrArg (plane · k) (funext fun r => ?_)
    rw [v66_apply]
    have e0 : Vm m c (Proc.devRef .tc Cert.KernelIdeal.main_arg0) = StableHlo.launchContents m' c (Proc.devRef .tc Cert.ReferenceIdeal.main_arg0) := h0.symm
    have e1 : Vm m c (Proc.devRef .tc Cert.KernelIdeal.main_arg1) = StableHlo.launchContents m' c (Proc.devRef .tc Cert.ReferenceIdeal.main_arg1) := h1.symm
    have e2 : Vm m c (Proc.devRef .tc Cert.KernelIdeal.main_arg2) = StableHlo.launchContents m' c (Proc.devRef .tc Cert.ReferenceIdeal.main_arg2) := h2.symm
    have e3 : Vm m c (Proc.devRef .tc Cert.KernelIdeal.main_arg3) = StableHlo.launchContents m' c (Proc.devRef .tc Cert.ReferenceIdeal.main_arg3) := h3.symm
    have e4 : Vm m c (Proc.devRef .tc Cert.KernelIdeal.main_arg4) = StableHlo.launchContents m' c (Proc.devRef .tc Cert.ReferenceIdeal.main_arg4) := h4.symm
    rw [e0, e1, e2, e3, e4]
    rfl
  funext j
  rw [ValueIdx.eq_ix4 j]
  exact key (j 0) (j 1) (j 2) (j 3)

/-- The second window coordinate a pixel stores is near. -/
theorem rows_near (b : Fin 2) (i q : Fin 224) :
    (0 : EReal) ≤ (Bm m c : Ref.Planes) (ix4 b 3 i q) ∧ ((Bm m c : Ref.Planes) (ix4 b 3 i q) : EReal) ≤ ((2 : ℝ) : EReal) := by
  rw [show (Bm m c : Ref.Planes) (ix4 b 3 i q) = _ from Bm_apply m c b 3 i q]
  exact back_near _

/-- The program's image at an element. -/
theorem image_at (b : Fin 2) (ch : Fin 3) (Y X : Fin 224) :
    (Cert.Proof.imageOf (Bm m c) (ix4 b ch Y X) : EReal) = min 1 (max 0 (Ref.total (Bm m c) b ch Y X)) := by
  rw [imageOf_eq]
  exact Call.image_apply (Bm m c) (rows_near m c) b ch Y X

end Cert.Proof.Whole

end
-- ==== Proof.lean ====
/- The certificate's claims from the program's run (Proof/Run.lean), the run of its SparseCore call
   alone (Proof/Call/Run.lean), what that call computes (Proof/Call/Image.lean), what the program computes
   (Proof/Whole/Value.lean), and the references' runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Splat
public import proofs.«01_k».proof.Proof.Gen.SplatIdeal
public import proofs.«01_k».proof.Proof.Gen.SplatIdeal.Skeleton
public import proofs.«01_k».proof.Proof.Gen.SplatReferenceIdeal
public import proofs.«01_k».proof.Proof.Gen.SplatReferenceIdeal.Run
public import proofs.«01_k».proof.Proof.Run
public import proofs.«01_k».proof.Proof.Call.Run
public import proofs.«01_k».proof.Proof.Call.Image
public import proofs.«01_k».proof.Proof.Whole.Value
public import Idealize.ShloMosaic.Adequacy
public import Idealize.ShloMosaic.Init

@[expose] public section

noncomputable section

namespace Cert.Proof

open Idealize.ShloMosaic Idealize.SL.Sem Cert.Kernel

/-- The ideal reading of the program runs, its arguments and every counter as at the start. -/
theorem frame_ideal : Cert.quiescent_KernelIdeal := fun m ρ _ =>
  (θ_run Cert.KernelIdeal.defs _ _).mono (fun _ h => ⟨fun c => (h.1 c).1, h.2⟩) (run_main (F := Ideal) m ρ)

/-- The program's kernels are, label by label, its ideal reading's. -/
theorem bodies_eq {F : FTy → Type} [FloatOps F] : Cert.Kernel.defs₀ (F := F) = Cert.KernelIdeal.defs₀ (F := F) := by
  funext p l a
  match p, l, a with
  | .tc, 0, (t, s) => rfl
  | .tc, 1, a => rfl
  | .scVector c s, 0, a => rfl
  | .scVector c s, 1, a => rfl
  | .scScalar c, 0, a => rfl
  | .scScalar c, 1, a => rfl

theorem defs_eq : Cert.Kernel.defs (F := Bits) = Cert.KernelIdeal.defs (F := Bits) :=
  congrArg (fun d => Cert.KernelIdeal.sc.defs (Pipeline.defs (nD := Cert.KernelIdeal.nD) (τ := Cert.KernelIdeal.τ) Cert.KernelIdeal.pcfgs d)) bodies_eq

/-- The program itself, whose text is the same, by the same run at the machine's words. -/
theorem frame_kernel : Cert.quiescent_Kernel := fun m ρ _ => by
  rw [defs_eq]
  exact (θ_run Cert.KernelIdeal.defs _ _).mono (fun _ h => ⟨fun c => (h.1 c).1, h.2⟩) (run_main (F := Bits) m ρ)

/-- The reference: its operations write no argument, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The program computes what its reference does: the image holds, at each pixel, the clipped sum of what lands there. -/
theorem whole_value : Cert.algebraic_KernelIdeal_ReferenceIdeal := by
  intro m g m' g' _ hargs
  refine ⟨fun c => (imageOf (Bm m c) : Buf (Elt Ideal) (oLoc c)), ?_, ?_⟩
  · exact (θ_run Cert.KernelIdeal.defs _ _).mono (fun _ h c => ⟨(h.1 c).2, (h.1 c).1⟩) (run_main (F := Ideal) m g)
  · refine (θ_run Cert.ReferenceIdeal.defs _ _).mono (fun _ h c => ⟨(h c).1.trans ?_, (h c).2⟩) (Whole.run_result m' g')
    obtain ⟨h0, h1, h2, h3, h4⟩ := hargs c
    funext j
    rw [eq_ix4 j]
    refine (Whole.result_apply (StableHlo.launchContents m' c) (j 0) (j 1) (j 2) (j 3)).trans ?_
    rw [← Whole.Bm_eq m m' c h0 h1 h2 h3 h4]
    exact (Whole.image_at m c (j 0) (j 1) (j 2) (j 3)).symm

/-! ## The SparseCore call alone -/

/-- The call's ideal reading runs, from any planes. -/
theorem frame_splatIdeal : Cert.quiescent_SplatIdeal_pre_none := fun m ρ _ =>
  (θ_run Cert.SplatIdeal.defs _ _).mono (fun _ h => ⟨fun c => (h.1 c).1, h.2⟩) (Call.run_main (F := Ideal) m ρ)

theorem splat_bodies_eq {F : FTy → Type} [FloatOps F] : Cert.Splat.defs₀ (F := F) = Cert.SplatIdeal.defs₀ (F := F) := by
  funext p l a
  match p, l, a with
  | .tc, 0, a => rfl
  | .scVector c s, 0, a => rfl
  | .scScalar c, 0, a => rfl

theorem splat_defs_eq : Cert.Splat.defs (F := Bits) = Cert.SplatIdeal.defs (F := Bits) :=
  congrArg (fun d => Cert.SplatIdeal.sc.defs (Pipeline.defs (nD := Cert.SplatIdeal.nD) (τ := Cert.SplatIdeal.τ) Cert.SplatIdeal.pcfgs d)) splat_bodies_eq

/-- The call itself, whose text is the same, by the same run at the machine's words. -/
theorem frame_splat : Cert.quiescent_Splat_pre_none := fun m ρ _ => by
  rw [splat_defs_eq]
  exact (θ_run Cert.SplatIdeal.defs _ _).mono (fun _ h => ⟨fun c => (h.1 c).1, h.2⟩) (Call.run_main (F := Bits) m ρ)

/-- The call's reference: its operations write no argument, and it declares no semaphore. -/
theorem frame_splatReference : Cert.quiescent_SplatReferenceIdeal := fun m ρ _ =>
  (θ_run Cert.SplatReferenceIdeal.defs _ _).mono
    (fun r h => ⟨fun c => (h c).2, Idealize.ShloMosaic.sem_eq_zero_of_no_sems (by decide) r.2⟩)
    (Cert.SplatReferenceIdeal.Value.run (F := Ideal) m ρ)

/-- The call computes what its reference does: both images hold, at each pixel, the clipped sum of what lands there. -/
theorem splat_value : Cert.algebraic_SplatIdeal_SplatReferenceIdeal := by
  intro m g m' g' hpre hargs
  refine ⟨fun c => (Call.imageOf (Call.Bm m c) : Buf (Elt Ideal) (Call.oLoc c)), ?_, ?_⟩
  · exact (θ_run Cert.SplatIdeal.defs _ _).mono (fun _ h c => ⟨(h.1 c).2, (h.1 c).1⟩) (Call.run_main (F := Ideal) m g)
  · refine (θ_run Cert.SplatReferenceIdeal.defs _ _).mono (fun _ h c => ⟨(h c).1.trans ?_, (h c).2⟩)
      (Cert.SplatReferenceIdeal.Value.run (F := Ideal) m' g')
    funext j
    rw [eq_ix4 j]
    refine (Ref.res_apply m' c (j 0) (j 1) (j 2) (j 3)).trans ?_
    rw [hargs c]
    exact (Call.image_apply (Call.Bm m c) (Call.rows_of_pre _ (hpre c)) (j 0) (j 1) (j 2) (j 3)).symm

theorem claim : Cert.Claim := ⟨Cert.Kernel.Gen.facts, Cert.KernelIdeal.Gen.facts, Cert.ReferenceIdeal.Gen.facts,
  Cert.Splat.Gen.facts, Cert.SplatIdeal.Gen.facts, Cert.SplatReferenceIdeal.Gen.facts, Call.preFacts,
  frame_kernel, frame_ideal, frame_reference,
  fun m ρ _ => frame_splat m ρ trivial, frame_splat, fun m ρ _ => frame_splatIdeal m ρ trivial, frame_splatIdeal,
  frame_splatReference, fun m ρ _ => frame_splatReference m ρ trivial, trivial, whole_value, trivial, splat_value⟩

end Cert.Proof

end
